-- ==== Defs.lean ====
def Pre_Lru (m : (ℓ : Loc Cert.Lru.nD Cert.Lru.τ Cert.Lru.sig) → Buf (Elt Bits) ℓ) : Prop :=
  True

def Pre_LruIdeal (m : (ℓ : Loc Cert.LruIdeal.nD Cert.LruIdeal.τ Cert.LruIdeal.sig) → Buf (Elt Ideal) ℓ) : Prop :=
  True

def Pre_LruRefIdeal (m : (ℓ : Loc Cert.LruRefIdeal.nD Cert.LruRefIdeal.τ Cert.LruRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Inproj1 (m : (ℓ : Loc Cert.Inproj1.nD Cert.Inproj1.τ Cert.Inproj1.sig) → Buf (Elt Bits) ℓ) : Prop :=
  True

def Pre_Inproj1Ideal (m : (ℓ : Loc Cert.Inproj1Ideal.nD Cert.Inproj1Ideal.τ Cert.Inproj1Ideal.sig) → Buf (Elt Ideal) ℓ) : Prop :=
  True

def Pre_Inproj1RefIdeal (m : (ℓ : Loc Cert.Inproj1RefIdeal.nD Cert.Inproj1RefIdeal.τ Cert.Inproj1RefIdeal.sig) → Buf (Elt Ideal) ℓ) : Prop :=
  True

def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_Ffn1RefIdeal (m : (ℓ : Loc Cert.Ffn1RefIdeal.nD Cert.Ffn1RefIdeal.τ Cert.Ffn1RefIdeal.sig) → Buf (Elt Ideal) ℓ) : Prop :=
  True

def quiescent_Lru [hLru : Cert.Lru.Facts] : Prop :=
  ∀ (m : (ℓ : Loc Cert.Lru.nD Cert.Lru.τ Cert.Lru.sig) → Buf (Elt Bits) ℓ) (g : Dev Cert.Lru.nD → PrngReg), Pre_Lru m →
    θ_run (Cert.Lru.defs (F := Bits)) (onTc (τ := Cert.Lru.τ) (Cert.Lru.main (F := Bits))) ⟨m, fun _ => 0, g⟩ (fun r => (∀ c : Dev Cert.Lru.nD,
      r.2.mem ((c.tc : Thread Cert.Lru.nD Cert.Lru.τ).loc Cert.Lru.main_arg0) = m ((c.tc : Thread Cert.Lru.nD Cert.Lru.τ).loc Cert.Lru.main_arg0)
      ∧ r.2.mem ((c.tc : Thread Cert.Lru.nD Cert.Lru.τ).loc Cert.Lru.main_arg1) = m ((c.tc : Thread Cert.Lru.nD Cert.Lru.τ).loc Cert.Lru.main_arg1)
      ∧ r.2.mem ((c.tc : Thread Cert.Lru.nD Cert.Lru.τ).loc Cert.Lru.main_arg2) = m ((c.tc : Thread Cert.Lru.nD Cert.Lru.τ).loc Cert.Lru.main_arg2)
      ∧ r.2.mem ((c.tc : Thread Cert.Lru.nD Cert.Lru.τ).loc Cert.Lru.main_arg3) = m ((c.tc : Thread Cert.Lru.nD Cert.Lru.τ).loc Cert.Lru.main_arg3)
      ∧ r.2.mem ((c.tc : Thread Cert.Lru.nD Cert.Lru.τ).loc Cert.Lru.main_arg4) = m ((c.tc : Thread Cert.Lru.nD Cert.Lru.τ).loc Cert.Lru.main_arg4)
      ∧ r.2.mem ((c.tc : Thread Cert.Lru.nD Cert.Lru.τ).loc Cert.Lru.main_arg5) = m ((c.tc : Thread Cert.Lru.nD Cert.Lru.τ).loc Cert.Lru.main_arg5)
      ∧ r.2.mem ((c.tc : Thread Cert.Lru.nD Cert.Lru.τ).loc Cert.Lru.main_arg6) = m ((c.tc : Thread Cert.Lru.nD Cert.Lru.τ).loc Cert.Lru.main_arg6)
      ∧ r.2.mem ((c.tc : Thread Cert.Lru.nD Cert.Lru.τ).loc Cert.Lru.main_arg7) = m ((c.tc : Thread Cert.Lru.nD Cert.Lru.τ).loc Cert.Lru.main_arg7)
      ∧ r.2.mem ((c.tc : Thread Cert.Lru.nD Cert.Lru.τ).loc Cert.Lru.main_arg8) = m ((c.tc : Thread Cert.Lru.nD Cert.Lru.τ).loc Cert.Lru.main_arg8)
      ∧ r.2.mem ((c.tc : Thread Cert.Lru.nD Cert.Lru.τ).loc Cert.Lru.main_arg9) = m ((c.tc : Thread Cert.Lru.nD Cert.Lru.τ).loc Cert.Lru.main_arg9)
      ∧ r.2.mem ((c.tc : Thread Cert.Lru.nD Cert.Lru.τ).loc Cert.Lru.main_arg10) = m ((c.tc : Thread Cert.Lru.nD Cert.Lru.τ).loc Cert.Lru.main_arg10))
      ∧ r.2.sem = fun _ => 0)

def quiescent_LruIdeal [hLruIdeal : Cert.LruIdeal.Facts] : Prop :=
  ∀ (m : (ℓ : Loc Cert.LruIdeal.nD Cert.LruIdeal.τ Cert.LruIdeal.sig) → Buf (Elt Ideal) ℓ) (g : Dev Cert.LruIdeal.nD → PrngReg), Pre_LruIdeal m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
      ∧ r.2.mem ((c.tc : Thread Cert.LruIdeal.nD Cert.LruIdeal.τ).loc Cert.LruIdeal.main_arg8) = m ((c.tc : Thread Cert.LruIdeal.nD Cert.LruIdeal.τ).loc Cert.LruIdeal.main_arg8)
      ∧ r.2.mem ((c.tc : Thread Cert.LruIdeal.nD Cert.LruIdeal.τ).loc Cert.LruIdeal.main_arg9) = m ((c.tc : Thread Cert.LruIdeal.nD Cert.LruIdeal.τ).loc Cert.LruIdeal.main_arg9)
      ∧ r.2.mem ((c.tc : Thread Cert.LruIdeal.nD Cert.LruIdeal.τ).loc Cert.LruIdeal.main_arg10) = m ((c.tc : Thread Cert.LruIdeal.nD Cert.LruIdeal.τ).loc Cert.LruIdeal.main_arg10))
      ∧ r.2.sem = fun _ => 0)

def quiescent_LruRefIdeal [hLruRefIdeal : Cert.LruRefIdeal.Facts] : Prop :=
  ∀ (m : (ℓ : Loc Cert.LruRefIdeal.nD Cert.LruRefIdeal.τ Cert.LruRefIdeal.sig) → Buf (Elt Ideal) ℓ) (g : Dev Cert.LruRefIdeal.nD → PrngReg), Pre_LruRefIdeal m →
    θ_run (Cert.LruRefIdeal.defs (F := Ideal)) (onTc (τ := Cert.LruRefIdeal.τ) (Cert.LruRefIdeal.main (F := Ideal))) ⟨m, fun _ => 0, g⟩ (fun r => (∀ c : Dev Cert.LruRefIdeal.nD,
      r.2.mem ((c.tc : Thread Cert.LruRefIdeal.nD Cert.LruRefIdeal.τ).loc Cert.LruRefIdeal.main_arg0) = m ((c.tc : Thread Cert.LruRefIdeal.nD Cert.LruRefIdeal.τ).loc Cert.LruRefIdeal.main_arg0)
      ∧ r.2.mem ((c.tc : Thread Cert.LruRefIdeal.nD Cert.LruRefIdeal.τ).loc Cert.LruRefIdeal.main_arg1) = m ((c.tc : Thread Cert.LruRefIdeal.nD Cert.LruRefIdeal.τ).loc Cert.LruRefIdeal.main_arg1)
      ∧ r.2.mem ((c.tc : Thread Cert.LruRefIdeal.nD Cert.LruRefIdeal.τ).loc Cert.LruRefIdeal.main_arg2) = m ((c.tc : Thread Cert.LruRefIdeal.nD Cert.LruRefIdeal.τ).loc Cert.LruRefIdeal.main_arg2)
      ∧ r.2.mem ((c.tc : Thread Cert.LruRefIdeal.nD Cert.LruRefIdeal.τ).loc Cert.LruRefIdeal.main_arg3) = m ((c.tc : Thread Cert.LruRefIdeal.nD Cert.LruRefIdeal.τ).loc Cert.LruRefIdeal.main_arg3)
      ∧ r.2.mem ((c.tc : Thread Cert.LruRefIdeal.nD Cert.LruRefIdeal.τ).loc Cert.LruRefIdeal.main_arg4) = m ((c.tc : Thread Cert.LruRefIdeal.nD Cert.LruRefIdeal.τ).loc Cert.LruRefIdeal.main_arg4)
      ∧ r.2.mem ((c.tc : Thread Cert.LruRefIdeal.nD Cert.LruRefIdeal.τ).loc Cert.LruRefIdeal.main_arg5) = m ((c.tc : Thread Cert.LruRefIdeal.nD Cert.LruRefIdeal.τ).loc Cert.LruRefIdeal.main_arg5)
      ∧ r.2.mem ((c.tc : Thread Cert.LruRefIdeal.nD Cert.LruRefIdeal.τ).loc Cert.LruRefIdeal.main_arg6) = m ((c.tc : Thread Cert.LruRefIdeal.nD Cert.LruRefIdeal.τ).loc Cert.LruRefIdeal.main_arg6)
      ∧ r.2.mem ((c.tc : Thread Cert.LruRefIdeal.nD Cert.LruRefIdeal.τ).loc Cert.LruRefIdeal.main_arg7) = m ((c.tc : Thread Cert.LruRefIdeal.nD Cert.LruRefIdeal.τ).loc Cert.LruRefIdeal.main_arg7)
      ∧ r.2.mem ((c.tc : Thread Cert.LruRefIdeal.nD Cert.LruRefIdeal.τ).loc Cert.LruRefIdeal.main_arg8) = m ((c.tc : Thread Cert.LruRefIdeal.nD Cert.LruRefIdeal.τ).loc Cert.LruRefIdeal.main_arg8)
      ∧ r.2.mem ((c.tc : Thread Cert.LruRefIdeal.nD Cert.LruRefIdeal.τ).loc Cert.LruRefIdeal.main_arg9) = m ((c.tc : Thread Cert.LruRefIdeal.nD Cert.LruRefIdeal.τ).loc Cert.LruRefIdeal.main_arg9)
      ∧ r.2.mem ((c.tc : Thread Cert.LruRefIdeal.nD Cert.LruRefIdeal.τ).loc Cert.LruRefIdeal.main_arg10) = m ((c.tc : Thread Cert.LruRefIdeal.nD Cert.LruRefIdeal.τ).loc Cert.LruRefIdeal.main_arg10))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4)
      ∧ r.2.mem ((c.tc : Thread Cert.Final.nD Cert.Final.τ).loc Cert.Final.main_arg5) = m ((c.tc : Thread Cert.Final.nD Cert.Final.τ).loc Cert.Final.main_arg5)
      ∧ r.2.mem ((c.tc : Thread Cert.Final.nD Cert.Final.τ).loc Cert.Final.main_arg6) = m ((c.tc : Thread Cert.Final.nD Cert.Final.τ).loc Cert.Final.main_arg6)
      ∧ r.2.mem ((c.tc : Thread Cert.Final.nD Cert.Final.τ).loc Cert.Final.main_arg7) = m ((c.tc : Thread Cert.Final.nD Cert.Final.τ).loc Cert.Final.main_arg7))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
      ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
      ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6)
      ∧ r.2.mem ((c.tc : Thread Cert.FinalIdeal.nD Cert.FinalIdeal.τ).loc Cert.FinalIdeal.main_arg7) = m ((c.tc : Thread Cert.FinalIdeal.nD Cert.FinalIdeal.τ).loc Cert.FinalIdeal.main_arg7))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3)
      ∧ r.2.mem ((c.tc : Thread Cert.FinalRefIdeal.nD Cert.FinalRefIdeal.τ).loc Cert.FinalRefIdeal.main_arg4) = m ((c.tc : Thread Cert.FinalRefIdeal.nD Cert.FinalRefIdeal.τ).loc Cert.FinalRefIdeal.main_arg4)
      ∧ r.2.mem ((c.tc : Thread Cert.FinalRefIdeal.nD Cert.FinalRefIdeal.τ).loc Cert.FinalRefIdeal.main_arg5) = m ((c.tc : Thread Cert.FinalRefIdeal.nD Cert.FinalRefIdeal.τ).loc Cert.FinalRefIdeal.main_arg5)
      ∧ r.2.mem ((c.tc : Thread Cert.FinalRefIdeal.nD Cert.FinalRefIdeal.τ).loc Cert.FinalRefIdeal.main_arg6) = m ((c.tc : Thread Cert.FinalRefIdeal.nD Cert.FinalRefIdeal.τ).loc Cert.FinalRefIdeal.main_arg6)
      ∧ r.2.mem ((c.tc : Thread Cert.FinalRefIdeal.nD Cert.FinalRefIdeal.τ).loc Cert.FinalRefIdeal.main_arg7) = m ((c.tc : Thread Cert.FinalRefIdeal.nD Cert.FinalRefIdeal.τ).loc Cert.FinalRefIdeal.main_arg7))
      ∧ r.2.sem = fun _ => 0)

def quiescent_Inproj1 [hInproj1 : Cert.Inproj1.Facts] : Prop :=
  ∀ (m : (ℓ : Loc Cert.Inproj1.nD Cert.Inproj1.τ Cert.Inproj1.sig) → Buf (Elt Bits) ℓ) (g : Dev Cert.Inproj1.nD → PrngReg), Pre_Inproj1 m →
    θ_run (Cert.Inproj1.defs (F := Bits)) (onTc (τ := Cert.Inproj1.τ) (Cert.Inproj1.main (F := Bits))) ⟨m, fun _ => 0, g⟩ (fun r => (∀ c : Dev Cert.Inproj1.nD,
      r.2.mem ((c.tc : Thread Cert.Inproj1.nD Cert.Inproj1.τ).loc Cert.Inproj1.main_arg0) = m ((c.tc : Thread Cert.Inproj1.nD Cert.Inproj1.τ).loc Cert.Inproj1.main_arg0)
      ∧ r.2.mem ((c.tc : Thread Cert.Inproj1.nD Cert.Inproj1.τ).loc Cert.Inproj1.main_arg1) = m ((c.tc : Thread Cert.Inproj1.nD Cert.Inproj1.τ).loc Cert.Inproj1.main_arg1)
      ∧ r.2.mem ((c.tc : Thread Cert.Inproj1.nD Cert.Inproj1.τ).loc Cert.Inproj1.main_arg2) = m ((c.tc : Thread Cert.Inproj1.nD Cert.Inproj1.τ).loc Cert.Inproj1.main_arg2)
      ∧ r.2.mem ((c.tc : Thread Cert.Inproj1.nD Cert.Inproj1.τ).loc Cert.Inproj1.main_arg3) = m ((c.tc : Thread Cert.Inproj1.nD Cert.Inproj1.τ).loc Cert.Inproj1.main_arg3))
      ∧ r.2.sem = fun _ => 0)

def quiescent_Inproj1Ideal [hInproj1Ideal : Cert.Inproj1Ideal.Facts] : Prop :=
  ∀ (m : (ℓ : Loc Cert.Inproj1Ideal.nD Cert.Inproj1Ideal.τ Cert.Inproj1Ideal.sig) → Buf (Elt Ideal) ℓ) (g : Dev Cert.Inproj1Ideal.nD → PrngReg), Pre_Inproj1Ideal m →
    θ_run (Cert.Inproj1Ideal.defs (F := Ideal)) (onTc (τ := Cert.Inproj1Ideal.τ) (Cert.Inproj1Ideal.main (F := Ideal))) ⟨m, fun _ => 0, g⟩ (fun r => (∀ c : Dev Cert.Inproj1Ideal.nD,
      r.2.mem ((c.tc : Thread Cert.Inproj1Ideal.nD Cert.Inproj1Ideal.τ).loc Cert.Inproj1Ideal.main_arg0) = m ((c.tc : Thread Cert.Inproj1Ideal.nD Cert.Inproj1Ideal.τ).loc Cert.Inproj1Ideal.main_arg0)
      ∧ r.2.mem ((c.tc : Thread Cert.Inproj1Ideal.nD Cert.Inproj1Ideal.τ).loc Cert.Inproj1Ideal.main_arg1) = m ((c.tc : Thread Cert.Inproj1Ideal.nD Cert.Inproj1Ideal.τ).loc Cert.Inproj1Ideal.main_arg1)
      ∧ r.2.mem ((c.tc : Thread Cert.Inproj1Ideal.nD Cert.Inproj1Ideal.τ).loc Cert.Inproj1Ideal.main_arg2) = m ((c.tc : Thread Cert.Inproj1Ideal.nD Cert.Inproj1Ideal.τ).loc Cert.Inproj1Ideal.main_arg2)
      ∧ r.2.mem ((c.tc : Thread Cert.Inproj1Ideal.nD Cert.Inproj1Ideal.τ).loc Cert.Inproj1Ideal.main_arg3) = m ((c.tc : Thread Cert.Inproj1Ideal.nD Cert.Inproj1Ideal.τ).loc Cert.Inproj1Ideal.main_arg3))
      ∧ r.2.sem = fun _ => 0)

def quiescent_Inproj1RefIdeal [hInproj1RefIdeal : Cert.Inproj1RefIdeal.Facts] : Prop :=
  ∀ (m : (ℓ : Loc Cert.Inproj1RefIdeal.nD Cert.Inproj1RefIdeal.τ Cert.Inproj1RefIdeal.sig) → Buf (Elt Ideal) ℓ) (g : Dev Cert.Inproj1RefIdeal.nD → PrngReg), Pre_Inproj1RefIdeal m →
    θ_run (Cert.Inproj1RefIdeal.defs (F := Ideal)) (onTc (τ := Cert.Inproj1RefIdeal.τ) (Cert.Inproj1RefIdeal.main (F := Ideal))) ⟨m, fun _ => 0, g⟩ (fun r => (∀ c : Dev Cert.Inproj1RefIdeal.nD,
      r.2.mem ((c.tc : Thread Cert.Inproj1RefIdeal.nD Cert.Inproj1RefIdeal.τ).loc Cert.Inproj1RefIdeal.main_arg0) = m ((c.tc : Thread Cert.Inproj1RefIdeal.nD Cert.Inproj1RefIdeal.τ).loc Cert.Inproj1RefIdeal.main_arg0)
      ∧ r.2.mem ((c.tc : Thread Cert.Inproj1RefIdeal.nD Cert.Inproj1RefIdeal.τ).loc Cert.Inproj1RefIdeal.main_arg1) = m ((c.tc : Thread Cert.Inproj1RefIdeal.nD Cert.Inproj1RefIdeal.τ).loc Cert.Inproj1RefIdeal.main_arg1)
      ∧ r.2.mem ((c.tc : Thread Cert.Inproj1RefIdeal.nD Cert.Inproj1RefIdeal.τ).loc Cert.Inproj1RefIdeal.main_arg2) = m ((c.tc : Thread Cert.Inproj1RefIdeal.nD Cert.Inproj1RefIdeal.τ).loc Cert.Inproj1RefIdeal.main_arg2)
      ∧ r.2.mem ((c.tc : Thread Cert.Inproj1RefIdeal.nD Cert.Inproj1RefIdeal.τ).loc Cert.Inproj1RefIdeal.main_arg3) = m ((c.tc : Thread Cert.Inproj1RefIdeal.nD Cert.Inproj1RefIdeal.τ).loc Cert.Inproj1RefIdeal.main_arg3))
      ∧ r.2.sem = fun _ => 0)

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1)
      ∧ r.2.mem ((c.tc : Thread Cert.Ffn1.nD Cert.Ffn1.τ).loc Cert.Ffn1.main_arg2) = m ((c.tc : Thread Cert.Ffn1.nD Cert.Ffn1.τ).loc Cert.Ffn1.main_arg2)
      ∧ r.2.mem ((c.tc : Thread Cert.Ffn1.nD Cert.Ffn1.τ).loc Cert.Ffn1.main_arg3) = m ((c.tc : Thread Cert.Ffn1.nD Cert.Ffn1.τ).loc Cert.Ffn1.main_arg3)
      ∧ r.2.mem ((c.tc : Thread Cert.Ffn1.nD Cert.Ffn1.τ).loc Cert.Ffn1.main_arg4) = m ((c.tc : Thread Cert.Ffn1.nD Cert.Ffn1.τ).loc Cert.Ffn1.main_arg4)
      ∧ r.2.mem ((c.tc : Thread Cert.Ffn1.nD Cert.Ffn1.τ).loc Cert.Ffn1.main_arg5) = m ((c.tc : Thread Cert.Ffn1.nD Cert.Ffn1.τ).loc Cert.Ffn1.main_arg5))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
      ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5))
      ∧ r.2.sem = fun _ => 0)

def quiescent_Ffn1RefIdeal [hFfn1RefIdeal : Cert.Ffn1RefIdeal.Facts] : Prop :=
  ∀ (m : (ℓ : Loc Cert.Ffn1RefIdeal.nD Cert.Ffn1RefIdeal.τ Cert.Ffn1RefIdeal.sig) → Buf (Elt Ideal) ℓ) (g : Dev Cert.Ffn1RefIdeal.nD → PrngReg), Pre_Ffn1RefIdeal m →
    θ_run (Cert.Ffn1RefIdeal.defs (F := Ideal)) (onTc (τ := Cert.Ffn1RefIdeal.τ) (Cert.Ffn1RefIdeal.main (F := Ideal))) ⟨m, fun _ => 0, g⟩ (fun r => (∀ c : Dev Cert.Ffn1RefIdeal.nD,
      r.2.mem ((c.tc : Thread Cert.Ffn1RefIdeal.nD Cert.Ffn1RefIdeal.τ).loc Cert.Ffn1RefIdeal.main_arg0) = m ((c.tc : Thread Cert.Ffn1RefIdeal.nD Cert.Ffn1RefIdeal.τ).loc Cert.Ffn1RefIdeal.main_arg0)
      ∧ r.2.mem ((c.tc : Thread Cert.Ffn1RefIdeal.nD Cert.Ffn1RefIdeal.τ).loc Cert.Ffn1RefIdeal.main_arg1) = m ((c.tc : Thread Cert.Ffn1RefIdeal.nD Cert.Ffn1RefIdeal.τ).loc Cert.Ffn1RefIdeal.main_arg1)
      ∧ r.2.mem ((c.tc : Thread Cert.Ffn1RefIdeal.nD Cert.Ffn1RefIdeal.τ).loc Cert.Ffn1RefIdeal.main_arg2) = m ((c.tc : Thread Cert.Ffn1RefIdeal.nD Cert.Ffn1RefIdeal.τ).loc Cert.Ffn1RefIdeal.main_arg2)
      ∧ r.2.mem ((c.tc : Thread Cert.Ffn1RefIdeal.nD Cert.Ffn1RefIdeal.τ).loc Cert.Ffn1RefIdeal.main_arg3) = m ((c.tc : Thread Cert.Ffn1RefIdeal.nD Cert.Ffn1RefIdeal.τ).loc Cert.Ffn1RefIdeal.main_arg3)
      ∧ r.2.mem ((c.tc : Thread Cert.Ffn1RefIdeal.nD Cert.Ffn1RefIdeal.τ).loc Cert.Ffn1RefIdeal.main_arg4) = m ((c.tc : Thread Cert.Ffn1RefIdeal.nD Cert.Ffn1RefIdeal.τ).loc Cert.Ffn1RefIdeal.main_arg4)
      ∧ r.2.mem ((c.tc : Thread Cert.Ffn1RefIdeal.nD Cert.Ffn1RefIdeal.τ).loc Cert.Ffn1RefIdeal.main_arg5) = m ((c.tc : Thread Cert.Ffn1RefIdeal.nD Cert.Ffn1RefIdeal.τ).loc Cert.Ffn1RefIdeal.main_arg5))
      ∧ r.2.sem = fun _ => 0)

def preserves_Lru_LruIdeal : Prop :=
  True

def algebraic_LruIdeal_LruRefIdeal [hLruIdeal : Cert.LruIdeal.Facts] [hLruRefIdeal : Cert.LruRefIdeal.Facts] : Prop :=
  ∀ (m : (ℓ : Loc Cert.LruIdeal.nD Cert.LruIdeal.τ Cert.LruIdeal.sig) → Buf (Elt Ideal) ℓ) (g : Dev Cert.LruIdeal.nD → PrngReg)
    (m' : (ℓ : Loc Cert.LruRefIdeal.nD Cert.LruRefIdeal.τ Cert.LruRefIdeal.sig) → Buf (Elt Ideal) ℓ) (g' : Dev Cert.LruRefIdeal.nD → PrngReg), Pre_LruIdeal m →
    (∀ c : Dev Cert.LruIdeal.nD,
      m' ((c.tc : Thread Cert.LruRefIdeal.nD Cert.LruRefIdeal.τ).loc Cert.LruRefIdeal.main_arg0) = m ((c.tc : Thread Cert.LruIdeal.nD Cert.LruIdeal.τ).loc Cert.LruIdeal.main_arg0)
      ∧ m' ((c.tc : Thread Cert.LruRefIdeal.nD Cert.LruRefIdeal.τ).loc Cert.LruRefIdeal.main_arg1) = m ((c.tc : Thread Cert.LruIdeal.nD Cert.LruIdeal.τ).loc Cert.LruIdeal.main_arg1)
      ∧ m' ((c.tc : Thread Cert.LruRefIdeal.nD Cert.LruRefIdeal.τ).loc Cert.LruRefIdeal.main_arg2) = m ((c.tc : Thread Cert.LruIdeal.nD Cert.LruIdeal.τ).loc Cert.LruIdeal.main_arg2)
      ∧ m' ((c.tc : Thread Cert.LruRefIdeal.nD Cert.LruRefIdeal.τ).loc Cert.LruRefIdeal.main_arg3) = m ((c.tc : Thread Cert.LruIdeal.nD Cert.LruIdeal.τ).loc Cert.LruIdeal.main_arg3)
      ∧ m' ((c.tc : Thread Cert.LruRefIdeal.nD Cert.LruRefIdeal.τ).loc Cert.LruRefIdeal.main_arg4) = m ((c.tc : Thread Cert.LruIdeal.nD Cert.LruIdeal.τ).loc Cert.LruIdeal.main_arg4)
      ∧ m' ((c.tc : Thread Cert.LruRefIdeal.nD Cert.LruRefIdeal.τ).loc Cert.LruRefIdeal.main_arg5) = m ((c.tc : Thread Cert.LruIdeal.nD Cert.LruIdeal.τ).loc Cert.LruIdeal.main_arg5)
      ∧ m' ((c.tc : Thread Cert.LruRefIdeal.nD Cert.LruRefIdeal.τ).loc Cert.LruRefIdeal.main_arg6) = m ((c.tc : Thread Cert.LruIdeal.nD Cert.LruIdeal.τ).loc Cert.LruIdeal.main_arg6)
      ∧ m' ((c.tc : Thread Cert.LruRefIdeal.nD Cert.LruRefIdeal.τ).loc Cert.LruRefIdeal.main_arg7) = m ((c.tc : Thread Cert.LruIdeal.nD Cert.LruIdeal.τ).loc Cert.LruIdeal.main_arg7)
      ∧ m' ((c.tc : Thread Cert.LruRefIdeal.nD Cert.LruRefIdeal.τ).loc Cert.LruRefIdeal.main_arg8) = m ((c.tc : Thread Cert.LruIdeal.nD Cert.LruIdeal.τ).loc Cert.LruIdeal.main_arg8)
      ∧ m' ((c.tc : Thread Cert.LruRefIdeal.nD Cert.LruRefIdeal.τ).loc Cert.LruRefIdeal.main_arg9) = m ((c.tc : Thread Cert.LruIdeal.nD Cert.LruIdeal.τ).loc Cert.LruIdeal.main_arg9)
      ∧ m' ((c.tc : Thread Cert.LruRefIdeal.nD Cert.LruRefIdeal.τ).loc Cert.LruRefIdeal.main_arg10) = m ((c.tc : Thread Cert.LruIdeal.nD Cert.LruIdeal.τ).loc Cert.LruIdeal.main_arg10)) →
    ∃ (v0 : (c : Dev Cert.LruIdeal.nD) → Buf (Elt Ideal) ((c.tc : Thread Cert.LruIdeal.nD Cert.LruIdeal.τ).loc Cert.LruIdeal.main_v66_0)) (v1 : (c : Dev Cert.LruIdeal.nD) → Buf (Elt Ideal) ((c.tc : Thread Cert.LruIdeal.nD Cert.LruIdeal.τ).loc Cert.LruIdeal.main_v66_1)) (v2 : (c : Dev Cert.LruIdeal.nD) → Buf (Elt Ideal) ((c.tc : Thread Cert.LruIdeal.nD Cert.LruIdeal.τ).loc Cert.LruIdeal.main_v66_2)) (v3 : (c : Dev Cert.LruIdeal.nD) → Buf (Elt Ideal) ((c.tc : Thread Cert.LruIdeal.nD Cert.LruIdeal.τ).loc Cert.LruIdeal.main_v66_3)) (v4 : (c : Dev Cert.LruIdeal.nD) → Buf (Elt Ideal) ((c.tc : Thread Cert.LruIdeal.nD Cert.LruIdeal.τ).loc Cert.LruIdeal.main_v66_4)),
      θ_run (Cert.LruIdeal.defs (F := Ideal)) (onTc (τ := Cert.LruIdeal.τ) (Cert.LruIdeal.main (F := Ideal))) ⟨m, fun _ => 0, g⟩ (fun r => ∀ c : Dev Cert.LruIdeal.nD,
          r.2.mem ((c.tc : Thread Cert.LruIdeal.nD Cert.LruIdeal.τ).loc Cert.LruIdeal.main_v66_0) = v0 c
          ∧ r.2.mem ((c.tc : Thread Cert.LruIdeal.nD Cert.LruIdeal.τ).loc Cert.LruIdeal.main_v66_1) = v1 c
          ∧ r.2.mem ((c.tc : Thread Cert.LruIdeal.nD Cert.LruIdeal.τ).loc Cert.LruIdeal.main_v66_2) = v2 c
          ∧ r.2.mem ((c.tc : Thread Cert.LruIdeal.nD Cert.LruIdeal.τ).loc Cert.LruIdeal.main_v66_3) = v3 c
          ∧ r.2.mem ((c.tc : Thread Cert.LruIdeal.nD Cert.LruIdeal.τ).loc Cert.LruIdeal.main_v66_4) = v4 c
          ∧ r.2.mem ((c.tc : Thread Cert.LruIdeal.nD Cert.LruIdeal.τ).loc Cert.LruIdeal.main_arg0) = m ((c.tc : Thread Cert.LruIdeal.nD Cert.LruIdeal.τ).loc Cert.LruIdeal.main_arg0)
          ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
          ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
          ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
          ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
          ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
          ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
          ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
          ∧ r.2.mem ((c.tc : Thread Cert.LruIdeal.nD Cert.LruIdeal.τ).loc Cert.LruIdeal.main_arg8) = m ((c.tc : Thread Cert.LruIdeal.nD Cert.LruIdeal.τ).loc Cert.LruIdeal.main_arg8)
          ∧ r.2.mem ((c.tc : Thread Cert.LruIdeal.nD Cert.LruIdeal.τ).loc Cert.LruIdeal.main_arg9) = m ((c.tc : Thread Cert.LruIdeal.nD Cert.LruIdeal.τ).loc Cert.LruIdeal.main_arg9)
          ∧ r.2.mem ((c.tc : Thread Cert.LruIdeal.nD Cert.LruIdeal.τ).loc Cert.LruIdeal.main_arg10) = m ((c.tc : Thread Cert.LruIdeal.nD Cert.LruIdeal.τ).loc Cert.LruIdeal.main_arg10))
      ∧ θ_run (Cert.LruRefIdeal.defs (F := Ideal)) (onTc (τ := Cert.LruRefIdeal.τ) (Cert.LruRefIdeal.main (F := Ideal))) ⟨m', fun _ => 0, g'⟩ (fun r => ∀ c : Dev Cert.LruRefIdeal.nD,
          r.2.mem ((c.tc : Thread Cert.LruRefIdeal.nD Cert.LruRefIdeal.τ).loc Cert.LruRefIdeal.main_v208) = v0 c
          ∧ r.2.mem ((c.tc : Thread Cert.LruRefIdeal.nD Cert.LruRefIdeal.τ).loc Cert.LruRefIdeal.main_v186) = v1 c
          ∧ r.2.mem ((c.tc : Thread Cert.LruRefIdeal.nD Cert.LruRefIdeal.τ).loc Cert.LruRefIdeal.main_v187) = v2 c
          ∧ r.2.mem ((c.tc : Thread Cert.LruRefIdeal.nD Cert.LruRefIdeal.τ).loc Cert.LruRefIdeal.main_v188) = v3 c
          ∧ r.2.mem ((c.tc : Thread Cert.LruRefIdeal.nD Cert.LruRefIdeal.τ).loc Cert.LruRefIdeal.main_v183) = v4 c
          ∧ r.2.mem ((c.tc : Thread Cert.LruRefIdeal.nD Cert.LruRefIdeal.τ).loc Cert.LruRefIdeal.main_arg0) = m' ((c.tc : Thread Cert.LruRefIdeal.nD Cert.LruRefIdeal.τ).loc Cert.LruRefIdeal.main_arg0)
          ∧ r.2.mem ((c.tc : Thread Cert.LruRefIdeal.nD Cert.LruRefIdeal.τ).loc Cert.LruRefIdeal.main_arg1) = m' ((c.tc : Thread Cert.LruRefIdeal.nD Cert.LruRefIdeal.τ).loc Cert.LruRefIdeal.main_arg1)
          ∧ r.2.mem ((c.tc : Thread Cert.LruRefIdeal.nD Cert.LruRefIdeal.τ).loc Cert.LruRefIdeal.main_arg2) = m' ((c.tc : Thread Cert.LruRefIdeal.nD Cert.LruRefIdeal.τ).loc Cert.LruRefIdeal.main_arg2)
          ∧ r.2.mem ((c.tc : Thread Cert.LruRefIdeal.nD Cert.LruRefIdeal.τ).loc Cert.LruRefIdeal.main_arg3) = m' ((c.tc : Thread Cert.LruRefIdeal.nD Cert.LruRefIdeal.τ).loc Cert.LruRefIdeal.main_arg3)
          ∧ r.2.mem ((c.tc : Thread Cert.LruRefIdeal.nD Cert.LruRefIdeal.τ).loc Cert.LruRefIdeal.main_arg4) = m' ((c.tc : Thread Cert.LruRefIdeal.nD Cert.LruRefIdeal.τ).loc Cert.LruRefIdeal.main_arg4)
          ∧ r.2.mem ((c.tc : Thread Cert.LruRefIdeal.nD Cert.LruRefIdeal.τ).loc Cert.LruRefIdeal.main_arg5) = m' ((c.tc : Thread Cert.LruRefIdeal.nD Cert.LruRefIdeal.τ).loc Cert.LruRefIdeal.main_arg5)
          ∧ r.2.mem ((c.tc : Thread Cert.LruRefIdeal.nD Cert.LruRefIdeal.τ).loc Cert.LruRefIdeal.main_arg6) = m' ((c.tc : Thread Cert.LruRefIdeal.nD Cert.LruRefIdeal.τ).loc Cert.LruRefIdeal.main_arg6)
          ∧ r.2.mem ((c.tc : Thread Cert.LruRefIdeal.nD Cert.LruRefIdeal.τ).loc Cert.LruRefIdeal.main_arg7) = m' ((c.tc : Thread Cert.LruRefIdeal.nD Cert.LruRefIdeal.τ).loc Cert.LruRefIdeal.main_arg7)
          ∧ r.2.mem ((c.tc : Thread Cert.LruRefIdeal.nD Cert.LruRefIdeal.τ).loc Cert.LruRefIdeal.main_arg8) = m' ((c.tc : Thread Cert.LruRefIdeal.nD Cert.LruRefIdeal.τ).loc Cert.LruRefIdeal.main_arg8)
          ∧ r.2.mem ((c.tc : Thread Cert.LruRefIdeal.nD Cert.LruRefIdeal.τ).loc Cert.LruRefIdeal.main_arg9) = m' ((c.tc : Thread Cert.LruRefIdeal.nD Cert.LruRefIdeal.τ).loc Cert.LruRefIdeal.main_arg9)
          ∧ r.2.mem ((c.tc : Thread Cert.LruRefIdeal.nD Cert.LruRefIdeal.τ).loc Cert.LruRefIdeal.main_arg10) = m' ((c.tc : Thread Cert.LruRefIdeal.nD Cert.LruRefIdeal.τ).loc Cert.LruRefIdeal.main_arg10))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v42) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v7)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v7) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v51) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)
      ∧ m' ((c.tc : Thread Cert.FinalRefIdeal.nD Cert.FinalRefIdeal.τ).loc Cert.FinalRefIdeal.main_arg4) = m ((c.tc : Thread Cert.FinalIdeal.nD Cert.FinalIdeal.τ).loc Cert.FinalIdeal.main_arg4)
      ∧ m' ((c.tc : Thread Cert.FinalRefIdeal.nD Cert.FinalRefIdeal.τ).loc Cert.FinalRefIdeal.main_arg5) = m ((c.tc : Thread Cert.FinalIdeal.nD Cert.FinalIdeal.τ).loc Cert.FinalIdeal.main_arg5)
      ∧ m' ((c.tc : Thread Cert.FinalRefIdeal.nD Cert.FinalRefIdeal.τ).loc Cert.FinalRefIdeal.main_arg6) = m ((c.tc : Thread Cert.FinalIdeal.nD Cert.FinalIdeal.τ).loc Cert.FinalIdeal.main_arg6)
      ∧ m' ((c.tc : Thread Cert.FinalRefIdeal.nD Cert.FinalRefIdeal.τ).loc Cert.FinalRefIdeal.main_arg7) = m ((c.tc : Thread Cert.FinalIdeal.nD Cert.FinalIdeal.τ).loc Cert.FinalIdeal.main_arg7)) →
    ∃ (v0 : (c : Dev Cert.FinalIdeal.nD) → Buf (Elt Ideal) ((c.tc : Thread Cert.FinalIdeal.nD Cert.FinalIdeal.τ).loc Cert.FinalIdeal.main_v29)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v29) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
          ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
          ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6)
          ∧ r.2.mem ((c.tc : Thread Cert.FinalIdeal.nD Cert.FinalIdeal.τ).loc Cert.FinalIdeal.main_arg7) = m ((c.tc : Thread Cert.FinalIdeal.nD Cert.FinalIdeal.τ).loc Cert.FinalIdeal.main_arg7))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v66) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3)
          ∧ r.2.mem ((c.tc : Thread Cert.FinalRefIdeal.nD Cert.FinalRefIdeal.τ).loc Cert.FinalRefIdeal.main_arg4) = m' ((c.tc : Thread Cert.FinalRefIdeal.nD Cert.FinalRefIdeal.τ).loc Cert.FinalRefIdeal.main_arg4)
          ∧ r.2.mem ((c.tc : Thread Cert.FinalRefIdeal.nD Cert.FinalRefIdeal.τ).loc Cert.FinalRefIdeal.main_arg5) = m' ((c.tc : Thread Cert.FinalRefIdeal.nD Cert.FinalRefIdeal.τ).loc Cert.FinalRefIdeal.main_arg5)
          ∧ r.2.mem ((c.tc : Thread Cert.FinalRefIdeal.nD Cert.FinalRefIdeal.τ).loc Cert.FinalRefIdeal.main_arg6) = m' ((c.tc : Thread Cert.FinalRefIdeal.nD Cert.FinalRefIdeal.τ).loc Cert.FinalRefIdeal.main_arg6)
          ∧ r.2.mem ((c.tc : Thread Cert.FinalRefIdeal.nD Cert.FinalRefIdeal.τ).loc Cert.FinalRefIdeal.main_arg7) = m' ((c.tc : Thread Cert.FinalRefIdeal.nD Cert.FinalRefIdeal.τ).loc Cert.FinalRefIdeal.main_arg7))

def preserves_Inproj1_Inproj1Ideal : Prop :=
  True

def algebraic_Inproj1Ideal_Inproj1RefIdeal [hInproj1Ideal : Cert.Inproj1Ideal.Facts] [hInproj1RefIdeal : Cert.Inproj1RefIdeal.Facts] : Prop :=
  ∀ (m : (ℓ : Loc Cert.Inproj1Ideal.nD Cert.Inproj1Ideal.τ Cert.Inproj1Ideal.sig) → Buf (Elt Ideal) ℓ) (g : Dev Cert.Inproj1Ideal.nD → PrngReg)
    (m' : (ℓ : Loc Cert.Inproj1RefIdeal.nD Cert.Inproj1RefIdeal.τ Cert.Inproj1RefIdeal.sig) → Buf (Elt Ideal) ℓ) (g' : Dev Cert.Inproj1RefIdeal.nD → PrngReg), Pre_Inproj1Ideal m →
    (∀ c : Dev Cert.Inproj1Ideal.nD,
      m' ((c.tc : Thread Cert.Inproj1RefIdeal.nD Cert.Inproj1RefIdeal.τ).loc Cert.Inproj1RefIdeal.main_arg0) = m ((c.tc : Thread Cert.Inproj1Ideal.nD Cert.Inproj1Ideal.τ).loc Cert.Inproj1Ideal.main_arg0)
      ∧ m' ((c.tc : Thread Cert.Inproj1RefIdeal.nD Cert.Inproj1RefIdeal.τ).loc Cert.Inproj1RefIdeal.main_arg1) = m ((c.tc : Thread Cert.Inproj1Ideal.nD Cert.Inproj1Ideal.τ).loc Cert.Inproj1Ideal.main_arg1)
      ∧ m' ((c.tc : Thread Cert.Inproj1RefIdeal.nD Cert.Inproj1RefIdeal.τ).loc Cert.Inproj1RefIdeal.main_arg2) = m ((c.tc : Thread Cert.Inproj1Ideal.nD Cert.Inproj1Ideal.τ).loc Cert.Inproj1Ideal.main_arg2)
      ∧ m' ((c.tc : Thread Cert.Inproj1RefIdeal.nD Cert.Inproj1RefIdeal.τ).loc Cert.Inproj1RefIdeal.main_arg3) = m ((c.tc : Thread Cert.Inproj1Ideal.nD Cert.Inproj1Ideal.τ).loc Cert.Inproj1Ideal.main_arg3)) →
    ∃ (v0 : (c : Dev Cert.Inproj1Ideal.nD) → Buf (Elt Ideal) ((c.tc : Thread Cert.Inproj1Ideal.nD Cert.Inproj1Ideal.τ).loc Cert.Inproj1Ideal.main_v62_0)) (v1 : (c : Dev Cert.Inproj1Ideal.nD) → Buf (Elt Ideal) ((c.tc : Thread Cert.Inproj1Ideal.nD Cert.Inproj1Ideal.τ).loc Cert.Inproj1Ideal.main_v62_1)) (v2 : (c : Dev Cert.Inproj1Ideal.nD) → Buf (Elt Ideal) ((c.tc : Thread Cert.Inproj1Ideal.nD Cert.Inproj1Ideal.τ).loc Cert.Inproj1Ideal.main_v62_2)) (v3 : (c : Dev Cert.Inproj1Ideal.nD) → Buf (Elt Ideal) ((c.tc : Thread Cert.Inproj1Ideal.nD Cert.Inproj1Ideal.τ).loc Cert.Inproj1Ideal.main_v62_3)) (v4 : (c : Dev Cert.Inproj1Ideal.nD) → Buf (Elt Ideal) ((c.tc : Thread Cert.Inproj1Ideal.nD Cert.Inproj1Ideal.τ).loc Cert.Inproj1Ideal.main_v62_4)),
      θ_run (Cert.Inproj1Ideal.defs (F := Ideal)) (onTc (τ := Cert.Inproj1Ideal.τ) (Cert.Inproj1Ideal.main (F := Ideal))) ⟨m, fun _ => 0, g⟩ (fun r => ∀ c : Dev Cert.Inproj1Ideal.nD,
          r.2.mem ((c.tc : Thread Cert.Inproj1Ideal.nD Cert.Inproj1Ideal.τ).loc Cert.Inproj1Ideal.main_v62_0) = v0 c
          ∧ r.2.mem ((c.tc : Thread Cert.Inproj1Ideal.nD Cert.Inproj1Ideal.τ).loc Cert.Inproj1Ideal.main_v62_1) = v1 c
          ∧ r.2.mem ((c.tc : Thread Cert.Inproj1Ideal.nD Cert.Inproj1Ideal.τ).loc Cert.Inproj1Ideal.main_v62_2) = v2 c
          ∧ r.2.mem ((c.tc : Thread Cert.Inproj1Ideal.nD Cert.Inproj1Ideal.τ).loc Cert.Inproj1Ideal.main_v62_3) = v3 c
          ∧ r.2.mem ((c.tc : Thread Cert.Inproj1Ideal.nD Cert.Inproj1Ideal.τ).loc Cert.Inproj1Ideal.main_v62_4) = v4 c
          ∧ r.2.mem ((c.tc : Thread Cert.Inproj1Ideal.nD Cert.Inproj1Ideal.τ).loc Cert.Inproj1Ideal.main_arg0) = m ((c.tc : Thread Cert.Inproj1Ideal.nD Cert.Inproj1Ideal.τ).loc Cert.Inproj1Ideal.main_arg0)
          ∧ r.2.mem ((c.tc : Thread Cert.Inproj1Ideal.nD Cert.Inproj1Ideal.τ).loc Cert.Inproj1Ideal.main_arg1) = m ((c.tc : Thread Cert.Inproj1Ideal.nD Cert.Inproj1Ideal.τ).loc Cert.Inproj1Ideal.main_arg1)
          ∧ r.2.mem ((c.tc : Thread Cert.Inproj1Ideal.nD Cert.Inproj1Ideal.τ).loc Cert.Inproj1Ideal.main_arg2) = m ((c.tc : Thread Cert.Inproj1Ideal.nD Cert.Inproj1Ideal.τ).loc Cert.Inproj1Ideal.main_arg2)
          ∧ r.2.mem ((c.tc : Thread Cert.Inproj1Ideal.nD Cert.Inproj1Ideal.τ).loc Cert.Inproj1Ideal.main_arg3) = m ((c.tc : Thread Cert.Inproj1Ideal.nD Cert.Inproj1Ideal.τ).loc Cert.Inproj1Ideal.main_arg3))
      ∧ θ_run (Cert.Inproj1RefIdeal.defs (F := Ideal)) (onTc (τ := Cert.Inproj1RefIdeal.τ) (Cert.Inproj1RefIdeal.main (F := Ideal))) ⟨m', fun _ => 0, g'⟩ (fun r => ∀ c : Dev Cert.Inproj1RefIdeal.nD,
          r.2.mem ((c.tc : Thread Cert.Inproj1RefIdeal.nD Cert.Inproj1RefIdeal.τ).loc Cert.Inproj1RefIdeal.main_v41) = v0 c
          ∧ r.2.mem ((c.tc : Thread Cert.Inproj1RefIdeal.nD Cert.Inproj1RefIdeal.τ).loc Cert.Inproj1RefIdeal.main_v80) = v1 c
          ∧ r.2.mem ((c.tc : Thread Cert.Inproj1RefIdeal.nD Cert.Inproj1RefIdeal.τ).loc Cert.Inproj1RefIdeal.main_v157) = v2 c
          ∧ r.2.mem ((c.tc : Thread Cert.Inproj1RefIdeal.nD Cert.Inproj1RefIdeal.τ).loc Cert.Inproj1RefIdeal.main_v159) = v3 c
          ∧ r.2.mem ((c.tc : Thread Cert.Inproj1RefIdeal.nD Cert.Inproj1RefIdeal.τ).loc Cert.Inproj1RefIdeal.main_v166) = v4 c
          ∧ r.2.mem ((c.tc : Thread Cert.Inproj1RefIdeal.nD Cert.Inproj1RefIdeal.τ).loc Cert.Inproj1RefIdeal.main_arg0) = m' ((c.tc : Thread Cert.Inproj1RefIdeal.nD Cert.Inproj1RefIdeal.τ).loc Cert.Inproj1RefIdeal.main_arg0)
          ∧ r.2.mem ((c.tc : Thread Cert.Inproj1RefIdeal.nD Cert.Inproj1RefIdeal.τ).loc Cert.Inproj1RefIdeal.main_arg1) = m' ((c.tc : Thread Cert.Inproj1RefIdeal.nD Cert.Inproj1RefIdeal.τ).loc Cert.Inproj1RefIdeal.main_arg1)
          ∧ r.2.mem ((c.tc : Thread Cert.Inproj1RefIdeal.nD Cert.Inproj1RefIdeal.τ).loc Cert.Inproj1RefIdeal.main_arg2) = m' ((c.tc : Thread Cert.Inproj1RefIdeal.nD Cert.Inproj1RefIdeal.τ).loc Cert.Inproj1RefIdeal.main_arg2)
          ∧ r.2.mem ((c.tc : Thread Cert.Inproj1RefIdeal.nD Cert.Inproj1RefIdeal.τ).loc Cert.Inproj1RefIdeal.main_arg3) = m' ((c.tc : Thread Cert.Inproj1RefIdeal.nD Cert.Inproj1RefIdeal.τ).loc Cert.Inproj1RefIdeal.main_arg3))

def preserves_Ffn1_Ffn1Ideal : Prop :=
  True

def algebraic_Ffn1Ideal_Ffn1RefIdeal [hFfn1Ideal : Cert.Ffn1Ideal.Facts] [hFfn1RefIdeal : Cert.Ffn1RefIdeal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.Ffn1RefIdeal.nD Cert.Ffn1RefIdeal.τ Cert.Ffn1RefIdeal.sig) → Buf (Elt Ideal) ℓ) (g' : Dev Cert.Ffn1RefIdeal.nD → PrngReg), Pre_Ffn1Ideal m →
    (∀ c : Dev Cert.Ffn1Ideal.nD,
      m' ((c.tc : Thread Cert.Ffn1RefIdeal.nD Cert.Ffn1RefIdeal.τ).loc Cert.Ffn1RefIdeal.main_arg0) = m ((c.tc : Thread Cert.Ffn1Ideal.nD Cert.Ffn1Ideal.τ).loc Cert.Ffn1Ideal.main_arg0)
      ∧ m' ((c.tc : Thread Cert.Ffn1RefIdeal.nD Cert.Ffn1RefIdeal.τ).loc Cert.Ffn1RefIdeal.main_arg1) = m ((c.tc : Thread Cert.Ffn1Ideal.nD Cert.Ffn1Ideal.τ).loc Cert.Ffn1Ideal.main_arg1)
      ∧ m' ((c.tc : Thread Cert.Ffn1RefIdeal.nD Cert.Ffn1RefIdeal.τ).loc Cert.Ffn1RefIdeal.main_arg2) = m ((c.tc : Thread Cert.Ffn1Ideal.nD Cert.Ffn1Ideal.τ).loc Cert.Ffn1Ideal.main_arg2)
      ∧ m' ((c.tc : Thread Cert.Ffn1RefIdeal.nD Cert.Ffn1RefIdeal.τ).loc Cert.Ffn1RefIdeal.main_arg3) = m ((c.tc : Thread Cert.Ffn1Ideal.nD Cert.Ffn1Ideal.τ).loc Cert.Ffn1Ideal.main_arg3)
      ∧ m' ((c.tc : Thread Cert.Ffn1RefIdeal.nD Cert.Ffn1RefIdeal.τ).loc Cert.Ffn1RefIdeal.main_arg4) = m ((c.tc : Thread Cert.Ffn1Ideal.nD Cert.Ffn1Ideal.τ).loc Cert.Ffn1Ideal.main_arg4)
      ∧ m' ((c.tc : Thread Cert.Ffn1RefIdeal.nD Cert.Ffn1RefIdeal.τ).loc Cert.Ffn1RefIdeal.main_arg5) = m ((c.tc : Thread Cert.Ffn1Ideal.nD Cert.Ffn1Ideal.τ).loc Cert.Ffn1Ideal.main_arg5)) →
    ∃ (v0 : (c : Dev Cert.Ffn1Ideal.nD) → Buf (Elt Ideal) ((c.tc : Thread Cert.Ffn1Ideal.nD Cert.Ffn1Ideal.τ).loc Cert.Ffn1Ideal.main_v4)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v4) = v0 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
          ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
          ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
          ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
          ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5))
      ∧ θ_run (Cert.Ffn1RefIdeal.defs (F := Ideal)) (onTc (τ := Cert.Ffn1RefIdeal.τ) (Cert.Ffn1RefIdeal.main (F := Ideal))) ⟨m', fun _ => 0, g'⟩ (fun r => ∀ c : Dev Cert.Ffn1RefIdeal.nD,
          r.2.mem ((c.tc : Thread Cert.Ffn1RefIdeal.nD Cert.Ffn1RefIdeal.τ).loc Cert.Ffn1RefIdeal.main_v42) = v0 c
          ∧ r.2.mem ((c.tc : Thread Cert.Ffn1RefIdeal.nD Cert.Ffn1RefIdeal.τ).loc Cert.Ffn1RefIdeal.main_arg0) = m' ((c.tc : Thread Cert.Ffn1RefIdeal.nD Cert.Ffn1RefIdeal.τ).loc Cert.Ffn1RefIdeal.main_arg0)
          ∧ r.2.mem ((c.tc : Thread Cert.Ffn1RefIdeal.nD Cert.Ffn1RefIdeal.τ).loc Cert.Ffn1RefIdeal.main_arg1) = m' ((c.tc : Thread Cert.Ffn1RefIdeal.nD Cert.Ffn1RefIdeal.τ).loc Cert.Ffn1RefIdeal.main_arg1)
          ∧ r.2.mem ((c.tc : Thread Cert.Ffn1RefIdeal.nD Cert.Ffn1RefIdeal.τ).loc Cert.Ffn1RefIdeal.main_arg2) = m' ((c.tc : Thread Cert.Ffn1RefIdeal.nD Cert.Ffn1RefIdeal.τ).loc Cert.Ffn1RefIdeal.main_arg2)
          ∧ r.2.mem ((c.tc : Thread Cert.Ffn1RefIdeal.nD Cert.Ffn1RefIdeal.τ).loc Cert.Ffn1RefIdeal.main_arg3) = m' ((c.tc : Thread Cert.Ffn1RefIdeal.nD Cert.Ffn1RefIdeal.τ).loc Cert.Ffn1RefIdeal.main_arg3)
          ∧ r.2.mem ((c.tc : Thread Cert.Ffn1RefIdeal.nD Cert.Ffn1RefIdeal.τ).loc Cert.Ffn1RefIdeal.main_arg4) = m' ((c.tc : Thread Cert.Ffn1RefIdeal.nD Cert.Ffn1RefIdeal.τ).loc Cert.Ffn1RefIdeal.main_arg4)
          ∧ r.2.mem ((c.tc : Thread Cert.Ffn1RefIdeal.nD Cert.Ffn1RefIdeal.τ).loc Cert.Ffn1RefIdeal.main_arg5) = m' ((c.tc : Thread Cert.Ffn1RefIdeal.nD Cert.Ffn1RefIdeal.τ).loc Cert.Ffn1RefIdeal.main_arg5))

def Claim : Prop :=
  ∃ (hLru : Cert.Lru.Facts) (hLruIdeal : Cert.LruIdeal.Facts) (hLruRefIdeal : Cert.LruRefIdeal.Facts) (hFfn : Cert.Ffn.Facts) (hFfnIdeal : Cert.FfnIdeal.Facts) (hFfnRefIdeal : Cert.FfnRefIdeal.Facts) (hMix : Cert.Mix.Facts) (hMixIdeal : Cert.MixIdeal.Facts) (hMixRefIdeal : Cert.MixRefIdeal.Facts) (hFinal : Cert.Final.Facts) (hFinalIdeal : Cert.FinalIdeal.Facts) (hFinalRefIdeal : Cert.FinalRefIdeal.Facts) (hInproj1 : Cert.Inproj1.Facts) (hInproj1Ideal : Cert.Inproj1Ideal.Facts) (hInproj1RefIdeal : Cert.Inproj1RefIdeal.Facts) (hFfn1 : Cert.Ffn1.Facts) (hFfn1Ideal : Cert.Ffn1Ideal.Facts) (hFfn1RefIdeal : Cert.Ffn1RefIdeal.Facts),
    quiescent_Lru (hLru := hLru)
    ∧ quiescent_LruIdeal (hLruIdeal := hLruIdeal)
    ∧ quiescent_LruRefIdeal (hLruRefIdeal := hLruRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Mix (hMix := hMix)
    ∧ quiescent_MixIdeal (hMixIdeal := hMixIdeal)
    ∧ quiescent_MixRefIdeal (hMixRefIdeal := hMixRefIdeal)
    ∧ quiescent_Final (hFinal := hFinal)
    ∧ quiescent_FinalIdeal (hFinalIdeal := hFinalIdeal)
    ∧ quiescent_FinalRefIdeal (hFinalRefIdeal := hFinalRefIdeal)
    ∧ quiescent_Inproj1 (hInproj1 := hInproj1)
    ∧ quiescent_Inproj1Ideal (hInproj1Ideal := hInproj1Ideal)
    ∧ quiescent_Inproj1RefIdeal (hInproj1RefIdeal := hInproj1RefIdeal)
    ∧ quiescent_Ffn1 (hFfn1 := hFfn1)
    ∧ quiescent_Ffn1Ideal (hFfn1Ideal := hFfn1Ideal)
    ∧ quiescent_Ffn1RefIdeal (hFfn1RefIdeal := hFfn1RefIdeal)
    ∧ preserves_Lru_LruIdeal
    ∧ algebraic_LruIdeal_LruRefIdeal (hLruIdeal := hLruIdeal) (hLruRefIdeal := hLruRefIdeal)
    ∧ preserves_Ffn_FfnIdeal
    ∧ algebraic_FfnIdeal_FfnRefIdeal (hFfnIdeal := hFfnIdeal) (hFfnRefIdeal := hFfnRefIdeal)
    ∧ preserves_Mix_MixIdeal
    ∧ algebraic_MixIdeal_MixRefIdeal (hMixIdeal := hMixIdeal) (hMixRefIdeal := hMixRefIdeal)
    ∧ preserves_Final_FinalIdeal
    ∧ algebraic_FinalIdeal_FinalRefIdeal (hFinalIdeal := hFinalIdeal) (hFinalRefIdeal := hFinalRefIdeal)
    ∧ preserves_Inproj1_Inproj1Ideal
    ∧ algebraic_Inproj1Ideal_Inproj1RefIdeal (hInproj1Ideal := hInproj1Ideal) (hInproj1RefIdeal := hInproj1RefIdeal)
    ∧ preserves_Ffn1_Ffn1Ideal
    ∧ algebraic_Ffn1Ideal_Ffn1RefIdeal (hFfn1Ideal := hFfn1Ideal) (hFfn1RefIdeal := hFfn1RefIdeal)
-- ==== Lru.lean ====
abbrev S4x8192x1024 : Shape := ⟨3, ![4, 8192, 1024]⟩
abbrev S4x9x1024 : Shape := ⟨3, ![4, 9, 1024]⟩
abbrev S1024 : Shape := ⟨1, ![1024]⟩
abbrev S1024x2560 : Shape := ⟨2, ![1024, 2560]⟩
abbrev S4x512 : Shape := ⟨2, ![4, 512]⟩
abbrev S512 : Shape := ⟨1, ![512]⟩
abbrev S8x64x64 : Shape := ⟨3, ![8, 64, 64]⟩
abbrev S8x64 : Shape := ⟨2, ![8, 64]⟩
abbrev S8x8 : Shape := ⟨2, ![8, 8]⟩
abbrev S_ : Shape := ⟨0, ![]⟩
abbrev S8x1x8x1 : Shape := ⟨4, ![8, 1, 8, 1]⟩
abbrev S8x64x1x64 : Shape := ⟨4, ![8, 64, 1, 64]⟩
abbrev S8x64x8x64 : Shape := ⟨4, ![8, 64, 8, 64]⟩
abbrev S512x512 : Shape := ⟨2, ![512, 512]⟩
abbrev S8192 : Shape := ⟨1, ![8192]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1x1024 : Shape := ⟨2, ![1, 1024]⟩
abbrev S1x512 : Shape := ⟨2, ![1, 512]⟩
abbrev S4x8192x512 : Shape := ⟨3, ![4, 8192, 512]⟩
abbrev S4x32x1x512 : Shape := ⟨4, ![4, 32, 1, 512]⟩
abbrev S1x512x1024 : Shape := ⟨3, ![1, 512, 1024]⟩
abbrev S1x9x1024 : Shape := ⟨3, ![1, 9, 1024]⟩
abbrev S512x128 : Shape := ⟨2, ![512, 128]⟩
abbrev S1x512x512 : Shape := ⟨3, ![1, 512, 512]⟩
abbrev S1x2x1x512 : Shape := ⟨4, ![1, 2, 1, 512]⟩
abbrev S264x512 : Shape := ⟨2, ![264, 512]⟩
abbrev S8x512 : Shape := ⟨2, ![8, 512]⟩
abbrev S9x1024 : Shape := ⟨2, ![9, 1024]⟩
abbrev S512x1024 : Shape := ⟨2, ![512, 1024]⟩
abbrev S512x1 : Shape := ⟨2, ![512, 1]⟩
abbrev S512x2560 : Shape := ⟨2, ![512, 2560]⟩
abbrev S256x512 : Shape := ⟨2, ![256, 512]⟩
abbrev S1x256x512 : Shape := ⟨3, ![1, 256, 512]⟩
abbrev S1x1x1x512 : Shape := ⟨4, ![1, 1, 1, 512]⟩

abbrev nBuf : Space → Nat
  | .hbm => 90
  | .vmem => 31
  | .smem => 0
  | _ => 0

abbrev bufTy : (tb : Table) → Fin (tcTables nBuf tb) → BufTy
  | .hbm, ⟨0, _⟩ => ⟨S4x8192x1024, .f32⟩
  | .hbm, ⟨1, _⟩ => ⟨S4x9x1024, .f32⟩
  | .hbm, ⟨2, _⟩ => ⟨S1024, .f32⟩
  | .hbm, ⟨3, _⟩ => ⟨S1024x2560, .f32⟩
  | .hbm, ⟨4, _⟩ => ⟨S4x512, .f32⟩
  | .hbm, ⟨5, _⟩ => ⟨S512, .f32⟩
  | .hbm, ⟨6, _⟩ => ⟨S8x64x64, .f32⟩
  | .hbm, ⟨7, _⟩ => ⟨S8x64, .f32⟩
  | .hbm, ⟨8, _⟩ => ⟨S8x64x64, .f32⟩
  | .hbm, ⟨9, _⟩ => ⟨S8x64, .f32⟩
  | .hbm, ⟨10, _⟩ => ⟨S512, .f32⟩
  | .hbm, ⟨11, _⟩ => ⟨S8x8, .i32⟩
  | .hbm, ⟨12, _⟩ => ⟨S8x8, .i32⟩
  | .hbm, ⟨13, _⟩ => ⟨S_, .i32⟩
  | .hbm, ⟨14, _⟩ => ⟨S8x8, .i32⟩
  | .hbm, ⟨15, _⟩ => ⟨S8x8, .i32⟩
  | .hbm, ⟨16, _⟩ => ⟨S8x8, .i1⟩
  | .hbm, ⟨17, _⟩ => ⟨S8x8, .f32⟩
  | .hbm, ⟨18, _⟩ => ⟨S8x1x8x1, .f32⟩
  | .hbm, ⟨19, _⟩ => ⟨S8x64x1x64, .f32⟩
  | .hbm, ⟨20, _⟩ => ⟨S8x64x8x64, .f32⟩
  | .hbm, ⟨21, _⟩ => ⟨S8x64x8x64, .f32⟩
  | .hbm, ⟨22, _⟩ => ⟨S8x64x8x64, .f32⟩
  | .hbm, ⟨23, _⟩ => ⟨S512x512, .f32⟩
  | .hbm, ⟨24, _⟩ => ⟨S512x512, .bf16⟩
  | .hbm, ⟨25, _⟩ => ⟨S512, .f32⟩
  | .hbm, ⟨26, _⟩ => ⟨S8x8, .i32⟩
  | .hbm, ⟨27, _⟩ => ⟨S8x8, .i32⟩
  | .hbm, ⟨28, _⟩ => ⟨S_, .i32⟩
  | .hbm, ⟨29, _⟩ => ⟨S8x8, .i32⟩
  | .hbm, ⟨30, _⟩ => ⟨S8x8, .i32⟩
  | .hbm, ⟨31, _⟩ => ⟨S8x8, .i1⟩
  | .hbm, ⟨32, _⟩ => ⟨S8x8, .f32⟩
  | .hbm, ⟨33, _⟩ => ⟨S8x1x8x1, .f32⟩
  | .hbm, ⟨34, _⟩ => ⟨S8x64x1x64, .f32⟩
  | .hbm, ⟨35, _⟩ => ⟨S8x64x8x64, .f32⟩
  | .hbm, ⟨36, _⟩ => ⟨S8x64x8x64, .f32⟩
  | .hbm, ⟨37, _⟩ => ⟨S8x64x8x64, .f32⟩
  | .hbm, ⟨38, _⟩ => ⟨S512x512, .f32⟩
  | .hbm, ⟨39, _⟩ => ⟨S512x512, .bf16⟩
  | .hbm, ⟨40, _⟩ => ⟨S512, .f32⟩
  | .hbm, ⟨41, _⟩ => ⟨S1024x2560, .bf16⟩
  | .hbm, ⟨42, _⟩ => ⟨S8192, .f32⟩
  | .hbm, ⟨43, _⟩ => ⟨S8, .f32⟩
  | .hbm, ⟨44, _⟩ => ⟨S8, .f32⟩
  | .hbm, ⟨45, _⟩ => ⟨S_, .f32⟩
  | .hbm, ⟨46, _⟩ => ⟨S8, .f32⟩
  | .hbm, ⟨47, _⟩ => ⟨S8, .f32⟩
  | .hbm, ⟨48, _⟩ => ⟨S_, .f32⟩
  | .hbm, ⟨49, _⟩ => ⟨S8, .f32⟩
  | .hbm, ⟨50, _⟩ => ⟨S8, .f32⟩
  | .hbm, ⟨51, _⟩ => ⟨S_, .f32⟩
  | .hbm, ⟨52, _⟩ => ⟨S8, .f32⟩
  | .hbm, ⟨53, _⟩ => ⟨S8, .f32⟩
  | .hbm, ⟨54, _⟩ => ⟨S8192x1, .f32⟩
  | .hbm, ⟨55, _⟩ => ⟨S1x8, .f32⟩
  | .hbm, ⟨56, _⟩ => ⟨S8192x8, .f32⟩
  | .hbm, ⟨57, _⟩ => ⟨S8192x8, .f32⟩
  | .hbm, ⟨58, _⟩ => ⟨S8192x8, .f32⟩
  | .hbm, ⟨59, _⟩ => ⟨S8192x8, .f32⟩
  | .hbm, ⟨60, _⟩ => ⟨S8192x8, .f32⟩
  | .hbm, ⟨61, _⟩ => ⟨S_, .f32⟩
  | .hbm, ⟨62, _⟩ => ⟨S8192x48, .f32⟩
  | .hbm, ⟨63, _⟩ => ⟨S_, .f32⟩
  | .hbm, ⟨64, _⟩ => ⟨S8192x48, .f32⟩
  | .hbm, ⟨65, _⟩ => ⟨S_, .f32⟩
  | .hbm, ⟨66, _⟩ => ⟨S8192x8, .f32⟩
  | .hbm, ⟨67, _⟩ => ⟨S8192x64, .f32⟩
  | .hbm, ⟨68, _⟩ => ⟨S8192x8, .f32⟩
  | .hbm, ⟨69, _⟩ => ⟨S8192x64, .f32⟩
  | .hbm, ⟨70, _⟩ => ⟨S8192x64, .f32⟩
  | .hbm, ⟨71, _⟩ => ⟨S1x8192x1x64, .f32⟩
  | .hbm, ⟨72, _⟩ => ⟨S1x8192x2x64, .f32⟩
  | .hbm, ⟨73, _⟩ => ⟨S8192x128, .f32⟩
  | .hbm, ⟨74, _⟩ => ⟨S1x8192x1x64, .f32⟩
  | .hbm, ⟨75, _⟩ => ⟨S1x8192x2x64, .f32⟩
  | .hbm, ⟨76, _⟩ => ⟨S8192x128, .f32⟩
  | .hbm, ⟨77, _⟩ => ⟨S1x8192x1x64, .f32⟩
  | .hbm, ⟨78, _⟩ => ⟨S1x8192x2x64, .f32⟩
  | .hbm, ⟨79, _⟩ => ⟨S8192x128, .f32⟩
  | .hbm, ⟨80, _⟩ => ⟨S1x1024, .f32⟩
  | .hbm, ⟨81, _⟩ => ⟨S1x512, .f32⟩
  | .hbm, ⟨82, _⟩ => ⟨S1x512, .f32⟩
  | .hbm, ⟨83, _⟩ => ⟨S1x512, .f32⟩
  | .hbm, ⟨84, _⟩ => ⟨S1x512, .f32⟩
  | .hbm, ⟨85, _⟩ => ⟨S4x8192x512, .bf16⟩
  | .hbm, ⟨86, _⟩ => ⟨S4x8192x512, .bf16⟩
  | .hbm, ⟨87, _⟩ => ⟨S4x8192x512, .bf16⟩
  | .hbm, ⟨88, _⟩ => ⟨S4x8192x512, .bf16⟩
  | .hbm, ⟨89, _⟩ => ⟨S4x32x1x512, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x2560, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S4x512, .f32⟩
  | .local _ .vmem, ⟨13, _⟩ => ⟨S1x512, .f32⟩
  | .local _ .vmem, ⟨14, _⟩ => ⟨S512x512, .bf16⟩
  | .local _ .vmem, ⟨15, _⟩ => ⟨S1x512, .f32⟩
  | .local _ .vmem, ⟨16, _⟩ => ⟨S512x512, .bf16⟩
  | .local _ .vmem, ⟨17, _⟩ => ⟨S1x512, .f32⟩
  | .local _ .vmem, ⟨18, _⟩ => ⟨S1x512, .f32⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x2x1x512, .f32⟩
  | .local _ .vmem, ⟨28, _⟩ => ⟨S1x2x1x512, .f32⟩
  | .local _ .vmem, ⟨29, _⟩ => ⟨S264x512, .f32⟩
  | .local _ .vmem, ⟨30, _⟩ => ⟨S8x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst : Ref sig .tc := ⟨.hbm, 45, rfl⟩
abbrev main_v32 : Ref sig .tc := ⟨.hbm, 46, rfl⟩
abbrev main_v33 : Ref sig .tc := ⟨.hbm, 47, rfl⟩
abbrev main_cst_1 : Ref sig .tc := ⟨.hbm, 48, rfl⟩
abbrev main_v34 : Ref sig .tc := ⟨.hbm, 49, rfl⟩
abbrev main_v35 : Ref sig .tc := ⟨.hbm, 50, rfl⟩
abbrev main_cst_2 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_3 : Ref sig .tc := ⟨.hbm, 61, rfl⟩
abbrev main_v45 : Ref sig .tc := ⟨.hbm, 62, rfl⟩
abbrev main_cst_4 : Ref sig .tc := ⟨.hbm, 63, rfl⟩
abbrev main_v46 : Ref sig .tc := ⟨.hbm, 64, rfl⟩
abbrev main_cst_5 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66_0 : Ref sig .tc := ⟨.hbm, 85, rfl⟩
abbrev main_v66_1 : Ref sig .tc := ⟨.hbm, 86, rfl⟩
abbrev main_v66_2 : Ref sig .tc := ⟨.hbm, 87, rfl⟩
abbrev main_v66_3 : Ref sig .tc := ⟨.hbm, 88, rfl⟩
abbrev main_v66_4 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_scratch0 : Ref sig .tc := ⟨.vmem, 29, rfl⟩
abbrev cc0_scratch1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x2x1x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== LruRefIdeal.lean ====
abbrev S4x8192x1024 : Shape := ⟨3, ![4, 8192, 1024]⟩
abbrev S4x9x1024 : Shape := ⟨3, ![4, 9, 1024]⟩
abbrev S1024 : Shape := ⟨1, ![1024]⟩
abbrev S1024x2560 : Shape := ⟨2, ![1024, 2560]⟩
abbrev S4x512 : Shape := ⟨2, ![4, 512]⟩
abbrev S512 : Shape := ⟨1, ![512]⟩
abbrev S8x64x64 : Shape := ⟨3, ![8, 64, 64]⟩
abbrev S8x64 : Shape := ⟨2, ![8, 64]⟩
abbrev S8192 : Shape := ⟨1, ![8192]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x1024 : Shape := ⟨2, ![4, 1024]⟩
abbrev S4x8192x2560 : Shape := ⟨3, ![4, 8192, 2560]⟩
abbrev S4x8192x512 : Shape := ⟨3, ![4, 8192, 512]⟩
abbrev S4x8195x512 : Shape := ⟨3, ![4, 8195, 512]⟩
abbrev S1x512 : Shape := ⟨2, ![1, 512]⟩
abbrev S1x1x512 : Shape := ⟨3, ![1, 1, 512]⟩
abbrev S4x8192x8x64 : Shape := ⟨4, ![4, 8192, 8, 64]⟩
abbrev S8x64x4x8192 : Shape := ⟨4, ![8, 64, 4, 8192]⟩
abbrev S1x1x8x64 : Shape := ⟨4, ![1, 1, 8, 64]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S4x8192x8x8 : Shape := ⟨4, ![4, 8192, 8, 8]⟩
abbrev S1x8192x1x8 : Shape := ⟨4, ![1, 8192, 1, 8]⟩
abbrev S4x8192x8x48 : Shape := ⟨4, ![4, 8192, 8, 48]⟩
abbrev S4x32x256x512 : Shape := ⟨4, ![4, 32, 256, 512]⟩
abbrev S4x32x512 : Shape := ⟨3, ![4, 32, 512]⟩
abbrev S4x32x1x512 : Shape := ⟨4, ![4, 32, 1, 512]⟩
abbrev S8192x4x512 : Shape := ⟨3, ![8192, 4, 512]⟩
abbrev S1x4x512 : Shape := ⟨3, ![1, 4, 512]⟩

abbrev nBuf : Space → Nat
  | .hbm => 291
  | .vmem => 0
  | .smem => 0
  | _ => 0

abbrev hbmTy0_0 (i : Nat) : BufTy := match i % 128 with
  | 0 => ⟨S4x8192x1024, .f32⟩
  | 1 => ⟨S4x9x1024, .f32⟩
  | 2 => ⟨S1024, .f32⟩
  | 3 => ⟨S1024x2560, .f32⟩
  | 4 => ⟨S4x512, .f32⟩
  | 5 => ⟨S512, .f32⟩
  | 6 => ⟨S8x64x64, .f32⟩
  | 7 => ⟨S8x64, .f32⟩
  | 8 => ⟨S8x64x64, .f32⟩
  | 9 => ⟨S8x64, .f32⟩
  | 10 => ⟨S512, .f32⟩
  | 11 => ⟨S8192, .f32⟩
  | 12 => ⟨S4x8192x1024, .f32⟩
  | 13 => ⟨S_, .f32⟩
  | 14 => ⟨S4x8192, .f32⟩
  | 15 => ⟨S4x8192x1, .f32⟩
  | 16 => ⟨S_, .f32⟩
  | 17 => ⟨S4x8192x1, .f32⟩
  | 18 => ⟨S4x8192x1, .f32⟩
  | 19 => ⟨S_, .f32⟩
  | 20 => ⟨S4x8192x1, .f32⟩
  | 21 => ⟨S4x8192x1, .f32⟩
  | 22 => ⟨S4x8192x1, .f32⟩
  | 23 => ⟨S4x8192x1024, .f32⟩
  | 24 => ⟨S4x8192x1024, .f32⟩
  | 25 => ⟨S1x1x1024, .f32⟩
  | 26 => ⟨S4x8192x1024, .f32⟩
  | 27 => ⟨S4x8192x1024, .f32⟩
  | 28 => ⟨S4x1x1024, .f32⟩
  | 29 => ⟨S4x1024, .f32⟩
  | 30 => ⟨S4x1x1024, .f32⟩
  | 31 => ⟨S4x1024, .f32⟩
  | 32 => ⟨S4x1x1024, .f32⟩
  | 33 => ⟨S_, .f32⟩
  | 34 => ⟨S4x1x1024, .f32⟩
  | 35 => ⟨S4x1x1024, .f32⟩
  | 36 => ⟨S4x8192x1024, .f32⟩
  | 37 => ⟨S4x8192x1024, .f32⟩
  | 38 => ⟨S4x1x1024, .f32⟩
  | 39 => ⟨S4x8192x1024, .f32⟩
  | 40 => ⟨S4x8192x1024, .f32⟩
  | 41 => ⟨S4x8192x2560, .f32⟩
  | 42 => ⟨S4x8192x512, .f32⟩
  | 43 => ⟨S4x8192x512, .f32⟩
  | 44 => ⟨S4x8192x512, .f32⟩
  | 45 => ⟨S4x8192x512, .f32⟩
  | 46 => ⟨S4x8192x512, .f32⟩
  | 47 => ⟨S_, .i32⟩
  | 48 => ⟨S_, .f32⟩
  | 49 => ⟨S4x8195x512, .f32⟩
  | 50 => ⟨S4x8192x512, .f32⟩
  | 51 => ⟨S1x512, .f32⟩
  | 52 => ⟨S512, .f32⟩
  | 53 => ⟨S1x1x512, .f32⟩
  | 54 => ⟨S4x8192x512, .f32⟩
  | 55 => ⟨S4x8192x512, .f32⟩
  | 56 => ⟨S_, .f32⟩
  | 57 => ⟨S4x8192x512, .f32⟩
  | 58 => ⟨S4x8192x512, .f32⟩
  | 59 => ⟨S4x8192x512, .f32⟩
  | 60 => ⟨S1x512, .f32⟩
  | 61 => ⟨S512, .f32⟩
  | 62 => ⟨S1x1x512, .f32⟩
  | 63 => ⟨S4x8192x512, .f32⟩
  | 64 => ⟨S4x8192x512, .f32⟩
  | 65 => ⟨S4x8192x512, .f32⟩
  | 66 => ⟨S4x8192x512, .f32⟩
  | 67 => ⟨S1x512, .f32⟩
  | 68 => ⟨S512, .f32⟩
  | 69 => ⟨S1x1x512, .f32⟩
  | 70 => ⟨S4x8192x512, .f32⟩
  | 71 => ⟨S4x8192x512, .f32⟩
  | 72 => ⟨S4x8192x512, .f32⟩
  | 73 => ⟨S4x8192x512, .f32⟩
  | 74 => ⟨S1x512, .f32⟩
  | 75 => ⟨S512, .f32⟩
  | 76 => ⟨S1x1x512, .f32⟩
  | 77 => ⟨S4x8192x512, .f32⟩
  | 78 => ⟨S4x8192x512, .f32⟩
  | 79 => ⟨S4x8192x512, .f32⟩
  | 80 => ⟨S1x1x512, .f32⟩
  | 81 => ⟨S4x8192x512, .f32⟩
  | 82 => ⟨S4x8192x512, .f32⟩
  | 83 => ⟨S4x8192x8x64, .f32⟩
  | 84 => ⟨S8x64x4x8192, .f32⟩
  | 85 => ⟨S4x8192x8x64, .f32⟩
  | 86 => ⟨S1x1x8x64, .f32⟩
  | 87 => ⟨S4x8192x8x64, .f32⟩
  | 88 => ⟨S4x8192x8x64, .f32⟩
  | 89 => ⟨S4x8192x8x64, .f32⟩
  | 90 => ⟨S4x8192x8x64, .f32⟩
  | 91 => ⟨S_, .f32⟩
  | 92 => ⟨S4x8192x8x64, .f32⟩
  | 93 => ⟨S4x8192x8x64, .f32⟩
  | 94 => ⟨S_, .f32⟩
  | 95 => ⟨S4x8192x8x64, .f32⟩
  | 96 => ⟨S4x8192x8x64, .f32⟩
  | 97 => ⟨S4x8192x512, .f32⟩
  | 98 => ⟨S8x64x4x8192, .f32⟩
  | 99 => ⟨S4x8192x8x64, .f32⟩
  | 100 => ⟨S1x1x8x64, .f32⟩
  | 101 => ⟨S4x8192x8x64, .f32⟩
  | 102 => ⟨S4x8192x8x64, .f32⟩
  | 103 => ⟨S4x8192x8x64, .f32⟩
  | 104 => ⟨S4x8192x8x64, .f32⟩
  | 105 => ⟨S_, .f32⟩
  | 106 => ⟨S4x8192x8x64, .f32⟩
  | 107 => ⟨S4x8192x8x64, .f32⟩
  | 108 => ⟨S_, .f32⟩
  | 109 => ⟨S4x8192x8x64, .f32⟩
  | 110 => ⟨S4x8192x8x64, .f32⟩
  | 111 => ⟨S4x8192x512, .f32⟩
  | 112 => ⟨S_, .f32⟩
  | 113 => ⟨S4x8192x512, .f32⟩
  | 114 => ⟨S4x8192x512, .f32⟩
  | 115 => ⟨S512, .f32⟩
  | 116 => ⟨S_, .f32⟩
  | 117 => ⟨S512, .f32⟩
  | 118 => ⟨S512, .f32⟩
  | 119 => ⟨S512, .f32⟩
  | 120 => ⟨S512, .f32⟩
  | 121 => ⟨S512, .i1⟩
  | 122 => ⟨S512, .f32⟩
  | 123 => ⟨S512, .f32⟩
  | 124 => ⟨S512, .f32⟩
  | 125 => ⟨S512, .f32⟩
  | 126 => ⟨S512, .f32⟩
  | 127 => ⟨S512, .f32⟩
  | _ => ⟨S4x8192x1024, .f32⟩

abbrev hbmTy0_1 (i : Nat) : BufTy := match i % 128 with
  | 0 => ⟨S512, .f32⟩
  | 1 => ⟨S512, .f32⟩
  | 2 => ⟨S1x1x512, .f32⟩
  | 3 => ⟨S4x8192x512, .f32⟩
  | 4 => ⟨S4x8192x512, .f32⟩
  | 5 => ⟨S4x8192x512, .f32⟩
  | 6 => ⟨S_, .f32⟩
  | 7 => ⟨S4x8192x512, .f32⟩
  | 8 => ⟨S4x8192x512, .f32⟩
  | 9 => ⟨S4x8192x512, .f32⟩
  | 10 => ⟨S4x8192x512, .f32⟩
  | 11 => ⟨S4x8192x512, .f32⟩
  | 12 => ⟨S4x8192x512, .f32⟩
  | 13 => ⟨S4x8192x512, .f32⟩
  | 14 => ⟨S4x8192x8x64, .f32⟩
  | 15 => ⟨S8, .f32⟩
  | 16 => ⟨S8, .f32⟩
  | 17 => ⟨S_, .f32⟩
  | 18 => ⟨S8, .f32⟩
  | 19 => ⟨S8, .f32⟩
  | 20 => ⟨S_, .f32⟩
  | 21 => ⟨S8, .f32⟩
  | 22 => ⟨S8, .f32⟩
  | 23 => ⟨S_, .f32⟩
  | 24 => ⟨S8, .f32⟩
  | 25 => ⟨S8, .f32⟩
  | 26 => ⟨S8192x1, .f32⟩
  | 27 => ⟨S1x8, .f32⟩
  | 28 => ⟨S8192x8, .f32⟩
  | 29 => ⟨S8192x8, .f32⟩
  | 30 => ⟨S8192x8, .f32⟩
  | 31 => ⟨S8192x8, .f32⟩
  | 32 => ⟨S8192x1x8, .f32⟩
  | 33 => ⟨S8192x8, .f32⟩
  | 34 => ⟨S8192x1x8, .f32⟩
  | 35 => ⟨S4x8192x8x8, .f32⟩
  | 36 => ⟨S4x8192x8x8, .f32⟩
  | 37 => ⟨S1x8192x1x8, .f32⟩
  | 38 => ⟨S4x8192x8x8, .f32⟩
  | 39 => ⟨S4x8192x8x8, .f32⟩
  | 40 => ⟨S1x8192x1x8, .f32⟩
  | 41 => ⟨S4x8192x8x8, .f32⟩
  | 42 => ⟨S4x8192x8x8, .f32⟩
  | 43 => ⟨S4x8192x8x8, .f32⟩
  | 44 => ⟨S1x8192x1x8, .f32⟩
  | 45 => ⟨S4x8192x8x8, .f32⟩
  | 46 => ⟨S4x8192x8x8, .f32⟩
  | 47 => ⟨S1x8192x1x8, .f32⟩
  | 48 => ⟨S4x8192x8x8, .f32⟩
  | 49 => ⟨S4x8192x8x8, .f32⟩
  | 50 => ⟨S4x8192x8x8, .f32⟩
  | 51 => ⟨S4x8192x8x48, .f32⟩
  | 52 => ⟨S4x8192x8x64, .f32⟩
  | 53 => ⟨S4x8192x512, .f32⟩
  | 54 => ⟨S4x8192x8x64, .f32⟩
  | 55 => ⟨S8, .f32⟩
  | 56 => ⟨S8, .f32⟩
  | 57 => ⟨S_, .f32⟩
  | 58 => ⟨S8, .f32⟩
  | 59 => ⟨S8, .f32⟩
  | 60 => ⟨S_, .f32⟩
  | 61 => ⟨S8, .f32⟩
  | 62 => ⟨S8, .f32⟩
  | 63 => ⟨S_, .f32⟩
  | 64 => ⟨S8, .f32⟩
  | 65 => ⟨S8, .f32⟩
  | 66 => ⟨S8192x1, .f32⟩
  | 67 => ⟨S1x8, .f32⟩
  | 68 => ⟨S8192x8, .f32⟩
  | 69 => ⟨S8192x8, .f32⟩
  | 70 => ⟨S8192x8, .f32⟩
  | 71 => ⟨S8192x8, .f32⟩
  | 72 => ⟨S8192x1x8, .f32⟩
  | 73 => ⟨S8192x8, .f32⟩
  | 74 => ⟨S8192x1x8, .f32⟩
  | 75 => ⟨S4x8192x8x8, .f32⟩
  | 76 => ⟨S4x8192x8x8, .f32⟩
  | 77 => ⟨S1x8192x1x8, .f32⟩
  | 78 => ⟨S4x8192x8x8, .f32⟩
  | 79 => ⟨S4x8192x8x8, .f32⟩
  | 80 => ⟨S1x8192x1x8, .f32⟩
  | 81 => ⟨S4x8192x8x8, .f32⟩
  | 82 => ⟨S4x8192x8x8, .f32⟩
  | 83 => ⟨S4x8192x8x8, .f32⟩
  | 84 => ⟨S1x8192x1x8, .f32⟩
  | 85 => ⟨S4x8192x8x8, .f32⟩
  | 86 => ⟨S4x8192x8x8, .f32⟩
  | 87 => ⟨S1x8192x1x8, .f32⟩
  | 88 => ⟨S4x8192x8x8, .f32⟩
  | 89 => ⟨S4x8192x8x8, .f32⟩
  | 90 => ⟨S4x8192x8x8, .f32⟩
  | 91 => ⟨S4x8192x8x48, .f32⟩
  | 92 => ⟨S4x8192x8x64, .f32⟩
  | 93 => ⟨S4x8192x512, .f32⟩
  | 94 => ⟨S4x32x256x512, .f32⟩
  | 95 => ⟨S_, .f32⟩
  | 96 => ⟨S4x32x512, .f32⟩
  | 97 => ⟨S4x32x1x512, .f32⟩
  | 98 => ⟨S_, .f32⟩
  | 99 => ⟨S4x32x1x512, .f32⟩
  | 100 => ⟨S4x32x1x512, .f32⟩
  | 101 => ⟨S_, .f32⟩
  | 102 => ⟨S4x8192x512, .f32⟩
  | 103 => ⟨S4x8192x512, .f32⟩
  | 104 => ⟨S4x8192x512, .bf16⟩
  | 105 => ⟨S4x8192x512, .bf16⟩
  | 106 => ⟨S4x8192x512, .bf16⟩
  | 107 => ⟨S_, .f32⟩
  | 108 => ⟨S4x512, .f32⟩
  | 109 => ⟨S4x8192x512, .f32⟩
  | 110 => ⟨S4x8192x512, .f32⟩
  | 111 => ⟨S_, .f32⟩
  | 112 => ⟨S4x8192x512, .f32⟩
  | 113 => ⟨S4x8192x512, .f32⟩
  | 114 => ⟨S4x8192x512, .f32⟩
  | 115 => ⟨S_, .f32⟩
  | 116 => ⟨S4x8192x512, .f32⟩
  | 117 => ⟨S4x8192x512, .f32⟩
  | 118 => ⟨S4x8192x512, .f32⟩
  | 119 => ⟨S_, .f32⟩
  | 120 => ⟨S4x8192x512, .f32⟩
  | 121 => ⟨S4x8192x512, .f32⟩
  | 122 => ⟨S_, .f32⟩
  | 123 => ⟨S4x8192x512, .f32⟩
  | 124 => ⟨S4x8192x512, .f32⟩
  | 125 => ⟨S4x8192x512, .f32⟩
  | 126 => ⟨S8192x4x512, .f32⟩
  | 127 => ⟨S8192x4x512, .f32⟩
  | _ => ⟨S4x8192x1024, .f32⟩

abbrev hbmTy0_2 (i : Nat) : BufTy := match i % 128 with
  | 0 => ⟨S8192x4x512, .f32⟩
  | 1 => ⟨S_, .bf16⟩
  | 2 => ⟨S8192x4x512, .bf16⟩
  | 3 => ⟨S_, .i32⟩
  | 4 => ⟨S8192x4x512, .f32⟩
  | 5 => ⟨S8192x4x512, .f32⟩
  | 6 => ⟨S8192x4x512, .f32⟩
  | 7 => ⟨S_, .i32⟩
  | 8 => ⟨S4x512, .f32⟩
  | 9 => ⟨S8192x4x512, .bf16⟩
  | 10 => ⟨S_, .i32⟩
  | 11 => ⟨S_, .i1⟩
  | 12 => ⟨S_, .i32⟩
  | 13 => ⟨S_, .i32⟩
  | 14 => ⟨S1x4x512, .f32⟩
  | 15 => ⟨S4x512, .f32⟩
  | 16 => ⟨S_, .i32⟩
  | 17 => ⟨S_, .i32⟩
  | 18 => ⟨S1x4x512, .f32⟩
  | 19 => ⟨S4x512, .f32⟩
  | 20 => ⟨S_, .i32⟩
  | 21 => ⟨S_, .i32⟩
  | 22 => ⟨S1x4x512, .f32⟩
  | 23 => ⟨S4x512, .f32⟩
  | 24 => ⟨S4x512, .f32⟩
  | 25 => ⟨S4x512, .f32⟩
  | 26 => ⟨S4x512, .f32⟩
  | 27 => ⟨S4x512, .bf16⟩
  | 28 => ⟨S1x4x512, .bf16⟩
  | 29 => ⟨S_, .i32⟩
  | 30 => ⟨S_, .i32⟩
  | 31 => ⟨S8192x4x512, .bf16⟩
  | 32 => ⟨S_, .i32⟩
  | 33 => ⟨S_, .i32⟩
  | 34 => ⟨S4x8192x512, .bf16⟩
  | _ => ⟨S4x8192x1024, .f32⟩

abbrev hbmTy (i : Nat) : BufTy := match i / 128 with
  | 0 => hbmTy0_0 i
  | 1 => hbmTy0_1 i
  | 2 => hbmTy0_2 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c : Ref sig .tc := ⟨.hbm, 47, rfl⟩
abbrev main_call0_v0 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_3 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_4 : Ref sig .tc := ⟨.hbm, 91, rfl⟩
abbrev main_v73 : Ref sig .tc := ⟨.hbm, 92, rfl⟩
abbrev main_v74 : Ref sig .tc := ⟨.hbm, 93, rfl⟩
abbrev main_cst_5 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_cst_6 : Ref sig .tc := ⟨.hbm, 105, rfl⟩
abbrev main_v85 : Ref sig .tc := ⟨.hbm, 106, rfl⟩
abbrev main_v86 : Ref sig .tc := ⟨.hbm, 107, rfl⟩
abbrev main_cst_7 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_cst_8 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_call1_cst : Ref sig .tc := ⟨.hbm, 116, rfl⟩
abbrev main_call1_v0 : Ref sig .tc := ⟨.hbm, 117, rfl⟩
abbrev main_call1_v1 : Ref sig .tc := ⟨.hbm, 118, rfl⟩
abbrev main_call1_v2 : Ref sig .tc := ⟨.hbm, 119, rfl⟩
abbrev main_call1_v3 : Ref sig .tc := ⟨.hbm, 120, rfl⟩
abbrev main_call1_v4 : Ref sig .tc := ⟨.hbm, 121, rfl⟩
abbrev main_call1_v5 : Ref sig .tc := ⟨.hbm, 122, rfl⟩
abbrev main_call1_v6 : Ref sig .tc := ⟨.hbm, 123, rfl⟩
abbrev main_call1_v7 : Ref sig .tc := ⟨.hbm, 124, rfl⟩
abbrev main_call1_v8 : Ref sig .tc := ⟨.hbm, 125, rfl⟩
abbrev main_call1_v9 : Ref sig .tc := ⟨.hbm, 126, rfl⟩
abbrev main_call1_v10 : Ref sig .tc := ⟨.hbm, 127, rfl⟩
abbrev main_call1_v11 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_9 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_10 : Ref sig .tc := ⟨.hbm, 145, rfl⟩
abbrev main_v108 : Ref sig .tc := ⟨.hbm, 146, rfl⟩
abbrev main_v109 : Ref sig .tc := ⟨.hbm, 147, rfl⟩
abbrev main_cst_11 : Ref sig .tc := ⟨.hbm, 148, rfl⟩
abbrev main_v110 : Ref sig .tc := ⟨.hbm, 149, rfl⟩
abbrev main_v111 : Ref sig .tc := ⟨.hbm, 150, rfl⟩
abbrev main_cst_12 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_cst_13 : Ref sig .tc := ⟨.hbm, 185, rfl⟩
abbrev main_v145 : Ref sig .tc := ⟨.hbm, 186, rfl⟩
abbrev main_v146 : Ref sig .tc := ⟨.hbm, 187, rfl⟩
abbrev main_cst_14 : Ref sig .tc := ⟨.hbm, 188, rfl⟩
abbrev main_v147 : Ref sig .tc := ⟨.hbm, 189, rfl⟩
abbrev main_v148 : Ref sig .tc := ⟨.hbm, 190, rfl⟩
abbrev main_cst_15 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_cst_16 : Ref sig .tc := ⟨.hbm, 223, rfl⟩
abbrev main_v180 : Ref sig .tc := ⟨.hbm, 224, rfl⟩
abbrev main_v181 : Ref sig .tc := ⟨.hbm, 225, rfl⟩
abbrev main_cst_17 : Ref sig .tc := ⟨.hbm, 226, rfl⟩
abbrev main_v182 : Ref sig .tc := ⟨.hbm, 227, rfl⟩
abbrev main_v183 : Ref sig .tc := ⟨.hbm, 228, rfl⟩
abbrev main_cst_18 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_cst_19 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_cst_20 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_cst_21 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_cst_22 : Ref sig .tc := ⟨.hbm, 247, rfl⟩
abbrev main_v198 : Ref sig .tc := ⟨.hbm, 248, rfl⟩
abbrev main_v199 : Ref sig .tc := ⟨.hbm, 249, rfl⟩
abbrev main_cst_23 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_cst_24 : Ref sig .tc := ⟨.hbm, 257, rfl⟩
abbrev main_v206 : Ref sig .tc := ⟨.hbm, 258, rfl⟩
abbrev main_c_25 : Ref sig .tc := ⟨.hbm, 259, rfl⟩
abbrev main_v207_0 : Ref sig .tc := ⟨.hbm, 260, rfl⟩
abbrev main_v207_1 : Ref sig .tc := ⟨.hbm, 261, rfl⟩
abbrev main_v207_2 : Ref sig .tc := ⟨.hbm, 262, rfl⟩
abbrev main_v207_3 : Ref sig .tc := ⟨.hbm, 263, rfl⟩
abbrev main_v207_4 : Ref sig .tc := ⟨.hbm, 264, rfl⟩
abbrev main_v207_5 : Ref sig .tc := ⟨.hbm, 265, rfl⟩
abbrev main_while0c_c_31 : Ref sig .tc := ⟨.hbm, 266, rfl⟩
abbrev main_while0c_v209 : Ref sig .tc := ⟨.hbm, 267, rfl⟩
abbrev main_while0b_call2_c : Ref sig .tc := ⟨.hbm, 268, rfl⟩
abbrev main_while0b_call2_c_0 : Ref sig .tc := ⟨.hbm, 269, rfl⟩
abbrev main_while0b_call2_v0 : Ref sig .tc := ⟨.hbm, 270, rfl⟩
abbrev main_while0b_v209 : Ref sig .tc := ⟨.hbm, 271, rfl⟩
abbrev main_while0b_call3_c : Ref sig .tc := ⟨.hbm, 272, rfl⟩
abbrev main_while0b_call3_c_0 : Ref sig .tc := ⟨.hbm, 273, rfl⟩
abbrev main_while0b_call3_v0 : Ref sig .tc := ⟨.hbm, 274, rfl⟩
abbrev main_while0b_v210 : Ref sig .tc := ⟨.hbm, 275, rfl⟩
abbrev main_while0b_call4_c : Ref sig .tc := ⟨.hbm, 276, rfl⟩
abbrev main_while0b_call4_c_0 : Ref sig .tc := ⟨.hbm, 277, rfl⟩
abbrev main_while0b_call4_v0 : Ref sig .tc := ⟨.hbm, 278, rfl⟩
abbrev main_while0b_v211 : Ref sig .tc := ⟨.hbm, 279, rfl⟩
abbrev main_while0b_v212 : Ref sig .tc := ⟨.hbm, 280, rfl⟩
abbrev main_while0b_v213 : Ref sig .tc := ⟨.hbm, 281, rfl⟩
abbrev main_while0b_v214 : Ref sig .tc := ⟨.hbm, 282, rfl⟩
abbrev main_while0b_v215 : Ref sig .tc := ⟨.hbm, 283, rfl⟩
abbrev main_while0b_call5_v0 : Ref sig .tc := ⟨.hbm, 284, rfl⟩
abbrev main_while0b_call5_c : Ref sig .tc := ⟨.hbm, 285, rfl⟩
abbrev main_while0b_call5_c_0 : Ref sig .tc := ⟨.hbm, 286, rfl⟩
abbrev main_while0b_v216 : Ref sig .tc := ⟨.hbm, 287, rfl⟩
abbrev main_while0b_c_31 : Ref sig .tc := ⟨.hbm, 288, rfl⟩
abbrev main_while0b_v217 : Ref sig .tc := ⟨.hbm, 289, rfl⟩
abbrev main_v208 : Ref sig .tc := ⟨.hbm, 290, rfl⟩

abbrev nD : Nat := 1
abbrev τ : Topo := Topo.v7x

variable {F : FTy → Type} [FloatOps F]

abbrev main_while0_count : Scf.Loop 32 := ⟨0#32, 8192#32, 1#32⟩
-- ==== Ffn.lean ====
abbrev S4x8192x1024 : Shape := ⟨3, ![4, 8192, 1024]⟩
abbrev S4x9x1024 : Shape := ⟨3, ![4, 9, 1024]⟩
abbrev S1024 : Shape := ⟨1, ![1024]⟩
abbrev S2x2x1024x5632 : Shape := ⟨4, ![2, 2, 1024, 5632]⟩
abbrev S2x2x2816x1024 : Shape := ⟨4, ![2, 2, 2816, 1024]⟩
abbrev S1x1024 : Shape := ⟨2, ![1, 1024]⟩
abbrev S1x512x1024 : Shape := ⟨3, ![1, 512, 1024]⟩
abbrev S1x9x1024 : Shape := ⟨3, ![1, 9, 1024]⟩
abbrev S1x1x1024x5632 : Shape := ⟨4, ![1, 1, 1024, 5632]⟩
abbrev S1x1x2816x1024 : Shape := ⟨4, ![1, 1, 2816, 1024]⟩
abbrev S512x1024 : Shape := ⟨2, ![512, 1024]⟩
abbrev S9x1024 : Shape := ⟨2, ![9, 1024]⟩
abbrev S512 : Shape := ⟨1, ![512]⟩
abbrev S512x1 : Shape := ⟨2, ![512, 1]⟩
abbrev S1x1x1024x2816 : Shape := ⟨4, ![1, 1, 1024, 2816]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 11
  | .vmem => 10
  | .smem => 0
  | _ => 0

abbrev bufTy : (tb : Table) → Fin (tcTables nBuf tb) → BufTy
  | .hbm, ⟨0, _⟩ => ⟨S4x8192x1024, .f32⟩
  | .hbm, ⟨1, _⟩ => ⟨S4x9x1024, .f32⟩
  | .hbm, ⟨2, _⟩ => ⟨S1024, .f32⟩
  | .hbm, ⟨3, _⟩ => ⟨S2x2x1024x5632, .f32⟩
  | .hbm, ⟨4, _⟩ => ⟨S2x2x2816x1024, .f32⟩
  | .hbm, ⟨5, _⟩ => ⟨S1024, .f32⟩
  | .hbm, ⟨6, _⟩ => ⟨S2x2x1024x5632, .bf16⟩
  | .hbm, ⟨7, _⟩ => ⟨S2x2x2816x1024, .bf16⟩
  | .hbm, ⟨8, _⟩ => ⟨S1x1024, .f32⟩
  | .hbm, ⟨9, _⟩ => ⟨S1x1024, .f32⟩
  | .hbm, ⟨10, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnRefIdeal.lean ====
abbrev S4x8192x1024 : Shape := ⟨3, ![4, 8192, 1024]⟩
abbrev S4x9x1024 : Shape := ⟨3, ![4, 9, 1024]⟩
abbrev S1024 : Shape := ⟨1, ![1024]⟩
abbrev S2x2x1024x5632 : Shape := ⟨4, ![2, 2, 1024, 5632]⟩
abbrev S2x2x2816x1024 : Shape := ⟨4, ![2, 2, 2816, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x1024 : Shape := ⟨2, ![4, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S4x8192x5632 : Shape := ⟨3, ![4, 8192, 5632]⟩
abbrev S4x8192x2816 : Shape := ⟨3, ![4, 8192, 2816]⟩

abbrev nBuf : Space → Nat
  | .hbm => 62
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x9x1024, .f32⟩
  | .hbm, ⟨2, _⟩ => ⟨S1024, .f32⟩
  | .hbm, ⟨3, _⟩ => ⟨S2x2x1024x5632, .f32⟩
  | .hbm, ⟨4, _⟩ => ⟨S2x2x2816x1024, .f32⟩
  | .hbm, ⟨5, _⟩ => ⟨S1024, .f32⟩
  | .hbm, ⟨6, _⟩ => ⟨S4x8192x1024, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x1024, .f32⟩
  | .hbm, ⟨18, _⟩ => ⟨S4x8192x1024, .f32⟩
  | .hbm, ⟨19, _⟩ => ⟨S1x1x1024, .f32⟩
  | .hbm, ⟨20, _⟩ => ⟨S4x8192x1024, .f32⟩
  | .hbm, ⟨21, _⟩ => ⟨S4x8192x1024, .f32⟩
  | .hbm, ⟨22, _⟩ => ⟨S4x1x1024, .f32⟩
  | .hbm, ⟨23, _⟩ => ⟨S4x1024, .f32⟩
  | .hbm, ⟨24, _⟩ => ⟨S4x1x1024, .f32⟩
  | .hbm, ⟨25, _⟩ => ⟨S4x1024, .f32⟩
  | .hbm, ⟨26, _⟩ => ⟨S4x1x1024, .f32⟩
  | .hbm, ⟨27, _⟩ => ⟨S_, .f32⟩
  | .hbm, ⟨28, _⟩ => ⟨S4x1x1024, .f32⟩
  | .hbm, ⟨29, _⟩ => ⟨S4x1x1024, .f32⟩
  | .hbm, ⟨30, _⟩ => ⟨S4x8192x1024, .f32⟩
  | .hbm, ⟨31, _⟩ => ⟨S4x8192x1024, .f32⟩
  | .hbm, ⟨32, _⟩ => ⟨S4x1x1024, .f32⟩
  | .hbm, ⟨33, _⟩ => ⟨S4x8192x1024, .f32⟩
  | .hbm, ⟨34, _⟩ => ⟨S4x8192x1024, .f32⟩
  | .hbm, ⟨35, _⟩ => ⟨S4x1x1024, .f32⟩
  | .hbm, ⟨36, _⟩ => ⟨S4x1024, .f32⟩
  | .hbm, ⟨37, _⟩ => ⟨S4x1x1024, .f32⟩
  | .hbm, ⟨38, _⟩ => ⟨S_, .f32⟩
  | .hbm, ⟨39, _⟩ => ⟨S4x1x1024, .f32⟩
  | .hbm, ⟨40, _⟩ => ⟨S4x1x1024, .f32⟩
  | .hbm, ⟨41, _⟩ => ⟨S1x1x1024x5632, .f32⟩
  | .hbm, ⟨42, _⟩ => ⟨S1024x5632, .f32⟩
  | .hbm, ⟨43, _⟩ => ⟨S1x1x2816x1024, .f32⟩
  | .hbm, ⟨44, _⟩ => ⟨S2816x1024, .f32⟩
  | .hbm, ⟨45, _⟩ => ⟨S4x8192x5632, .f32⟩
  | .hbm, ⟨46, _⟩ => ⟨S4x8192x2816, .f32⟩
  | .hbm, ⟨47, _⟩ => ⟨S4x8192x2816, .f32⟩
  | .hbm, ⟨48, _⟩ => ⟨S4x8192x2816, .f32⟩
  | .hbm, ⟨49, _⟩ => ⟨S4x8192x2816, .f32⟩
  | .hbm, ⟨50, _⟩ => ⟨S_, .f32⟩
  | .hbm, ⟨51, _⟩ => ⟨S4x8192x2816, .f32⟩
  | .hbm, ⟨52, _⟩ => ⟨S4x8192x2816, .f32⟩
  | .hbm, ⟨53, _⟩ => ⟨S_, .f32⟩
  | .hbm, ⟨54, _⟩ => ⟨S4x8192x2816, .f32⟩
  | .hbm, ⟨55, _⟩ => ⟨S4x8192x2816, .f32⟩
  | .hbm, ⟨56, _⟩ => ⟨S4x8192x2816, .f32⟩
  | .hbm, ⟨57, _⟩ => ⟨S4x8192x2816, .f32⟩
  | .hbm, ⟨58, _⟩ => ⟨S4x8192x1024, .f32⟩
  | .hbm, ⟨59, _⟩ => ⟨S4x8192x1024, .f32⟩
  | .hbm, ⟨60, _⟩ => ⟨S4x8192x1024, .f32⟩
  | .hbm, ⟨61, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]
-- ==== Mix.lean ====
abbrev S4x8192x1024 : Shape := ⟨3, ![4, 8192, 1024]⟩
abbrev S4x9x1024 : Shape := ⟨3, ![4, 9, 1024]⟩
abbrev S1024 : Shape := ⟨1, ![1024]⟩
abbrev S2x2x1024x5632 : Shape := ⟨4, ![2, 2, 1024, 5632]⟩
abbrev S2x2x2816x1024 : Shape := ⟨4, ![2, 2, 2816, 1024]⟩
abbrev S4x8192x512 : Shape := ⟨3, ![4, 8192, 512]⟩
abbrev S1024x1024 : Shape := ⟨2, ![1024, 1024]⟩
abbrev S512x1024 : Shape := ⟨2, ![512, 1024]⟩
abbrev S1x1024 : Shape := ⟨2, ![1, 1024]⟩
abbrev S1x512x1024 : Shape := ⟨3, ![1, 512, 1024]⟩
abbrev S1x9x1024 : Shape := ⟨3, ![1, 9, 1024]⟩
abbrev S1x1x1024x5632 : Shape := ⟨4, ![1, 1, 1024, 5632]⟩
abbrev S1x1x2816x1024 : Shape := ⟨4, ![1, 1, 2816, 1024]⟩
abbrev S1x512x512 : Shape := ⟨3, ![1, 512, 512]⟩
abbrev S9x1024 : Shape := ⟨2, ![9, 1024]⟩
abbrev S512x512 : Shape := ⟨2, ![512, 512]⟩
abbrev S512 : Shape := ⟨1, ![512]⟩
abbrev S512x1 : Shape := ⟨2, ![512, 1]⟩
abbrev S1x1x1024x2816 : Shape := ⟨4, ![1, 1, 1024, 2816]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 17
  | .vmem => 16
  | .smem => 0
  | _ => 0

abbrev bufTy : (tb : Table) → Fin (tcTables nBuf tb) → BufTy
  | .hbm, ⟨0, _⟩ => ⟨S4x8192x1024, .f32⟩
  | .hbm, ⟨1, _⟩ => ⟨S4x9x1024, .f32⟩
  | .hbm, ⟨2, _⟩ => ⟨S1024, .f32⟩
  | .hbm, ⟨3, _⟩ => ⟨S2x2x1024x5632, .f32⟩
  | .hbm, ⟨4, _⟩ => ⟨S2x2x2816x1024, .f32⟩
  | .hbm, ⟨5, _⟩ => ⟨S1024, .f32⟩
  | .hbm, ⟨6, _⟩ => ⟨S4x8192x512, .bf16⟩
  | .hbm, ⟨7, _⟩ => ⟨S4x8192x512, .bf16⟩
  | .hbm, ⟨8, _⟩ => ⟨S1024x1024, .f32⟩
  | .hbm, ⟨9, _⟩ => ⟨S1024x1024, .bf16⟩
  | .hbm, ⟨10, _⟩ => ⟨S2x2x1024x5632, .bf16⟩
  | .hbm, ⟨11, _⟩ => ⟨S2x2x2816x1024, .bf16⟩
  | .hbm, ⟨12, _⟩ => ⟨S512x1024, .bf16⟩
  | .hbm, ⟨13, _⟩ => ⟨S512x1024, .bf16⟩
  | .hbm, ⟨14, _⟩ => ⟨S1x1024, .f32⟩
  | .hbm, ⟨15, _⟩ => ⟨S1x1024, .f32⟩
  | .hbm, ⟨16, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S1x1024, .f32⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S512x1024, .bf16⟩
  | .local _ .vmem, ⟨13, _⟩ => ⟨S512x1024, .bf16⟩
  | .local _ .vmem, ⟨14, _⟩ => ⟨S1x512x1024, .f32⟩
  | .local _ .vmem, ⟨15, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MixRefIdeal.lean ====
abbrev S4x8192x1024 : Shape := ⟨3, ![4, 8192, 1024]⟩
abbrev S4x9x1024 : Shape := ⟨3, ![4, 9, 1024]⟩
abbrev S1024 : Shape := ⟨1, ![1024]⟩
abbrev S2x2x1024x5632 : Shape := ⟨4, ![2, 2, 1024, 5632]⟩
abbrev S2x2x2816x1024 : Shape := ⟨4, ![2, 2, 2816, 1024]⟩
abbrev S4x8192x512 : Shape := ⟨3, ![4, 8192, 512]⟩
abbrev S1024x1024 : Shape := ⟨2, ![1024, 1024]⟩
abbrev S4x1x1024 : Shape := ⟨3, ![4, 1, 1024]⟩
abbrev S4x1024 : Shape := ⟨2, ![4, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S4x8192x5632 : Shape := ⟨3, ![4, 8192, 5632]⟩
abbrev S4x8192x2816 : Shape := ⟨3, ![4, 8192, 2816]⟩

abbrev nBuf : Space → Nat
  | .hbm => 74
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x9x1024, .f32⟩
  | .hbm, ⟨2, _⟩ => ⟨S1024, .f32⟩
  | .hbm, ⟨3, _⟩ => ⟨S2x2x1024x5632, .f32⟩
  | .hbm, ⟨4, _⟩ => ⟨S2x2x2816x1024, .f32⟩
  | .hbm, ⟨5, _⟩ => ⟨S1024, .f32⟩
  | .hbm, ⟨6, _⟩ => ⟨S4x8192x512, .bf16⟩
  | .hbm, ⟨7, _⟩ => ⟨S4x8192x512, .bf16⟩
  | .hbm, ⟨8, _⟩ => ⟨S1024x1024, .f32⟩
  | .hbm, ⟨9, _⟩ => ⟨S4x8192x1024, .bf16⟩
  | .hbm, ⟨10, _⟩ => ⟨S4x8192x1024, .f32⟩
  | .hbm, ⟨11, _⟩ => ⟨S4x8192x1024, .f32⟩
  | .hbm, ⟨12, _⟩ => ⟨S4x1x1024, .f32⟩
  | .hbm, ⟨13, _⟩ => ⟨S4x1024, .f32⟩
  | .hbm, ⟨14, _⟩ => ⟨S4x1x1024, .f32⟩
  | .hbm, ⟨15, _⟩ => ⟨S4x8192x1024, .f32⟩
  | .hbm, ⟨16, _⟩ => ⟨S4x8192x1024, .f32⟩
  | .hbm, ⟨17, _⟩ => ⟨S4x8192x1024, .f32⟩
  | .hbm, ⟨18, _⟩ => ⟨S4x8192x1024, .f32⟩
  | .hbm, ⟨19, _⟩ => ⟨S_, .f32⟩
  | .hbm, ⟨20, _⟩ => ⟨S4x8192, .f32⟩
  | .hbm, ⟨21, _⟩ => ⟨S4x8192x1, .f32⟩
  | .hbm, ⟨22, _⟩ => ⟨S_, .f32⟩
  | .hbm, ⟨23, _⟩ => ⟨S4x8192x1, .f32⟩
  | .hbm, ⟨24, _⟩ => ⟨S4x8192x1, .f32⟩
  | .hbm, ⟨25, _⟩ => ⟨S_, .f32⟩
  | .hbm, ⟨26, _⟩ => ⟨S4x8192x1, .f32⟩
  | .hbm, ⟨27, _⟩ => ⟨S4x8192x1, .f32⟩
  | .hbm, ⟨28, _⟩ => ⟨S4x8192x1, .f32⟩
  | .hbm, ⟨29, _⟩ => ⟨S4x8192x1024, .f32⟩
  | .hbm, ⟨30, _⟩ => ⟨S4x8192x1024, .f32⟩
  | .hbm, ⟨31, _⟩ => ⟨S1x1x1024, .f32⟩
  | .hbm, ⟨32, _⟩ => ⟨S4x8192x1024, .f32⟩
  | .hbm, ⟨33, _⟩ => ⟨S4x8192x1024, .f32⟩
  | .hbm, ⟨34, _⟩ => ⟨S4x1x1024, .f32⟩
  | .hbm, ⟨35, _⟩ => ⟨S4x1024, .f32⟩
  | .hbm, ⟨36, _⟩ => ⟨S4x1x1024, .f32⟩
  | .hbm, ⟨37, _⟩ => ⟨S4x1024, .f32⟩
  | .hbm, ⟨38, _⟩ => ⟨S4x1x1024, .f32⟩
  | .hbm, ⟨39, _⟩ => ⟨S_, .f32⟩
  | .hbm, ⟨40, _⟩ => ⟨S4x1x1024, .f32⟩
  | .hbm, ⟨41, _⟩ => ⟨S4x1x1024, .f32⟩
  | .hbm, ⟨42, _⟩ => ⟨S4x8192x1024, .f32⟩
  | .hbm, ⟨43, _⟩ => ⟨S4x8192x1024, .f32⟩
  | .hbm, ⟨44, _⟩ => ⟨S4x1x1024, .f32⟩
  | .hbm, ⟨45, _⟩ => ⟨S4x8192x1024, .f32⟩
  | .hbm, ⟨46, _⟩ => ⟨S4x8192x1024, .f32⟩
  | .hbm, ⟨47, _⟩ => ⟨S4x1x1024, .f32⟩
  | .hbm, ⟨48, _⟩ => ⟨S4x1024, .f32⟩
  | .hbm, ⟨49, _⟩ => ⟨S4x1x1024, .f32⟩
  | .hbm, ⟨50, _⟩ => ⟨S_, .f32⟩
  | .hbm, ⟨51, _⟩ => ⟨S4x1x1024, .f32⟩
  | .hbm, ⟨52, _⟩ => ⟨S4x1x1024, .f32⟩
  | .hbm, ⟨53, _⟩ => ⟨S1x1x1024x5632, .f32⟩
  | .hbm, ⟨54, _⟩ => ⟨S1024x5632, .f32⟩
  | .hbm, ⟨55, _⟩ => ⟨S1x1x2816x1024, .f32⟩
  | .hbm, ⟨56, _⟩ => ⟨S2816x1024, .f32⟩
  | .hbm, ⟨57, _⟩ => ⟨S4x8192x5632, .f32⟩
  | .hbm, ⟨58, _⟩ => ⟨S4x8192x2816, .f32⟩
  | .hbm, ⟨59, _⟩ => ⟨S4x8192x2816, .f32⟩
  | .hbm, ⟨60, _⟩ => ⟨S4x8192x2816, .f32⟩
  | .hbm, ⟨61, _⟩ => ⟨S4x8192x2816, .f32⟩
  | .hbm, ⟨62, _⟩ => ⟨S_, .f32⟩
  | .hbm, ⟨63, _⟩ => ⟨S4x8192x2816, .f32⟩
  | .hbm, ⟨64, _⟩ => ⟨S4x8192x2816, .f32⟩
  | .hbm, ⟨65, _⟩ => ⟨S_, .f32⟩
  | .hbm, ⟨66, _⟩ => ⟨S4x8192x2816, .f32⟩
  | .hbm, ⟨67, _⟩ => ⟨S4x8192x2816, .f32⟩
  | .hbm, ⟨68, _⟩ => ⟨S4x8192x2816, .f32⟩
  | .hbm, ⟨69, _⟩ => ⟨S4x8192x2816, .f32⟩
  | .hbm, ⟨70, _⟩ => ⟨S4x8192x1024, .f32⟩
  | .hbm, ⟨71, _⟩ => ⟨S4x8192x1024, .f32⟩
  | .hbm, ⟨72, _⟩ => ⟨S4x8192x1024, .f32⟩
  | .hbm, ⟨73, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_call0_v5 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩

abbrev nD : Nat := 1
abbrev τ : Topo := Topo.v7x

variable {F : FTy → Type} [FloatOps F]
-- ==== Final.lean ====
abbrev S4x8192x1024 : Shape := ⟨3, ![4, 8192, 1024]⟩
abbrev S4x9x1024 : Shape := ⟨3, ![4, 9, 1024]⟩
abbrev S1024 : Shape := ⟨1, ![1024]⟩
abbrev S2x2x1024x5632 : Shape := ⟨4, ![2, 2, 1024, 5632]⟩
abbrev S2x2x2816x1024 : Shape := ⟨4, ![2, 2, 2816, 1024]⟩
abbrev S1024x1024 : Shape := ⟨2, ![1024, 1024]⟩
abbrev S8 : Shape := ⟨1, ![8]⟩
abbrev S8x1x1 : Shape := ⟨3, ![8, 1, 1]⟩
abbrev S2 : Shape := ⟨1, ![2]⟩
abbrev S1x2x1 : Shape := ⟨3, ![1, 2, 1]⟩
abbrev S64 : Shape := ⟨1, ![64]⟩
abbrev S1x1x64 : Shape := ⟨3, ![1, 1, 64]⟩
abbrev S_ : Shape := ⟨0, ![]⟩
abbrev S8x2x1 : Shape := ⟨3, ![8, 2, 1]⟩
abbrev S8x2x64 : Shape := ⟨3, ![8, 2, 64]⟩
abbrev S1024x1 : Shape := ⟨2, ![1024, 1]⟩
abbrev S1x1024 : Shape := ⟨2, ![1, 1024]⟩
abbrev S1x512x1024 : Shape := ⟨3, ![1, 512, 1024]⟩
abbrev S1x9x1024 : Shape := ⟨3, ![1, 9, 1024]⟩
abbrev S1x1x1024x5632 : Shape := ⟨4, ![1, 1, 1024, 5632]⟩
abbrev S1x1x2816x1024 : Shape := ⟨4, ![1, 1, 2816, 1024]⟩
abbrev S512x1024 : Shape := ⟨2, ![512, 1024]⟩
abbrev S9x1024 : Shape := ⟨2, ![9, 1024]⟩
abbrev S512 : Shape := ⟨1, ![512]⟩
abbrev S512x1 : Shape := ⟨2, ![512, 1]⟩
abbrev S1x1x1024x2816 : Shape := ⟨4, ![1, 1, 1024, 2816]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 42
  | .vmem => 13
  | .smem => 0
  | _ => 0

abbrev bufTy : (tb : Table) → Fin (tcTables nBuf tb) → BufTy
  | .hbm, ⟨0, _⟩ => ⟨S4x8192x1024, .f32⟩
  | .hbm, ⟨1, _⟩ => ⟨S4x9x1024, .f32⟩
  | .hbm, ⟨2, _⟩ => ⟨S1024, .f32⟩
  | .hbm, ⟨3, _⟩ => ⟨S2x2x1024x5632, .f32⟩
  | .hbm, ⟨4, _⟩ => ⟨S2x2x2816x1024, .f32⟩
  | .hbm, ⟨5, _⟩ => ⟨S1024, .f32⟩
  | .hbm, ⟨6, _⟩ => ⟨S4x8192x1024, .bf16⟩
  | .hbm, ⟨7, _⟩ => ⟨S1024x1024, .f32⟩
  | .hbm, ⟨8, _⟩ => ⟨S8, .i32⟩
  | .hbm, ⟨9, _⟩ => ⟨S8x1x1, .i32⟩
  | .hbm, ⟨10, _⟩ => ⟨S2, .i32⟩
  | .hbm, ⟨11, _⟩ => ⟨S1x2x1, .i32⟩
  | .hbm, ⟨12, _⟩ => ⟨S64, .i32⟩
  | .hbm, ⟨13, _⟩ => ⟨S1x1x64, .i32⟩
  | .hbm, ⟨14, _⟩ => ⟨S_, .i32⟩
  | .hbm, ⟨15, _⟩ => ⟨S1x2x1, .i32⟩
  | .hbm, ⟨16, _⟩ => ⟨S1x2x1, .i32⟩
  | .hbm, ⟨17, _⟩ => ⟨S8x2x1, .i32⟩
  | .hbm, ⟨18, _⟩ => ⟨S8x2x1, .i32⟩
  | .hbm, ⟨19, _⟩ => ⟨S8x2x1, .i32⟩
  | .hbm, ⟨20, _⟩ => ⟨S_, .i32⟩
  | .hbm, ⟨21, _⟩ => ⟨S8x2x1, .i32⟩
  | .hbm, ⟨22, _⟩ => ⟨S8x2x1, .i32⟩
  | .hbm, ⟨23, _⟩ => ⟨S8x2x64, .i32⟩
  | .hbm, ⟨24, _⟩ => ⟨S8x2x64, .i32⟩
  | .hbm, ⟨25, _⟩ => ⟨S8x2x64, .i32⟩
  | .hbm, ⟨26, _⟩ => ⟨S1024, .i32⟩
  | .hbm, ⟨27, _⟩ => ⟨S2x2x1024x5632, .bf16⟩
  | .hbm, ⟨28, _⟩ => ⟨S2x2x2816x1024, .bf16⟩
  | .hbm, ⟨29, _⟩ => ⟨S_, .i32⟩
  | .hbm, ⟨30, _⟩ => ⟨S1024, .i32⟩
  | .hbm, ⟨31, _⟩ => ⟨S1024, .i1⟩
  | .hbm, ⟨32, _⟩ => ⟨S_, .i32⟩
  | .hbm, ⟨33, _⟩ => ⟨S1024, .i32⟩
  | .hbm, ⟨34, _⟩ => ⟨S1024, .i32⟩
  | .hbm, ⟨35, _⟩ => ⟨S1024, .i32⟩
  | .hbm, ⟨36, _⟩ => ⟨S1024x1, .i32⟩
  | .hbm, ⟨37, _⟩ => ⟨S1024x1024, .f32⟩
  | .hbm, ⟨38, _⟩ => ⟨S1024x1024, .bf16⟩
  | .hbm, ⟨39, _⟩ => ⟨S1x1024, .f32⟩
  | .hbm, ⟨40, _⟩ => ⟨S1x1024, .f32⟩
  | .hbm, ⟨41, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S1x1024, .f32⟩
  | .local _ .vmem, ⟨8, _⟩ => ⟨S1x512x1024, .bf16⟩
  | .local _ .vmem, ⟨9, _⟩ => ⟨S1x512x1024, .bf16⟩
  | .local _ .vmem, ⟨10, _⟩ => ⟨S1024x1024, .bf16⟩
  | .local _ .vmem, ⟨11, _⟩ => ⟨S1x512x1024, .f32⟩
  | .local _ .vmem, ⟨12, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FinalRefIdeal.lean ====
abbrev S4x8192x1024 : Shape := ⟨3, ![4, 8192, 1024]⟩
abbrev S4x9x1024 : Shape := ⟨3, ![4, 9, 1024]⟩
abbrev S1024 : Shape := ⟨1, ![1024]⟩
abbrev S2x2x1024x5632 : Shape := ⟨4, ![2, 2, 1024, 5632]⟩
abbrev S2x2x2816x1024 : Shape := ⟨4, ![2, 2, 2816, 1024]⟩
abbrev S1024x1024 : Shape := ⟨2, ![1024, 1024]⟩
abbrev S4x8192x8x2x64 : Shape := ⟨5, ![4, 8192, 8, 2, 64]⟩
abbrev S4x8192x2x8x64 : Shape := ⟨5, ![4, 8192, 2, 8, 64]⟩
abbrev S4x1x1024 : Shape := ⟨3, ![4, 1, 1024]⟩
abbrev S4x1024 : Shape := ⟨2, ![4, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S4x8192x5632 : Shape := ⟨3, ![4, 8192, 5632]⟩
abbrev S4x8192x2816 : Shape := ⟨3, ![4, 8192, 2816]⟩

abbrev nBuf : Space → Nat
  | .hbm => 91
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x9x1024, .f32⟩
  | .hbm, ⟨2, _⟩ => ⟨S1024, .f32⟩
  | .hbm, ⟨3, _⟩ => ⟨S2x2x1024x5632, .f32⟩
  | .hbm, ⟨4, _⟩ => ⟨S2x2x2816x1024, .f32⟩
  | .hbm, ⟨5, _⟩ => ⟨S1024, .f32⟩
  | .hbm, ⟨6, _⟩ => ⟨S4x8192x1024, .bf16⟩
  | .hbm, ⟨7, _⟩ => ⟨S1024x1024, .f32⟩
  | .hbm, ⟨8, _⟩ => ⟨S4x8192x1024, .f32⟩
  | .hbm, ⟨9, _⟩ => ⟨S4x8192x8x2x64, .f32⟩
  | .hbm, ⟨10, _⟩ => ⟨S4x8192x2x8x64, .f32⟩
  | .hbm, ⟨11, _⟩ => ⟨S4x8192x1024, .f32⟩
  | .hbm, ⟨12, _⟩ => ⟨S4x1x1024, .f32⟩
  | .hbm, ⟨13, _⟩ => ⟨S4x1024, .f32⟩
  | .hbm, ⟨14, _⟩ => ⟨S4x1x1024, .f32⟩
  | .hbm, ⟨15, _⟩ => ⟨S4x8192x1024, .f32⟩
  | .hbm, ⟨16, _⟩ => ⟨S4x8192x1024, .f32⟩
  | .hbm, ⟨17, _⟩ => ⟨S4x8192x1024, .f32⟩
  | .hbm, ⟨18, _⟩ => ⟨S4x8192x1024, .f32⟩
  | .hbm, ⟨19, _⟩ => ⟨S4x8192x1024, .f32⟩
  | .hbm, ⟨20, _⟩ => ⟨S_, .f32⟩
  | .hbm, ⟨21, _⟩ => ⟨S4x8192, .f32⟩
  | .hbm, ⟨22, _⟩ => ⟨S4x8192x1, .f32⟩
  | .hbm, ⟨23, _⟩ => ⟨S_, .f32⟩
  | .hbm, ⟨24, _⟩ => ⟨S4x8192x1, .f32⟩
  | .hbm, ⟨25, _⟩ => ⟨S4x8192x1, .f32⟩
  | .hbm, ⟨26, _⟩ => ⟨S_, .f32⟩
  | .hbm, ⟨27, _⟩ => ⟨S4x8192x1, .f32⟩
  | .hbm, ⟨28, _⟩ => ⟨S4x8192x1, .f32⟩
  | .hbm, ⟨29, _⟩ => ⟨S4x8192x1, .f32⟩
  | .hbm, ⟨30, _⟩ => ⟨S4x8192x1024, .f32⟩
  | .hbm, ⟨31, _⟩ => ⟨S4x8192x1024, .f32⟩
  | .hbm, ⟨32, _⟩ => ⟨S1x1x1024, .f32⟩
  | .hbm, ⟨33, _⟩ => ⟨S4x8192x1024, .f32⟩
  | .hbm, ⟨34, _⟩ => ⟨S4x8192x1024, .f32⟩
  | .hbm, ⟨35, _⟩ => ⟨S4x1x1024, .f32⟩
  | .hbm, ⟨36, _⟩ => ⟨S4x1024, .f32⟩
  | .hbm, ⟨37, _⟩ => ⟨S4x1x1024, .f32⟩
  | .hbm, ⟨38, _⟩ => ⟨S4x1024, .f32⟩
  | .hbm, ⟨39, _⟩ => ⟨S4x1x1024, .f32⟩
  | .hbm, ⟨40, _⟩ => ⟨S_, .f32⟩
  | .hbm, ⟨41, _⟩ => ⟨S4x1x1024, .f32⟩
  | .hbm, ⟨42, _⟩ => ⟨S4x1x1024, .f32⟩
  | .hbm, ⟨43, _⟩ => ⟨S4x8192x1024, .f32⟩
  | .hbm, ⟨44, _⟩ => ⟨S4x8192x1024, .f32⟩
  | .hbm, ⟨45, _⟩ => ⟨S4x1x1024, .f32⟩
  | .hbm, ⟨46, _⟩ => ⟨S4x8192x1024, .f32⟩
  | .hbm, ⟨47, _⟩ => ⟨S4x8192x1024, .f32⟩
  | .hbm, ⟨48, _⟩ => ⟨S4x1x1024, .f32⟩
  | .hbm, ⟨49, _⟩ => ⟨S4x1024, .f32⟩
  | .hbm, ⟨50, _⟩ => ⟨S4x1x1024, .f32⟩
  | .hbm, ⟨51, _⟩ => ⟨S_, .f32⟩
  | .hbm, ⟨52, _⟩ => ⟨S4x1x1024, .f32⟩
  | .hbm, ⟨53, _⟩ => ⟨S4x1x1024, .f32⟩
  | .hbm, ⟨54, _⟩ => ⟨S1x1x1024x5632, .f32⟩
  | .hbm, ⟨55, _⟩ => ⟨S1024x5632, .f32⟩
  | .hbm, ⟨56, _⟩ => ⟨S1x1x2816x1024, .f32⟩
  | .hbm, ⟨57, _⟩ => ⟨S2816x1024, .f32⟩
  | .hbm, ⟨58, _⟩ => ⟨S4x8192x5632, .f32⟩
  | .hbm, ⟨59, _⟩ => ⟨S4x8192x2816, .f32⟩
  | .hbm, ⟨60, _⟩ => ⟨S4x8192x2816, .f32⟩
  | .hbm, ⟨61, _⟩ => ⟨S4x8192x2816, .f32⟩
  | .hbm, ⟨62, _⟩ => ⟨S4x8192x2816, .f32⟩
  | .hbm, ⟨63, _⟩ => ⟨S_, .f32⟩
  | .hbm, ⟨64, _⟩ => ⟨S4x8192x2816, .f32⟩
  | .hbm, ⟨65, _⟩ => ⟨S4x8192x2816, .f32⟩
  | .hbm, ⟨66, _⟩ => ⟨S_, .f32⟩
  | .hbm, ⟨67, _⟩ => ⟨S4x8192x2816, .f32⟩
  | .hbm, ⟨68, _⟩ => ⟨S4x8192x2816, .f32⟩
  | .hbm, ⟨69, _⟩ => ⟨S4x8192x2816, .f32⟩
  | .hbm, ⟨70, _⟩ => ⟨S4x8192x2816, .f32⟩
  | .hbm, ⟨71, _⟩ => ⟨S4x8192x1024, .f32⟩
  | .hbm, ⟨72, _⟩ => ⟨S4x8192x1024, .f32⟩
  | .hbm, ⟨73, _⟩ => ⟨S4x8192x1024, .f32⟩
  | .hbm, ⟨74, _⟩ => ⟨S4x8192x1024, .f32⟩
  | .hbm, ⟨75, _⟩ => ⟨S4x8192x1024, .f32⟩
  | .hbm, ⟨76, _⟩ => ⟨S_, .f32⟩
  | .hbm, ⟨77, _⟩ => ⟨S4x8192, .f32⟩
  | .hbm, ⟨78, _⟩ => ⟨S4x8192x1, .f32⟩
  | .hbm, ⟨79, _⟩ => ⟨S_, .f32⟩
  | .hbm, ⟨80, _⟩ => ⟨S4x8192x1, .f32⟩
  | .hbm, ⟨81, _⟩ => ⟨S4x8192x1, .f32⟩
  | .hbm, ⟨82, _⟩ => ⟨S_, .f32⟩
  | .hbm, ⟨83, _⟩ => ⟨S4x8192x1, .f32⟩
  | .hbm, ⟨84, _⟩ => ⟨S4x8192x1, .f32⟩
  | .hbm, ⟨85, _⟩ => ⟨S4x8192x1, .f32⟩
  | .hbm, ⟨86, _⟩ => ⟨S4x8192x1024, .f32⟩
  | .hbm, ⟨87, _⟩ => ⟨S4x8192x1024, .f32⟩
  | .hbm, ⟨88, _⟩ => ⟨S1x1x1024, .f32⟩
  | .hbm, ⟨89, _⟩ => ⟨S4x8192x1024, .f32⟩
  | .hbm, ⟨90, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_4 : Ref sig .tc := ⟨.hbm, 76, rfl⟩
abbrev main_v55 : Ref sig .tc := ⟨.hbm, 77, rfl⟩
abbrev main_v56 : Ref sig .tc := ⟨.hbm, 78, rfl⟩
abbrev main_cst_5 : Ref sig .tc := ⟨.hbm, 79, rfl⟩
abbrev main_v57 : Ref sig .tc := ⟨.hbm, 80, rfl⟩
abbrev main_v58 : Ref sig .tc := ⟨.hbm, 81, rfl⟩
abbrev main_cst_6 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]
-- ==== Inproj1.lean ====
abbrev S4x8192x1024 : Shape := ⟨3, ![4, 8192, 1024]⟩
abbrev S4x9x1024 : Shape := ⟨3, ![4, 9, 1024]⟩
abbrev S1024 : Shape := ⟨1, ![1024]⟩
abbrev S1024x1840 : Shape := ⟨2, ![1024, 1840]⟩
abbrev S8 : Shape := ⟨1, ![8]⟩
abbrev S8x1x1 : Shape := ⟨3, ![8, 1, 1]⟩
abbrev S2 : Shape := ⟨1, ![2]⟩
abbrev S1x2x1 : Shape := ⟨3, ![1, 2, 1]⟩
abbrev S64 : Shape := ⟨1, ![64]⟩
abbrev S1x1x64 : Shape := ⟨3, ![1, 1, 64]⟩
abbrev S_ : Shape := ⟨0, ![]⟩
abbrev S8x2x1 : Shape := ⟨3, ![8, 2, 1]⟩
abbrev S8x2x64 : Shape := ⟨3, ![8, 2, 64]⟩
abbrev S1024x1024 : Shape := ⟨2, ![1024, 1024]⟩
abbrev S1024x1 : Shape := ⟨2, ![1024, 1]⟩
abbrev S1024x816 : Shape := ⟨2, ![1024, 816]⟩
abbrev S1024x1920 : Shape := ⟨2, ![1024, 1920]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1x1024 : Shape := ⟨2, ![1, 1024]⟩
abbrev S4x2x8192x128 : Shape := ⟨4, ![4, 2, 8192, 128]⟩
abbrev S4x8192x512 : Shape := ⟨3, ![4, 8192, 512]⟩
abbrev S4x8192x128 : Shape := ⟨3, ![4, 8192, 128]⟩
abbrev S1x1024x1024 : Shape := ⟨3, ![1, 1024, 1024]⟩
abbrev S1x9x1024 : Shape := ⟨3, ![1, 9, 1024]⟩
abbrev S1024x128 : Shape := ⟨2, ![1024, 128]⟩
abbrev S1x2x1024x128 : Shape := ⟨4, ![1, 2, 1024, 128]⟩
abbrev S1x1024x512 : Shape := ⟨3, ![1, 1024, 512]⟩
abbrev S1x1024x128 : Shape := ⟨3, ![1, 1024, 128]⟩
abbrev S9x1024 : Shape := ⟨2, ![9, 1024]⟩
abbrev S1x1x1024x128 : Shape := ⟨4, ![1, 1, 1024, 128]⟩
abbrev S1024x512 : Shape := ⟨2, ![1024, 512]⟩

abbrev nBuf : Space → Nat
  | .hbm => 83
  | .vmem => 22
  | .smem => 0
  | _ => 0

abbrev bufTy : (tb : Table) → Fin (tcTables nBuf tb) → BufTy
  | .hbm, ⟨0, _⟩ => ⟨S4x8192x1024, .f32⟩
  | .hbm, ⟨1, _⟩ => ⟨S4x9x1024, .f32⟩
  | .hbm, ⟨2, _⟩ => ⟨S1024, .f32⟩
  | .hbm, ⟨3, _⟩ => ⟨S1024x1840, .f32⟩
  | .hbm, ⟨4, _⟩ => ⟨S8, .i32⟩
  | .hbm, ⟨5, _⟩ => ⟨S8x1x1, .i32⟩
  | .hbm, ⟨6, _⟩ => ⟨S2, .i32⟩
  | .hbm, ⟨7, _⟩ => ⟨S1x2x1, .i32⟩
  | .hbm, ⟨8, _⟩ => ⟨S64, .i32⟩
  | .hbm, ⟨9, _⟩ => ⟨S1x1x64, .i32⟩
  | .hbm, ⟨10, _⟩ => ⟨S_, .i32⟩
  | .hbm, ⟨11, _⟩ => ⟨S1x2x1, .i32⟩
  | .hbm, ⟨12, _⟩ => ⟨S1x2x1, .i32⟩
  | .hbm, ⟨13, _⟩ => ⟨S8x2x1, .i32⟩
  | .hbm, ⟨14, _⟩ => ⟨S8x2x1, .i32⟩
  | .hbm, ⟨15, _⟩ => ⟨S8x2x1, .i32⟩
  | .hbm, ⟨16, _⟩ => ⟨S_, .i32⟩
  | .hbm, ⟨17, _⟩ => ⟨S8x2x1, .i32⟩
  | .hbm, ⟨18, _⟩ => ⟨S8x2x1, .i32⟩
  | .hbm, ⟨19, _⟩ => ⟨S8x2x64, .i32⟩
  | .hbm, ⟨20, _⟩ => ⟨S8x2x64, .i32⟩
  | .hbm, ⟨21, _⟩ => ⟨S8x2x64, .i32⟩
  | .hbm, ⟨22, _⟩ => ⟨S1024, .i32⟩
  | .hbm, ⟨23, _⟩ => ⟨S1024x1024, .f32⟩
  | .hbm, ⟨24, _⟩ => ⟨S_, .i32⟩
  | .hbm, ⟨25, _⟩ => ⟨S1024, .i32⟩
  | .hbm, ⟨26, _⟩ => ⟨S1024, .i1⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S1024x1, .i32⟩
  | .hbm, ⟨32, _⟩ => ⟨S1024x1024, .f32⟩
  | .hbm, ⟨33, _⟩ => ⟨S1024x816, .f32⟩
  | .hbm, ⟨34, _⟩ => ⟨S1024x1840, .f32⟩
  | .hbm, ⟨35, _⟩ => ⟨S_, .i32⟩
  | .hbm, ⟨36, _⟩ => ⟨S_, .f32⟩
  | .hbm, ⟨37, _⟩ => ⟨S1024x1920, .f32⟩
  | .hbm, ⟨38, _⟩ => ⟨S1024x1920, .bf16⟩
  | .hbm, ⟨39, _⟩ => ⟨S8192, .f32⟩
  | .hbm, ⟨40, _⟩ => ⟨S8, .f32⟩
  | .hbm, ⟨41, _⟩ => ⟨S8, .f32⟩
  | .hbm, ⟨42, _⟩ => ⟨S_, .f32⟩
  | .hbm, ⟨43, _⟩ => ⟨S8, .f32⟩
  | .hbm, ⟨44, _⟩ => ⟨S8, .f32⟩
  | .hbm, ⟨45, _⟩ => ⟨S_, .f32⟩
  | .hbm, ⟨46, _⟩ => ⟨S8, .f32⟩
  | .hbm, ⟨47, _⟩ => ⟨S8, .f32⟩
  | .hbm, ⟨48, _⟩ => ⟨S_, .f32⟩
  | .hbm, ⟨49, _⟩ => ⟨S8, .f32⟩
  | .hbm, ⟨50, _⟩ => ⟨S8, .f32⟩
  | .hbm, ⟨51, _⟩ => ⟨S8192x1, .f32⟩
  | .hbm, ⟨52, _⟩ => ⟨S1x8, .f32⟩
  | .hbm, ⟨53, _⟩ => ⟨S8192x8, .f32⟩
  | .hbm, ⟨54, _⟩ => ⟨S8192x8, .f32⟩
  | .hbm, ⟨55, _⟩ => ⟨S8192x8, .f32⟩
  | .hbm, ⟨56, _⟩ => ⟨S8192x8, .f32⟩
  | .hbm, ⟨57, _⟩ => ⟨S8192x8, .f32⟩
  | .hbm, ⟨58, _⟩ => ⟨S_, .f32⟩
  | .hbm, ⟨59, _⟩ => ⟨S8192x48, .f32⟩
  | .hbm, ⟨60, _⟩ => ⟨S_, .f32⟩
  | .hbm, ⟨61, _⟩ => ⟨S8192x48, .f32⟩
  | .hbm, ⟨62, _⟩ => ⟨S_, .f32⟩
  | .hbm, ⟨63, _⟩ => ⟨S8192x8, .f32⟩
  | .hbm, ⟨64, _⟩ => ⟨S8192x64, .f32⟩
  | .hbm, ⟨65, _⟩ => ⟨S8192x8, .f32⟩
  | .hbm, ⟨66, _⟩ => ⟨S8192x64, .f32⟩
  | .hbm, ⟨67, _⟩ => ⟨S8192x64, .f32⟩
  | .hbm, ⟨68, _⟩ => ⟨S1x8192x1x64, .f32⟩
  | .hbm, ⟨69, _⟩ => ⟨S1x8192x2x64, .f32⟩
  | .hbm, ⟨70, _⟩ => ⟨S8192x128, .f32⟩
  | .hbm, ⟨71, _⟩ => ⟨S1x8192x1x64, .f32⟩
  | .hbm, ⟨72, _⟩ => ⟨S1x8192x2x64, .f32⟩
  | .hbm, ⟨73, _⟩ => ⟨S8192x128, .f32⟩
  | .hbm, ⟨74, _⟩ => ⟨S1x8192x1x64, .f32⟩
  | .hbm, ⟨75, _⟩ => ⟨S1x8192x2x64, .f32⟩
  | .hbm, ⟨76, _⟩ => ⟨S8192x128, .f32⟩
  | .hbm, ⟨77, _⟩ => ⟨S1x1024, .f32⟩
  | .hbm, ⟨78, _⟩ => ⟨S4x8192x1024, .bf16⟩
  | .hbm, ⟨79, _⟩ => ⟨S4x8192x1024, .bf16⟩
  | .hbm, ⟨80, _⟩ => ⟨S4x2x8192x128, .f32⟩
  | .hbm, ⟨81, _⟩ => ⟨S4x8192x512, .bf16⟩
  | .hbm, ⟨82, _⟩ => ⟨S4x8192x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x1920, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x2x1024x128, .f32⟩
  | .local _ .vmem, ⟨17, _⟩ => ⟨S1x2x1024x128, .f32⟩
  | .local _ .vmem, ⟨18, _⟩ => ⟨S1x1024x512, .bf16⟩
  | .local _ .vmem, ⟨19, _⟩ => ⟨S1x1024x512, .bf16⟩
  | .local _ .vmem, ⟨20, _⟩ => ⟨S1x1024x128, .f32⟩
  | .local _ .vmem, ⟨21, _⟩ => ⟨S1x1024x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_1 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_3 : Ref sig .tc := ⟨.hbm, 35, rfl⟩
abbrev main_call0_v0 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62_0 : Ref sig .tc := ⟨.hbm, 78, rfl⟩
abbrev main_v62_1 : Ref sig .tc := ⟨.hbm, 79, rfl⟩
abbrev main_v62_2 : Ref sig .tc := ⟨.hbm, 80, rfl⟩
abbrev main_v62_3 : Ref sig .tc := ⟨.hbm, 81, rfl⟩
abbrev main_v62_4 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1920 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Inproj1RefIdeal.lean ====
abbrev S4x8192x1024 : Shape := ⟨3, ![4, 8192, 1024]⟩
abbrev S4x9x1024 : Shape := ⟨3, ![4, 9, 1024]⟩
abbrev S1024 : Shape := ⟨1, ![1024]⟩
abbrev S1024x1840 : Shape := ⟨2, ![1024, 1840]⟩
abbrev S8192 : Shape := ⟨1, ![8192]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x1024 : Shape := ⟨2, ![4, 1024]⟩
abbrev S4x8192x1840 : Shape := ⟨3, ![4, 8192, 1840]⟩
abbrev S4x8192x128 : Shape := ⟨3, ![4, 8192, 128]⟩
abbrev S4x8192x48 : Shape := ⟨3, ![4, 8192, 48]⟩
abbrev S4x8192x16x64 : Shape := ⟨4, ![4, 8192, 16, 64]⟩
abbrev S4x8192x2x8x64 : Shape := ⟨5, ![4, 8192, 2, 8, 64]⟩
abbrev S4x8192x8x2x64 : Shape := ⟨5, ![4, 8192, 8, 2, 64]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S4x8192x16x8 : Shape := ⟨4, ![4, 8192, 16, 8]⟩
abbrev S1x8192x1x8 : Shape := ⟨4, ![1, 8192, 1, 8]⟩
abbrev S4x8192x16x48 : Shape := ⟨4, ![4, 8192, 16, 48]⟩
abbrev S4x8192x2x64 : Shape := ⟨4, ![4, 8192, 2, 64]⟩
abbrev S4x8192x2x8 : Shape := ⟨4, ![4, 8192, 2, 8]⟩
abbrev S4x8192x2x48 : Shape := ⟨4, ![4, 8192, 2, 48]⟩
abbrev S4x1x8192x128 : Shape := ⟨4, ![4, 1, 8192, 128]⟩
abbrev S4x2x8192x128 : Shape := ⟨4, ![4, 2, 8192, 128]⟩
abbrev S4x8192x512 : Shape := ⟨3, ![4, 8192, 512]⟩

abbrev nBuf : Space → Nat
  | .hbm => 189
  | .vmem => 0
  | .smem => 0
  | _ => 0

abbrev hbmTy0_0 (i : Nat) : BufTy := match i % 128 with
  | 0 => ⟨S4x8192x1024, .f32⟩
  | 1 => ⟨S4x9x1024, .f32⟩
  | 2 => ⟨S1024, .f32⟩
  | 3 => ⟨S1024x1840, .f32⟩
  | 4 => ⟨S8192, .f32⟩
  | 5 => ⟨S4x8192x1024, .f32⟩
  | 6 => ⟨S_, .f32⟩
  | 7 => ⟨S4x8192, .f32⟩
  | 8 => ⟨S4x8192x1, .f32⟩
  | 9 => ⟨S_, .f32⟩
  | 10 => ⟨S4x8192x1, .f32⟩
  | 11 => ⟨S4x8192x1, .f32⟩
  | 12 => ⟨S_, .f32⟩
  | 13 => ⟨S4x8192x1, .f32⟩
  | 14 => ⟨S4x8192x1, .f32⟩
  | 15 => ⟨S4x8192x1, .f32⟩
  | 16 => ⟨S4x8192x1024, .f32⟩
  | 17 => ⟨S4x8192x1024, .f32⟩
  | 18 => ⟨S1x1x1024, .f32⟩
  | 19 => ⟨S4x8192x1024, .f32⟩
  | 20 => ⟨S4x8192x1024, .f32⟩
  | 21 => ⟨S4x1x1024, .f32⟩
  | 22 => ⟨S4x1024, .f32⟩
  | 23 => ⟨S4x1x1024, .f32⟩
  | 24 => ⟨S4x1024, .f32⟩
  | 25 => ⟨S4x1x1024, .f32⟩
  | 26 => ⟨S_, .f32⟩
  | 27 => ⟨S4x1x1024, .f32⟩
  | 28 => ⟨S4x1x1024, .f32⟩
  | 29 => ⟨S4x8192x1024, .f32⟩
  | 30 => ⟨S4x8192x1024, .f32⟩
  | 31 => ⟨S4x1x1024, .f32⟩
  | 32 => ⟨S4x8192x1024, .f32⟩
  | 33 => ⟨S4x8192x1024, .f32⟩
  | 34 => ⟨S4x8192x1840, .f32⟩
  | 35 => ⟨S4x8192x1024, .f32⟩
  | 36 => ⟨S4x8192x128, .f32⟩
  | 37 => ⟨S4x8192x128, .f32⟩
  | 38 => ⟨S4x8192x128, .f32⟩
  | 39 => ⟨S4x8192x128, .f32⟩
  | 40 => ⟨S4x8192x128, .f32⟩
  | 41 => ⟨S4x8192x128, .f32⟩
  | 42 => ⟨S4x8192x48, .f32⟩
  | 43 => ⟨S4x8192x16x64, .f32⟩
  | 44 => ⟨S_, .f32⟩
  | 45 => ⟨S4x8192x16x64, .f32⟩
  | 46 => ⟨S4x8192x16x64, .f32⟩
  | 47 => ⟨S4x8192x2x8x64, .f32⟩
  | 48 => ⟨S4x8192x8x2x64, .f32⟩
  | 49 => ⟨S4x8192x1024, .f32⟩
  | 50 => ⟨S4x8192x1024, .bf16⟩
  | 51 => ⟨S8, .f32⟩
  | 52 => ⟨S8, .f32⟩
  | 53 => ⟨S_, .f32⟩
  | 54 => ⟨S8, .f32⟩
  | 55 => ⟨S8, .f32⟩
  | 56 => ⟨S_, .f32⟩
  | 57 => ⟨S8, .f32⟩
  | 58 => ⟨S8, .f32⟩
  | 59 => ⟨S_, .f32⟩
  | 60 => ⟨S8, .f32⟩
  | 61 => ⟨S8, .f32⟩
  | 62 => ⟨S8192x1, .f32⟩
  | 63 => ⟨S1x8, .f32⟩
  | 64 => ⟨S8192x8, .f32⟩
  | 65 => ⟨S8192x8, .f32⟩
  | 66 => ⟨S8192x8, .f32⟩
  | 67 => ⟨S8192x8, .f32⟩
  | 68 => ⟨S8192x1x8, .f32⟩
  | 69 => ⟨S8192x8, .f32⟩
  | 70 => ⟨S8192x1x8, .f32⟩
  | 71 => ⟨S4x8192x16x8, .f32⟩
  | 72 => ⟨S4x8192x16x8, .f32⟩
  | 73 => ⟨S1x8192x1x8, .f32⟩
  | 74 => ⟨S4x8192x16x8, .f32⟩
  | 75 => ⟨S4x8192x16x8, .f32⟩
  | 76 => ⟨S1x8192x1x8, .f32⟩
  | 77 => ⟨S4x8192x16x8, .f32⟩
  | 78 => ⟨S4x8192x16x8, .f32⟩
  | 79 => ⟨S4x8192x16x8, .f32⟩
  | 80 => ⟨S1x8192x1x8, .f32⟩
  | 81 => ⟨S4x8192x16x8, .f32⟩
  | 82 => ⟨S4x8192x16x8, .f32⟩
  | 83 => ⟨S1x8192x1x8, .f32⟩
  | 84 => ⟨S4x8192x16x8, .f32⟩
  | 85 => ⟨S4x8192x16x8, .f32⟩
  | 86 => ⟨S4x8192x16x8, .f32⟩
  | 87 => ⟨S4x8192x16x48, .f32⟩
  | 88 => ⟨S4x8192x16x64, .f32⟩
  | 89 => ⟨S4x8192x2x8x64, .f32⟩
  | 90 => ⟨S4x8192x8x2x64, .f32⟩
  | 91 => ⟨S4x8192x1024, .f32⟩
  | 92 => ⟨S4x8192x1024, .bf16⟩
  | 93 => ⟨S4x8192x2x64, .f32⟩
  | 94 => ⟨S8, .f32⟩
  | 95 => ⟨S8, .f32⟩
  | 96 => ⟨S_, .f32⟩
  | 97 => ⟨S8, .f32⟩
  | 98 => ⟨S8, .f32⟩
  | 99 => ⟨S_, .f32⟩
  | 100 => ⟨S8, .f32⟩
  | 101 => ⟨S8, .f32⟩
  | 102 => ⟨S_, .f32⟩
  | 103 => ⟨S8, .f32⟩
  | 104 => ⟨S8, .f32⟩
  | 105 => ⟨S8192x1, .f32⟩
  | 106 => ⟨S1x8, .f32⟩
  | 107 => ⟨S8192x8, .f32⟩
  | 108 => ⟨S8192x8, .f32⟩
  | 109 => ⟨S8192x8, .f32⟩
  | 110 => ⟨S8192x8, .f32⟩
  | 111 => ⟨S8192x1x8, .f32⟩
  | 112 => ⟨S8192x8, .f32⟩
  | 113 => ⟨S8192x1x8, .f32⟩
  | 114 => ⟨S4x8192x2x8, .f32⟩
  | 115 => ⟨S4x8192x2x8, .f32⟩
  | 116 => ⟨S1x8192x1x8, .f32⟩
  | 117 => ⟨S4x8192x2x8, .f32⟩
  | 118 => ⟨S4x8192x2x8, .f32⟩
  | 119 => ⟨S1x8192x1x8, .f32⟩
  | 120 => ⟨S4x8192x2x8, .f32⟩
  | 121 => ⟨S4x8192x2x8, .f32⟩
  | 122 => ⟨S4x8192x2x8, .f32⟩
  | 123 => ⟨S1x8192x1x8, .f32⟩
  | 124 => ⟨S4x8192x2x8, .f32⟩
  | 125 => ⟨S4x8192x2x8, .f32⟩
  | 126 => ⟨S1x8192x1x8, .f32⟩
  | 127 => ⟨S4x8192x2x8, .f32⟩
  | _ => ⟨S4x8192x1024, .f32⟩

abbrev hbmTy0_1 (i : Nat) : BufTy := match i % 128 with
  | 0 => ⟨S4x8192x2x8, .f32⟩
  | 1 => ⟨S4x8192x2x8, .f32⟩
  | 2 => ⟨S4x8192x2x48, .f32⟩
  | 3 => ⟨S4x8192x2x64, .f32⟩
  | 4 => ⟨S4x8192x128, .f32⟩
  | 5 => ⟨S4x8192x2x64, .f32⟩
  | 6 => ⟨S8, .f32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S_, .f32⟩
  | 15 => ⟨S8, .f32⟩
  | 16 => ⟨S8, .f32⟩
  | 17 => ⟨S8192x1, .f32⟩
  | 18 => ⟨S1x8, .f32⟩
  | 19 => ⟨S8192x8, .f32⟩
  | 20 => ⟨S8192x8, .f32⟩
  | 21 => ⟨S8192x8, .f32⟩
  | 22 => ⟨S8192x8, .f32⟩
  | 23 => ⟨S8192x1x8, .f32⟩
  | 24 => ⟨S8192x8, .f32⟩
  | 25 => ⟨S8192x1x8, .f32⟩
  | 26 => ⟨S4x8192x2x8, .f32⟩
  | 27 => ⟨S4x8192x2x8, .f32⟩
  | 28 => ⟨S1x8192x1x8, .f32⟩
  | 29 => ⟨S4x8192x2x8, .f32⟩
  | 30 => ⟨S4x8192x2x8, .f32⟩
  | 31 => ⟨S1x8192x1x8, .f32⟩
  | 32 => ⟨S4x8192x2x8, .f32⟩
  | 33 => ⟨S4x8192x2x8, .f32⟩
  | 34 => ⟨S4x8192x2x8, .f32⟩
  | 35 => ⟨S1x8192x1x8, .f32⟩
  | 36 => ⟨S4x8192x2x8, .f32⟩
  | 37 => ⟨S4x8192x2x8, .f32⟩
  | 38 => ⟨S1x8192x1x8, .f32⟩
  | 39 => ⟨S4x8192x2x8, .f32⟩
  | 40 => ⟨S4x8192x2x8, .f32⟩
  | 41 => ⟨S4x8192x2x8, .f32⟩
  | 42 => ⟨S4x8192x2x48, .f32⟩
  | 43 => ⟨S4x8192x2x64, .f32⟩
  | 44 => ⟨S4x8192x128, .f32⟩
  | 45 => ⟨S4x1x8192x128, .f32⟩
  | 46 => ⟨S4x1x8192x128, .f32⟩
  | 47 => ⟨S4x2x8192x128, .f32⟩
  | 48 => ⟨S4x8192x512, .f32⟩
  | 49 => ⟨S4x8192x512, .bf16⟩
  | 50 => ⟨S_, .i32⟩
  | 51 => ⟨S_, .f32⟩
  | 52 => ⟨S4x8192x128, .f32⟩
  | 53 => ⟨S4x8192x128, .f32⟩
  | 54 => ⟨S4x8192x128, .f32⟩
  | 55 => ⟨S_, .f32⟩
  | 56 => ⟨S4x8192x128, .f32⟩
  | 57 => ⟨S4x8192x128, .f32⟩
  | 58 => ⟨S_, .f32⟩
  | 59 => ⟨S4x8192x128, .f32⟩
  | 60 => ⟨S4x8192x128, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_4 : Ref sig .tc := ⟨.hbm, 53, rfl⟩
abbrev main_v44 : Ref sig .tc := ⟨.hbm, 54, rfl⟩
abbrev main_v45 : Ref sig .tc := ⟨.hbm, 55, rfl⟩
abbrev main_cst_5 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_cst_7 : Ref sig .tc := ⟨.hbm, 96, rfl⟩
abbrev main_v84 : Ref sig .tc := ⟨.hbm, 97, rfl⟩
abbrev main_v85 : Ref sig .tc := ⟨.hbm, 98, rfl⟩
abbrev main_cst_8 : Ref sig .tc := ⟨.hbm, 99, rfl⟩
abbrev main_v86 : Ref sig .tc := ⟨.hbm, 100, rfl⟩
abbrev main_v87 : Ref sig .tc := ⟨.hbm, 101, rfl⟩
abbrev main_cst_9 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_cst_10 : Ref sig .tc := ⟨.hbm, 136, rfl⟩
abbrev main_v121 : Ref sig .tc := ⟨.hbm, 137, rfl⟩
abbrev main_v122 : Ref sig .tc := ⟨.hbm, 138, rfl⟩
abbrev main_cst_11 : Ref sig .tc := ⟨.hbm, 139, rfl⟩
abbrev main_v123 : Ref sig .tc := ⟨.hbm, 140, rfl⟩
abbrev main_v124 : Ref sig .tc := ⟨.hbm, 141, rfl⟩
abbrev main_cst_12 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_c : Ref sig .tc := ⟨.hbm, 178, rfl⟩
abbrev main_call0_v0 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_cst_13 : Ref sig .tc := ⟨.hbm, 183, rfl⟩
abbrev main_v163 : Ref sig .tc := ⟨.hbm, 184, rfl⟩
abbrev main_v164 : Ref sig .tc := ⟨.hbm, 185, rfl⟩
abbrev main_cst_14 : Ref sig .tc := ⟨.hbm, 186, rfl⟩
abbrev main_v165 : Ref sig .tc := ⟨.hbm, 187, rfl⟩
abbrev main_v166 : Ref sig .tc := ⟨.hbm, 188, rfl⟩

abbrev nD : Nat := 1
abbrev τ : Topo := Topo.v7x

variable {F : FTy → Type} [FloatOps F]
-- ==== Ffn1.lean ====
abbrev S4x8192x1024 : Shape := ⟨3, ![4, 8192, 1024]⟩
abbrev S4x9x1024 : Shape := ⟨3, ![4, 9, 1024]⟩
abbrev S1024 : Shape := ⟨1, ![1024]⟩
abbrev S2x2x1024x5632 : Shape := ⟨4, ![2, 2, 1024, 5632]⟩
abbrev S2x2x2816x1024 : Shape := ⟨4, ![2, 2, 2816, 1024]⟩
abbrev S1x1024 : Shape := ⟨2, ![1, 1024]⟩
abbrev S1x512x1024 : Shape := ⟨3, ![1, 512, 1024]⟩
abbrev S1x9x1024 : Shape := ⟨3, ![1, 9, 1024]⟩
abbrev S1x1x1024x5632 : Shape := ⟨4, ![1, 1, 1024, 5632]⟩
abbrev S1x1x2816x1024 : Shape := ⟨4, ![1, 1, 2816, 1024]⟩
abbrev S512x1024 : Shape := ⟨2, ![512, 1024]⟩
abbrev S9x1024 : Shape := ⟨2, ![9, 1024]⟩
abbrev S512 : Shape := ⟨1, ![512]⟩
abbrev S512x1 : Shape := ⟨2, ![512, 1]⟩
abbrev S1x1x1024x2816 : Shape := ⟨4, ![1, 1, 1024, 2816]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 11
  | .vmem => 10
  | .smem => 0
  | _ => 0

abbrev bufTy : (tb : Table) → Fin (tcTables nBuf tb) → BufTy
  | .hbm, ⟨0, _⟩ => ⟨S4x8192x1024, .f32⟩
  | .hbm, ⟨1, _⟩ => ⟨S4x9x1024, .f32⟩
  | .hbm, ⟨2, _⟩ => ⟨S1024, .f32⟩
  | .hbm, ⟨3, _⟩ => ⟨S2x2x1024x5632, .f32⟩
  | .hbm, ⟨4, _⟩ => ⟨S2x2x2816x1024, .f32⟩
  | .hbm, ⟨5, _⟩ => ⟨S1024, .f32⟩
  | .hbm, ⟨6, _⟩ => ⟨S2x2x1024x5632, .bf16⟩
  | .hbm, ⟨7, _⟩ => ⟨S2x2x2816x1024, .bf16⟩
  | .hbm, ⟨8, _⟩ => ⟨S1x1024, .f32⟩
  | .hbm, ⟨9, _⟩ => ⟨S1x1024, .f32⟩
  | .hbm, ⟨10, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Ffn1RefIdeal.lean ====
abbrev S4x8192x1024 : Shape := ⟨3, ![4, 8192, 1024]⟩
abbrev S4x9x1024 : Shape := ⟨3, ![4, 9, 1024]⟩
abbrev S1024 : Shape := ⟨1, ![1024]⟩
abbrev S2x2x1024x5632 : Shape := ⟨4, ![2, 2, 1024, 5632]⟩
abbrev S2x2x2816x1024 : Shape := ⟨4, ![2, 2, 2816, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x1024 : Shape := ⟨2, ![4, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S4x8192x5632 : Shape := ⟨3, ![4, 8192, 5632]⟩
abbrev S4x8192x2816 : Shape := ⟨3, ![4, 8192, 2816]⟩

abbrev nBuf : Space → Nat
  | .hbm => 62
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x9x1024, .f32⟩
  | .hbm, ⟨2, _⟩ => ⟨S1024, .f32⟩
  | .hbm, ⟨3, _⟩ => ⟨S2x2x1024x5632, .f32⟩
  | .hbm, ⟨4, _⟩ => ⟨S2x2x2816x1024, .f32⟩
  | .hbm, ⟨5, _⟩ => ⟨S1024, .f32⟩
  | .hbm, ⟨6, _⟩ => ⟨S4x8192x1024, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x1024, .f32⟩
  | .hbm, ⟨18, _⟩ => ⟨S4x8192x1024, .f32⟩
  | .hbm, ⟨19, _⟩ => ⟨S1x1x1024, .f32⟩
  | .hbm, ⟨20, _⟩ => ⟨S4x8192x1024, .f32⟩
  | .hbm, ⟨21, _⟩ => ⟨S4x8192x1024, .f32⟩
  | .hbm, ⟨22, _⟩ => ⟨S4x1x1024, .f32⟩
  | .hbm, ⟨23, _⟩ => ⟨S4x1024, .f32⟩
  | .hbm, ⟨24, _⟩ => ⟨S4x1x1024, .f32⟩
  | .hbm, ⟨25, _⟩ => ⟨S4x1024, .f32⟩
  | .hbm, ⟨26, _⟩ => ⟨S4x1x1024, .f32⟩
  | .hbm, ⟨27, _⟩ => ⟨S_, .f32⟩
  | .hbm, ⟨28, _⟩ => ⟨S4x1x1024, .f32⟩
  | .hbm, ⟨29, _⟩ => ⟨S4x1x1024, .f32⟩
  | .hbm, ⟨30, _⟩ => ⟨S4x8192x1024, .f32⟩
  | .hbm, ⟨31, _⟩ => ⟨S4x8192x1024, .f32⟩
  | .hbm, ⟨32, _⟩ => ⟨S4x1x1024, .f32⟩
  | .hbm, ⟨33, _⟩ => ⟨S4x8192x1024, .f32⟩
  | .hbm, ⟨34, _⟩ => ⟨S4x8192x1024, .f32⟩
  | .hbm, ⟨35, _⟩ => ⟨S4x1x1024, .f32⟩
  | .hbm, ⟨36, _⟩ => ⟨S4x1024, .f32⟩
  | .hbm, ⟨37, _⟩ => ⟨S4x1x1024, .f32⟩
  | .hbm, ⟨38, _⟩ => ⟨S_, .f32⟩
  | .hbm, ⟨39, _⟩ => ⟨S4x1x1024, .f32⟩
  | .hbm, ⟨40, _⟩ => ⟨S4x1x1024, .f32⟩
  | .hbm, ⟨41, _⟩ => ⟨S1x1x1024x5632, .f32⟩
  | .hbm, ⟨42, _⟩ => ⟨S1024x5632, .f32⟩
  | .hbm, ⟨43, _⟩ => ⟨S1x1x2816x1024, .f32⟩
  | .hbm, ⟨44, _⟩ => ⟨S2816x1024, .f32⟩
  | .hbm, ⟨45, _⟩ => ⟨S4x8192x5632, .f32⟩
  | .hbm, ⟨46, _⟩ => ⟨S4x8192x2816, .f32⟩
  | .hbm, ⟨47, _⟩ => ⟨S4x8192x2816, .f32⟩
  | .hbm, ⟨48, _⟩ => ⟨S4x8192x2816, .f32⟩
  | .hbm, ⟨49, _⟩ => ⟨S4x8192x2816, .f32⟩
  | .hbm, ⟨50, _⟩ => ⟨S_, .f32⟩
  | .hbm, ⟨51, _⟩ => ⟨S4x8192x2816, .f32⟩
  | .hbm, ⟨52, _⟩ => ⟨S4x8192x2816, .f32⟩
  | .hbm, ⟨53, _⟩ => ⟨S_, .f32⟩
  | .hbm, ⟨54, _⟩ => ⟨S4x8192x2816, .f32⟩
  | .hbm, ⟨55, _⟩ => ⟨S4x8192x2816, .f32⟩
  | .hbm, ⟨56, _⟩ => ⟨S4x8192x2816, .f32⟩
  | .hbm, ⟨57, _⟩ => ⟨S4x8192x2816, .f32⟩
  | .hbm, ⟨58, _⟩ => ⟨S4x8192x1024, .f32⟩
  | .hbm, ⟨59, _⟩ => ⟨S4x8192x1024, .f32⟩
  | .hbm, ⟨60, _⟩ => ⟨S4x8192x1024, .f32⟩
  | .hbm, ⟨61, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]
-- ==== Proof.LruIRun.lean ====
/- The body of the recurrence kernel run at a grid point that is not the first of its row. -/
module

public import proofs.«01_k».proof.Proof.Gen.LruIdeal.Frame.RunA

@[expose] public section

set_option maxRecDepth 16384

noncomputable section

namespace Cert.Own.LruIdealRun

open Cert.LruIdeal Cert.LruIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each output's staging memref, as pieces (last first) IN CASE B. -/
noncomputable def kernelRun0_B (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1x1024 .f32) (harg4 : arg4.IsWhole) (arg5 : Memref sig .tc .vmem S1024x2560 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S4x512 .f32) (harg9 : arg9.IsWhole) (arg10 : Memref sig .tc .vmem S1x512 .f32) (harg10 : arg10.IsWhole) (arg11 : Memref sig .tc .vmem S512x512 .bf16) (harg11 : arg11.IsWhole) (arg12 : Memref sig .tc .vmem S1x512 .f32) (harg12 : arg12.IsWhole) (arg13 : Memref sig .tc .vmem S512x512 .bf16) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512x512 .bf16) (harg16 : arg16.IsWhole) (arg17 : Memref sig .tc .vmem S1x512x512 .bf16) (harg17 : arg17.IsWhole) (arg18 : Memref sig .tc .vmem S1x512x512 .bf16) (harg18 : arg18.IsWhole) (arg19 : Memref sig .tc .vmem S1x512x512 .bf16) (harg19 : arg19.IsWhole) (arg20 : Memref sig .tc .vmem S1x2x1x512 .f32) (harg20 : arg20.IsWhole) (arg21 : Memref sig .tc .vmem S264x512 .f32) (harg21 : arg21.IsWhole) (arg22 : Memref sig .tc .vmem S8x512 .f32) (harg22 : arg22.IsWhole) (hc0 : ¬cond0_0 i)
    (x0 : Vec F S1x512x1024 .f32) (x1 : Vec F S1x9x1024 .f32) (x2 : Vec F S1x1024 .f32) (x3 : Vec F S1024x2560 .bf16) (x4 : Vec F S512x128 .f32) (x5 : Vec F S512x128 .f32) (x6 : Vec F S512x128 .f32) (x7 : Vec F S4x512 .f32) (x8 : Vec F S1x512 .f32) (x9 : Vec F S512x512 .bf16) (x10 : Vec F S1x512 .f32) (x11 : Vec F S512x512 .bf16) (x12 : Vec F S1x512 .f32) (x13 : Vec F S1x512 .f32) (xs0 : Vec F S264x512 .f32) (xs1 : Vec F S8x512 .f32) :
    Σ' (L14 : List (View.Piece (Elt F) S1x512x512 .bf16)), Σ' (L15 : List (View.Piece (Elt F) S1x512x512 .bf16)), Σ' (L16 : List (View.Piece (Elt F) S1x512x512 .bf16)), Σ' (L17 : List (View.Piece (Elt F) S1x512x512 .bf16)), Σ' (L18 : List (View.Piece (Elt F) S1x2x1x512 .f32)), Σ' (LS0 : List (View.Piece (Elt F) S264x512 .f32)), { LS1 : List (View.Piece (Elt F) S8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare xs0 ∗ owns (c : Thread nD τ) arg22 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f LS0) ∗ (arg22.view.loc (c : Thread nD τ) ↦[arg22.view.set]{fullShare} arg22.view.writes (Elt F) (harg22.unread xs1) LS1)) -∗ K ⟨⟩))
          ⊢ wp frame (wpE (defs₀ (F := F)) Variants.none c none) E (cc0_inproj0_lru i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, fun E K => ?run⟩
  case run =>
    simp only [cc0_inproj0_lru_eq_skeleton]; unfold cc0_inproj0_lru_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg21.eq_unread hfs0; obtain rfl := harg22.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    isplitl [HS0]; · iexists _; iexact HS0
    iexact HS1

end Cert.Own.LruIdealRun

end
-- ==== Proof.LruIOuts.lean ====
/- What the recurrence kernel leaves in its outputs and its carried scratch, point by point. -/
module

public import proofs.«01_k».proof.Proof.LruIRun
public import Idealize.ShloMosaic.Lib.Claim

@[expose] public section

set_option maxRecDepth 16384

noncomputable section

namespace Cert.Own.LruIdealRun

open Cert.LruIdeal Cert.LruIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section caseA
variable (c : Dev nD) (i : grid0.Coords) (arg2 : Memref sig .tc .vmem S1x512x1024 .f32) (harg2 : arg2.IsWhole)
    (arg3 : Memref sig .tc .vmem S1x9x1024 .f32) (harg3 : arg3.IsWhole) (arg4 : Memref sig .tc .vmem S1x1024 .f32)
    (harg4 : arg4.IsWhole) (arg5 : Memref sig .tc .vmem S1024x2560 .bf16) (harg5 : arg5.IsWhole)
    (arg6 : Memref sig .tc .vmem S512x128 .f32) (harg6 : arg6.IsWhole) (arg7 : Memref sig .tc .vmem S512x128 .f32)
    (harg7 : arg7.IsWhole) (arg8 : Memref sig .tc .vmem S512x128 .f32) (harg8 : arg8.IsWhole)
    (arg9 : Memref sig .tc .vmem S4x512 .f32) (harg9 : arg9.IsWhole) (arg10 : Memref sig .tc .vmem S1x512 .f32)
    (harg10 : arg10.IsWhole) (arg11 : Memref sig .tc .vmem S512x512 .bf16) (harg11 : arg11.IsWhole)
    (arg12 : Memref sig .tc .vmem S1x512 .f32) (harg12 : arg12.IsWhole) (arg13 : Memref sig .tc .vmem S512x512 .bf16)
    (harg13 : arg13.IsWhole) (arg14 : Memref sig .tc .vmem S1x512 .f32) (harg14 : arg14.IsWhole)
    (arg15 : Memref sig .tc .vmem S1x512 .f32) (harg15 : arg15.IsWhole) (arg16 : Memref sig .tc .vmem S1x512x512 .bf16)
    (harg16 : arg16.IsWhole) (arg17 : Memref sig .tc .vmem S1x512x512 .bf16) (harg17 : arg17.IsWhole)
    (arg18 : Memref sig .tc .vmem S1x512x512 .bf16) (harg18 : arg18.IsWhole) (arg19 : Memref sig .tc .vmem S1x512x512 .bf16)
    (harg19 : arg19.IsWhole) (arg20 : Memref sig .tc .vmem S1x2x1x512 .f32) (harg20 : arg20.IsWhole)
    (arg21 : Memref sig .tc .vmem S264x512 .f32) (harg21 : arg21.IsWhole) (arg22 : Memref sig .tc .vmem S8x512 .f32)
    (harg22 : arg22.IsWhole) (hc0 : cond0_0 i) (x0 : Vec F S1x512x1024 .f32) (x1 : Vec F S1x9x1024 .f32) (x2 : Vec F S1x1024 .f32)
    (x3 : Vec F S1024x2560 .bf16) (x4 : Vec F S512x128 .f32) (x5 : Vec F S512x128 .f32) (x6 : Vec F S512x128 .f32)
    (x7 : Vec F S4x512 .f32) (x8 : Vec F S1x512 .f32) (x9 : Vec F S512x512 .bf16) (x10 : Vec F S1x512 .f32)
    (x11 : Vec F S512x512 .bf16) (x12 : Vec F S1x512 .f32) (x13 : Vec F S1x512 .f32)

/-- Case A's pieces for output 14 tile its block. -/
theorem cover0_A_14 (y : S1x512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13).1 S1x256x512.size (by sl_kernel_rfl) y

/-- What case A leaves in output 14's staging buffer. -/
def out0_A_14 : Vec F S1x512x512 .bf16 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13).1)

/-- Case A's pieces for output 15 tile its block. -/
theorem cover0_A_15 (y : S1x512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13).2.1 S1x512x512.size (by sl_kernel_rfl) y

/-- What case A leaves in output 15's staging buffer. -/
def out0_A_15 : Vec F S1x512x512 .bf16 :=
  VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13).2.1)

/-- Case A's pieces for output 16 tile its block. -/
theorem cover0_A_16 (y : S1x512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13).2.2.1 S1x512x512.size (by sl_kernel_rfl) y

/-- What case A leaves in output 16's staging buffer. -/
def out0_A_16 : Vec F S1x512x512 .bf16 :=
  VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13).2.2.1)

/-- Case A's pieces for output 17 tile its block. -/
theorem cover0_A_17 (y : S1x512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13).2.2.2.1 S1x512x512.size (by sl_kernel_rfl) y

/-- What case A leaves in output 17's staging buffer. -/
def out0_A_17 : Vec F S1x512x512 .bf16 :=
  VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13).2.2.2.1)

/-- Case A's pieces for output 18 tile its block. -/
theorem cover0_A_18 (y : S1x2x1x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13).2.2.2.2.1 S1x1x1x512.size (by sl_kernel_rfl) y

/-- What case A leaves in output 18's staging buffer. -/
def out0_A_18 : Vec F S1x2x1x512 .f32 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13).2.2.2.2.1)

/-- Case A's pieces for scratch `arg21`, which the kernel carries between points, cover it. -/
theorem scover0_A_0 (y : S264x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13).2.2.2.2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13).2.2.2.2.2.1 ![8, 512] (by sl_kernel_rfl) y

/-- What case A leaves in scratch `arg21`. -/
def sout0_A_0 : Vec F S264x512 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13).2.2.2.2.2.1)

/-- Case A's pieces for scratch `arg22`, which the kernel carries between points, cover it. -/
theorem scover0_A_1 (y : S8x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13).2.2.2.2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13).2.2.2.2.2.2.1 (by sl_whole_mem) y

/-- What case A leaves in scratch `arg22`. -/
def sout0_A_1 : Vec F S8x512 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13).2.2.2.2.2.2.1)

end caseA

section caseB
variable (c : Dev nD) (i : grid0.Coords) (arg2 : Memref sig .tc .vmem S1x512x1024 .f32) (harg2 : arg2.IsWhole)
    (arg3 : Memref sig .tc .vmem S1x9x1024 .f32) (harg3 : arg3.IsWhole) (arg4 : Memref sig .tc .vmem S1x1024 .f32)
    (harg4 : arg4.IsWhole) (arg5 : Memref sig .tc .vmem S1024x2560 .bf16) (harg5 : arg5.IsWhole)
    (arg6 : Memref sig .tc .vmem S512x128 .f32) (harg6 : arg6.IsWhole) (arg7 : Memref sig .tc .vmem S512x128 .f32)
    (harg7 : arg7.IsWhole) (arg8 : Memref sig .tc .vmem S512x128 .f32) (harg8 : arg8.IsWhole)
    (arg9 : Memref sig .tc .vmem S4x512 .f32) (harg9 : arg9.IsWhole) (arg10 : Memref sig .tc .vmem S1x512 .f32)
    (harg10 : arg10.IsWhole) (arg11 : Memref sig .tc .vmem S512x512 .bf16) (harg11 : arg11.IsWhole)
    (arg12 : Memref sig .tc .vmem S1x512 .f32) (harg12 : arg12.IsWhole) (arg13 : Memref sig .tc .vmem S512x512 .bf16)
    (harg13 : arg13.IsWhole) (arg14 : Memref sig .tc .vmem S1x512 .f32) (harg14 : arg14.IsWhole)
    (arg15 : Memref sig .tc .vmem S1x512 .f32) (harg15 : arg15.IsWhole) (arg16 : Memref sig .tc .vmem S1x512x512 .bf16)
    (harg16 : arg16.IsWhole) (arg17 : Memref sig .tc .vmem S1x512x512 .bf16) (harg17 : arg17.IsWhole)
    (arg18 : Memref sig .tc .vmem S1x512x512 .bf16) (harg18 : arg18.IsWhole) (arg19 : Memref sig .tc .vmem S1x512x512 .bf16)
    (harg19 : arg19.IsWhole) (arg20 : Memref sig .tc .vmem S1x2x1x512 .f32) (harg20 : arg20.IsWhole)
    (arg21 : Memref sig .tc .vmem S264x512 .f32) (harg21 : arg21.IsWhole) (arg22 : Memref sig .tc .vmem S8x512 .f32)
    (harg22 : arg22.IsWhole) (hc0 : ¬cond0_0 i) (x0 : Vec F S1x512x1024 .f32) (x1 : Vec F S1x9x1024 .f32) (x2 : Vec F S1x1024 .f32)
    (x3 : Vec F S1024x2560 .bf16) (x4 : Vec F S512x128 .f32) (x5 : Vec F S512x128 .f32) (x6 : Vec F S512x128 .f32)
    (x7 : Vec F S4x512 .f32) (x8 : Vec F S1x512 .f32) (x9 : Vec F S512x512 .bf16) (x10 : Vec F S1x512 .f32)
    (x11 : Vec F S512x512 .bf16) (x12 : Vec F S1x512 .f32) (x13 : Vec F S1x512 .f32) (xs0 : Vec F S264x512 .f32)
    (xs1 : Vec F S8x512 .f32)

/-- Case B's pieces for output 14 tile its block. -/
theorem cover0_B_14 (y : S1x512x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1).1 S1x256x512.size (by sl_kernel_rfl) y

/-- What case B leaves in output 14's staging buffer. -/
def out0_B_14 : Vec F S1x512x512 .bf16 :=
  VO0_14.read (Elt F) (VO0_14.writes (Elt F) VO0_14.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1).1)

/-- Case B's pieces for output 15 tile its block. -/
theorem cover0_B_15 (y : S1x512x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1).2.1 S1x512x512.size (by sl_kernel_rfl) y

/-- What case B leaves in output 15's staging buffer. -/
def out0_B_15 : Vec F S1x512x512 .bf16 :=
  VO0_15.read (Elt F) (VO0_15.writes (Elt F) VO0_15.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1).2.1)

/-- Case B's pieces for output 16 tile its block. -/
theorem cover0_B_16 (y : S1x512x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1).2.2.1 S1x512x512.size (by sl_kernel_rfl) y

/-- What case B leaves in output 16's staging buffer. -/
def out0_B_16 : Vec F S1x512x512 .bf16 :=
  VO0_16.read (Elt F) (VO0_16.writes (Elt F) VO0_16.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1).2.2.1)

/-- Case B's pieces for output 17 tile its block. -/
theorem cover0_B_17 (y : S1x512x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1).2.2.2.1 S1x512x512.size (by sl_kernel_rfl) y

/-- What case B leaves in output 17's staging buffer. -/
def out0_B_17 : Vec F S1x512x512 .bf16 :=
  VO0_17.read (Elt F) (VO0_17.writes (Elt F) VO0_17.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1).2.2.2.1)

/-- Case B's pieces for output 18 tile its block. -/
theorem cover0_B_18 (y : S1x2x1x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1).2.2.2.2.1 S1x1x1x512.size (by sl_kernel_rfl) y

/-- What case B leaves in output 18's staging buffer. -/
def out0_B_18 : Vec F S1x2x1x512 .f32 :=
  VO0_18.read (Elt F) (VO0_18.writes (Elt F) VO0_18.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1).2.2.2.2.1)

/-- Case B's pieces for scratch `arg21`, which the kernel carries between points, cover it. -/
theorem scover0_B_0 (y : S264x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1).2.2.2.2.2.1, y ∈ pc.1.set :=
  View.cover_of_tiledBy (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1).2.2.2.2.2.1 ![8, 512] (by sl_kernel_rfl) y

/-- What case B leaves in scratch `arg21`. -/
def sout0_B_0 : Vec F S264x512 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1).2.2.2.2.2.1)

/-- What case B leaves in scratch `arg22`. -/
def sout0_B_1 : Vec F S8x512 .f32 :=
  arg22.view.read (Elt F) (arg22.view.writes (Elt F) (harg22.unread xs1) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1).2.2.2.2.2.2.1)

end caseB

/-! ## What the outputs hold after each point -/

/-- THE ACCUMULATION. What the outputs' staging buffers and the scratch the kernel carries between points hold after the body at position `n`. -/
def outsAt0 (c : Dev nD) : (n : ℕ) → n < cfg0.N → Vec F S1x512x512 .bf16 × Vec F S1x512x512 .bf16 × Vec F S1x512x512 .bf16 × Vec F S1x512x512 .bf16 × Vec F S1x2x1x512 .f32 × Vec F S264x512 .f32 × Vec F S8x512 .f32
  | 0, hn => (out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩), out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩), out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩), out0_A_17 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩), out0_A_18 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩))
  | n + 1, hn =>
    if h0 : (n + 1) % 16 = 0 then
      (out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩), out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩), out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩), out0_A_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩), out0_A_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩))
    else
      (out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2.2.2.2.1 (outsAt0 c n (Nat.lt_of_succ_lt hn)).2.2.2.2.2.2, out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2.2.2.2.1 (outsAt0 c n (Nat.lt_of_succ_lt hn)).2.2.2.2.2.2, out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2.2.2.2.1 (outsAt0 c n (Nat.lt_of_succ_lt hn)).2.2.2.2.2.2, out0_B_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2.2.2.2.1 (outsAt0 c n (Nat.lt_of_succ_lt hn)).2.2.2.2.2.2, out0_B_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2.2.2.2.1 (outsAt0 c n (Nat.lt_of_succ_lt hn)).2.2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2.2.2.2.1 (outsAt0 c n (Nat.lt_of_succ_lt hn)).2.2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2.2.2.2.1 (outsAt0 c n (Nat.lt_of_succ_lt hn)).2.2.2.2.2.2)

/-- `outsAt0` at a point of case A: that case's contents. -/
theorem outsAt0_A (c : Dev nD) (t : Fin cfg0.N) (h0 : t.val % 16 = 0) :
    outsAt0 m c t.val t.isLt = (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 16 = 0) :
    outsAt0 m c t.val t.isLt = (out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans rfl

end Cert.Own.LruIdealRun

end
-- ==== Proof.LruIFrame.lean ====
/- The recurrence kernel's body at every grid point, its run, and its frame. -/
module

public import proofs.«01_k».proof.Proof.LruIOuts

@[expose] public section

set_option maxRecDepth 16384

noncomputable section

namespace Cert.Own.LruIdealRun

open Cert.LruIdeal Cert.LruIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region invariant before position `n` with a scratch the kernel CARRIES between points. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.1) ∗ owns (c : Thread nD τ) scM0_1 fullShare ((outsAt0 m c n hn).2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`). -/
theorem PhiS_succ (c : Dev nD) (n : ℕ) (hn : n < cfg0.N) :
    PhiS m c (n + 1) hn = iprop(iprop(owns (c : Thread nD τ) scM0_0 fullShare ((outsAt0 m c n hn).2.2.2.2.2.1) ∗ owns (c : Thread nD τ) scM0_1 fullShare ((outsAt0 m c n hn).2.2.2.2.2.2)) ∗ (∃ r, prngReg c r)) := rfl

/-- Before a point that is not the first. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.1) ∗ owns (c : Thread nD τ) scM0_1 fullShare ((outsAt0 m c (n - 1) (by omega)).2.2.2.2.2.2)) ∗ (∃ r, prngReg c r)) := by
  cases n with
  | zero => exact absurd rfl hz
  | succ n => rfl

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt0 m c t.val t.isLt).1
    | ⟨15, _⟩ => (outsAt0 m c t.val t.isLt).2.1
    | ⟨16, _⟩ => (outsAt0 m c t.val t.isLt).2.2.1
    | ⟨17, _⟩ => (outsAt0 m c t.val t.isLt).2.2.2.1
    | ⟨18, _⟩ => (outsAt0 m c t.val t.isLt).2.2.2.2.1
    | ⟨_ + 19, h⟩ => absurd h (Nat.not_lt.2 (Nat.le_add_left _ _))
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = (outsAt0 m c t.val t.isLt).1 := by dsimp only [dats]
theorem after0_15 (c : Dev nD) (t : Fin cfg0.N) : (dats m 0 c).after 15 t = (outsAt0 m c t.val t.isLt).2.1 := by dsimp only [dats]
theorem after0_16 (c : Dev nD) (t : Fin cfg0.N) : (dats m 0 c).after 16 t = (outsAt0 m c t.val t.isLt).2.2.1 := by dsimp only [dats]
theorem after0_17 (c : Dev nD) (t : Fin cfg0.N) : (dats m 0 c).after 17 t = (outsAt0 m c t.val t.isLt).2.2.2.1 := by dsimp only [dats]
theorem after0_18 (c : Dev nD) (t : Fin cfg0.N) : (dats m 0 c).after 18 t = (outsAt0 m c t.val t.isLt).2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t` (Lib/Pipeline.lean `BodyObligation`'s precondition, the windows one by one),. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t))

set_option maxHeartbeats 16000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  rw [show (dats m 0 c).Φ t.succ = PhiS m c (t.val + 1) t.isLt from rfl, PhiS_succ]
  have hN : t.val < 64 := lt_of_lt_of_eq t.isLt (show cfg0.N = 64 from N_0)
  by_cases h0 : t.val % 16 = 0
  · by_cases hz : t.val = 0
    · rw [PhiS_castSucc m c t, PhiS_zero m c _ _ hz, PhiA0_eq]
      rw [outsAt0_A m c t h0]
      unfold out0_A_14 out0_A_15 out0_A_16 out0_A_17 out0_A_18 sout0_A_0 sout0_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun0_A c (grid0.coords t) _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [HS0]; · iexact HS0
      isplitl [HS1]; · iexact HS1
      iintro ⟨H0, H1, H2, H3, H4, H5, H6, H7, H8, H9, H10, H11, H12, H13, ⟨%e14, H14⟩, ⟨%e15, H15⟩, ⟨%e16, H16⟩, ⟨%e17, H17⟩, ⟨%e18, H18⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H18
      ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _)
    · rw [PhiS_castSucc m c t, PhiS_pos m c _ _ hz]
      rw [outsAt0_A m c t h0]
      unfold out0_A_14 out0_A_15 out0_A_16 out0_A_17 out0_A_18 sout0_A_0 sout0_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun0_A c (grid0.coords t) _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [HS0]; · iexists _; iexact HS0
      isplitl [HS1]; · iexists _; iexact HS1
      iintro ⟨H0, H1, H2, H3, H4, H5, H6, H7, H8, H9, H10, H11, H12, H13, ⟨%e14, H14⟩, ⟨%e15, H15⟩, ⟨%e16, H16⟩, ⟨%e17, H17⟩, ⟨%e18, H18⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H18
      ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _)
  · by_cases hz : t.val = 0
    · exfalso; have hN : t.val < 64 := lt_of_lt_of_eq t.isLt (show cfg0.N = 64 from N_0); omega
    · rw [PhiS_castSucc m c t, PhiS_pos m c _ _ hz]
      rw [outsAt0_B m c t h0]
      unfold out0_B_14 out0_B_15 out0_B_16 out0_B_17 out0_B_18 sout0_B_0 sout0_B_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun0_B c (grid0.coords t) _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [HS0]; · iexact HS0
      isplitl [HS1]; · iexact HS1
      iintro ⟨H0, H1, H2, H3, H4, H5, H6, H7, H8, H9, H10, H11, H12, H13, ⟨%e14, H14⟩, ⟨%e15, H15⟩, ⟨%e16, H16⟩, ⟨%e17, H17⟩, ⟨%e18, H18⟩, ⟨%es0, HS0⟩, HS1⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H18
      ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- THE FRAME: `Cert.quiescent_LruIdeal`'s statement (Defs.lean) at any `F` — Proof.lean cites it at `Bits`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Own.LruIdealRun

end
-- ==== Proof.LruIBlocks.lean ====
/- The recurrence kernel's run with each result array named. -/
module

public import proofs.«01_k».proof.Proof.LruIFrame
public import Idealize.ShloMosaic.Lib.Pipeline.Value

@[expose] public section

set_option maxRecDepth 16384

noncomputable section

namespace Cert.Own.LruIdealRun

open Cert.LruIdeal Cert.LruIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v66_0) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v66_1) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v66_2) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v66_3) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v66_4) = (dats m 0 c).arrAt 18 cfg0.N :=
  (h c).1 18

/-- After the frame run, argument `main_arg0` is as launched. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 7).trans (((dats m 0 c).arrAt_in 7 rfl _).trans ((A_eq m c 7).trans (V_main_arg4 m c)))

/-- After the frame run, argument `main_arg5` is as launched. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- The frame run with each output array after the run NAMED — `(dats m 0 c).arrAt w N`, which `blocks_w` / `entry_w` read —, the arguments unchanged. -/
theorem run_blocks : θ_run defs (onTc (τ := τ) (main (F := F))) ⟨m, fun _ => 0, ρ⟩ fun r => ∀ c : Dev nD,
      r.2.mem ((c : Thread nD τ).loc main_v66_0) = (dats m 0 c).arrAt 14 cfg0.N
      ∧ r.2.mem ((c : Thread nD τ).loc main_v66_1) = (dats m 0 c).arrAt 15 cfg0.N
      ∧ r.2.mem ((c : Thread nD τ).loc main_v66_2) = (dats m 0 c).arrAt 16 cfg0.N
      ∧ r.2.mem ((c : Thread nD τ).loc main_v66_3) = (dats m 0 c).arrAt 17 cfg0.N
      ∧ r.2.mem ((c : Thread nD τ).loc main_v66_4) = (dats m 0 c).arrAt 18 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨post14 m r h c,
      post15 m r h c,
      post16 m r h c,
      post17 m r h c,
      post18 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c⟩)
    (run_main m ρ)

end Cert.Own.LruIdealRun

end
-- ==== Proof.Rows.lean ====
/- THE FEED-FORWARD BLOCK'S ARITHMETIC, ONE ROW AT A TIME. A row of activations is a function on its 1024 features; these are
   the root-mean-square norm, its modulation by a shift and a scale, the gated feed-forward map, and the residual update,
   as extended-real expressions. Both programs are shown to compute these. -/
module

public import Idealize.ShloMosaic.Lib.Pipeline.ValueKit
public import Idealize.ShloMosaic.Lib.Pointwise.Tactic

@[expose] public section

noncomputable section

namespace Cert.Own

open Idealize.ShloMosaic

/-- The float words of 1024, of the norm's epsilon and of one half, read as extended reals. -/
abbrev c1024 : EReal := Ideal.ofBits FTy.f32 0x44800000#32
abbrev cEps : EReal := Ideal.ofBits FTy.f32 0x358637BD#32
abbrev cHalf : EReal := Ideal.ofBits FTy.f32 0x3F000000#32

/-- The reciprocal root of the row's mean square plus epsilon. -/
def rowScale (x : Fin 1024 → EReal) : EReal := Ideal.rsqrt (Ideal.div (∑ k, x k * x k) c1024 + cEps)

/-- The row normalised, then multiplied by the gain `g`. -/
def rowNorm (x g : Fin 1024 → EReal) (k : Fin 1024) : EReal := x k * rowScale x * g k

/-- The normalised row, scaled by `1 + sc` and shifted by `sh`. -/
def rowMod (x g sh sc : Fin 1024 → EReal) (k : Fin 1024) : EReal := rowNorm x g k * (1 + sc k) + sh k

/-- The gated feed-forward map of a row `h`: the first 2816 columns of `w1` are the gate, the other 2816 the value. -/
def rowFfn (h : Fin 1024 → EReal) (w1 : Fin 1024 → Fin 5632 → EReal) (w2 : Fin 2816 → Fin 1024 → EReal) (d : Fin 1024) : EReal :=
  ∑ f : Fin 2816, (∑ k, h k * w1 k ⟨f.val, by omega⟩) * Ideal.logistic (∑ k, h k * w1 k ⟨f.val, by omega⟩)
    * (∑ k, h k * w1 k ⟨2816 + f.val, by omega⟩) * w2 f d

/-- The residual update by a feed-forward block: half the gate `gm` times the map of the modulated row, added to the row. -/
def rowBlock (x g sh sc gm : Fin 1024 → EReal) (w1 : Fin 1024 → Fin 5632 → EReal) (w2 : Fin 2816 → Fin 1024 → EReal)
    (d : Fin 1024) : EReal :=
  x d + cHalf * gm d * rowFfn (rowMod x g sh sc) w1 w2 d

/-- The residual update by two heads' halves `y1`, `y2` under the two halves `w1`, `w2` of the output matrix, gated by `gm`. -/
def rowMixed (x gm : Fin 1024 → EReal) (y1 y2 : Fin 512 → EReal) (w1 w2 : Fin 512 → Fin 1024 → EReal) (d : Fin 1024) : EReal :=
  x d + gm d * (∑ k, y1 k * w1 k d + ∑ k, y2 k * w2 k d)

/-- The residual update by one row `y` under the output matrix `w`, gated by `gm`. -/
def rowProj (x gm y : Fin 1024 → EReal) (w : Fin 1024 → Fin 1024 → EReal) (d : Fin 1024) : EReal :=
  x d + gm d * ∑ k, y k * w k d

end Cert.Own
end
-- ==== Proof.LruMath.lean ====
/- The real-number facts behind the recurrence kernel: its sigmoid, its gain and its doubling scan. -/
module

public import Idealize.ShloMosaic.Lib.Pipeline.ValueKit

@[expose] public section

noncomputable section

namespace Cert.Own.LruMath

open Idealize.ShloMosaic

/-- The exponential of `-∞`, of `+∞` and of a real number. -/
theorem exp_bot : Ideal.exp ⊥ = 0 := rfl
theorem exp_top : Ideal.exp ⊤ = ⊤ := rfl
theorem exp_coe (r : ℝ) : Ideal.exp (r : EReal) = (Real.exp r : EReal) := rfl
theorem one_add_top : (1 : EReal) + ⊤ = ⊤ := EReal.coe_add_top 1
theorem tanh_bot : Ideal.tanh ⊥ = -1 := rfl
theorem tanh_top : Ideal.tanh ⊤ = 1 := rfl
theorem tanh_coe (r : ℝ) : Ideal.tanh (r : EReal) = (Real.tanh r : EReal) := rfl

theorem real_sigmoid (x : ℝ) : 1 / 2 * Real.tanh (1 / 2 * x) + 1 / 2 = (1 + Real.exp (-x))⁻¹ := by
  have h1 : Real.exp (-x) = Real.exp (-(1 / 2 * x)) * Real.exp (-(1 / 2 * x)) := by
    rw [← Real.exp_add]; congr 1; ring
  have h2 : Real.exp (1 / 2 * x) * Real.exp (-(1 / 2 * x)) = 1 := by
    rw [← Real.exp_add]; simp
  have p1 := Real.exp_pos (1 / 2 * x)
  have p2 := Real.exp_pos (-(1 / 2 * x))
  rw [Real.tanh_eq_sinh_div_cosh, Real.sinh_eq, Real.cosh_eq, h1]
  generalize Real.exp (1 / 2 * x) = p at *
  generalize Real.exp (-(1 / 2 * x)) = q at *
  have : 0 < p + q := by positivity
  have : 0 < 1 + q * q := by positivity
  field_simp
  nlinarith [h2]

/-- The sigmoid written with the hyperbolic tangent of half the argument is the sigmoid. -/
theorem sigmoid_eq (z : EReal) :
    ((1 / 2 : ℝ) : EReal) * Ideal.tanh (((1 / 2 : ℝ) : EReal) * z) + ((1 / 2 : ℝ) : EReal) = Ideal.logistic z := by
  induction z with
  | bot =>
    rw [EReal.coe_mul_bot_of_pos (by norm_num), tanh_bot]
    show _ = Ideal.div 1 (1 + Ideal.exp (- ⊥))
    rw [EReal.neg_bot, exp_top, one_add_top, Ideal.div, if_neg (by simp)]
    simp [EReal.inv_top]
    norm_cast; norm_num
  | top =>
    rw [EReal.coe_mul_top_of_pos (by norm_num), tanh_top]
    show _ = Ideal.div 1 (1 + Ideal.exp (- ⊤))
    rw [EReal.neg_top, exp_bot, Ideal.div, if_neg (by simp)]
    norm_cast; norm_num
  | coe x =>
    rw [← EReal.coe_mul, tanh_coe, ← EReal.coe_mul, ← EReal.coe_add, real_sigmoid]
    show _ = Ideal.div 1 (1 + Ideal.exp (-(x : EReal)))
    rw [← EReal.coe_neg, exp_coe, Ideal.div]
    have hp : (1 + Real.exp (-x)) ≠ 0 := by positivity
    have e : (1 : EReal) + (Real.exp (-x) : EReal) = ((1 + Real.exp (-x) : ℝ) : EReal) := by norm_cast
    rw [e, if_neg (by exact_mod_cast hp), one_mul, EReal.coe_inv]

/-- The sigmoid lies between 0 and 1. -/
theorem logistic_range (z : EReal) : ∃ r : ℝ, 0 ≤ r ∧ r ≤ 1 ∧ Ideal.logistic z = (r : EReal) := by
  induction z with
  | bot =>
    refine ⟨0, le_rfl, zero_le_one, ?_⟩
    show Ideal.div 1 (1 + Ideal.exp (- ⊥)) = _
    rw [EReal.neg_bot, exp_top, one_add_top, Ideal.div, if_neg (by simp)]
    simp [EReal.inv_top]
  | top =>
    refine ⟨1, zero_le_one, le_rfl, ?_⟩
    show Ideal.div 1 (1 + Ideal.exp (- ⊤)) = _
    rw [EReal.neg_top, exp_bot, Ideal.div, if_neg (by simp)]
    simp
  | coe x =>
    have p := Real.exp_pos (-x)
    refine ⟨(1 + Real.exp (-x))⁻¹, by positivity, inv_le_one_of_one_le₀ (by linarith), ?_⟩
    show Ideal.div 1 (1 + Ideal.exp (-(x : EReal))) = _
    rw [← EReal.coe_neg, exp_coe, Ideal.div]
    have hp : (1 + Real.exp (-x)) ≠ 0 := by positivity
    have e : (1 : EReal) + (Real.exp (-x) : EReal) = ((1 + Real.exp (-x) : ℝ) : EReal) := by norm_cast
    rw [e, if_neg (by exact_mod_cast hp), one_mul, EReal.coe_inv]

/-- The logarithm of one plus a nonnegative number is nonnegative. -/
theorem log1p_nonneg (x : EReal) (h : 0 ≤ x) : 0 ≤ Ideal.log1p x := by
  induction x with
  | bot => simp at h
  | top => show 0 ≤ Ideal.log (1 + ⊤); rw [one_add_top]; exact le_top
  | coe x =>
    have hx : 0 ≤ x := by exact_mod_cast h
    show 0 ≤ Ideal.log (1 + (x : EReal))
    have e : (1 : EReal) + (x : EReal) = ((1 + x : ℝ) : EReal) := by norm_cast
    rw [e]
    show (0 : EReal) ≤ if (1 + x) ≤ 0 then ⊥ else (Real.log (1 + x) : EReal)
    rw [if_neg (by linarith)]
    exact_mod_cast Real.log_nonneg (by linarith)

theorem exp_nonneg (x : EReal) : 0 ≤ Ideal.exp x := by
  induction x with
  | bot => exact le_rfl
  | top => exact le_top
  | coe x => rw [exp_coe]; exact_mod_cast (Real.exp_pos x).le

/-- `-8` times a number between 0 and 1, times a nonnegative number, is not positive. -/
theorem log_a_nonpos (r : ℝ) (hr : 0 ≤ r) (y : EReal) (hy : 0 ≤ y) : ((-8 : ℝ) : EReal) * (r : EReal) * y ≤ 0 := by
  rw [← EReal.coe_mul]
  induction y with
  | bot => simp at hy
  | top =>
    rcases hr.eq_or_lt with h | h
    · subst h; simp
    · rw [EReal.coe_mul_top_of_neg (by linarith)]; exact bot_le
  | coe y =>
    have hy' : 0 ≤ y := by exact_mod_cast hy
    rw [← EReal.coe_mul]
    have : -8 * r * y ≤ 0 := by nlinarith [mul_nonneg hr hy']
    exact EReal.coe_nonpos.2 this

/-- The exponential of a nonpositive number lies between 0 and 1. -/
theorem exp_range (x : EReal) (h : x ≤ 0) : ∃ r : ℝ, 0 ≤ r ∧ Ideal.exp x = (r : EReal) := by
  induction x with
  | bot => exact ⟨0, le_rfl, rfl⟩
  | top => simp at h
  | coe x => exact ⟨Real.exp x, (Real.exp_pos x).le, rfl⟩

theorem real_gain (x : ℝ) : -Real.tanh x * (Real.exp x * Real.exp x + 1) = -(Real.exp (2 * x) - 1) := by
  have h1 : Real.exp (2 * x) = Real.exp x * Real.exp x := by
    rw [← Real.exp_add]; congr 1; ring
  have h2 : Real.exp x * Real.exp (-x) = 1 := by rw [← Real.exp_add]; simp
  have p1 := Real.exp_pos x
  have p2 := Real.exp_pos (-x)
  rw [Real.tanh_eq_sinh_div_cosh, Real.sinh_eq, Real.cosh_eq, h1]
  generalize Real.exp x = p at *
  generalize Real.exp (-x) = q at *
  have : 0 < p + q := by positivity
  field_simp
  linear_combination (2 * p) * h2

/-- Minus the hyperbolic tangent of a nonpositive number times (its squared exponential plus one) is one minus the
    exponential of twice the number; both are real and nonnegative. -/
theorem gain_eq (x : EReal) (h : x ≤ 0) : ∃ r : ℝ, 0 ≤ r ∧
    -Ideal.tanh x * (Ideal.exp x * Ideal.exp x + 1) = (r : EReal) ∧ -(Ideal.exp (2 * x) - 1) = (r : EReal) := by
  induction x with
  | bot =>
    refine ⟨1, zero_le_one, ?_, ?_⟩
    · rw [tanh_bot, exp_bot]; simp
    · rw [EReal.mul_bot_of_pos (by norm_num), exp_bot]; simp
  | top => simp at h
  | coe x =>
    have hx : x ≤ 0 := by exact_mod_cast h
    refine ⟨-(Real.exp (2 * x) - 1), ?_, ?_, ?_⟩
    · have : Real.exp (2 * x) ≤ 1 := Real.exp_le_one_iff.2 (by linarith)
      linarith
    · rw [tanh_coe, exp_coe, ← real_gain]; norm_cast
    · have e : (2 : EReal) * (x : EReal) = ((2 * x : ℝ) : EReal) := by norm_cast
      rw [e, exp_coe]; norm_cast

/-- A nonnegative number times its reciprocal root, with 0 at 0, is its root. -/
theorem root_eq (r : ℝ) (hr : 0 ≤ r) :
    (if (0 : EReal) < (r : EReal) then (r : EReal) * Ideal.rsqrt (r : EReal) else 0) = Ideal.sqrt (r : EReal) := by
  have hs : Ideal.sqrt (r : EReal) = (Real.sqrt r : EReal) := by
    show (if r < 0 then ⊥ else (Real.sqrt r : EReal)) = _
    rw [if_neg (by linarith)]
  rw [hs]
  rcases hr.eq_or_lt with h | h
  · subst h; simp
  · rw [if_pos (by exact_mod_cast h)]
    have e : Ideal.rsqrt (r : EReal) = ((Real.sqrt r)⁻¹ : ℝ) := by
      show (if r < 0 then ⊥ else if r = 0 then ⊤ else (((Real.sqrt r)⁻¹ : ℝ) : EReal)) = _
      rw [if_neg (by linarith), if_neg h.ne']
    rw [e, ← EReal.coe_mul]
    congr 1
    rw [← div_eq_mul_inv, Real.div_sqrt]

/-- The state of the recurrence `h ↦ a s * h + b s` before token `s`, from zero. -/
def H (a b : ℕ → EReal) : ℕ → EReal
  | 0 => 0
  | s + 1 => a s * H a b s + b s

/-- What a doubling scan keeps: row `r` holds the affine map that takes the state `k` rows back (or the first state) to
    the state after row `r`, its factor real and nonnegative. -/
def Span (h : ℕ → EReal) (k : ℕ) (A B : ℕ → EReal) : Prop :=
  ∀ r < 256, (∃ x : ℝ, 0 ≤ x ∧ A r = (x : EReal)) ∧ h (r + 1) = A r * h (r + 1 - k) + B r

/-- One doubling. -/
theorem Span.step {h : ℕ → EReal} {k : ℕ} {A B A' B' : ℕ → EReal} (hk : 0 < k) (hs : Span h k A B)
    (hA : ∀ r < 256, A' r = if k ≤ r then A r * A (r - k) else A r)
    (hB : ∀ r < 256, B' r = if k ≤ r then A r * B (r - k) + B r else B r) : Span h (k + k) A' B' := by
  intro r hr
  obtain ⟨⟨x, hx, hAx⟩, e⟩ := hs r hr
  rw [hA r hr, hB r hr]
  by_cases hkr : k ≤ r
  · obtain ⟨⟨y, hy, hAy⟩, e'⟩ := hs (r - k) (by omega)
    rw [if_pos hkr, if_pos hkr]
    refine ⟨⟨x * y, mul_nonneg hx hy, by rw [hAx, hAy, EReal.coe_mul]⟩, ?_⟩
    rw [e, show r + 1 - k = r - k + 1 by omega, e', hAx,
      EReal.left_distrib_of_nonneg_of_ne_top (by exact_mod_cast hx) (EReal.coe_ne_top x), ← mul_assoc, add_assoc,
      show r - k + 1 - k = r + 1 - (k + k) by omega]
  · rw [if_neg hkr, if_neg hkr]
    refine ⟨⟨x, hx, hAx⟩, ?_⟩
    rw [e, show r + 1 - k = 0 by omega, show r + 1 - (k + k) = 0 by omega]

end Cert.Own.LruMath

end
-- ==== Proof.LruScan.lean ====
/- THE RECURRENCE ON 256 ROWS. The body treats its 512 rows as two halves. On each it computes the convolved input, the two gates,
   the decay and the gained input, then runs a doubling scan and adds the state the half starts from. Both halves are the same
   function `half` of their inputs, and at row `r` that function is the state `r + 1` steps on. -/
module

public import proofs.«01_k».proof.Proof.LruMath
public import proofs.«01_k».proof.Proof.Gen.LruIdeal.Skeleton
public import Idealize.ShloMosaic.Lib.Pointwise.Tactic
public import Idealize.ShloMosaic.Lib.KernelVsHost

@[expose] public section

set_option maxRecDepth 16384

noncomputable section

namespace Cert.Own.LruScan

open Cert.LruIdeal Cert.LruIdeal.Gen Idealize.ShloMosaic Idealize.ShloMosaic.TcCoe Cert.Own.LruMath

abbrev V := FVec Ideal S256x512 .f32

/-! ## One channel's gates, decay and gained input -/

/-- The gate before its sigmoid. -/
def pre (c w : Fin 512 → EReal) (b : EReal) : EReal := ∑ k, c k * w k + b

/-- The softplus of minus `l`. -/
def spl (l : EReal) : EReal :=
  max (0 - l) 0 + Ideal.log1p (Ideal.exp (0 - (FloatOps.absf (F := Ideal) (φ := .f32) (0 - l) : EReal)))

/-- The logarithm of the decay, the decay and the gain. -/
def la (z l : EReal) : EReal := Ideal.ofBits FTy.f32 0xC1000000#32 * Ideal.logistic z * spl l
def dcy (z l : EReal) : EReal := Ideal.exp (la z l)
def gain (z l : EReal) : EReal := Ideal.sqrt (-(Ideal.exp (2 * la z l) - 1))

theorem half_word : Ideal.ofBits FTy.f32 0x3F000000#32 = ((1 / 2 : ℝ) : EReal) := by
  simp [Ideal.ofBits, Ideal.ieee, -EReal.coe_mul]; norm_num
theorem neg8_word : Ideal.ofBits FTy.f32 0xC1000000#32 = ((-8 : ℝ) : EReal) := by
  simp [Ideal.ofBits, Ideal.ieee, -EReal.coe_mul]; norm_num
theorem one_word : Ideal.ofBits FTy.f32 0x3F800000#32 = 1 := Ideal.ofBits_one_f32

theorem spl_nonneg (l : EReal) : 0 ≤ spl l := add_nonneg (le_max_right _ _) (log1p_nonneg _ (exp_nonneg _))

theorem la_nonpos (z l : EReal) : la z l ≤ 0 := by
  obtain ⟨r, h0, _, e⟩ := logistic_range z
  unfold la
  rw [neg8_word, e]
  exact log_a_nonpos r h0 _ (spl_nonneg l)

theorem dcy_range (z l : EReal) : ∃ r : ℝ, 0 ≤ r ∧ dcy z l = (r : EReal) := exp_range _ (la_nonpos z l)

theorem gain_form (z l : EReal) (g : EReal) (hg : g = (0 - Ideal.tanh (la z l)) * (dcy z l * dcy z l + 1)) :
    (if 0 < g then g * Ideal.rsqrt g else 0) = gain z l := by
  obtain ⟨r, h0, e1, e2⟩ := gain_eq _ (la_nonpos z l)
  rw [hg, zero_sub]
  unfold gain dcy
  rw [e1, e2, root_eq r h0]

/-- The layer's weights, as functions of their coordinates. -/
structure Wt where
  cw : Fin 4 → Fin 512 → EReal
  cb : Fin 512 → EReal
  wa : Fin 512 → Fin 512 → EReal
  ba : Fin 512 → EReal
  wx : Fin 512 → Fin 512 → EReal
  bx : Fin 512 → EReal
  lam : Fin 512 → EReal

/-- Over a sequence `p` of rows beginning with eight rows of padding: the convolved input of token `s`, and its channels' decay
    and gained input. -/
def cs (W : Wt) (p : ℕ → Fin 512 → EReal) (s : ℕ) (n : Fin 512) : EReal :=
  W.cb n + W.cw 3 n * p (s + 8) n + W.cw 0 n * p (s + 5) n + W.cw 1 n * p (s + 6) n + W.cw 2 n * p (s + 7) n
def al (W : Wt) (p : ℕ → Fin 512 → EReal) (n : Fin 512) (s : ℕ) : EReal :=
  dcy (pre (cs W p s) (fun k => W.wa k n) (W.ba n)) (W.lam n)
def be (W : Wt) (p : ℕ → Fin 512 → EReal) (n : Fin 512) (s : ℕ) : EReal :=
  gain (pre (cs W p s) (fun k => W.wa k n) (W.ba n)) (W.lam n)
    * (Ideal.logistic (pre (cs W p s) (fun k => W.wx k n) (W.bx n)) * cs W p s n)
/-- The channel's state before token `s`. -/
def St (W : Wt) (p : ℕ → Fin 512 → EReal) (n : Fin 512) (s : ℕ) : EReal := H (al W p n) (be W p n) s

/-! ## The doubling scan -/

/-- The rows, their numbers, and the rows moved down cyclically by `k`. -/
def rows : IVec S256x512 32 := iota .tc S256x512 32 [0] iota_S256x512_d0_w32
def ge (k : BitVec 32) : IVec S256x512 1 := cmpi .sge rows (broadcast S256x512 k)
def rot (k : BitVec 32) (a : V) : V := dynamicRotate 0 k none a rotates_S256x512_d0

/-- One doubling of the factors, and of the terms. -/
def stepA (k : BitVec 32) (a : V) : V := select (ge k) (mulf a (rot k a)) a
def stepB (k : BitVec 32) (a b : V) : V := select (ge k) (addf (mulf a (rot k b)) b) b

def a2 (a : V) : V := stepA 1#32 a
def a4 (a : V) : V := stepA 2#32 (a2 a)
def a8 (a : V) : V := stepA 4#32 (a4 a)
def a16 (a : V) : V := stepA 8#32 (a8 a)
def a32 (a : V) : V := stepA 16#32 (a16 a)
def a64 (a : V) : V := stepA 32#32 (a32 a)
def a128 (a : V) : V := stepA 64#32 (a64 a)
def a256 (a : V) : V := stepA 128#32 (a128 a)
def b2 (a b : V) : V := stepB 1#32 a b
def b4 (a b : V) : V := stepB 2#32 (a2 a) (b2 a b)
def b8 (a b : V) : V := stepB 4#32 (a4 a) (b4 a b)
def b16 (a b : V) : V := stepB 8#32 (a8 a) (b8 a b)
def b32 (a b : V) : V := stepB 16#32 (a16 a) (b16 a b)
def b64 (a b : V) : V := stepB 32#32 (a32 a) (b32 a b)
def b128 (a b : V) : V := stepB 64#32 (a64 a) (b64 a b)
def b256 (a b : V) : V := stepB 128#32 (a128 a) (b128 a b)

/-- The scan from a given first state. -/
def scan (a b : V) (hp : FVec Ideal S1x512 .f32) : V :=
  addf (b256 a b) (mulf (a256 a) (broadcastTo S256x512 hp broadcasts_S1x512_S256x512))

/-- Row `r`, column `n` as an index. -/
def at2 (r : ℕ) (n : Fin 512) : S256x512.Idx := ix2 (⟨r % 256, Nat.mod_lt _ (by decide)⟩ : Fin 256) n

theorem rot_at (k : ℕ) (hk : k < 256) (a : V) (r : ℕ) (hr : r < 256) (hkr : k ≤ r) (n : Fin 512) :
    rot (BitVec.ofNat 32 k) a (at2 r n) = a (at2 (r - k) n) := by
  refine dynamicRotate_apply 0 _ a _ _ _ fun b => ?_
  match b with
  | ⟨0, _⟩ =>
    refine Eq.trans ?_ (if_pos (Fin.ext rfl)).symm
    show (r - k) % 256 = (r % 256 + 256 - (k % 2 ^ 32) % 256) % 256
    omega
  | ⟨1, _⟩ => exact (if_neg (fun h => absurd (congrArg Fin.val h) (by decide : ¬(1 = 0)))).symm

theorem ge_at (k : ℕ) (hk : k < 256) (r : ℕ) (hr : r < 256) (n : Fin 512) :
    ge (BitVec.ofNat 32 k) (at2 r n) = if k ≤ r then 1#1 else 0#1 := by
  have e : rows (at2 r n) = BitVec.ofNat 32 (r % 256) := by
    unfold rows; pointwise; rfl
  show IntOp.cmpi .sge (rows (at2 r n)) (BitVec.ofNat 32 k) = _
  rw [e, Nat.mod_eq_of_lt hr]
  show BitVec.ofBool ((BitVec.ofNat 32 k).sle (BitVec.ofNat 32 r)) = _
  have i1 : (BitVec.ofNat 32 k).toInt = (k : ℤ) := by rw [BitVec.toInt_ofNat']; simp [Int.bmod]; omega
  have i2 : (BitVec.ofNat 32 r).toInt = (r : ℤ) := by rw [BitVec.toInt_ofNat']; simp [Int.bmod]; omega
  rw [BitVec.sle_eq_decide, i1, i2]
  by_cases h : k ≤ r
  · rw [if_pos h, decide_eq_true (by exact_mod_cast h)]; rfl
  · rw [if_neg h, decide_eq_false (by exact_mod_cast h)]; rfl

theorem stepA_at (k : ℕ) (hk : k < 256) (a : V) (r : ℕ) (hr : r < 256) (n : Fin 512) :
    stepA (BitVec.ofNat 32 k) a (at2 r n) = if k ≤ r then a (at2 r n) * a (at2 (r - k) n) else a (at2 r n) := by
  show (if ge (BitVec.ofNat 32 k) (at2 r n) = 1#1 then a (at2 r n) * rot (BitVec.ofNat 32 k) a (at2 r n) else a (at2 r n)) = _
  rw [ge_at k hk r hr]
  by_cases h : k ≤ r
  · rw [if_pos h, if_pos h, if_pos rfl, rot_at k hk a r hr h]
  · rw [if_neg h, if_neg h, if_neg (by decide)]

theorem stepB_at (k : ℕ) (hk : k < 256) (a b : V) (r : ℕ) (hr : r < 256) (n : Fin 512) :
    stepB (BitVec.ofNat 32 k) a b (at2 r n)
      = if k ≤ r then a (at2 r n) * b (at2 (r - k) n) + b (at2 r n) else b (at2 r n) := by
  show (if ge (BitVec.ofNat 32 k) (at2 r n) = 1#1 then a (at2 r n) * rot (BitVec.ofNat 32 k) b (at2 r n) + b (at2 r n)
    else b (at2 r n)) = _
  rw [ge_at k hk r hr]
  by_cases h : k ≤ r
  · rw [if_pos h, if_pos h, if_pos rfl, rot_at k hk b r hr h]
  · rw [if_neg h, if_neg h, if_neg (by decide)]

/-- If `a`, `b` hold 256 consecutive factors and terms of a recurrence, the scan from the state before them holds the states
    after each of them. -/
theorem scan_at (a b : V) (hp : FVec Ideal S1x512 .f32) (n : Fin 512) (α β : ℕ → EReal) (s : ℕ)
    (hα : ∀ r < 256, ∃ x : ℝ, 0 ≤ x ∧ α (s + r) = (x : EReal))
    (ha : ∀ r < 256, a (at2 r n) = α (s + r)) (hb : ∀ r < 256, b (at2 r n) = β (s + r))
    (h0 : hp (ix2 (0 : Fin 1) n) = H α β s) (r : ℕ) (hr : r < 256) :
    scan a b hp (at2 r n) = H α β (s + r + 1) := by
  have S1 : Span (fun r => H α β (s + r)) 1 (fun r => a (at2 r n)) (fun r => b (at2 r n)) := by
    intro r hr
    refine ⟨?_, ?_⟩
    · obtain ⟨x, hx, e⟩ := hα r hr
      exact ⟨x, hx, (ha r hr).trans e⟩
    · show H α β (s + r + 1) = a (at2 r n) * H α β (s + r) + b (at2 r n)
      rw [ha r hr, hb r hr]; rfl
  have S2 := Span.step (A' := fun r => a2 a (at2 r n)) (B' := fun r => b2 a b (at2 r n)) (by decide) S1
    (fun r hr => stepA_at 1 (by decide) a r hr n) (fun r hr => stepB_at 1 (by decide) a b r hr n)
  have S4 := Span.step (A' := fun r => a4 a (at2 r n)) (B' := fun r => b4 a b (at2 r n)) (by decide) S2
    (fun r hr => stepA_at 2 (by decide) _ r hr n) (fun r hr => stepB_at 2 (by decide) _ _ r hr n)
  have S8 := Span.step (A' := fun r => a8 a (at2 r n)) (B' := fun r => b8 a b (at2 r n)) (by decide) S4
    (fun r hr => stepA_at 4 (by decide) _ r hr n) (fun r hr => stepB_at 4 (by decide) _ _ r hr n)
  have S16 := Span.step (A' := fun r => a16 a (at2 r n)) (B' := fun r => b16 a b (at2 r n)) (by decide) S8
    (fun r hr => stepA_at 8 (by decide) _ r hr n) (fun r hr => stepB_at 8 (by decide) _ _ r hr n)
  have S32 := Span.step (A' := fun r => a32 a (at2 r n)) (B' := fun r => b32 a b (at2 r n)) (by decide) S16
    (fun r hr => stepA_at 16 (by decide) _ r hr n) (fun r hr => stepB_at 16 (by decide) _ _ r hr n)
  have S64 := Span.step (A' := fun r => a64 a (at2 r n)) (B' := fun r => b64 a b (at2 r n)) (by decide) S32
    (fun r hr => stepA_at 32 (by decide) _ r hr n) (fun r hr => stepB_at 32 (by decide) _ _ r hr n)
  have S128 := Span.step (A' := fun r => a128 a (at2 r n)) (B' := fun r => b128 a b (at2 r n)) (by decide) S64
    (fun r hr => stepA_at 64 (by decide) _ r hr n) (fun r hr => stepB_at 64 (by decide) _ _ r hr n)
  have S256 := Span.step (A' := fun r => a256 a (at2 r n)) (B' := fun r => b256 a b (at2 r n)) (by decide) S128
    (fun r hr => stepA_at 128 (by decide) _ r hr n) (fun r hr => stepB_at 128 (by decide) _ _ r hr n)
  have e := (S256 r hr).2
  have e0 : r + 1 - (128 + 128) = 0 := by omega
  rw [show r + 1 - _ = 0 from e0] at e
  show b256 a b (at2 r n) + a256 a (at2 r n) * hp _ = _
  rw [show s + r + 1 = s + (r + 1) from rfl]
  refine Eq.trans ?_ e.symm
  rw [add_comm]
  refine congrArg (fun z => a256 a (at2 r n) * z + b256 a b (at2 r n)) ?_
  refine Eq.trans ?_ h0
  refine congrArg hp (funext fun b => ?_)
  match b with
  | ⟨0, _⟩ => rfl
  | ⟨1, _⟩ => rfl

/-! ## One half of the rows -/

section half
variable (x l5 l6 l7 : V) (cw : Vec Ideal S4x512 .f32) (cb : Vec Ideal S1x512 .f32) (wa : Vec Ideal S512x512 .bf16)
  (ba : Vec Ideal S1x512 .f32) (wx : Vec Ideal S512x512 .bf16) (bx lam : Vec Ideal S1x512 .f32) (hp : FVec Ideal S1x512 .f32)

/-- The convolved input, the decay and the gained input of a half. -/
def xc : V := k0_pay9 x cw cb l5 l6 l7
def dec : V := k0_pay16 (k0_pay12 x cw cb l5 l6 l7 wa ba) k0_pay13 lam
def gin : V := mulf (select (cmpf .ogt (k0_pay17 (k0_pay12 x cw cb l5 l6 l7 wa ba) k0_pay13 lam) k0_pay18)
    (mulf (k0_pay17 (k0_pay12 x cw cb l5 l6 l7 wa ba) k0_pay13 lam)
      (rsqrt (k0_pay17 (k0_pay12 x cw cb l5 l6 l7 wa ba) k0_pay13 lam))) k0_pay18)
  (mulf (k0_pay14 (truncf .bf16 (xc x l5 l6 l7 cw cb) bitsLt_bf16_f32) wx bx) (xc x l5 l6 l7 cw cb))

/-- The states of a half. -/
def half : V := scan (dec x l5 l6 l7 cw cb wa ba lam) (gin x l5 l6 l7 cw cb wa ba wx bx lam) hp

theorem first_eq : k0_pay29 (iota Kind.tc S256x512 32 [0] iota_S256x512_d0_w32)
      (k0_pay26 (k0_pay9 x cw cb l5 l6 l7) (k0_pay14 (k0_pay11 x cw cb l5 l6 l7) wx bx)
        (k0_pay16 (k0_pay12 x cw cb l5 l6 l7 wa ba) k0_pay13 lam)
        (k0_pay17 (k0_pay12 x cw cb l5 l6 l7 wa ba) k0_pay13 lam) k0_pay18)
      (k0_pay27 (k0_pay16 (k0_pay12 x cw cb l5 l6 l7 wa ba) k0_pay13 lam))
      (k0_pay28 (k0_pay16 (k0_pay12 x cw cb l5 l6 l7 wa ba) k0_pay13 lam)) 16#32 hp
    = half x l5 l6 l7 cw cb wa ba wx bx lam hp := rfl

theorem second_eq (p : FVec Ideal S512x2560 .f32) :
    k0_pay64 (iota Kind.tc S256x512 32 [0] iota_S256x512_d0_w32)
      (k0_pay59 (iota Kind.tc S256x512 32 [0] iota_S256x512_d0_w32)
        (k0_pay46 (k0_pay38 (k0_pay36 p cw cb l5 l6) (k0_pay37 cw) l7) (k0_pay41 (k0_pay36 p cw cb l5 l6) (k0_pay37 cw) l7 wa ba) (k0_pay42 (k0_pay36 p cw cb l5 l6) (k0_pay37 cw) l7 wx bx) lam)
        (k0_pay47 (k0_pay41 (k0_pay36 p cw cb l5 l6) (k0_pay37 cw) l7 wa ba) lam)
        (k0_pay48 (k0_pay41 (k0_pay36 p cw cb l5 l6) (k0_pay37 cw) l7 wa ba) lam) k0_pay49
        (k0_pay50 (k0_pay38 (k0_pay36 p cw cb l5 l6) (k0_pay37 cw) l7) (k0_pay41 (k0_pay36 p cw cb l5 l6) (k0_pay37 cw) l7 wa ba) (k0_pay42 (k0_pay36 p cw cb l5 l6) (k0_pay37 cw) l7 wx bx) lam))
      (k0_pay60 (iota Kind.tc S256x512 32 [0] iota_S256x512_d0_w32)
        (k0_pay47 (k0_pay41 (k0_pay36 p cw cb l5 l6) (k0_pay37 cw) l7 wa ba) lam)
        (k0_pay48 (k0_pay41 (k0_pay36 p cw cb l5 l6) (k0_pay37 cw) l7 wa ba) lam) k0_pay49)
      (k0_pay61 (iota Kind.tc S256x512 32 [0] iota_S256x512_d0_w32)
        (k0_pay47 (k0_pay41 (k0_pay36 p cw cb l5 l6) (k0_pay37 cw) l7 wa ba) lam)
        (k0_pay48 (k0_pay41 (k0_pay36 p cw cb l5 l6) (k0_pay37 cw) l7 wa ba) lam) k0_pay49)
      (k0_pay62 (iota Kind.tc S256x512 32 [0] iota_S256x512_d0_w32))
      (k0_pay63 (iota Kind.tc S256x512 32 [0] iota_S256x512_d0_w32)
        (k0_pay46 (k0_pay38 (k0_pay36 p cw cb l5 l6) (k0_pay37 cw) l7) (k0_pay41 (k0_pay36 p cw cb l5 l6) (k0_pay37 cw) l7 wa ba) (k0_pay42 (k0_pay36 p cw cb l5 l6) (k0_pay37 cw) l7 wx bx) lam)
        (k0_pay47 (k0_pay41 (k0_pay36 p cw cb l5 l6) (k0_pay37 cw) l7 wa ba) lam)
        (k0_pay48 (k0_pay41 (k0_pay36 p cw cb l5 l6) (k0_pay37 cw) l7 wa ba) lam) k0_pay49
        (k0_pay50 (k0_pay38 (k0_pay36 p cw cb l5 l6) (k0_pay37 cw) l7) (k0_pay41 (k0_pay36 p cw cb l5 l6) (k0_pay37 cw) l7 wa ba) (k0_pay42 (k0_pay36 p cw cb l5 l6) (k0_pay37 cw) l7 wx bx) lam)) hp
    = half (k0_pay33 p) l5 l6 l7 cw cb wa ba wx bx lam hp := rfl

theorem xc_at (r : Fin 256) (n : Fin 512) : xc x l5 l6 l7 cw cb (ix2 r n)
    = cb (ix2 0 n) + cw (ix2 3 n) * x (ix2 r n) + cw (ix2 0 n) * l5 (ix2 r n) + cw (ix2 1 n) * l6 (ix2 r n)
      + cw (ix2 2 n) * l7 (ix2 r n) := by
  unfold xc k0_pay9
  pointwise

theorem ga_at (r : Fin 256) (n : Fin 512) : k0_pay12 x cw cb l5 l6 l7 wa ba (ix2 r n)
    = Ideal.tanh (Ideal.ofBits FTy.f32 0x3F000000#32
        * pre (fun k => xc x l5 l6 l7 cw cb (ix2 r k)) (fun k => wa (ix2 k n)) (ba (ix2 0 n))) := by
  unfold k0_pay12 k0_pay11
  pointwise
  rfl

theorem gx_at (r : Fin 256) (n : Fin 512) : k0_pay14 (truncf .bf16 (xc x l5 l6 l7 cw cb) bitsLt_bf16_f32) wx bx (ix2 r n)
    = Ideal.logistic (pre (fun k => xc x l5 l6 l7 cw cb (ix2 r k)) (fun k => wx (ix2 k n)) (bx (ix2 0 n))) := by
  generalize xc x l5 l6 l7 cw cb = t
  unfold k0_pay14
  pointwise
  rw [half_word]
  exact sigmoid_eq _

theorem la_at (r : Fin 256) (n : Fin 512) : k0_pay15 (k0_pay12 x cw cb l5 l6 l7 wa ba) k0_pay13 lam (ix2 r n)
    = la (pre (fun k => xc x l5 l6 l7 cw cb (ix2 r k)) (fun k => wa (ix2 k n)) (ba (ix2 0 n))) (lam (ix2 0 n)) := by
  have e := ga_at x l5 l6 l7 cw cb wa ba r n
  generalize k0_pay12 x cw cb l5 l6 l7 wa ba = t at *
  unfold k0_pay15 k0_pay13
  pointwise
  rw [e, half_word, sigmoid_eq]
  rfl

theorem dec_at (r : Fin 256) (n : Fin 512) : dec x l5 l6 l7 cw cb wa ba lam (ix2 r n)
    = dcy (pre (fun k => xc x l5 l6 l7 cw cb (ix2 r k)) (fun k => wa (ix2 k n)) (ba (ix2 0 n))) (lam (ix2 0 n)) := by
  have e := la_at x l5 l6 l7 cw cb wa ba lam r n
  unfold dec k0_pay16
  generalize k0_pay15 (k0_pay12 x cw cb l5 l6 l7 wa ba) k0_pay13 lam = t at *
  pointwise
  rw [e]; rfl

theorem gin_at (r : Fin 256) (n : Fin 512) : gin x l5 l6 l7 cw cb wa ba wx bx lam (ix2 r n)
    = gain (pre (fun k => xc x l5 l6 l7 cw cb (ix2 r k)) (fun k => wa (ix2 k n)) (ba (ix2 0 n))) (lam (ix2 0 n))
      * (Ideal.logistic (pre (fun k => xc x l5 l6 l7 cw cb (ix2 r k)) (fun k => wx (ix2 k n)) (bx (ix2 0 n)))
        * xc x l5 l6 l7 cw cb (ix2 r n)) := by
  have e := la_at x l5 l6 l7 cw cb wa ba lam r n
  have e2 := gx_at x l5 l6 l7 cw cb wx bx r n
  have eg : k0_pay17 (k0_pay12 x cw cb l5 l6 l7 wa ba) k0_pay13 lam (ix2 r n)
      = (0 - Ideal.tanh (k0_pay15 (k0_pay12 x cw cb l5 l6 l7 wa ba) k0_pay13 lam (ix2 r n)))
        * (Ideal.exp (k0_pay15 (k0_pay12 x cw cb l5 l6 l7 wa ba) k0_pay13 lam (ix2 r n))
          * Ideal.exp (k0_pay15 (k0_pay12 x cw cb l5 l6 l7 wa ba) k0_pay13 lam (ix2 r n)) + 1) := by
    unfold k0_pay17 k0_pay16
    pointwise
  rw [e] at eg
  have e3 := gain_form _ _ _ eg
  unfold gin
  generalize k0_pay17 (k0_pay12 x cw cb l5 l6 l7 wa ba) k0_pay13 lam = g at *
  generalize k0_pay14 (truncf .bf16 (xc x l5 l6 l7 cw cb) bitsLt_bf16_f32) wx bx = i at *
  rw [← e2, ← e3]
  unfold k0_pay18
  pointwise

/-- If the half's rows are rows `s ..` of a padded sequence and it starts from the state before token `s`, it holds the states
    after its tokens. -/
theorem half_at (p : ℕ → Fin 512 → EReal) (s : ℕ)
    (hx : ∀ (r : Fin 256) (n : Fin 512), x (ix2 r n) = p (s + r.val + 8) n)
    (h5 : ∀ (r : Fin 256) (n : Fin 512), l5 (ix2 r n) = p (s + r.val + 5) n)
    (h6 : ∀ (r : Fin 256) (n : Fin 512), l6 (ix2 r n) = p (s + r.val + 6) n)
    (h7 : ∀ (r : Fin 256) (n : Fin 512), l7 (ix2 r n) = p (s + r.val + 7) n)
    (W : Wt) (hcw : ∀ i n, cw (ix2 i n) = W.cw i n) (hcb : ∀ n, cb (ix2 (0 : Fin 1) n) = W.cb n)
    (hwa : ∀ k n, wa (ix2 k n) = W.wa k n) (hba : ∀ n, ba (ix2 (0 : Fin 1) n) = W.ba n)
    (hwx : ∀ k n, wx (ix2 k n) = W.wx k n) (hbx : ∀ n, bx (ix2 (0 : Fin 1) n) = W.bx n)
    (hl : ∀ n, lam (ix2 (0 : Fin 1) n) = W.lam n)
    (n : Fin 512) (h0 : hp (ix2 (0 : Fin 1) n) = St W p n s) (r : Fin 256) :
    half x l5 l6 l7 cw cb wa ba wx bx lam hp (ix2 r n) = St W p n (s + r.val + 1) := by
  have ec : ∀ (r : Fin 256) (k : Fin 512), xc x l5 l6 l7 cw cb (ix2 r k) = cs W p (s + r.val) k := fun r k => by
    rw [xc_at, hx, h5, h6, h7, hcw, hcw, hcw, hcw, hcb]; rfl
  have ei : ∀ (r : ℕ) (hr : r < 256), (at2 r n : S256x512.Idx) = ix2 (⟨r, hr⟩ : Fin 256) n := fun r hr => by
    unfold at2; congr 1; exact Fin.ext (Nat.mod_eq_of_lt hr)
  have e := scan_at (dec x l5 l6 l7 cw cb wa ba lam) (gin x l5 l6 l7 cw cb wa ba wx bx lam) hp n (al W p n) (be W p n) s
    (fun r _ => dcy_range _ _)
    (fun r hr => by
      rw [ei r hr, dec_at, hba, hl]; simp only [ec, hwa]; rfl)
    (fun r hr => by
      rw [ei r hr, gin_at, hba, hl, hbx]; simp only [ec, hwa, hwx]; rfl) h0 r.val r.isLt
  rw [ei r.val r.isLt] at e
  exact e

end half

end Cert.Own.LruScan
end
-- ==== Proof.LruLoads.lean ====
/- THE CONVOLUTION'S SHIFTED LOADS. The scratch buffer holds eight rows of what came before and then 256 new rows; the three
   loads begin at its rows 5, 6 and 7. Each reads rows of one padded sequence. -/
module

public import proofs.«01_k».proof.Proof.LruScan
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.Own.LruLoads

open Cert.LruIdeal Cert.LruIdeal.Gen Idealize.ShloMosaic Idealize.ShloMosaic.TcCoe Cert.Own.LruScan

/-- What a list of writes leaves at an index under its newest piece, and at one off it. -/
theorem canon_hit {s : Shape} {e : EltTy} {off size : Fin s.rank → ℕ} (inb : ∀ a, off a + size a ≤ s.size a)
    (w : (Rect.unit off size inb).shape.Idx → Elt Ideal e) (L : List (View.Piece (Elt Ideal) s e)) (y : s.Idx)
    (x : (Rect.unit off size inb).shape.Idx) (hx : ∀ a, (y a).val = off a + (x a).val) :
    View.canon (Val := Elt Ideal) ((⟨Rect.unit off size inb, w⟩ : View.Piece (Elt Ideal) s e) :: L) y = w x := by
  have hy : (Rect.unit off size inb).emb x = y := funext fun a => Fin.ext (by
    show off a + 1 * (x a).val = (y a).val
    rw [hx a, Nat.one_mul])
  rw [← hy]
  exact View.canon_cons_emb _ _ _ _

theorem canon_miss {s : Shape} {e : EltTy} {off size : Fin s.rank → ℕ} (inb : ∀ a, off a + size a ≤ s.size a)
    (w : (Rect.unit off size inb).shape.Idx → Elt Ideal e) (L : List (View.Piece (Elt Ideal) s e)) (y : s.Idx)
    (a : Fin s.rank) (ha : (y a).val < off a ∨ off a + size a ≤ (y a).val) :
    View.canon (Val := Elt Ideal) ((⟨Rect.unit off size inb, w⟩ : View.Piece (Elt Ideal) s e) :: L) y = View.canon L y := by
  refine View.canon_cons_of_not_mem _ _ fun h => ?_
  rw [Rect.mem_set_unit] at h
  have := h a
  omega

/-- The rectangles: the eight rows, the 256 rows after them, and the 256 rows from row `k`. -/
abbrev R0 : Rect S264x512 := Rect.unit (s := S264x512) ![0, 0] ![8, 512] inb_S264x512_S8x512_0_0
abbrev R8 : Rect S264x512 := Rect.unit (s := S264x512) ![8, 0] ![256, 512] inb_S264x512_S256x512_8_0

/-- Row `i` of the buffer. -/
def row (i : ℕ) (hi : i < 264) (n : Fin 512) : S264x512.Idx := ix2 (⟨i, hi⟩ : Fin 264) n

theorem hit8 (w : FVec Ideal S256x512 .f32) (L : List (View.Piece (Elt Ideal) S264x512 .f32)) (i : ℕ) (hi : i < 264)
    (h : 8 ≤ i) (n : Fin 512) :
    View.canon (Val := Elt Ideal) (⟨R8, w⟩ :: L) (row i hi n) = w (ix2 (⟨i - 8, by omega⟩ : Fin 256) n) := by
  refine canon_hit (s := S264x512) (off := ![8, 0]) (size := ![256, 512]) _ w L _ (ix2 (⟨i - 8, by omega⟩ : Fin 256) n) fun a => ?_
  match a with
  | ⟨0, _⟩ => show i = 8 + (i - 8); omega
  | ⟨1, _⟩ => show n.val = 0 + n.val; omega

theorem miss8 (w : FVec Ideal S256x512 .f32) (L : List (View.Piece (Elt Ideal) S264x512 .f32)) (i : ℕ) (hi : i < 264)
    (h : i < 8) (n : Fin 512) :
    View.canon (Val := Elt Ideal) (⟨R8, w⟩ :: L) (row i hi n) = View.canon L (row i hi n) :=
  canon_miss (s := S264x512) (off := ![8, 0]) (size := ![256, 512]) _ w L _ (0 : Fin 2) (Or.inl h)

theorem hit0 (w : FVec Ideal S8x512 .f32) (L : List (View.Piece (Elt Ideal) S264x512 .f32)) (i : ℕ) (hi : i < 264)
    (h : i < 8) (n : Fin 512) :
    View.canon (Val := Elt Ideal) (⟨R0, w⟩ :: L) (row i hi n) = w (ix2 (⟨i, h⟩ : Fin 8) n) := by
  refine canon_hit (s := S264x512) (off := ![0, 0]) (size := ![8, 512]) _ w L _ (ix2 (⟨i, h⟩ : Fin 8) n) fun a => ?_
  match a with
  | ⟨0, _⟩ => show i = 0 + i; omega
  | ⟨1, _⟩ => show n.val = 0 + n.val; omega

theorem emb_row (k : ℕ) (hk : k ≤ 8) (inb : ∀ a : Fin 2, (![k, 0] : Fin 2 → ℕ) a + (![256, 512] : Fin 2 → ℕ) a ≤ S264x512.size a)
    (r : Fin 256) (n : Fin 512) :
    (Rect.unit (s := S264x512) ![k, 0] ![256, 512] inb).emb (ix2 r n) = row (k + r.val) (by omega) n :=
  funext fun a => Fin.ext (by
    match a with
    | ⟨0, _⟩ => show k + 1 * r.val = k + r.val; omega
    | ⟨1, _⟩ => show 0 + 1 * n.val = n.val; omega)

theorem read_hit8 (v : View sig Kind.tc Space.vmem S264x512 EltTy.f32) (f : v.ty.Contents (Elt Ideal))
    (w : FVec Ideal S256x512 .f32) (i : ℕ) (hi : i < 264) (h : 8 ≤ i) (n : Fin 512) :
    v.read (Elt Ideal) (v.writes (Elt Ideal) f [⟨R8, w⟩]) (row i hi n) = w (ix2 (⟨i - 8, by omega⟩ : Fin 256) n) := by
  refine View.read_writes_cons_unit_of_mem (Val := Elt Ideal) (s := S264x512) (off := ![8, 0]) (size := ![256, 512]) v f _ w []
    _ (ix2 (⟨i - 8, by omega⟩ : Fin 256) n) rfl fun a => ?_
  match a with
  | ⟨0, _⟩ => show i = 8 + (i - 8); omega
  | ⟨1, _⟩ => show n.val = 0 + n.val; omega

theorem read_miss8 (v : View sig Kind.tc Space.vmem S264x512 EltTy.f32) (f : v.ty.Contents (Elt Ideal))
    (w : FVec Ideal S256x512 .f32) (i : ℕ) (hi : i < 264) (h : i < 8) (n : Fin 512) :
    v.read (Elt Ideal) (v.writes (Elt Ideal) f [⟨R8, w⟩]) (row i hi n) = v.read (Elt Ideal) f (row i hi n) :=
  View.read_writes_cons_unit_of_not_mem (Val := Elt Ideal) (s := S264x512) (off := ![8, 0]) (size := ![256, 512]) v f _ w []
    _ rfl (0 : Fin 2) (Or.inl h)

variable (arg21 : Memref sig Kind.tc Space.vmem S264x512 EltTy.f32)
  (p : ℕ → Fin 512 → EReal) (s : ℕ) (k : ℕ) (hk : k ≤ 8)
  (w : FVec Ideal S256x512 .f32) (hw : ∀ (r : Fin 256) (n : Fin 512), w (ix2 r n) = p (s + r.val + 8) n)

include hk hw

/-- A load after the eight rows and the 256 rows were both stored. -/
theorem load_stored (h : FVec Ideal S8x512 .f32) (hh : ∀ (i : Fin 8) (n : Fin 512), h (ix2 i n) = p (s + i.val) n)
    (L : List (View.Piece (Elt Ideal) S264x512 .f32))
    (inb : ∀ a : Fin 2, (![k, 0] : Fin 2 → ℕ) a + (![256, 512] : Fin 2 → ℕ) a ≤ S264x512.size a)
    (r : Fin 256) (n : Fin 512) :
    arg21.view.readCov (⟨R8, w⟩ :: ⟨R0, h⟩ :: L)
      (Rect.unit (s := S264x512) ![k, 0] ![256, 512] inb).toLoadRect (ix2 r n) = p (s + r.val + k) n := by
  rw [View.readCov_eq_canon']
  show View.canon (Val := Elt Ideal) (⟨R8, w⟩ :: ⟨R0, h⟩ :: L) ((Rect.unit (s := S264x512) ![k, 0] ![256, 512] inb).emb (ix2 r n)) = _
  rw [emb_row k hk]
  by_cases h8 : k + r.val < 8
  · rw [miss8 _ _ _ _ h8, hit0 _ _ _ _ h8, hh]
    show p (s + (k + r.val)) n = _
    rw [show s + r.val + k = s + (k + r.val) by omega]
  · rw [hit8 _ _ _ _ (by omega), hw]
    show p (s + (k + r.val - 8) + 8) n = _
    rw [show s + (k + r.val - 8) + 8 = s + r.val + k by omega]

/-- A load after only the 256 rows were stored: the eight rows are the ones the buffer held. -/
theorem load_kept (harg21 : arg21.IsWhole) (xs : Vec Ideal S264x512 .f32)
    (hh : ∀ (i : ℕ) (hi : i < 264) (n : Fin 512), i < 8 → xs (row i hi n) = p (s + i) n)
    (inb : ∀ a : Fin 2, (![k, 0] : Fin 2 → ℕ) a + (![256, 512] : Fin 2 → ℕ) a ≤ S264x512.size a)
    (r : Fin 256) (n : Fin 512) :
    View.ld (View.read (Elt Ideal) arg21.view (arg21.view.writes (Elt Ideal) (harg21.unread xs) [⟨R8, w⟩]))
      (Rect.unit (s := S264x512) ![k, 0] ![256, 512] inb) (ix2 r n) = p (s + r.val + k) n := by
  show View.read (Elt Ideal) arg21.view (arg21.view.writes (Elt Ideal) (harg21.unread xs) [⟨R8, w⟩])
    ((Rect.unit (s := S264x512) ![k, 0] ![256, 512] inb).emb (ix2 r n)) = _
  rw [emb_row k hk]
  by_cases h8 : k + r.val < 8
  · rw [read_miss8 arg21.view _ w _ _ h8, harg21.read_unread, hh _ _ _ h8,
      show s + r.val + k = s + (k + r.val) by omega]
  · rw [read_hit8 arg21.view _ w _ _ (by omega), hw]
    show p (s + (k + r.val - 8) + 8) n = _
    rw [show s + (k + r.val - 8) + 8 = s + r.val + k by omega]

end Cert.Own.LruLoads
end
-- ==== Proof.LruTile.lean ====
/- THE 512 ROWS OF ONE GRID POINT. The body runs the recurrence on rows 0 to 255 from the state it finds, and on rows 256 to 511
   from the state after row 255. Here its stored rows, its carried state and its carried rows are read off the two halves. -/
module

public import proofs.«01_k».proof.Proof.LruLoads

@[expose] public section

set_option maxRecDepth 16384

noncomputable section

namespace Cert.Own.LruTile

open Cert.LruIdeal Cert.LruIdeal.Gen Idealize.ShloMosaic Idealize.ShloMosaic.TcCoe Cert.Own.LruScan Cert.Own.LruLoads

/-- The weights' blocks hold the weights `W`. -/
structure Holds (W : Wt) (x7 : Vec Ideal S4x512 .f32) (x8 : Vec Ideal S1x512 .f32) (x9 : Vec Ideal S512x512 .bf16)
    (x10 : Vec Ideal S1x512 .f32) (x11 : Vec Ideal S512x512 .bf16) (x12 x13 : Vec Ideal S1x512 .f32) : Prop where
  cw : ∀ i n, x7 (ix2 i n) = W.cw i n
  cb : ∀ n, x8 (ix2 (0 : Fin 1) n) = W.cb n
  wa : ∀ k n, x9 (ix2 k n) = W.wa k n
  ba : ∀ n, x10 (ix2 (0 : Fin 1) n) = W.ba n
  wx : ∀ k n, x11 (ix2 k n) = W.wx k n
  bx : ∀ n, x12 (ix2 (0 : Fin 1) n) = W.bx n
  lam : ∀ n, x13 (ix2 (0 : Fin 1) n) = W.lam n

/-- Row 255 of a half. -/
def last (h : V) : FVec Ideal S1x512 .f32 :=
  shapeCast S1x512 (extractStridedSlice S1x512 ![255, 0] h slices_S256x512_o255_0_S1x512) shapeCasts_S1x512_S1x512

theorem last_at (h : V) (n : Fin 512) : last h (ix2 (0 : Fin 1) n) = h (ix2 (255 : Fin 256) n) := by
  unfold last
  pointwise

/-- The gate's unit: the tanh form of the Gaussian error unit. -/
def gl (g : EReal) : EReal :=
  g * (Ideal.ofBits FTy.f32 0x3F000000#32 * (1 + Ideal.tanh (Ideal.ofBits FTy.f32 0x3F4C422A#32
    * (g + Ideal.ofBits FTy.f32 0x3D372713#32 * (g * g * g)))))

theorem pay66_eq (g : V) (i : IVec S256x512 32) (a b c : V) (d : IVec S256x512 1) (e : V) (hp : Vec Ideal S1x512 .f32) :
    k0_pay66 g i a b c d e hp = k0_pay32 g (k0_pay64 i a b c d e hp) (k0_pay31 g) := rfl
theorem pay65_eq (i : IVec S256x512 32) (a b c : V) (d : IVec S256x512 1) (e : V) (hp : Vec Ideal S1x512 .f32) :
    k0_pay65 i a b c d e hp = last (k0_pay64 i a b c d e hp) := rfl
theorem pay30_eq (i : IVec S256x512 32) (a b c : V) (d : BitVec 32) (hp : Vec Ideal S1x512 .f32) :
    k0_pay30 i a b c d hp = last (k0_pay29 i a b c d hp) := rfl

theorem y_at (g h : V) (r : Fin 256) (n : Fin 512) :
    k0_pay32 g h (k0_pay31 g) (ix3 (0 : Fin 1) r n) = h (ix2 r n) * gl (g (ix2 r n)) := by
  unfold k0_pay32 k0_pay31
  pointwise
  rfl

section tile
variable (x0 : Vec Ideal S1x512x1024 .f32) (x1 : Vec Ideal S1x9x1024 .f32) (x2 : Vec Ideal S1x1024 .f32) (x3 : Vec Ideal S1024x2560 .bf16)
  (x7 : Vec Ideal S4x512 .f32) (x8 : Vec Ideal S1x512 .f32) (x9 : Vec Ideal S512x512 .bf16)
  (x10 : Vec Ideal S1x512 .f32) (x11 : Vec Ideal S512x512 .bf16) (x12 x13 : Vec Ideal S1x512 .f32)
  (hp : FVec Ideal S1x512 .f32) (L5 L6 L7 M5 M6 M7 : V)

/-- Row `r`, column `q` of the projection. -/
abbrev prj (r : Fin 512) (q : Fin 2560) : EReal := k0_pay5 x1 x0 x2 x3 (ix2 r q)

theorem p6_at (r : Fin 256) (n : Fin 512) :
    k0_pay6 x1 x0 x2 x3 (ix2 r n) = prj x0 x1 x2 x3 ⟨r.val, by omega⟩ ⟨n.val, by omega⟩ := by
  unfold k0_pay6 prj; generalize k0_pay5 x1 x0 x2 x3 = P; pointwise
theorem p7_at (r : Fin 256) (n : Fin 512) :
    k0_pay7 x1 x0 x2 x3 (ix2 r n) = prj x0 x1 x2 x3 ⟨r.val, by omega⟩ ⟨512 + n.val, by omega⟩ := by
  unfold k0_pay7 prj; generalize k0_pay5 x1 x0 x2 x3 = P; pointwise
theorem p8_at (r : Fin 256) (n : Fin 512) :
    k0_pay8 x1 x0 x2 x3 (ix2 r n) = prj x0 x1 x2 x3 ⟨r.val, by omega⟩ ⟨n.val, by omega⟩ := by
  unfold k0_pay8 k0_pay6 prj; generalize k0_pay5 x1 x0 x2 x3 = P; pointwise
theorem p10_at (r : Fin 8) (n : Fin 512) :
    k0_pay10 (k0_pay6 x1 x0 x2 x3) (ix2 r n) = prj x0 x1 x2 x3 ⟨248 + r.val, by omega⟩ ⟨n.val, by omega⟩ := by
  unfold k0_pay10 k0_pay6 prj; generalize k0_pay5 x1 x0 x2 x3 = P; pointwise
theorem p33_at (r : Fin 256) (n : Fin 512) :
    k0_pay33 (k0_pay5 x1 x0 x2 x3) (ix2 r n) = prj x0 x1 x2 x3 ⟨256 + r.val, by omega⟩ ⟨n.val, by omega⟩ := by
  unfold k0_pay33 prj; generalize k0_pay5 x1 x0 x2 x3 = P; pointwise
theorem p34_at (r : Fin 256) (n : Fin 512) :
    k0_pay34 (k0_pay5 x1 x0 x2 x3) (ix2 r n) = prj x0 x1 x2 x3 ⟨256 + r.val, by omega⟩ ⟨512 + n.val, by omega⟩ := by
  unfold k0_pay34 prj; generalize k0_pay5 x1 x0 x2 x3 = P; pointwise
theorem p35_at (r : Fin 256) (n : Fin 512) :
    k0_pay35 (k0_pay5 x1 x0 x2 x3) (ix2 r n) = prj x0 x1 x2 x3 ⟨256 + r.val, by omega⟩ ⟨n.val, by omega⟩ := by
  unfold k0_pay35 k0_pay33 prj; generalize k0_pay5 x1 x0 x2 x3 = P; pointwise
theorem p39_at (r : Fin 8) (n : Fin 512) :
    k0_pay39 (k0_pay33 (k0_pay5 x1 x0 x2 x3)) (ix2 r n) = prj x0 x1 x2 x3 ⟨256 + (248 + r.val), by omega⟩ ⟨n.val, by omega⟩ := by
  unfold k0_pay39 k0_pay33 prj; generalize k0_pay5 x1 x0 x2 x3 = P; pointwise

/-- The states of the first and of the second half. -/
def st1 : V := half (k0_pay6 x1 x0 x2 x3) L5 L6 L7 x7 x8 x9 x10 x11 x12 x13 hp
def st2 : V := half (k0_pay33 (k0_pay5 x1 x0 x2 x3)) M5 M6 M7 x7 x8 x9 x10 x11 x12 x13
  (last (st1 x0 x1 x2 x3 x7 x8 x9 x10 x11 x12 x13 hp L5 L6 L7))

variable (W : Wt) (H : Holds W x7 x8 x9 x10 x11 x12 x13) (p : ℕ → Fin 512 → EReal) (s : ℕ)
  (hP : ∀ (r : Fin 512) (n : Fin 512), prj x0 x1 x2 x3 r ⟨n.val, by omega⟩ = p (s + r.val + 8) n)
  (hL5 : ∀ (r : Fin 256) (n : Fin 512), L5 (ix2 r n) = p (s + r.val + 5) n)
  (hL6 : ∀ (r : Fin 256) (n : Fin 512), L6 (ix2 r n) = p (s + r.val + 6) n)
  (hL7 : ∀ (r : Fin 256) (n : Fin 512), L7 (ix2 r n) = p (s + r.val + 7) n)
  (hM5 : ∀ (r : Fin 256) (n : Fin 512), M5 (ix2 r n) = p (s + 256 + r.val + 5) n)
  (hM6 : ∀ (r : Fin 256) (n : Fin 512), M6 (ix2 r n) = p (s + 256 + r.val + 6) n)
  (hM7 : ∀ (r : Fin 256) (n : Fin 512), M7 (ix2 r n) = p (s + 256 + r.val + 7) n)
  (h0 : ∀ n, hp (ix2 (0 : Fin 1) n) = St W p n s)

include H hP hL5 hL6 hL7 h0

theorem st1_at (r : Fin 256) (n : Fin 512) :
    st1 x0 x1 x2 x3 x7 x8 x9 x10 x11 x12 x13 hp L5 L6 L7 (ix2 r n) = St W p n (s + r.val + 1) :=
  half_at _ _ _ _ _ _ _ _ _ _ _ _ p s (fun r n => (p6_at x0 x1 x2 x3 r n).trans (hP _ n)) hL5 hL6 hL7 W H.cw H.cb H.wa H.ba
    H.wx H.bx H.lam n (h0 n) r

include hM5 hM6 hM7

theorem st2_at (r : Fin 256) (n : Fin 512) :
    st2 x0 x1 x2 x3 x7 x8 x9 x10 x11 x12 x13 hp L5 L6 L7 M5 M6 M7 (ix2 r n) = St W p n (s + 256 + r.val + 1) :=
  half_at _ _ _ _ _ _ _ _ _ _ _ _ p (s + 256)
    (fun r n => (p33_at x0 x1 x2 x3 r n).trans ((hP _ n).trans (by
      show p (s + (256 + r.val) + 8) n = _; rw [Nat.add_assoc s 256 r.val])))
    hM5 hM6 hM7 W H.cw H.cb H.wa H.ba H.wx H.bx H.lam n
    ((last_at _ n).trans (st1_at x0 x1 x2 x3 x7 x8 x9 x10 x11 x12 x13 hp L5 L6 L7 W H p s hP hL5 hL6 hL7 h0 255 n)) r

/-- The stored rows of `y`. -/
theorem y_canon (r n : Fin 512) :
    View.canon (Val := Elt Ideal) (s := S1x512x512) (e := .bf16)
      [⟨Rect.unit ![0, 256, 0] ![1, 256, 512] inb_S1x512x512_S1x256x512_0_256_0,
          k0_pay32 (k0_pay34 (k0_pay5 x1 x0 x2 x3)) (st2 x0 x1 x2 x3 x7 x8 x9 x10 x11 x12 x13 hp L5 L6 L7 M5 M6 M7)
            (k0_pay31 (k0_pay34 (k0_pay5 x1 x0 x2 x3)))⟩,
        ⟨Rect.unit ![0, 0, 0] ![1, 256, 512] inb_S1x512x512_S1x256x512_0_0_0,
          k0_pay32 (k0_pay7 x1 x0 x2 x3) (st1 x0 x1 x2 x3 x7 x8 x9 x10 x11 x12 x13 hp L5 L6 L7)
            (k0_pay31 (k0_pay7 x1 x0 x2 x3))⟩] (ix3 (0 : Fin 1) r n)
      = St W p n (s + r.val + 1) * gl (prj x0 x1 x2 x3 r ⟨512 + n.val, by omega⟩) := by
  by_cases h : r.val < 256
  · refine (canon_miss (s := S1x512x512) (off := ![0, 256, 0]) (size := ![1, 256, 512]) _ _ _ _ (1 : Fin 3) (Or.inl h)).trans ?_
    refine (canon_hit (s := S1x512x512) (off := ![0, 0, 0]) (size := ![1, 256, 512]) _ _ _ _
      (ix3 (0 : Fin 1) (⟨r.val, h⟩ : Fin 256) n) fun a => ?_).trans ?_
    · match a with
      | ⟨0, _⟩ => rfl
      | ⟨1, _⟩ => show r.val = 0 + r.val; omega
      | ⟨2, _⟩ => show n.val = 0 + n.val; omega
    · rw [y_at, p7_at, st1_at x0 x1 x2 x3 x7 x8 x9 x10 x11 x12 x13 hp L5 L6 L7 W H p s hP hL5 hL6 hL7 h0]
  · refine (canon_hit (s := S1x512x512) (off := ![0, 256, 0]) (size := ![1, 256, 512]) _ _ _ _
      (ix3 (0 : Fin 1) (⟨r.val - 256, by omega⟩ : Fin 256) n) fun a => ?_).trans ?_
    · match a with
      | ⟨0, _⟩ => rfl
      | ⟨1, _⟩ => show r.val = 256 + (r.val - 256); omega
      | ⟨2, _⟩ => show n.val = 0 + n.val; omega
    · rw [y_at, p34_at, st2_at x0 x1 x2 x3 x7 x8 x9 x10 x11 x12 x13 hp L5 L6 L7 M5 M6 M7 W H p s hP hL5 hL6 hL7 hM5 hM6 hM7 h0]
      have e1 : s + 256 + (r.val - 256) + 1 = s + r.val + 1 := by omega
      have e2 : 256 + (r.val - 256) = r.val := by omega
      show St W p n (s + 256 + (r.val - 256) + 1) * gl (prj x0 x1 x2 x3 ⟨256 + (r.val - 256), _⟩ _) = _
      rw [e1]; simp only [e2]

/-- The carried state. -/
theorem h_canon (L : List (View.Piece (Elt Ideal) S8x512 .f32)) (n : Fin 512) :
    View.canon (Val := Elt Ideal) (s := S8x512) (e := .f32)
      (⟨Rect.unit ![0, 0] ![1, 512] inb_S8x512_S1x512_0_0,
          last (st2 x0 x1 x2 x3 x7 x8 x9 x10 x11 x12 x13 hp L5 L6 L7 M5 M6 M7)⟩ :: L) (ix2 (0 : Fin 8) n)
      = St W p n (s + 512) := by
  refine (canon_hit (s := S8x512) (off := ![0, 0]) (size := ![1, 512]) _ _ _ _ (ix2 (0 : Fin 1) n) fun a => ?_).trans ?_
  · match a with
    | ⟨0, _⟩ => rfl
    | ⟨1, _⟩ => show n.val = 0 + n.val; omega
  · rw [last_at, st2_at x0 x1 x2 x3 x7 x8 x9 x10 x11 x12 x13 hp L5 L6 L7 M5 M6 M7 W H p s hP hL5 hL6 hL7 hM5 hM6 hM7 h0]
    rfl

/-- The same where only that row of the carried state's buffer was stored. -/
theorem h_read (v : View sig Kind.tc Space.vmem S8x512 EltTy.f32) (f : v.ty.Contents (Elt Ideal))
    (L : List (View.Piece (Elt Ideal) S8x512 .f32)) (n : Fin 512) :
    v.read (Elt Ideal) (v.writes (Elt Ideal) f
      (⟨Rect.unit ![0, 0] ![1, 512] inb_S8x512_S1x512_0_0,
          last (st2 x0 x1 x2 x3 x7 x8 x9 x10 x11 x12 x13 hp L5 L6 L7 M5 M6 M7)⟩ :: L)) (ix2 (0 : Fin 8) n)
      = St W p n (s + 512) := by
  refine (View.read_writes_cons_unit_of_mem (Val := Elt Ideal) (s := S8x512) (off := ![0, 0]) (size := ![1, 512]) v f _ _ L
    _ (ix2 (0 : Fin 1) n) rfl fun a => ?_).trans ?_
  · match a with
    | ⟨0, _⟩ => rfl
    | ⟨1, _⟩ => show n.val = 0 + n.val; omega
  · rw [last_at, st2_at x0 x1 x2 x3 x7 x8 x9 x10 x11 x12 x13 hp L5 L6 L7 M5 M6 M7 W H p s hP hL5 hL6 hL7 hM5 hM6 hM7 h0]
    rfl

end tile

/-- The carried rows. -/
theorem x_canon (x0 : Vec Ideal S1x512x1024 .f32) (x1 : Vec Ideal S1x9x1024 .f32) (x2 : Vec Ideal S1x1024 .f32) (x3 : Vec Ideal S1024x2560 .bf16)
    (p : ℕ → Fin 512 → EReal) (s : ℕ)
    (hP : ∀ (r : Fin 512) (n : Fin 512), prj x0 x1 x2 x3 r ⟨n.val, by omega⟩ = p (s + r.val + 8) n)
    (L : List (View.Piece (Elt Ideal) S264x512 .f32)) (i : ℕ) (hi : i < 264) (h : i < 8) (n : Fin 512) :
    View.canon (Val := Elt Ideal) (⟨R0, k0_pay39 (k0_pay33 (k0_pay5 x1 x0 x2 x3))⟩ :: L) (row i hi n) = p (s + 512 + i) n := by
  rw [hit0 _ _ _ _ h, p39_at, hP]
  show p (s + (256 + (248 + i)) + 8) n = _
  rw [show s + (256 + (248 + i)) + 8 = s + 512 + i by omega]

end Cert.Own.LruTile
end
-- ==== Proof.LruRope.lean ====
/- THE ROTATED PROJECTIONS OF ONE GRID POINT. The body turns each 128 columns (two heads) at once: a column times the cosine
   table, plus the column eight to its right times one sine table, plus the column eight to its left times the other. -/
module

public import proofs.«01_k».proof.Proof.LruTile

@[expose] public section

set_option maxRecDepth 16384

noncomputable section

namespace Cert.Own.LruRope

open Cert.LruIdeal Cert.LruIdeal.Gen Idealize.ShloMosaic Idealize.ShloMosaic.TcCoe Cert.Own.LruLoads

/-- A column's place among its 128 columns, and the columns eight to its right and to its left there, cyclically. -/
def col (n : Fin 512) : Fin 128 := ⟨n.val % 128, Nat.mod_lt _ (by decide)⟩
def up (n : Fin 512) : Fin 512 := ⟨128 * (n.val / 128) + (n.val % 128 + 8) % 128, by omega⟩
def dn (n : Fin 512) : Fin 512 := ⟨128 * (n.val / 128) + (n.val % 128 + 120) % 128, by omega⟩

/-- One row turned. -/
def turn (x : Fin 512 → EReal) (c sa sb : Fin 128 → EReal) (n : Fin 512) : EReal :=
  x n * c (col n) + x (up n) * sa (col n) + x (dn n) * sb (col n)

section
variable (P : FVec Ideal S512x2560 .f32) (x4 x5 x6 : Vec Ideal S512x128 .f32)

theorem turn_congr (r : Fin 512) {a b c a' b' c' : Fin 2560} {d d' : Fin 128} (ha : a.val = a'.val) (hb : b.val = b'.val)
    (hc : c.val = c'.val) (hd : d.val = d'.val) :
    P (ix2 r a) * x4 (ix2 r d) + P (ix2 r b) * x5 (ix2 r d) + P (ix2 r c) * x6 (ix2 r d)
      = P (ix2 r a') * x4 (ix2 r d') + P (ix2 r b') * x5 (ix2 r d') + P (ix2 r c') * x6 (ix2 r d') := by
  obtain rfl := Fin.ext ha; obtain rfl := Fin.ext hb; obtain rfl := Fin.ext hc; obtain rfl := Fin.ext hd; rfl

theorem q_at (r n : Fin 512) : k0_pay74 (k0_pay70 P (k0_pay67 x4) x5 x6) (ix3 (0 : Fin 1) r n)
    = turn (fun k => P (ix2 r ⟨1024 + k.val, by omega⟩)) (fun k => x4 (ix2 r k)) (fun k => x5 (ix2 r k)) (fun k => x6 (ix2 r k)) n
      * Ideal.ofBits FTy.f32 0x3E38AA3B#32 := by
  unfold k0_pay74 k0_pay70 k0_pay67 k0_pay68 k0_pay69
  pointwise
  refine congrArg (· * Ideal.ofBits FTy.f32 0x3E38AA3B#32) ?_
  unfold turn
  split_ifs with h1 h2 h3
  all_goals
    refine turn_congr P x4 x5 x6 r ?_ ?_ ?_ ?_ <;> simp only [up, dn, col] <;> omega

theorem k_at' (r n : Fin 512) :
    k0_pay73 (k0_pay67 x4) (k0_pay68 x5) (k0_pay69 x6) (k0_pay71 P) (k0_pay72 P (k0_pay67 x4) x5 x6) (ix2 r n)
    = turn (fun k => P (ix2 r ⟨1536 + k.val, by omega⟩)) (fun k => x4 (ix2 r k)) (fun k => x5 (ix2 r k)) (fun k => x6 (ix2 r k)) n := by
  unfold k0_pay73 k0_pay72 k0_pay71 k0_pay67 k0_pay68 k0_pay69
  pointwise
  unfold turn
  split_ifs with h1 h2 h3
  all_goals
    refine turn_congr P x4 x5 x6 r ?_ ?_ ?_ ?_ <;> simp only [up, dn, col] <;> omega

theorem k_at (r n : Fin 512) :
    k0_pay75 (k0_pay67 x4) (k0_pay68 x5) (k0_pay69 x6) (k0_pay71 P) (k0_pay72 P (k0_pay67 x4) x5 x6) (ix3 (0 : Fin 1) r n)
    = turn (fun k => P (ix2 r ⟨1536 + k.val, by omega⟩)) (fun k => x4 (ix2 r k)) (fun k => x5 (ix2 r k)) (fun k => x6 (ix2 r k)) n := by
  rw [← k_at']
  unfold k0_pay75
  generalize k0_pay73 (F := Ideal) _ _ _ _ _ = t
  pointwise

theorem v_at (r n : Fin 512) : k0_pay76 P (ix3 (0 : Fin 1) r n) = P (ix2 r ⟨2048 + n.val, by omega⟩) := by
  unfold k0_pay76
  pointwise

/-- The two means of 256 turned rows. -/
theorem cent_canon (h : Fin 2) (n : Fin 512) :
    View.canon (Val := Elt Ideal) (s := S1x2x1x512) (e := .f32)
      [⟨Rect.unit ![0, 1, 0, 0] ![1, 1, 1, 512] inb_S1x2x1x512_S1x1x1x512_0_1_0_0,
          k0_pay2 (k0_pay73 (k0_pay67 x4) (k0_pay68 x5) (k0_pay69 x6) (k0_pay71 P) (k0_pay72 P (k0_pay67 x4) x5 x6))⟩,
        ⟨Rect.unit ![0, 0, 0, 0] ![1, 1, 1, 512] inb_S1x2x1x512_S1x1x1x512_0_0_0_0,
          k0_pay1 (k0_pay77 (k0_pay67 x4) (k0_pay68 x5) (k0_pay69 x6) (k0_pay71 P) (k0_pay72 P (k0_pay67 x4) x5 x6))⟩]
      (ix4 (0 : Fin 1) h (0 : Fin 1) n)
    = Ideal.div (∑ r : Fin 256, turn (fun k => P (ix2 (⟨256 * h.val + r.val, by omega⟩ : Fin 512) ⟨1536 + k.val, by omega⟩))
        (fun k => x4 (ix2 (⟨256 * h.val + r.val, by omega⟩ : Fin 512) k)) (fun k => x5 (ix2 (⟨256 * h.val + r.val, by omega⟩ : Fin 512) k))
        (fun k => x6 (ix2 (⟨256 * h.val + r.val, by omega⟩ : Fin 512) k)) n) (Ideal.ofBits FTy.f32 0x43800000#32) := by
  have e := k_at' P x4 x5 x6
  unfold k0_pay77
  generalize k0_pay73 (k0_pay67 x4) (k0_pay68 x5) (k0_pay69 x6) (k0_pay71 P) (k0_pay72 P (k0_pay67 x4) x5 x6) = t at *
  simp only [← e]
  match h with
  | ⟨0, _⟩ =>
    refine (canon_miss (s := S1x2x1x512) (off := ![0, 1, 0, 0]) (size := ![1, 1, 1, 512]) _ _ _ _ (1 : Fin 4) (Or.inl Nat.zero_lt_one)).trans ?_
    refine (canon_hit (s := S1x2x1x512) (off := ![0, 0, 0, 0]) (size := ![1, 1, 1, 512]) _ _ _ _
      (ix4 (0 : Fin 1) (0 : Fin 1) (0 : Fin 1) n) fun a => ?_).trans ?_
    · match a with
      | ⟨0, _⟩ => rfl
      | ⟨1, _⟩ => rfl
      | ⟨2, _⟩ => rfl
      | ⟨3, _⟩ => show n.val = 0 + n.val; omega
    · unfold k0_pay1
      pointwise
  | ⟨1, _⟩ =>
    refine (canon_hit (s := S1x2x1x512) (off := ![0, 1, 0, 0]) (size := ![1, 1, 1, 512]) _ _ _ _
      (ix4 (0 : Fin 1) (0 : Fin 1) (0 : Fin 1) n) fun a => ?_).trans ?_
    · match a with
      | ⟨0, _⟩ => rfl
      | ⟨1, _⟩ => rfl
      | ⟨2, _⟩ => rfl
      | ⟨3, _⟩ => show n.val = 0 + n.val; omega
    · unfold k0_pay2
      pointwise

end

end Cert.Own.LruRope
end
-- ==== Proof.LruSpec.lean ====
/- THE LAYER'S RESULTS AS EXTENDED-REAL EXPRESSIONS of the arguments: the projected rows, the recurrence's weights with each gate's
   eight blocks on a diagonal, the rotary turn of a head's first sixteen features, and the five results. Both programs are
   shown to compute these. -/
module

public import proofs.«01_k».proof.Proof.Rows
public import proofs.«01_k».proof.Proof.LruRope
public import proofs.«01_k».proof.Proof.LruTile

@[expose] public section

noncomputable section

namespace Cert.Own.LruSpec

open Idealize.ShloMosaic Cert.Own Cert.Own.LruScan Cert.Own.LruTile Cert.Own.LruRope

/-- The angle of frequency `f` at position `s`. -/
def ang (s f : ℕ) : EReal :=
  FloatOps.sitofp (F := Ideal) FTy.f32 (BitVec.ofNat 32 s) *
    Ideal.pow (Ideal.ofBits FTy.f32 0x48F42400#32)
      (Ideal.div (-FloatOps.sitofp (F := Ideal) FTy.f32 (BitVec.ofNat 32 f) * Ideal.ofBits FTy.f32 0x40000000#32)
        (Ideal.ofBits FTy.f32 0x41800000#32))

/-- The rotary turn at position `s`: in each head of 64 features the first eight and the next eight are the two coordinates. -/
def rope (s : ℕ) (x : Fin 512 → EReal) (n : Fin 512) : EReal :=
  if h : n.val % 64 < 8 then
    x n * Ideal.cos (ang s (n.val % 64)) - x ⟨n.val + 8, by omega⟩ * Ideal.sin (ang s (n.val % 64))
  else if h' : n.val % 64 - 8 < 8 then
    x n * Ideal.cos (ang s (n.val % 64 - 8)) + x ⟨n.val - 8, by omega⟩ * Ideal.sin (ang s (n.val % 64 - 8))
  else x n

/-- The three tables' columns the kernel turns by. -/
def tabC (s n : ℕ) : EReal := if n % 64 < 8 then Ideal.cos (ang s (n % 64)) else if n % 64 - 8 < 8 then Ideal.cos (ang s (n % 64 - 8)) else 1
def tabU (s n : ℕ) : EReal := if n % 64 < 8 then -Ideal.sin (ang s (n % 64)) else 0
def tabD (s n : ℕ) : EReal := if n % 64 < 8 then 0 else if n % 64 - 8 < 8 then Ideal.sin (ang s (n % 64 - 8)) else 0

/-- Turning by the tables is the rotary turn. -/
theorem turn_eq (s : ℕ) (x : Fin 512 → EReal) (n : Fin 512) :
    turn x (fun k => tabC s k.val) (fun k => tabU s k.val) (fun k => tabD s k.val) n = rope s x n := by
  have e : (col n).val % 64 = n.val % 64 := by show n.val % 128 % 64 = _; omega
  unfold turn rope
  simp only [tabC, tabU, tabD, e]
  by_cases h : n.val % 64 < 8
  · have hu : up n = ⟨n.val + 8, by omega⟩ := Fin.ext (by show 128 * (n.val / 128) + (n.val % 128 + 8) % 128 = n.val + 8; omega)
    simp only [h, if_true, dif_pos, hu, mul_zero, add_zero, mul_neg, sub_eq_add_neg]
  · by_cases h' : n.val % 64 - 8 < 8
    · have hd : dn n = ⟨n.val - 8, by omega⟩ := Fin.ext (by show 128 * (n.val / 128) + (n.val % 128 + 120) % 128 = n.val - 8; omega)
      simp only [h, h', if_true, if_false, dif_pos, dif_neg, not_false_eq_true, hd, mul_zero, add_zero]
    · simp only [h, h', if_false, dif_neg, not_false_eq_true, mul_zero, add_zero, mul_one]

/-- The call's arguments, as functions of their indices. -/
structure Inp where
  x : Fin 4 → Fin 8192 → Fin 1024 → EReal
  mod : Fin 4 → Fin 9 → Fin 1024 → EReal
  g : Fin 1024 → EReal
  w : Fin 1024 → Fin 2560 → EReal
  cw : Fin 4 → Fin 512 → EReal
  cb : Fin 512 → EReal
  wa : Fin 8 → Fin 64 → Fin 64 → EReal
  ba : Fin 8 → Fin 64 → EReal
  wx : Fin 8 → Fin 64 → Fin 64 → EReal
  bx : Fin 8 → Fin 64 → EReal
  lam : Fin 512 → EReal

/-- A column's block of 64 and its place there. -/
def blk (n : Fin 512) : Fin 8 := ⟨n.val / 64, by omega⟩
def pos (n : Fin 512) : Fin 64 := ⟨n.val % 64, by omega⟩

/-- The unit matrix's element. -/
def unit8 (a b : Fin 8) : EReal := if a = b then 1 else 0

/-- The weights of the recurrence, each gate's blocks on a diagonal. -/
def Inp.W (I : Inp) : Wt where
  cw := I.cw
  cb := I.cb
  wa k n := unit8 (blk k) (blk n) * I.wa (blk k) (pos k) (pos n)
  ba n := I.ba (blk n) (pos n)
  wx k n := unit8 (blk k) (blk n) * I.wx (blk k) (pos k) (pos n)
  bx n := I.bx (blk n) (pos n)
  lam := I.lam

/-- The projection of token `s` of sequence `b`. -/
def Inp.u (I : Inp) (b : Fin 4) (s : Fin 8192) (j : Fin 2560) : EReal :=
  ∑ k, rowMod (I.x b s) I.g (I.mod b 3) (I.mod b 4) k * I.w k j

/-- The recurrence's input rows, eight rows of padding first. -/
def Inp.p (I : Inp) (b : Fin 4) (s : ℕ) (n : Fin 512) : EReal :=
  if h : 8 ≤ s ∧ s - 8 < 8192 then I.u b ⟨s - 8, h.2⟩ ⟨n.val, by omega⟩ else 0

/-- The five results. -/
def Inp.y (I : Inp) (b : Fin 4) (s : Fin 8192) (n : Fin 512) : EReal :=
  St I.W (I.p b) n (s.val + 1) * gl (I.u b s ⟨512 + n.val, by omega⟩)
def Inp.q (I : Inp) (b : Fin 4) (s : Fin 8192) (n : Fin 512) : EReal :=
  rope s.val (fun k => I.u b s ⟨1024 + k.val, by omega⟩) n * Ideal.ofBits FTy.f32 0x3E38AA3B#32
def Inp.k (I : Inp) (b : Fin 4) (s : Fin 8192) (n : Fin 512) : EReal :=
  rope s.val (fun k => I.u b s ⟨1536 + k.val, by omega⟩) n
def Inp.v (I : Inp) (b : Fin 4) (s : Fin 8192) (n : Fin 512) : EReal := I.u b s ⟨2048 + n.val, by omega⟩
def Inp.cent (I : Inp) (b : Fin 4) (h : Fin 32) (n : Fin 512) : EReal :=
  Ideal.div (∑ r : Fin 256, I.k b ⟨256 * h.val + r.val, by omega⟩ n) (Ideal.ofBits FTy.f32 0x43800000#32)

theorem p_pad (I : Inp) (b : Fin 4) (s : ℕ) (n : Fin 512) (h : s < 8) : I.p b s n = 0 := dif_neg fun h' => by omega
theorem p_row (I : Inp) (b : Fin 4) (s : Fin 8192) (n : Fin 512) : I.p b (s.val + 8) n = I.u b s ⟨n.val, by omega⟩ := by
  refine (dif_pos ⟨Nat.le_add_left 8 _, by have := s.isLt; omega⟩).trans ?_
  exact congrArg (fun t => I.u b t ⟨n.val, by omega⟩) (Fin.ext (by show s.val + 8 - 8 = s.val; omega))

/-- A sum over 512 columns against one column of a block diagonal is the sum over the column's block. -/
theorem sum_blocks (c : Fin 512 → EReal) (w : Fin 8 → Fin 64 → Fin 64 → EReal) (n : Fin 512) :
    ∑ k : Fin 512, c k * (unit8 (blk k) (blk n) * w (blk k) (pos k) (pos n))
      = ∑ j : Fin 64, c ⟨64 * (n.val / 64) + j.val, by omega⟩ * w (blk n) j (pos n) := by
  rw [← (finProdFinEquiv (m := 8) (n := 64)).sum_comp (fun k : Fin 512 => c k * (unit8 (blk k) (blk n) * w (blk k) (pos k) (pos n))),
    Fintype.sum_prod_type]
  have hb : ∀ (a : Fin 8) (j : Fin 64), blk (finProdFinEquiv (m := 8) (n := 64) (a, j)) = a := fun a j =>
    Fin.ext (by show (j.val + 64 * a.val) / 64 = a.val; omega)
  have hp : ∀ (a : Fin 8) (j : Fin 64), pos (finProdFinEquiv (m := 8) (n := 64) (a, j)) = j := fun a j =>
    Fin.ext (by show (j.val + 64 * a.val) % 64 = j.val; omega)
  simp only [hb, hp]
  rw [Finset.sum_eq_single (blk n)]
  · refine Finset.sum_congr rfl fun j _ => ?_
    rw [unit8, if_pos rfl, one_mul]
    exact congrArg (fun k => c k * w (blk n) j (pos n)) (Fin.ext (by show j.val + 64 * (n.val / 64) = _; exact Nat.add_comm _ _))
  · intro a _ ha
    refine Finset.sum_eq_zero fun j _ => ?_
    rw [unit8, if_neg ha, zero_mul, mul_zero]
  · intro h; exact absurd (Finset.mem_univ _) h

end Cert.Own.LruSpec
end
-- ==== Proof.LruHost.lean ====
/- WHAT THE CALL FINDS IN ITS OPERANDS: the arguments reshaped, the gates' blocks set on a diagonal, the rotary tables. -/
module

public import proofs.«01_k».proof.Proof.LruIBlocks
public import proofs.«01_k».proof.Proof.LruSpec

@[expose] public section

set_option maxRecDepth 16384

noncomputable section

namespace Cert.Own.LruIdealRun

open Cert.LruIdeal Cert.LruIdeal.Gen Idealize.ShloMosaic Idealize.ShloMosaic.TcCoe Idealize.SL.Sem Cert.Own.LruSpec

variable (m : (ℓ : Loc nD τ sig) → Buf (Elt Ideal) ℓ)

/-- The unit matrix the block diagonals are built from. -/
def eye : FVec Ideal S8x8 .f32 := uitofp .f32 (cmpi .eq (addi (iotaInDim S8x8 32 0)
  (broadcastInDim S8x8 ![] bcast_S_S8x8 (constantI S_ 32 0#32))) (iotaInDim S8x8 32 1))

theorem eye_at (a b : Fin 8) : eye (ix2 a b) = unit8 a b := by
  unfold eye unit8
  pointwise
  have e : IntOp.cmpi CmpIPredicate.eq (IntOp.addi (BitVec.ofNat 32 a.val) 0#32) (BitVec.ofNat 32 b.val) = if a = b then 1#1 else 0#1 := by
    revert a b
    decide +kernel
  rw [e]
  split_ifs
  · show (((1#1 : BitVec 1).toNat : ℝ) : EReal) = 1
    norm_num
  · show (((0#1 : BitVec 1).toNat : ℝ) : EReal) = 0
    norm_num

/-- Eight blocks set on a diagonal. -/
def diag (w : FVec Ideal S8x64x64 .f32) : FVec Ideal S512x512 .bf16 :=
  truncf .bf16 (shapeCast S512x512 (mulf (broadcastInDim S8x64x8x64 ![0, 1, 2, 3] bcast_S8x1x8x1_S8x64x8x64_0_1_2_3
      (broadcastInDim S8x1x8x1 ![0, 2] bcast_S8x8_S8x1x8x1_0_2 eye))
    (broadcastInDim S8x64x8x64 ![0, 1, 2, 3] bcast_S8x64x1x64_S8x64x8x64_0_1_2_3
      (broadcastInDim S8x64x1x64 ![0, 1, 3] bcast_S8x64x64_S8x64x1x64_0_1_3 w)))
      shapeCasts_S8x64x8x64_S512x512) bitsLt_bf16_f32

theorem diag_at (w : FVec Ideal S8x64x64 .f32) (k n : Fin 512) :
    diag w (ix2 k n) = unit8 (blk k) (blk n) * w (ix3 (blk k) (pos k) (pos n)) := by
  unfold diag
  pointwise
  rw [← eye_at]
  rfl

/-- The angles, and a table of 64 columns repeated over 128. -/
def angs : FVec Ideal S8192x8 .f32 := mulf (broadcastInDim S8192x8 ![0, 1] bcast_S8192x1_S8192x8_0_1
    (broadcastInDim S8192x1 ![0] bcast_S8192_S8192x1_0 (sitofp .f32 (iotaInDim S8192 32 0))))
  (broadcastInDim S8192x8 ![0, 1] bcast_S1x8_S8192x8_0_1 (broadcastInDim S1x8 ![1] bcast_S8_S1x8_1
    (Host.powf (broadcastInDim S8 ![] bcast_S_S8 (constant S_ .f32 0x48F42400#32))
      (Host.divf (mulf (Host.negf (sitofp .f32 (iotaInDim S8 32 0))) (broadcastInDim S8 ![] bcast_S_S8 (constant S_ .f32 0x40000000#32)))
        (broadcastInDim S8 ![] bcast_S_S8 (constant S_ .f32 0x41800000#32))))))

theorem angs_at (s : Fin 8192) (f : Fin 8) : angs (ix2 s f) = ang s.val f.val := by
  unfold angs ang
  pointwise

def twice (a b : FVec Ideal S8192x8 .f32) (d : FVec Ideal S8192x48 .f32) : FVec Ideal S8192x128 .f32 :=
  shapeCast S8192x128 (broadcastInDim S1x8192x2x64 ![0, 1, 2, 3] bcast_S1x8192x1x64_S1x8192x2x64_0_1_2_3
    (shapeCast S1x8192x1x64 (concatenate S8192x64 1 [⟨S8192x8, a⟩, ⟨S8192x8, b⟩, ⟨S8192x48, d⟩]
      concatenates_S8192x8_S8192x8_S8192x48_S8192x64_d1 : FVec Ideal S8192x64 .f32)
      shapeCasts_S8192x64_S1x8192x1x64)) shapeCasts_S1x8192x2x64_S8192x128

abbrev ones : FVec Ideal S8192x48 .f32 := broadcastInDim S8192x48 ![] bcast_S_S8192x48 (constant (F := Ideal) S_ .f32 0x3F800000#32)
abbrev zeros48 : FVec Ideal S8192x48 .f32 := broadcastInDim S8192x48 ![] bcast_S_S8192x48 (constant (F := Ideal) S_ .f32 0x00000000#32)
abbrev zeros8 : FVec Ideal S8192x8 .f32 := broadcastInDim S8192x8 ![] bcast_S_S8192x8 (constant (F := Ideal) S_ .f32 0x00000000#32)

theorem tabC_at (s : Fin 8192) (n : Fin 128) : twice (Host.cos angs) (Host.cos angs) ones (ix2 s n) = tabC s.val n.val := by
  unfold twice tabC
  pointwise
  simp only [angs_at]
  split_ifs <;> rfl
theorem tabU_at (s : Fin 8192) (n : Fin 128) : twice (Host.negf (Host.sin angs)) zeros8 zeros48 (ix2 s n) = tabU s.val n.val := by
  unfold twice tabU
  pointwise
  simp only [angs_at]
  split_ifs <;> rfl
theorem tabD_at (s : Fin 8192) (n : Fin 128) : twice zeros8 (Host.sin angs) zeros48 (ix2 s n) = tabD s.val n.val := by
  unfold twice tabD
  pointwise
  simp only [angs_at]
  split_ifs <;> rfl

/-! ## The operands -/

theorem V12 (c : Dev nD) : V m c main_v12 = diag (m ((c : Thread nD τ).loc main_arg6)) := rfl
theorem V26 (c : Dev nD) : V m c main_v26 = diag (m ((c : Thread nD τ).loc main_arg8)) := rfl
theorem V28 (c : Dev nD) (j : S1024x2560.Idx) : V m c main_v28 j = m ((c : Thread nD τ).loc main_arg3) j := rfl
theorem V54 (c : Dev nD) : V m c main_v54 = twice (Host.cos angs) (Host.cos angs) ones := rfl
theorem V57 (c : Dev nD) : V m c main_v57 = twice (Host.negf (Host.sin angs)) zeros8 zeros48 := rfl
theorem V60 (c : Dev nD) : V m c main_v60 = twice zeros8 (Host.sin angs) zeros48 := rfl
theorem V61 (c : Dev nD) (k : Fin 1024) : V m c main_v61 (ix2 0 k) = m ((c : Thread nD τ).loc main_arg2) (ix1 k) := by
  show shapeCast S1x1024 (m ((c : Thread nD τ).loc main_arg2)) shapeCasts_S1024_S1x1024 (ix2 0 k) = _
  pointwise
theorem V62 (c : Dev nD) (n : Fin 512) : V m c main_v62 (ix2 0 n) = m ((c : Thread nD τ).loc main_arg5) (ix1 n) := by
  show shapeCast S1x512 (m ((c : Thread nD τ).loc main_arg5)) shapeCasts_S512_S1x512 (ix2 0 n) = _
  pointwise
theorem V65 (c : Dev nD) (n : Fin 512) : V m c main_v65 (ix2 0 n) = m ((c : Thread nD τ).loc main_arg10) (ix1 n) := by
  show shapeCast S1x512 (m ((c : Thread nD τ).loc main_arg10)) shapeCasts_S512_S1x512 (ix2 0 n) = _
  pointwise
theorem flat_at (x : FVec Ideal S8x64 .f32) (n : Fin 512) :
    shapeCast S1x512 (shapeCast S512 x shapeCasts_S8x64_S512) shapeCasts_S512_S1x512 (ix2 0 n) = x (ix2 (blk n) (pos n)) := by
  pointwise
  rfl
theorem V63 (c : Dev nD) : V m c main_v63
    = shapeCast S1x512 (shapeCast S512 (m ((c : Thread nD τ).loc main_arg7)) shapeCasts_S8x64_S512) shapeCasts_S512_S1x512 := rfl
theorem V64 (c : Dev nD) : V m c main_v64
    = shapeCast S1x512 (shapeCast S512 (m ((c : Thread nD τ).loc main_arg9)) shapeCasts_S8x64_S512) shapeCasts_S512_S1x512 := rfl
theorem V0 (c : Dev nD) : V m c main_arg0 = m ((c : Thread nD τ).loc main_arg0) := rfl
theorem V1 (c : Dev nD) : V m c main_arg1 = m ((c : Thread nD τ).loc main_arg1) := rfl
theorem V4 (c : Dev nD) : V m c main_arg4 = m ((c : Thread nD τ).loc main_arg4) := rfl

end Cert.Own.LruIdealRun
end
-- ==== Proof.LruWin.lean ====
/- WHERE EACH OPERAND'S AND RESULT'S BLOCK LIES, and the operands' blocks at an index: grid point `t` holds 512 tokens of
   sequence `t / 16`. -/
module

public import proofs.«01_k».proof.Proof.LruHost

@[expose] public section

set_option maxRecDepth 16384

noncomputable section

namespace Cert.Own.LruIdealRun

open Cert.LruIdeal Cert.LruIdeal.Gen Idealize.ShloMosaic Idealize.ShloMosaic.TcCoe Idealize.SL.Sem Cert.Own Cert.Own.LruSpec
open Cert.Own.LruTile

variable (m : (ℓ : Loc nD τ sig) → Buf (Elt Ideal) ℓ)

theorem hN (t : Fin cfg0.N) : t.val < 64 := t.isLt

/-- Sequence of grid point `t`, and row `r` of its block as a token of the sequence. -/
def seq (t : Fin cfg0.N) : Fin 4 := ⟨t.val / 16, by have := hN t; omega⟩
def tok (t : Fin cfg0.N) (r : Fin 512) : Fin 8192 := ⟨512 * (t.val % 16) + r.val, by omega⟩

theorem idx0 : ∀ t : Fin cfg0.N, win0_0.index t = ![t.val / 16, t.val % 16, 0] := (by decide +kernel : ∀ t : Fin grid0.N, _)
theorem idx1 : ∀ t : Fin cfg0.N, win0_1.index t = ![t.val / 16, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val % 16, 0] := (by decide +kernel : ∀ t : Fin grid0.N, _)
theorem idx5 : ∀ t : Fin cfg0.N, win0_5.index t = ![t.val % 16, 0] := (by decide +kernel : ∀ t : Fin grid0.N, _)
theorem idx6 : ∀ t : Fin cfg0.N, win0_6.index t = ![t.val % 16, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![t.val / 16, t.val % 16, 0] := (by decide +kernel : ∀ t : Fin grid0.N, _)
theorem idx15 : ∀ t : Fin cfg0.N, win0_15.index t = ![t.val / 16, t.val % 16, 0] := (by decide +kernel : ∀ t : Fin grid0.N, _)
theorem idx16 : ∀ t : Fin cfg0.N, win0_16.index t = ![t.val / 16, t.val % 16, 0] := (by decide +kernel : ∀ t : Fin grid0.N, _)
theorem idx17 : ∀ t : Fin cfg0.N, win0_17.index t = ![t.val / 16, t.val % 16, 0] := (by decide +kernel : ∀ t : Fin grid0.N, _)
theorem idx18 : ∀ t : Fin cfg0.N, win0_18.index t = ![t.val / 16, t.val % 16, 0, 0] := (by decide +kernel : ∀ t : Fin grid0.N, _)

theorem emb0 (t : Fin cfg0.N) (j : S1x512x1024.Idx) : ((cfg0.win 0).blk t).view.emb j = ix3 (seq t) (tok t (j 1)) (j 2) := by
  have e := idx0 t
  have h0 : (j 0).val < 1 := (j 0).isLt
  funext a; apply Fin.ext
  match a with
  | ⟨0, _⟩ => show win0_0.index t 0 * 1 + 1 * (j 0).val = _; rw [e]; show t.val / 16 * 1 + 1 * (j 0).val = t.val / 16; omega
  | ⟨1, _⟩ => show win0_0.index t 1 * 512 + 1 * (j 1).val = _; rw [e]; show t.val % 16 * 512 + 1 * (j 1).val = 512 * (t.val % 16) + (j 1).val; omega
  | ⟨2, _⟩ => show win0_0.index t 2 * 1024 + 1 * (j 2).val = _; rw [e]; show 0 * 1024 + 1 * (j 2).val = (j 2).val; omega
theorem emb1 (t : Fin cfg0.N) (j : S1x9x1024.Idx) : ((cfg0.win 1).blk t).view.emb j = ix3 (seq t) (j 1) (j 2) := by
  have e := idx1 t
  have h0 : (j 0).val < 1 := (j 0).isLt
  funext a; apply Fin.ext
  match a with
  | ⟨0, _⟩ => show win0_1.index t 0 * 1 + 1 * (j 0).val = _; rw [e]; show t.val / 16 * 1 + 1 * (j 0).val = t.val / 16; omega
  | ⟨1, _⟩ => show win0_1.index t 1 * 9 + 1 * (j 1).val = _; rw [e]; show 0 * 9 + 1 * (j 1).val = (j 1).val; omega
  | ⟨2, _⟩ => show win0_1.index t 2 * 1024 + 1 * (j 2).val = _; rw [e]; show 0 * 1024 + 1 * (j 2).val = (j 2).val; omega
theorem emb2 (t : Fin cfg0.N) (j : S1x1024.Idx) : ((cfg0.win 2).blk t).view.emb j = j := by
  have e := idx2 t
  have h0 : (j 0).val < 1 := (j 0).isLt
  funext a; apply Fin.ext
  match a with
  | ⟨0, _⟩ => show win0_2.index t 0 * 1 + 1 * (j 0).val = _; rw [e]; show 0 * 1 + 1 * (j 0).val = (j 0).val; omega
  | ⟨1, _⟩ => show win0_2.index t 1 * 1024 + 1 * (j 1).val = _; rw [e]; show 0 * 1024 + 1 * (j 1).val = (j 1).val; omega
theorem emb3 (t : Fin cfg0.N) (j : S1024x2560.Idx) : ((cfg0.win 3).blk t).view.emb j = j := by
  have e := idx3 t
  have h0 : (j 0).val < 1024 := (j 0).isLt
  funext a; apply Fin.ext
  match a with
  | ⟨0, _⟩ => show win0_3.index t 0 * 1024 + 1 * (j 0).val = _; rw [e]; show 0 * 1024 + 1 * (j 0).val = (j 0).val; omega
  | ⟨1, _⟩ => show win0_3.index t 1 * 2560 + 1 * (j 1).val = _; rw [e]; show 0 * 2560 + 1 * (j 1).val = (j 1).val; omega
theorem emb4 (t : Fin cfg0.N) (j : S512x128.Idx) : ((cfg0.win 4).blk t).view.emb j = ix2 (tok t (j 0)) (j 1) := by
  have e := idx4 t
  have h0 : (j 0).val < 512 := (j 0).isLt
  funext a; apply Fin.ext
  match a with
  | ⟨0, _⟩ => show win0_4.index t 0 * 512 + 1 * (j 0).val = _; rw [e]; show t.val % 16 * 512 + 1 * (j 0).val = 512 * (t.val % 16) + (j 0).val; omega
  | ⟨1, _⟩ => show win0_4.index t 1 * 128 + 1 * (j 1).val = _; rw [e]; show 0 * 128 + 1 * (j 1).val = (j 1).val; omega
theorem emb5 (t : Fin cfg0.N) (j : S512x128.Idx) : ((cfg0.win 5).blk t).view.emb j = ix2 (tok t (j 0)) (j 1) := by
  have e := idx5 t
  have h0 : (j 0).val < 512 := (j 0).isLt
  funext a; apply Fin.ext
  match a with
  | ⟨0, _⟩ => show win0_5.index t 0 * 512 + 1 * (j 0).val = _; rw [e]; show t.val % 16 * 512 + 1 * (j 0).val = 512 * (t.val % 16) + (j 0).val; omega
  | ⟨1, _⟩ => show win0_5.index t 1 * 128 + 1 * (j 1).val = _; rw [e]; show 0 * 128 + 1 * (j 1).val = (j 1).val; omega
theorem emb6 (t : Fin cfg0.N) (j : S512x128.Idx) : ((cfg0.win 6).blk t).view.emb j = ix2 (tok t (j 0)) (j 1) := by
  have e := idx6 t
  have h0 : (j 0).val < 512 := (j 0).isLt
  funext a; apply Fin.ext
  match a with
  | ⟨0, _⟩ => show win0_6.index t 0 * 512 + 1 * (j 0).val = _; rw [e]; show t.val % 16 * 512 + 1 * (j 0).val = 512 * (t.val % 16) + (j 0).val; omega
  | ⟨1, _⟩ => show win0_6.index t 1 * 128 + 1 * (j 1).val = _; rw [e]; show 0 * 128 + 1 * (j 1).val = (j 1).val; omega
theorem emb7 (t : Fin cfg0.N) (j : S4x512.Idx) : ((cfg0.win 7).blk t).view.emb j = j := by
  have e := idx7 t
  have h0 : (j 0).val < 4 := (j 0).isLt
  funext a; apply Fin.ext
  match a with
  | ⟨0, _⟩ => show win0_7.index t 0 * 4 + 1 * (j 0).val = _; rw [e]; show 0 * 4 + 1 * (j 0).val = (j 0).val; omega
  | ⟨1, _⟩ => show win0_7.index t 1 * 512 + 1 * (j 1).val = _; rw [e]; show 0 * 512 + 1 * (j 1).val = (j 1).val; omega
theorem emb8 (t : Fin cfg0.N) (j : S1x512.Idx) : ((cfg0.win 8).blk t).view.emb j = j := by
  have e := idx8 t
  have h0 : (j 0).val < 1 := (j 0).isLt
  funext a; apply Fin.ext
  match a with
  | ⟨0, _⟩ => show win0_8.index t 0 * 1 + 1 * (j 0).val = _; rw [e]; show 0 * 1 + 1 * (j 0).val = (j 0).val; omega
  | ⟨1, _⟩ => show win0_8.index t 1 * 512 + 1 * (j 1).val = _; rw [e]; show 0 * 512 + 1 * (j 1).val = (j 1).val; omega
theorem emb9 (t : Fin cfg0.N) (j : S512x512.Idx) : ((cfg0.win 9).blk t).view.emb j = j := by
  have e := idx9 t
  have h0 : (j 0).val < 512 := (j 0).isLt
  funext a; apply Fin.ext
  match a with
  | ⟨0, _⟩ => show win0_9.index t 0 * 512 + 1 * (j 0).val = _; rw [e]; show 0 * 512 + 1 * (j 0).val = (j 0).val; omega
  | ⟨1, _⟩ => show win0_9.index t 1 * 512 + 1 * (j 1).val = _; rw [e]; show 0 * 512 + 1 * (j 1).val = (j 1).val; omega
theorem emb10 (t : Fin cfg0.N) (j : S1x512.Idx) : ((cfg0.win 10).blk t).view.emb j = j := by
  have e := idx10 t
  have h0 : (j 0).val < 1 := (j 0).isLt
  funext a; apply Fin.ext
  match a with
  | ⟨0, _⟩ => show win0_10.index t 0 * 1 + 1 * (j 0).val = _; rw [e]; show 0 * 1 + 1 * (j 0).val = (j 0).val; omega
  | ⟨1, _⟩ => show win0_10.index t 1 * 512 + 1 * (j 1).val = _; rw [e]; show 0 * 512 + 1 * (j 1).val = (j 1).val; omega
theorem emb11 (t : Fin cfg0.N) (j : S512x512.Idx) : ((cfg0.win 11).blk t).view.emb j = j := by
  have e := idx11 t
  have h0 : (j 0).val < 512 := (j 0).isLt
  funext a; apply Fin.ext
  match a with
  | ⟨0, _⟩ => show win0_11.index t 0 * 512 + 1 * (j 0).val = _; rw [e]; show 0 * 512 + 1 * (j 0).val = (j 0).val; omega
  | ⟨1, _⟩ => show win0_11.index t 1 * 512 + 1 * (j 1).val = _; rw [e]; show 0 * 512 + 1 * (j 1).val = (j 1).val; omega
theorem emb12 (t : Fin cfg0.N) (j : S1x512.Idx) : ((cfg0.win 12).blk t).view.emb j = j := by
  have e := idx12 t
  have h0 : (j 0).val < 1 := (j 0).isLt
  funext a; apply Fin.ext
  match a with
  | ⟨0, _⟩ => show win0_12.index t 0 * 1 + 1 * (j 0).val = _; rw [e]; show 0 * 1 + 1 * (j 0).val = (j 0).val; omega
  | ⟨1, _⟩ => show win0_12.index t 1 * 512 + 1 * (j 1).val = _; rw [e]; show 0 * 512 + 1 * (j 1).val = (j 1).val; omega
theorem emb13 (t : Fin cfg0.N) (j : S1x512.Idx) : ((cfg0.win 13).blk t).view.emb j = j := by
  have e := idx13 t
  have h0 : (j 0).val < 1 := (j 0).isLt
  funext a; apply Fin.ext
  match a with
  | ⟨0, _⟩ => show win0_13.index t 0 * 1 + 1 * (j 0).val = _; rw [e]; show 0 * 1 + 1 * (j 0).val = (j 0).val; omega
  | ⟨1, _⟩ => show win0_13.index t 1 * 512 + 1 * (j 1).val = _; rw [e]; show 0 * 512 + 1 * (j 1).val = (j 1).val; omega
theorem emb14 (t : Fin cfg0.N) (j : S1x512x512.Idx) : ((cfg0.win 14).blk t).view.emb j = ix3 (seq t) (tok t (j 1)) (j 2) := by
  have e := idx14 t
  have h0 : (j 0).val < 1 := (j 0).isLt
  funext a; apply Fin.ext
  match a with
  | ⟨0, _⟩ => show win0_14.index t 0 * 1 + 1 * (j 0).val = _; rw [e]; show t.val / 16 * 1 + 1 * (j 0).val = t.val / 16; omega
  | ⟨1, _⟩ => show win0_14.index t 1 * 512 + 1 * (j 1).val = _; rw [e]; show t.val % 16 * 512 + 1 * (j 1).val = 512 * (t.val % 16) + (j 1).val; omega
  | ⟨2, _⟩ => show win0_14.index t 2 * 512 + 1 * (j 2).val = _; rw [e]; show 0 * 512 + 1 * (j 2).val = (j 2).val; omega
theorem emb15 (t : Fin cfg0.N) (j : S1x512x512.Idx) : ((cfg0.win 15).blk t).view.emb j = ix3 (seq t) (tok t (j 1)) (j 2) := by
  have e := idx15 t
  have h0 : (j 0).val < 1 := (j 0).isLt
  funext a; apply Fin.ext
  match a with
  | ⟨0, _⟩ => show win0_15.index t 0 * 1 + 1 * (j 0).val = _; rw [e]; show t.val / 16 * 1 + 1 * (j 0).val = t.val / 16; omega
  | ⟨1, _⟩ => show win0_15.index t 1 * 512 + 1 * (j 1).val = _; rw [e]; show t.val % 16 * 512 + 1 * (j 1).val = 512 * (t.val % 16) + (j 1).val; omega
  | ⟨2, _⟩ => show win0_15.index t 2 * 512 + 1 * (j 2).val = _; rw [e]; show 0 * 512 + 1 * (j 2).val = (j 2).val; omega
theorem emb16 (t : Fin cfg0.N) (j : S1x512x512.Idx) : ((cfg0.win 16).blk t).view.emb j = ix3 (seq t) (tok t (j 1)) (j 2) := by
  have e := idx16 t
  have h0 : (j 0).val < 1 := (j 0).isLt
  funext a; apply Fin.ext
  match a with
  | ⟨0, _⟩ => show win0_16.index t 0 * 1 + 1 * (j 0).val = _; rw [e]; show t.val / 16 * 1 + 1 * (j 0).val = t.val / 16; omega
  | ⟨1, _⟩ => show win0_16.index t 1 * 512 + 1 * (j 1).val = _; rw [e]; show t.val % 16 * 512 + 1 * (j 1).val = 512 * (t.val % 16) + (j 1).val; omega
  | ⟨2, _⟩ => show win0_16.index t 2 * 512 + 1 * (j 2).val = _; rw [e]; show 0 * 512 + 1 * (j 2).val = (j 2).val; omega
theorem emb17 (t : Fin cfg0.N) (j : S1x512x512.Idx) : ((cfg0.win 17).blk t).view.emb j = ix3 (seq t) (tok t (j 1)) (j 2) := by
  have e := idx17 t
  have h0 : (j 0).val < 1 := (j 0).isLt
  funext a; apply Fin.ext
  match a with
  | ⟨0, _⟩ => show win0_17.index t 0 * 1 + 1 * (j 0).val = _; rw [e]; show t.val / 16 * 1 + 1 * (j 0).val = t.val / 16; omega
  | ⟨1, _⟩ => show win0_17.index t 1 * 512 + 1 * (j 1).val = _; rw [e]; show t.val % 16 * 512 + 1 * (j 1).val = 512 * (t.val % 16) + (j 1).val; omega
  | ⟨2, _⟩ => show win0_17.index t 2 * 512 + 1 * (j 2).val = _; rw [e]; show 0 * 512 + 1 * (j 2).val = (j 2).val; omega
theorem emb18 (t : Fin cfg0.N) (j : S1x2x1x512.Idx) : ((cfg0.win 18).blk t).view.emb j = ix4 (seq t) (⟨2 * (t.val % 16) + (j 1).val, by have h : (j 1).val < 2 := (j 1).isLt; omega⟩ : Fin 32) (0 : Fin 1) (j 3) := by
  have e := idx18 t
  have h0 : (j 0).val < 1 := (j 0).isLt
  have h2 : (j 2).val < 1 := (j 2).isLt
  funext a; apply Fin.ext
  match a with
  | ⟨0, _⟩ => show win0_18.index t 0 * 1 + 1 * (j 0).val = _; rw [e]; show t.val / 16 * 1 + 1 * (j 0).val = t.val / 16; omega
  | ⟨1, _⟩ => show win0_18.index t 1 * 2 + 1 * (j 1).val = _; rw [e]; show t.val % 16 * 2 + 1 * (j 1).val = 2 * (t.val % 16) + (j 1).val; omega
  | ⟨2, _⟩ => show win0_18.index t 2 * 1 + 1 * (j 2).val = _; rw [e]; show 0 * 1 + 1 * (j 2).val = 0; omega
  | ⟨3, _⟩ => show win0_18.index t 3 * 512 + 1 * (j 3).val = _; rw [e]; show 0 * 512 + 1 * (j 3).val = (j 3).val; omega

/-! ## The arguments, and the blocks at an index -/

/-- The arguments as functions of their indices. -/
def inp (c : Dev nD) : Inp where
  x b s k := m ((c : Thread nD τ).loc main_arg0) (ix3 b s k)
  mod b a k := m ((c : Thread nD τ).loc main_arg1) (ix3 b a k)
  g k := m ((c : Thread nD τ).loc main_arg2) (ix1 k)
  w k j := m ((c : Thread nD τ).loc main_arg3) (ix2 k j)
  cw i n := m ((c : Thread nD τ).loc main_arg4) (ix2 i n)
  cb n := m ((c : Thread nD τ).loc main_arg5) (ix1 n)
  wa a i j := m ((c : Thread nD τ).loc main_arg6) (ix3 a i j)
  ba a j := m ((c : Thread nD τ).loc main_arg7) (ix2 a j)
  wx a i j := m ((c : Thread nD τ).loc main_arg8) (ix3 a i j)
  bx a j := m ((c : Thread nD τ).loc main_arg9) (ix2 a j)
  lam n := m ((c : Thread nD τ).loc main_arg10) (ix1 n)

theorem blk0 (c : Dev nD) (t : Fin cfg0.N) (r : Fin 512) (k : Fin 1024) :
    iblk m c 0 t (ix3 (0 : Fin 1) r k : S1x512x1024.Idx) = (inp m c).x (seq t) (tok t r) k := by
  show V m c main_arg0 (((cfg0.win 0).blk t).view.emb _) = _; rw [emb0, V0]; rfl
theorem blk1 (c : Dev nD) (t : Fin cfg0.N) (a : Fin 9) (k : Fin 1024) :
    iblk m c 1 t (ix3 (0 : Fin 1) a k : S1x9x1024.Idx) = (inp m c).mod (seq t) a k := by
  show V m c main_arg1 (((cfg0.win 1).blk t).view.emb _) = _; rw [emb1, V1]; rfl
theorem blk2 (c : Dev nD) (t : Fin cfg0.N) (k : Fin 1024) : iblk m c 2 t (ix2 (0 : Fin 1) k : S1x1024.Idx) = (inp m c).g k := by
  show V m c main_v61 (((cfg0.win 2).blk t).view.emb _) = _; rw [emb2, V61]; rfl
theorem blk3 (c : Dev nD) (t : Fin cfg0.N) (k : Fin 1024) (j : Fin 2560) :
    iblk m c 3 t (ix2 k j : S1024x2560.Idx) = (inp m c).w k j := by
  show V m c main_v28 (((cfg0.win 3).blk t).view.emb _) = _; rw [emb3, V28]; rfl
theorem blk4 (c : Dev nD) (t : Fin cfg0.N) (r : Fin 512) (n : Fin 128) :
    iblk m c 4 t (ix2 r n : S512x128.Idx) = tabC (tok t r).val n.val := by
  show V m c main_v54 (((cfg0.win 4).blk t).view.emb _) = _; rw [emb4, V54]; exact tabC_at _ _
theorem blk5 (c : Dev nD) (t : Fin cfg0.N) (r : Fin 512) (n : Fin 128) :
    iblk m c 5 t (ix2 r n : S512x128.Idx) = tabU (tok t r).val n.val := by
  show V m c main_v57 (((cfg0.win 5).blk t).view.emb _) = _; rw [emb5, V57]; exact tabU_at _ _
theorem blk6 (c : Dev nD) (t : Fin cfg0.N) (r : Fin 512) (n : Fin 128) :
    iblk m c 6 t (ix2 r n : S512x128.Idx) = tabD (tok t r).val n.val := by
  show V m c main_v60 (((cfg0.win 6).blk t).view.emb _) = _; rw [emb6, V60]; exact tabD_at _ _

theorem blk7 (c : Dev nD) (t : Fin cfg0.N) (i : Fin 4) (n : Fin 512) : iblk m c 7 t (ix2 i n : S4x512.Idx) = (inp m c).cw i n := by
  show V m c main_arg4 (((cfg0.win 7).blk t).view.emb _) = _; rw [emb7, V4]; rfl
theorem blk8 (c : Dev nD) (t : Fin cfg0.N) (n : Fin 512) : iblk m c 8 t (ix2 (0 : Fin 1) n : S1x512.Idx) = (inp m c).cb n := by
  show V m c main_v62 (((cfg0.win 8).blk t).view.emb _) = _; rw [emb8, V62]; rfl
theorem blk9 (c : Dev nD) (t : Fin cfg0.N) (k n : Fin 512) : iblk m c 9 t (ix2 k n : S512x512.Idx) = (inp m c).W.wa k n := by
  show V m c main_v12 (((cfg0.win 9).blk t).view.emb _) = _; rw [emb9]
  exact (congrFun (V12 m c) _).trans (diag_at (m ((c : Thread nD τ).loc main_arg6)) k n)
theorem blk10 (c : Dev nD) (t : Fin cfg0.N) (n : Fin 512) : iblk m c 10 t (ix2 (0 : Fin 1) n : S1x512.Idx) = (inp m c).W.ba n := by
  show V m c main_v63 (((cfg0.win 10).blk t).view.emb _) = _; rw [emb10]
  exact (congrFun (V63 m c) _).trans (flat_at (m ((c : Thread nD τ).loc main_arg7)) n)
theorem blk11 (c : Dev nD) (t : Fin cfg0.N) (k n : Fin 512) : iblk m c 11 t (ix2 k n : S512x512.Idx) = (inp m c).W.wx k n := by
  show V m c main_v26 (((cfg0.win 11).blk t).view.emb _) = _; rw [emb11]
  exact (congrFun (V26 m c) _).trans (diag_at (m ((c : Thread nD τ).loc main_arg8)) k n)
theorem blk12 (c : Dev nD) (t : Fin cfg0.N) (n : Fin 512) : iblk m c 12 t (ix2 (0 : Fin 1) n : S1x512.Idx) = (inp m c).W.bx n := by
  show V m c main_v64 (((cfg0.win 12).blk t).view.emb _) = _; rw [emb12]
  exact (congrFun (V64 m c) _).trans (flat_at (m ((c : Thread nD τ).loc main_arg9)) n)
theorem blk13 (c : Dev nD) (t : Fin cfg0.N) (n : Fin 512) : iblk m c 13 t (ix2 (0 : Fin 1) n : S1x512.Idx) = (inp m c).lam n := by
  show V m c main_v65 (((cfg0.win 13).blk t).view.emb _) = _; rw [emb13, V65]; rfl

/-- The recurrence's weights among the blocks. -/
theorem holds (c : Dev nD) (t : Fin cfg0.N) : Holds (inp m c).W (iblk m c 7 t) (iblk m c 8 t) (iblk m c 9 t) (iblk m c 10 t)
    (iblk m c 11 t) (iblk m c 12 t) (iblk m c 13 t) :=
  ⟨blk7 m c t, blk8 m c t, blk9 m c t, blk10 m c t, blk11 m c t, blk12 m c t, blk13 m c t⟩

set_option maxHeartbeats 4000000 in
/-- The projection of the block's rows. -/
theorem prj_eq (x0 : Vec Ideal S1x512x1024 .f32) (x1 : Vec Ideal S1x9x1024 .f32) (x2 : Vec Ideal S1x1024 .f32)
    (x3 : Vec Ideal S1024x2560 .bf16) (r : Fin 512) (q : Fin 2560) :
    prj x0 x1 x2 x3 r q = ∑ k, rowMod (fun k => x0 (ix3 0 r k)) (fun k => x2 (ix2 0 k)) (fun k => x1 (ix3 0 3 k))
      (fun k => x1 (ix3 0 4 k)) k * x3 (ix2 k q) := by
  unfold prj
  unfold_payloads
  pointwise
  rfl

theorem prj_at (c : Dev nD) (t : Fin cfg0.N) (r : Fin 512) (q : Fin 2560) :
    prj (iblk m c 0 t) (iblk m c 1 t) (iblk m c 2 t) (iblk m c 3 t) r q = (inp m c).u (seq t) (tok t r) q := by
  rw [prj_eq]
  simp only [blk0, blk1, blk2, blk3]
  rfl

end Cert.Own.LruIdealRun
end
-- ==== Proof.LruCases.lean ====
/- WHAT A GRID POINT LEAVES, in its two cases: the first point of a sequence clears the carried rows and the carried state, a later
   one finds those of the point before. Each result's block, the carried rows and the carried state are read off the stores. -/
module

public import proofs.«01_k».proof.Proof.LruIOuts
public import proofs.«01_k».proof.Proof.LruRope

@[expose] public section

set_option maxRecDepth 16384

noncomputable section

namespace Cert.Own.LruIdealRun

open Cert.LruIdeal Cert.LruIdeal.Gen Cert.Own.LruScan Cert.Own.LruLoads Cert.Own.LruTile Cert.Own.LruRope
open Idealize.ShloMosaic Idealize.ShloMosaic.TcCoe Idealize.ShloMosaic.Tactic

/-- A channel's column of the projection. -/
def lo (n : Fin 512) : Fin 2560 := ⟨n.val, by omega⟩

theorem zero8_3 (i : Fin 8) (n : Fin 512) : k0_pay3 (F := Ideal) (ix2 i n) = 0 := by
  unfold k0_pay3
  pointwise
theorem zero8_4 (i : Fin 8) (n : Fin 512) : k0_pay4 (F := Ideal) (ix2 i n) = 0 := by
  unfold k0_pay4
  pointwise
/-- The carried state is the first of its eight rows. -/
theorem top_row (x : FVec Ideal S8x512 .f32) (n : Fin 512) :
    View.ld (Val := Elt Ideal) (S := S8x512) (e' := .f32) x (Rect.unit ![0, 0] ![1, 512] inb_S8x512_S1x512_0_0) (ix2 (0 : Fin 1) n : S1x512.Idx) = x (ix2 (0 : Fin 8) n) := by
  refine congrArg x (funext fun a => Fin.ext ?_)
  match a with
  | ⟨0, _⟩ => rfl
  | ⟨1, _⟩ => show 0 + 1 * n.val = n.val; omega

/-! ## The first point of a sequence -/

section A
variable (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1x1024 .f32) (harg4 : arg4.IsWhole) (arg5 : Memref sig .tc .vmem S1024x2560 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S4x512 .f32) (harg9 : arg9.IsWhole) (arg10 : Memref sig .tc .vmem S1x512 .f32) (harg10 : arg10.IsWhole) (arg11 : Memref sig .tc .vmem S512x512 .bf16) (harg11 : arg11.IsWhole) (arg12 : Memref sig .tc .vmem S1x512 .f32) (harg12 : arg12.IsWhole) (arg13 : Memref sig .tc .vmem S512x512 .bf16) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512x512 .bf16) (harg16 : arg16.IsWhole) (arg17 : Memref sig .tc .vmem S1x512x512 .bf16) (harg17 : arg17.IsWhole) (arg18 : Memref sig .tc .vmem S1x512x512 .bf16) (harg18 : arg18.IsWhole) (arg19 : Memref sig .tc .vmem S1x512x512 .bf16) (harg19 : arg19.IsWhole) (arg20 : Memref sig .tc .vmem S1x2x1x512 .f32) (harg20 : arg20.IsWhole) (arg21 : Memref sig .tc .vmem S264x512 .f32) (harg21 : arg21.IsWhole) (arg22 : Memref sig .tc .vmem S8x512 .f32) (harg22 : arg22.IsWhole) (hc0 : cond0_0 i)
    (x0 : Vec Ideal S1x512x1024 .f32) (x1 : Vec Ideal S1x9x1024 .f32) (x2 : Vec Ideal S1x1024 .f32) (x3 : Vec Ideal S1024x2560 .bf16) (x4 : Vec Ideal S512x128 .f32) (x5 : Vec Ideal S512x128 .f32) (x6 : Vec Ideal S512x128 .f32) (x7 : Vec Ideal S4x512 .f32) (x8 : Vec Ideal S1x512 .f32) (x9 : Vec Ideal S512x512 .bf16) (x10 : Vec Ideal S1x512 .f32) (x11 : Vec Ideal S512x512 .bf16) (x12 : Vec Ideal S1x512 .f32) (x13 : Vec Ideal S1x512 .f32)
  (W : Wt) (H : Holds W x7 x8 x9 x10 x11 x12 x13) (p : ℕ → Fin 512 → EReal)
  (hP : ∀ (r : Fin 512) (n : Fin 512), prj x0 x1 x2 x3 r (lo n) = p (0 + r.val + 8) n)
  (hz : ∀ (i : ℕ) (n : Fin 512), i < 8 → p i n = 0)

set_option maxHeartbeats 4000000

/-- The turned and scaled queries. -/
theorem q_A (r n : Fin 512) : out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 (ix3 (0 : Fin 1) r n)
    = turn (fun k => prj x0 x1 x2 x3 r ⟨1024 + k.val, by omega⟩) (fun k => x4 (ix2 r k)) (fun k => x5 (ix2 r k)) (fun k => x6 (ix2 r k)) n
      * Ideal.ofBits FTy.f32 0x3E38AA3B#32 := by
  frame_open
  simp (disch := decide) only [↓ View.readCov_skip, ↓ View.readCov_cons_toLoadRect, ↓ View.readCov_fill]
  frame_out
  exact q_at _ x4 x5 x6 r n

/-- The turned keys. -/
theorem k_A (r n : Fin 512) : out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 (ix3 (0 : Fin 1) r n)
    = turn (fun k => prj x0 x1 x2 x3 r ⟨1536 + k.val, by omega⟩) (fun k => x4 (ix2 r k)) (fun k => x5 (ix2 r k)) (fun k => x6 (ix2 r k)) n := by
  frame_open
  simp (disch := decide) only [↓ View.readCov_skip, ↓ View.readCov_cons_toLoadRect, ↓ View.readCov_fill]
  frame_out
  exact k_at _ x4 x5 x6 r n

/-- The values. -/
theorem v_A (r n : Fin 512) : out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 (ix3 (0 : Fin 1) r n)
    = prj x0 x1 x2 x3 r ⟨2048 + n.val, by omega⟩ := by
  frame_open
  simp (disch := decide) only [↓ View.readCov_skip, ↓ View.readCov_cons_toLoadRect, ↓ View.readCov_fill]
  frame_out
  exact v_at _ r n

/-- The keys' means. -/
theorem cent_A (h : Fin 2) (n : Fin 512) : out0_A_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 (ix4 (0 : Fin 1) h (0 : Fin 1) n)
    = Ideal.div (∑ r : Fin 256, turn (fun k => prj x0 x1 x2 x3 (⟨256 * h.val + r.val, by omega⟩ : Fin 512) ⟨1536 + k.val, by omega⟩)
        (fun k => x4 (ix2 (⟨256 * h.val + r.val, by omega⟩ : Fin 512) k)) (fun k => x5 (ix2 (⟨256 * h.val + r.val, by omega⟩ : Fin 512) k))
        (fun k => x6 (ix2 (⟨256 * h.val + r.val, by omega⟩ : Fin 512) k)) n) (Ideal.ofBits FTy.f32 0x43800000#32) := by
  frame_open
  simp (disch := decide) only [↓ View.readCov_skip, ↓ View.readCov_cons_toLoadRect, ↓ View.readCov_fill]
  frame_out
  exact cent_canon _ x4 x5 x6 h n

include hP

/-- The carried rows. -/
theorem rows_A (j : ℕ) (hj : j < 264) (h : j < 8) (n : Fin 512) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 (row j hj n) = p (0 + 512 + j) n := by
  frame_open
  simp (disch := decide) only [↓ View.readCov_skip, ↓ View.readCov_cons_toLoadRect, ↓ View.readCov_fill]
  frame_out
  exact x_canon x0 x1 x2 x3 p 0 hP _ j hj h n

include H hz

/-- The carried state. -/
theorem state_A (n : Fin 512) :
    sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 (ix2 (0 : Fin 8) n) = St W p n (0 + 512) := by
  frame_open
  simp (disch := decide) only [↓ View.readCov_skip, ↓ View.readCov_cons_toLoadRect, ↓ View.readCov_fill]
  frame_out
  rw [pay65_eq, pay30_eq, first_eq, second_eq]
  exact h_canon x0 x1 x2 x3 x7 x8 x9 x10 x11 x12 x13 _ _ _ _ _ _ _ W H p 0 hP
    (load_stored arg21 p 0 5 (by decide) (k0_pay8 x1 x0 x2 x3) (fun r n => (p8_at x0 x1 x2 x3 r n).trans (hP _ n)) k0_pay3 (fun i n => (zero8_3 i n).trans (by rw [Nat.zero_add]; exact (hz _ n i.isLt).symm)) _ _)
    (load_stored arg21 p 0 6 (by decide) (k0_pay8 x1 x0 x2 x3) (fun r n => (p8_at x0 x1 x2 x3 r n).trans (hP _ n)) k0_pay3 (fun i n => (zero8_3 i n).trans (by rw [Nat.zero_add]; exact (hz _ n i.isLt).symm)) _ _)
    (load_stored arg21 p 0 7 (by decide) (k0_pay8 x1 x0 x2 x3) (fun r n => (p8_at x0 x1 x2 x3 r n).trans (hP _ n)) k0_pay3 (fun i n => (zero8_3 i n).trans (by rw [Nat.zero_add]; exact (hz _ n i.isLt).symm)) _ _)
    (load_stored arg21 p (0 + 256) 5 (by decide) (k0_pay35 (k0_pay5 x1 x0 x2 x3)) (fun r n => (p35_at x0 x1 x2 x3 r n).trans ((hP _ n).trans (by show p (0 + (256 + r.val) + 8) n = _; exact congrArg (fun k => p k n) (by omega)))) (k0_pay10 (k0_pay6 x1 x0 x2 x3)) (fun i n => (p10_at x0 x1 x2 x3 i n).trans ((hP _ n).trans (by show p (0 + (248 + i.val) + 8) n = _; exact congrArg (fun k => p k n) (by omega)))) _ _)
    (load_stored arg21 p (0 + 256) 6 (by decide) (k0_pay35 (k0_pay5 x1 x0 x2 x3)) (fun r n => (p35_at x0 x1 x2 x3 r n).trans ((hP _ n).trans (by show p (0 + (256 + r.val) + 8) n = _; exact congrArg (fun k => p k n) (by omega)))) (k0_pay10 (k0_pay6 x1 x0 x2 x3)) (fun i n => (p10_at x0 x1 x2 x3 i n).trans ((hP _ n).trans (by show p (0 + (248 + i.val) + 8) n = _; exact congrArg (fun k => p k n) (by omega)))) _ _)
    (load_stored arg21 p (0 + 256) 7 (by decide) (k0_pay35 (k0_pay5 x1 x0 x2 x3)) (fun r n => (p35_at x0 x1 x2 x3 r n).trans ((hP _ n).trans (by show p (0 + (256 + r.val) + 8) n = _; exact congrArg (fun k => p k n) (by omega)))) (k0_pay10 (k0_pay6 x1 x0 x2 x3)) (fun i n => (p10_at x0 x1 x2 x3 i n).trans ((hP _ n).trans (by show p (0 + (248 + i.val) + 8) n = _; exact congrArg (fun k => p k n) (by omega)))) _ _)
    (fun n => (top_row _ n).trans (zero8_4 0 n)) _ n

/-- The recurrence's rows. -/
theorem y_A (r n : Fin 512) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 (ix3 (0 : Fin 1) r n)
      = St W p n (0 + r.val + 1) * gl (prj x0 x1 x2 x3 r ⟨512 + n.val, by omega⟩) := by
  frame_open
  simp (disch := decide) only [↓ View.readCov_skip, ↓ View.readCov_cons_toLoadRect, ↓ View.readCov_fill]
  frame_out
  rw [pay66_eq, pay30_eq, first_eq, second_eq]
  exact y_canon x0 x1 x2 x3 x7 x8 x9 x10 x11 x12 x13 _ _ _ _ _ _ _ W H p 0 hP
    (load_stored arg21 p 0 5 (by decide) (k0_pay8 x1 x0 x2 x3) (fun r n => (p8_at x0 x1 x2 x3 r n).trans (hP _ n)) k0_pay3 (fun i n => (zero8_3 i n).trans (by rw [Nat.zero_add]; exact (hz _ n i.isLt).symm)) _ _)
    (load_stored arg21 p 0 6 (by decide) (k0_pay8 x1 x0 x2 x3) (fun r n => (p8_at x0 x1 x2 x3 r n).trans (hP _ n)) k0_pay3 (fun i n => (zero8_3 i n).trans (by rw [Nat.zero_add]; exact (hz _ n i.isLt).symm)) _ _)
    (load_stored arg21 p 0 7 (by decide) (k0_pay8 x1 x0 x2 x3) (fun r n => (p8_at x0 x1 x2 x3 r n).trans (hP _ n)) k0_pay3 (fun i n => (zero8_3 i n).trans (by rw [Nat.zero_add]; exact (hz _ n i.isLt).symm)) _ _)
    (load_stored arg21 p (0 + 256) 5 (by decide) (k0_pay35 (k0_pay5 x1 x0 x2 x3)) (fun r n => (p35_at x0 x1 x2 x3 r n).trans ((hP _ n).trans (by show p (0 + (256 + r.val) + 8) n = _; exact congrArg (fun k => p k n) (by omega)))) (k0_pay10 (k0_pay6 x1 x0 x2 x3)) (fun i n => (p10_at x0 x1 x2 x3 i n).trans ((hP _ n).trans (by show p (0 + (248 + i.val) + 8) n = _; exact congrArg (fun k => p k n) (by omega)))) _ _)
    (load_stored arg21 p (0 + 256) 6 (by decide) (k0_pay35 (k0_pay5 x1 x0 x2 x3)) (fun r n => (p35_at x0 x1 x2 x3 r n).trans ((hP _ n).trans (by show p (0 + (256 + r.val) + 8) n = _; exact congrArg (fun k => p k n) (by omega)))) (k0_pay10 (k0_pay6 x1 x0 x2 x3)) (fun i n => (p10_at x0 x1 x2 x3 i n).trans ((hP _ n).trans (by show p (0 + (248 + i.val) + 8) n = _; exact congrArg (fun k => p k n) (by omega)))) _ _)
    (load_stored arg21 p (0 + 256) 7 (by decide) (k0_pay35 (k0_pay5 x1 x0 x2 x3)) (fun r n => (p35_at x0 x1 x2 x3 r n).trans ((hP _ n).trans (by show p (0 + (256 + r.val) + 8) n = _; exact congrArg (fun k => p k n) (by omega)))) (k0_pay10 (k0_pay6 x1 x0 x2 x3)) (fun i n => (p10_at x0 x1 x2 x3 i n).trans ((hP _ n).trans (by show p (0 + (248 + i.val) + 8) n = _; exact congrArg (fun k => p k n) (by omega)))) _ _)
    (fun n => (top_row _ n).trans (zero8_4 0 n)) r n

end A

/-! ## A later point -/

section B
variable (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1x1024 .f32) (harg4 : arg4.IsWhole) (arg5 : Memref sig .tc .vmem S1024x2560 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S4x512 .f32) (harg9 : arg9.IsWhole) (arg10 : Memref sig .tc .vmem S1x512 .f32) (harg10 : arg10.IsWhole) (arg11 : Memref sig .tc .vmem S512x512 .bf16) (harg11 : arg11.IsWhole) (arg12 : Memref sig .tc .vmem S1x512 .f32) (harg12 : arg12.IsWhole) (arg13 : Memref sig .tc .vmem S512x512 .bf16) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512x512 .bf16) (harg16 : arg16.IsWhole) (arg17 : Memref sig .tc .vmem S1x512x512 .bf16) (harg17 : arg17.IsWhole) (arg18 : Memref sig .tc .vmem S1x512x512 .bf16) (harg18 : arg18.IsWhole) (arg19 : Memref sig .tc .vmem S1x512x512 .bf16) (harg19 : arg19.IsWhole) (arg20 : Memref sig .tc .vmem S1x2x1x512 .f32) (harg20 : arg20.IsWhole) (arg21 : Memref sig .tc .vmem S264x512 .f32) (harg21 : arg21.IsWhole) (arg22 : Memref sig .tc .vmem S8x512 .f32) (harg22 : arg22.IsWhole) (hc0 : ¬cond0_0 i)
    (x0 : Vec Ideal S1x512x1024 .f32) (x1 : Vec Ideal S1x9x1024 .f32) (x2 : Vec Ideal S1x1024 .f32) (x3 : Vec Ideal S1024x2560 .bf16) (x4 : Vec Ideal S512x128 .f32) (x5 : Vec Ideal S512x128 .f32) (x6 : Vec Ideal S512x128 .f32) (x7 : Vec Ideal S4x512 .f32) (x8 : Vec Ideal S1x512 .f32) (x9 : Vec Ideal S512x512 .bf16) (x10 : Vec Ideal S1x512 .f32) (x11 : Vec Ideal S512x512 .bf16) (x12 : Vec Ideal S1x512 .f32) (x13 : Vec Ideal S1x512 .f32) (xs0 : Vec Ideal S264x512 .f32) (xs1 : Vec Ideal S8x512 .f32)
  (W : Wt) (H : Holds W x7 x8 x9 x10 x11 x12 x13) (p : ℕ → Fin 512 → EReal) (s : ℕ)
  (hP : ∀ (r : Fin 512) (n : Fin 512), prj x0 x1 x2 x3 r (lo n) = p (s + r.val + 8) n)
  (hh : ∀ (i : ℕ) (hi : i < 264) (n : Fin 512), i < 8 → xs0 (row i hi n) = p (s + i) n)
  (h0 : ∀ n, xs1 (ix2 (0 : Fin 8) n) = St W p n s)

set_option maxHeartbeats 4000000

/-- The turned and scaled queries. -/
theorem q_B (r n : Fin 512) : out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1 (ix3 (0 : Fin 1) r n)
    = turn (fun k => prj x0 x1 x2 x3 r ⟨1024 + k.val, by omega⟩) (fun k => x4 (ix2 r k)) (fun k => x5 (ix2 r k)) (fun k => x6 (ix2 r k)) n
      * Ideal.ofBits FTy.f32 0x3E38AA3B#32 := by
  frame_open
  simp (disch := decide) only [↓ View.readCov_skip, ↓ View.readCov_cons_toLoadRect, ↓ View.readCov_fill]
  frame_out
  exact q_at _ x4 x5 x6 r n

/-- The turned keys. -/
theorem k_B (r n : Fin 512) : out0_B_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1 (ix3 (0 : Fin 1) r n)
    = turn (fun k => prj x0 x1 x2 x3 r ⟨1536 + k.val, by omega⟩) (fun k => x4 (ix2 r k)) (fun k => x5 (ix2 r k)) (fun k => x6 (ix2 r k)) n := by
  frame_open
  simp (disch := decide) only [↓ View.readCov_skip, ↓ View.readCov_cons_toLoadRect, ↓ View.readCov_fill]
  frame_out
  exact k_at _ x4 x5 x6 r n

/-- The values. -/
theorem v_B (r n : Fin 512) : out0_B_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1 (ix3 (0 : Fin 1) r n)
    = prj x0 x1 x2 x3 r ⟨2048 + n.val, by omega⟩ := by
  frame_open
  simp (disch := decide) only [↓ View.readCov_skip, ↓ View.readCov_cons_toLoadRect, ↓ View.readCov_fill]
  frame_out
  exact v_at _ r n

/-- The keys' means. -/
theorem cent_B (h : Fin 2) (n : Fin 512) : out0_B_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1 (ix4 (0 : Fin 1) h (0 : Fin 1) n)
    = Ideal.div (∑ r : Fin 256, turn (fun k => prj x0 x1 x2 x3 (⟨256 * h.val + r.val, by omega⟩ : Fin 512) ⟨1536 + k.val, by omega⟩)
        (fun k => x4 (ix2 (⟨256 * h.val + r.val, by omega⟩ : Fin 512) k)) (fun k => x5 (ix2 (⟨256 * h.val + r.val, by omega⟩ : Fin 512) k))
        (fun k => x6 (ix2 (⟨256 * h.val + r.val, by omega⟩ : Fin 512) k)) n) (Ideal.ofBits FTy.f32 0x43800000#32) := by
  frame_open
  simp (disch := decide) only [↓ View.readCov_skip, ↓ View.readCov_cons_toLoadRect, ↓ View.readCov_fill]
  frame_out
  exact cent_canon _ x4 x5 x6 h n

include hP

/-- The carried rows. -/
theorem rows_B (j : ℕ) (hj : j < 264) (h : j < 8) (n : Fin 512) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1 (row j hj n) = p (s + 512 + j) n := by
  frame_open
  simp (disch := decide) only [↓ View.readCov_skip, ↓ View.readCov_cons_toLoadRect, ↓ View.readCov_fill]
  frame_out
  exact x_canon x0 x1 x2 x3 p s hP _ j hj h n

include H hh h0

/-- The carried state. -/
theorem state_B (n : Fin 512) :
    sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1 (ix2 (0 : Fin 8) n) = St W p n (s + 512) := by
  frame_open
  simp (disch := decide) only [↓ View.readCov_skip, ↓ View.readCov_cons_toLoadRect, ↓ View.readCov_fill]
  frame_out
  rw [pay65_eq, pay30_eq, first_eq, second_eq]
  exact h_read x0 x1 x2 x3 x7 x8 x9 x10 x11 x12 x13 _ _ _ _ _ _ _ W H p s hP
    (load_kept arg21 p s 5 (by decide) (k0_pay8 x1 x0 x2 x3) (fun r n => (p8_at x0 x1 x2 x3 r n).trans (hP _ n)) harg21 xs0 hh _)
    (load_kept arg21 p s 6 (by decide) (k0_pay8 x1 x0 x2 x3) (fun r n => (p8_at x0 x1 x2 x3 r n).trans (hP _ n)) harg21 xs0 hh _)
    (load_kept arg21 p s 7 (by decide) (k0_pay8 x1 x0 x2 x3) (fun r n => (p8_at x0 x1 x2 x3 r n).trans (hP _ n)) harg21 xs0 hh _)
    (load_stored arg21 p (s + 256) 5 (by decide) (k0_pay35 (k0_pay5 x1 x0 x2 x3)) (fun r n => (p35_at x0 x1 x2 x3 r n).trans ((hP _ n).trans (by show p (s + (256 + r.val) + 8) n = _; exact congrArg (fun k => p k n) (by omega)))) (k0_pay10 (k0_pay6 x1 x0 x2 x3)) (fun i n => (p10_at x0 x1 x2 x3 i n).trans ((hP _ n).trans (by show p (s + (248 + i.val) + 8) n = _; exact congrArg (fun k => p k n) (by omega)))) _ _)
    (load_stored arg21 p (s + 256) 6 (by decide) (k0_pay35 (k0_pay5 x1 x0 x2 x3)) (fun r n => (p35_at x0 x1 x2 x3 r n).trans ((hP _ n).trans (by show p (s + (256 + r.val) + 8) n = _; exact congrArg (fun k => p k n) (by omega)))) (k0_pay10 (k0_pay6 x1 x0 x2 x3)) (fun i n => (p10_at x0 x1 x2 x3 i n).trans ((hP _ n).trans (by show p (s + (248 + i.val) + 8) n = _; exact congrArg (fun k => p k n) (by omega)))) _ _)
    (load_stored arg21 p (s + 256) 7 (by decide) (k0_pay35 (k0_pay5 x1 x0 x2 x3)) (fun r n => (p35_at x0 x1 x2 x3 r n).trans ((hP _ n).trans (by show p (s + (256 + r.val) + 8) n = _; exact congrArg (fun k => p k n) (by omega)))) (k0_pay10 (k0_pay6 x1 x0 x2 x3)) (fun i n => (p10_at x0 x1 x2 x3 i n).trans ((hP _ n).trans (by show p (s + (248 + i.val) + 8) n = _; exact congrArg (fun k => p k n) (by omega)))) _ _)
    (fun n => (top_row _ n).trans (h0 n)) _ _ _ n

/-- The recurrence's rows. -/
theorem y_B (r n : Fin 512) :
    out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1 (ix3 (0 : Fin 1) r n)
      = St W p n (s + r.val + 1) * gl (prj x0 x1 x2 x3 r ⟨512 + n.val, by omega⟩) := by
  frame_open
  simp (disch := decide) only [↓ View.readCov_skip, ↓ View.readCov_cons_toLoadRect, ↓ View.readCov_fill]
  frame_out
  rw [pay66_eq, pay30_eq, first_eq, second_eq]
  exact y_canon x0 x1 x2 x3 x7 x8 x9 x10 x11 x12 x13 _ _ _ _ _ _ _ W H p s hP
    (load_kept arg21 p s 5 (by decide) (k0_pay8 x1 x0 x2 x3) (fun r n => (p8_at x0 x1 x2 x3 r n).trans (hP _ n)) harg21 xs0 hh _)
    (load_kept arg21 p s 6 (by decide) (k0_pay8 x1 x0 x2 x3) (fun r n => (p8_at x0 x1 x2 x3 r n).trans (hP _ n)) harg21 xs0 hh _)
    (load_kept arg21 p s 7 (by decide) (k0_pay8 x1 x0 x2 x3) (fun r n => (p8_at x0 x1 x2 x3 r n).trans (hP _ n)) harg21 xs0 hh _)
    (load_stored arg21 p (s + 256) 5 (by decide) (k0_pay35 (k0_pay5 x1 x0 x2 x3)) (fun r n => (p35_at x0 x1 x2 x3 r n).trans ((hP _ n).trans (by show p (s + (256 + r.val) + 8) n = _; exact congrArg (fun k => p k n) (by omega)))) (k0_pay10 (k0_pay6 x1 x0 x2 x3)) (fun i n => (p10_at x0 x1 x2 x3 i n).trans ((hP _ n).trans (by show p (s + (248 + i.val) + 8) n = _; exact congrArg (fun k => p k n) (by omega)))) _ _)
    (load_stored arg21 p (s + 256) 6 (by decide) (k0_pay35 (k0_pay5 x1 x0 x2 x3)) (fun r n => (p35_at x0 x1 x2 x3 r n).trans ((hP _ n).trans (by show p (s + (256 + r.val) + 8) n = _; exact congrArg (fun k => p k n) (by omega)))) (k0_pay10 (k0_pay6 x1 x0 x2 x3)) (fun i n => (p10_at x0 x1 x2 x3 i n).trans ((hP _ n).trans (by show p (s + (248 + i.val) + 8) n = _; exact congrArg (fun k => p k n) (by omega)))) _ _)
    (load_stored arg21 p (s + 256) 7 (by decide) (k0_pay35 (k0_pay5 x1 x0 x2 x3)) (fun r n => (p35_at x0 x1 x2 x3 r n).trans ((hP _ n).trans (by show p (s + (256 + r.val) + 8) n = _; exact congrArg (fun k => p k n) (by omega)))) (k0_pay10 (k0_pay6 x1 x0 x2 x3)) (fun i n => (p10_at x0 x1 x2 x3 i n).trans ((hP _ n).trans (by show p (s + (248 + i.val) + 8) n = _; exact congrArg (fun k => p k n) (by omega)))) _ _)
    (fun n => (top_row _ n).trans (h0 n)) r n

end B

end Cert.Own.LruIdealRun
end
-- ==== Proof.LruKernel.lean ====
/- THE CALL'S FIVE RESULTS, index by index. Along a sequence the carried rows and the carried state are those of the tokens done so
   far, by induction on the grid's points; each point's stored blocks follow, and the 64 blocks tile each array. -/
module

public import proofs.«01_k».proof.Proof.LruWin
public import proofs.«01_k».proof.Proof.LruCases
public import Idealize.ShloMosaic.Lib.Pipeline.ReadBack

@[expose] public section

set_option maxRecDepth 16384

noncomputable section

namespace Cert.Own.LruIdealRun

open Cert.LruIdeal Cert.LruIdeal.Gen Idealize.ShloMosaic Idealize.ShloMosaic.TcCoe Idealize.SL.Sem Cert.Own Cert.Own.LruSpec
open Cert.Own.LruTile Cert.Own.LruScan Cert.Own.LruLoads Cert.Own.LruRope

variable (m : (ℓ : Loc nD τ sig) → Buf (Elt Ideal) ℓ) (ρ : Dev nD → PrngReg)

/-- The block's rows are the sequence's rows of padding and tokens. -/
theorem prj_row (c : Dev nD) (t : Fin cfg0.N) (r n : Fin 512) :
    prj (iblk m c 0 t) (iblk m c 1 t) (iblk m c 2 t) (iblk m c 3 t) r ⟨n.val, by omega⟩
      = (inp m c).p (seq t) (512 * (t.val % 16) + r.val + 8) n :=
  (prj_at m c t r _).trans (p_row (inp m c) (seq t) (tok t r) n).symm

theorem prj_first (c : Dev nD) (t : Fin cfg0.N) (h : t.val % 16 = 0) (r n : Fin 512) :
    prj (iblk m c 0 t) (iblk m c 1 t) (iblk m c 2 t) (iblk m c 3 t) r ⟨n.val, by omega⟩ = (inp m c).p (seq t) (0 + r.val + 8) n := by
  have e := prj_row m c t r n
  rw [h] at e
  exact e

/-- What point `t` leaves for the next: the last eight rows of its block, and the state after its last token. -/
def Left (c : Dev nD) (t : Fin cfg0.N) : Prop :=
  (∀ (i : ℕ) (hi : i < 264) (n : Fin 512), i < 8 →
      (outsAt0 m c t.val t.isLt).2.2.2.2.2.1 (row i hi n) = (inp m c).p (seq t) (512 * (t.val % 16) + 512 + i) n)
    ∧ ∀ n : Fin 512, (outsAt0 m c t.val t.isLt).2.2.2.2.2.2 (ix2 (0 : Fin 8) n)
      = St (inp m c).W ((inp m c).p (seq t)) n (512 * (t.val % 16) + 512)

/-- What point `t` finds when it is not a sequence's first. -/
def Found (c : Dev nD) (t : Fin cfg0.N) : Prop :=
  (∀ (i : ℕ) (hi : i < 264) (n : Fin 512), i < 8 →
      (outsAt0 m c (t.val - 1) (Nat.lt_of_le_of_lt (Nat.sub_le _ _) t.isLt)).2.2.2.2.2.1 (row i hi n)
        = (inp m c).p (seq t) (512 * (t.val % 16) + i) n)
    ∧ ∀ n : Fin 512, (outsAt0 m c (t.val - 1) (Nat.lt_of_le_of_lt (Nat.sub_le _ _) t.isLt)).2.2.2.2.2.2 (ix2 (0 : Fin 8) n)
      = St (inp m c).W ((inp m c).p (seq t)) n (512 * (t.val % 16))

theorem found_of_left (c : Dev nD) (t : Fin cfg0.N) (h : ¬t.val % 16 = 0)
    (l : Left m c ⟨t.val - 1, Nat.lt_of_le_of_lt (Nat.sub_le _ _) t.isLt⟩) : Found m c t := by
  have hs : seq ⟨t.val - 1, Nat.lt_of_le_of_lt (Nat.sub_le _ _) t.isLt⟩ = seq t :=
    Fin.ext (by show (t.val - 1) / 16 = t.val / 16; omega)
  have hk : 512 * ((t.val - 1) % 16) + 512 = 512 * (t.val % 16) := by omega
  unfold Left at l
  rw [hs] at l
  simp only [hk] at l
  exact l

theorem o14_A (c : Dev nD) (t : Fin cfg0.N) (h : t.val % 16 = 0) :
    (outsAt0 m c t.val t.isLt).1 = out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by
  rw [outsAt0_A m c t h]
theorem o15_A (c : Dev nD) (t : Fin cfg0.N) (h : t.val % 16 = 0) :
    (outsAt0 m c t.val t.isLt).2.1 = out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by
  rw [outsAt0_A m c t h]
theorem o16_A (c : Dev nD) (t : Fin cfg0.N) (h : t.val % 16 = 0) :
    (outsAt0 m c t.val t.isLt).2.2.1 = out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by
  rw [outsAt0_A m c t h]
theorem o17_A (c : Dev nD) (t : Fin cfg0.N) (h : t.val % 16 = 0) :
    (outsAt0 m c t.val t.isLt).2.2.2.1 = out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by
  rw [outsAt0_A m c t h]
theorem o18_A (c : Dev nD) (t : Fin cfg0.N) (h : t.val % 16 = 0) :
    (outsAt0 m c t.val t.isLt).2.2.2.2.1 = out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by
  rw [outsAt0_A m c t h]
theorem os0_A (c : Dev nD) (t : Fin cfg0.N) (h : t.val % 16 = 0) :
    (outsAt0 m c t.val t.isLt).2.2.2.2.2.1 = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by
  rw [outsAt0_A m c t h]
theorem os1_A (c : Dev nD) (t : Fin cfg0.N) (h : t.val % 16 = 0) :
    (outsAt0 m c t.val t.isLt).2.2.2.2.2.2 = sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by
  rw [outsAt0_A m c t h]
theorem o14_B (c : Dev nD) (t : Fin cfg0.N) (h : ¬t.val % 16 = 0) :
    (outsAt0 m c t.val t.isLt).1 = out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (fun h' => h ((hcond0_0 t).mp h')) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 := by
  rw [outsAt0_B m c t h]
theorem o15_B (c : Dev nD) (t : Fin cfg0.N) (h : ¬t.val % 16 = 0) :
    (outsAt0 m c t.val t.isLt).2.1 = out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (fun h' => h ((hcond0_0 t).mp h')) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 := by
  rw [outsAt0_B m c t h]
theorem o16_B (c : Dev nD) (t : Fin cfg0.N) (h : ¬t.val % 16 = 0) :
    (outsAt0 m c t.val t.isLt).2.2.1 = out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (fun h' => h ((hcond0_0 t).mp h')) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 := by
  rw [outsAt0_B m c t h]
theorem o17_B (c : Dev nD) (t : Fin cfg0.N) (h : ¬t.val % 16 = 0) :
    (outsAt0 m c t.val t.isLt).2.2.2.1 = out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (fun h' => h ((hcond0_0 t).mp h')) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 := by
  rw [outsAt0_B m c t h]
theorem o18_B (c : Dev nD) (t : Fin cfg0.N) (h : ¬t.val % 16 = 0) :
    (outsAt0 m c t.val t.isLt).2.2.2.2.1 = out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (fun h' => h ((hcond0_0 t).mp h')) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 := by
  rw [outsAt0_B m c t h]
theorem os0_B (c : Dev nD) (t : Fin cfg0.N) (h : ¬t.val % 16 = 0) :
    (outsAt0 m c t.val t.isLt).2.2.2.2.2.1 = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (fun h' => h ((hcond0_0 t).mp h')) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 := by
  rw [outsAt0_B m c t h]
theorem os1_B (c : Dev nD) (t : Fin cfg0.N) (h : ¬t.val % 16 = 0) :
    (outsAt0 m c t.val t.isLt).2.2.2.2.2.2 = sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (fun h' => h ((hcond0_0 t).mp h')) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 := by
  rw [outsAt0_B m c t h]

theorem left_A (c : Dev nD) (t : Fin cfg0.N) (h : t.val % 16 = 0) : Left m c t := by
  unfold Left
  rw [os0_A m c t h, os1_A m c t h]
  exact ⟨fun i hi n hn => (rows_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((inp m c).p (seq t)) (prj_first m c t h) i hi hn n).trans (by rw [h]),
    fun n => (state_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (inp m c).W (holds m c t) ((inp m c).p (seq t)) (prj_first m c t h) (fun i n hi => p_pad _ _ _ _ hi) n).trans (by rw [h])⟩

theorem left_B (c : Dev nD) (t : Fin cfg0.N) (h : ¬t.val % 16 = 0) (f : Found m c t) : Left m c t := by
  unfold Left
  rw [os0_B m c t h, os1_B m c t h]
  exact ⟨fun i hi n hn => rows_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (fun h' => h ((hcond0_0 t).mp h')) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 ((inp m c).p (seq t)) (512 * (t.val % 16)) (prj_row m c t) i hi hn n,
    fun n => state_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (fun h' => h ((hcond0_0 t).mp h')) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (inp m c).W (holds m c t) ((inp m c).p (seq t)) (512 * (t.val % 16)) (prj_row m c t) f.1 f.2 n⟩

/-- Every point leaves the rows and the state of its tokens. -/
theorem left_all (c : Dev nD) : ∀ (k : ℕ) (hk : k < cfg0.N), Left m c ⟨k, hk⟩
  | 0, hk => left_A m c ⟨0, hk⟩ rfl
  | k + 1, hk => by
    by_cases h : (k + 1) % 16 = 0
    · exact left_A m c ⟨k + 1, hk⟩ h
    · exact left_B m c ⟨k + 1, hk⟩ h (found_of_left m c ⟨k + 1, hk⟩ h (left_all c k (Nat.lt_of_succ_lt hk)))

theorem found (c : Dev nD) (t : Fin cfg0.N) (h : ¬t.val % 16 = 0) : Found m c t := found_of_left m c t h (left_all m c _ _)

/-! ## What each point stores -/

theorem y_at (c : Dev nD) (t : Fin cfg0.N) (r n : Fin 512) :
    (outsAt0 m c t.val t.isLt).1 (ix3 (0 : Fin 1) r n) = (inp m c).y (seq t) (tok t r) n := by
  by_cases h : t.val % 16 = 0
  · rw [o14_A m c t h]
    refine (y_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (inp m c).W (holds m c t) ((inp m c).p (seq t)) (prj_first m c t h) (fun i n hi => p_pad _ _ _ _ hi) r n).trans ?_
    rw [prj_at, Inp.y, show (tok t r).val = 0 + r.val by show 512 * (t.val % 16) + r.val = _; rw [h]]
  · have f := found m c t h
    rw [o14_B m c t h]
    refine (y_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (fun h' => h ((hcond0_0 t).mp h')) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (inp m c).W (holds m c t) ((inp m c).p (seq t)) (512 * (t.val % 16)) (prj_row m c t) f.1 f.2 r n).trans ?_
    rw [prj_at]
    rfl

theorem turn_1024 (c : Dev nD) (t : Fin cfg0.N) (r n : Fin 512) :
    turn (fun k => prj (iblk m c 0 t) (iblk m c 1 t) (iblk m c 2 t) (iblk m c 3 t) r ⟨1024 + k.val, by omega⟩) (fun k => iblk m c 4 t (ix2 r k : S512x128.Idx))
      (fun k => iblk m c 5 t (ix2 r k : S512x128.Idx)) (fun k => iblk m c 6 t (ix2 r k : S512x128.Idx)) n
      = rope (tok t r).val (fun k => (inp m c).u (seq t) (tok t r) ⟨1024 + k.val, by omega⟩) n := by
  simp only [prj_at, blk4, blk5, blk6]
  exact turn_eq _ _ _

theorem turn_1536 (c : Dev nD) (t : Fin cfg0.N) (r n : Fin 512) :
    turn (fun k => prj (iblk m c 0 t) (iblk m c 1 t) (iblk m c 2 t) (iblk m c 3 t) r ⟨1536 + k.val, by omega⟩) (fun k => iblk m c 4 t (ix2 r k : S512x128.Idx))
      (fun k => iblk m c 5 t (ix2 r k : S512x128.Idx)) (fun k => iblk m c 6 t (ix2 r k : S512x128.Idx)) n
      = rope (tok t r).val (fun k => (inp m c).u (seq t) (tok t r) ⟨1536 + k.val, by omega⟩) n := by
  simp only [prj_at, blk4, blk5, blk6]
  exact turn_eq _ _ _

theorem q_at' (c : Dev nD) (t : Fin cfg0.N) (r n : Fin 512) :
    (outsAt0 m c t.val t.isLt).2.1 (ix3 (0 : Fin 1) r n) = (inp m c).q (seq t) (tok t r) n := by
  by_cases h : t.val % 16 = 0
  · rw [o15_A m c t h]
    refine (q_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r n).trans ?_
    rw [turn_1024]; rfl
  · rw [o15_B m c t h]
    refine (q_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (fun h' => h ((hcond0_0 t).mp h')) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 r n).trans ?_
    rw [turn_1024]; rfl

theorem k_at' (c : Dev nD) (t : Fin cfg0.N) (r n : Fin 512) :
    (outsAt0 m c t.val t.isLt).2.2.1 (ix3 (0 : Fin 1) r n) = (inp m c).k (seq t) (tok t r) n := by
  by_cases h : t.val % 16 = 0
  · rw [o16_A m c t h]
    refine (k_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r n).trans ?_
    rw [turn_1536]; rfl
  · rw [o16_B m c t h]
    refine (k_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (fun h' => h ((hcond0_0 t).mp h')) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 r n).trans ?_
    rw [turn_1536]; rfl

theorem v_at' (c : Dev nD) (t : Fin cfg0.N) (r n : Fin 512) :
    (outsAt0 m c t.val t.isLt).2.2.2.1 (ix3 (0 : Fin 1) r n) = (inp m c).v (seq t) (tok t r) n := by
  by_cases h : t.val % 16 = 0
  · rw [o17_A m c t h]
    refine (v_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r n).trans ?_
    rw [prj_at]; rfl
  · rw [o17_B m c t h]
    refine (v_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (fun h' => h ((hcond0_0 t).mp h')) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 r n).trans ?_
    rw [prj_at]; rfl

theorem cent_at' (c : Dev nD) (t : Fin cfg0.N) (e : Fin 2) (n : Fin 512) :
    (outsAt0 m c t.val t.isLt).2.2.2.2.1 (ix4 (0 : Fin 1) e (0 : Fin 1) n)
      = (inp m c).cent (seq t) ⟨2 * (t.val % 16) + e.val, by omega⟩ n := by
  have hr : ∀ r : Fin 256, tok t ⟨256 * e.val + r.val, by omega⟩ = ⟨256 * (2 * (t.val % 16) + e.val) + r.val, by omega⟩ := fun r =>
    Fin.ext (by show 512 * (t.val % 16) + (256 * e.val + r.val) = 256 * (2 * (t.val % 16) + e.val) + r.val; omega)
  by_cases h : t.val % 16 = 0
  · rw [o18_A m c t h]
    refine (cent_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) e n).trans ?_
    simp only [turn_1536, hr]
    rfl
  · rw [o18_B m c t h]
    refine (cent_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (fun h' => h ((hcond0_0 t).mp h')) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 e n).trans ?_
    simp only [turn_1536, hr]
    rfl

/-! ## The result arrays -/

def G3 (f : Fin 4 → Fin 8192 → Fin 512 → EReal) : FVec Ideal S4x8192x512 .bf16 := fun i => f (i 0) (i 1) (i 2)
def G4 (f : Fin 4 → Fin 32 → Fin 512 → EReal) : FVec Ideal S4x32x1x512 .f32 := fun i => f (i 0) (i 1) (i 3)

theorem idx_row (y : S1x512x512.Idx) : y = ix3 (0 : Fin 1) (y 1) (y 2) := by
  funext a; match a with
  | ⟨0, _⟩ => exact Fin.ext (by have h : (y 0).val < 1 := (y 0).isLt; show (y 0).val = 0; omega)
  | ⟨1, _⟩ => rfl
  | ⟨2, _⟩ => rfl

theorem idx_cent (y : S1x2x1x512.Idx) : y = ix4 (0 : Fin 1) (y 1) (0 : Fin 1) (y 3) := by
  funext a; match a with
  | ⟨0, _⟩ => exact Fin.ext (by have h : (y 0).val < 1 := (y 0).isLt; show (y 0).val = 0; omega)
  | ⟨1, _⟩ => rfl
  | ⟨2, _⟩ => exact Fin.ext (by have h : (y 2).val < 1 := (y 2).isLt; show (y 2).val = 0; omega)
  | ⟨3, _⟩ => rfl

theorem final14 (c : Dev nD) : (dats m 0 c).arrAt 14 cfg0.N = G3 (inp m c).y := by
  refine (dats m 0 c).arrAt_eq_of_covers 14 _ (by decide +kernel) fun t hf y => ?_
  blk_simp
  rw [after0_14]
  show _ = G3 (inp m c).y (((cfg0.win 14).blk t).view.emb y)
  rw [emb14]
  refine (congrArg _ (idx_row y)).trans ?_
  exact y_at m c t (y 1) (y 2)

theorem final15 (c : Dev nD) : (dats m 0 c).arrAt 15 cfg0.N = G3 (inp m c).q := by
  refine (dats m 0 c).arrAt_eq_of_covers 15 _ (by decide +kernel) fun t hf y => ?_
  blk_simp
  rw [after0_15]
  show _ = G3 (inp m c).q (((cfg0.win 15).blk t).view.emb y)
  rw [emb15]
  refine (congrArg _ (idx_row y)).trans ?_
  exact q_at' m c t (y 1) (y 2)

theorem final16 (c : Dev nD) : (dats m 0 c).arrAt 16 cfg0.N = G3 (inp m c).k := by
  refine (dats m 0 c).arrAt_eq_of_covers 16 _ (by decide +kernel) fun t hf y => ?_
  blk_simp
  rw [after0_16]
  show _ = G3 (inp m c).k (((cfg0.win 16).blk t).view.emb y)
  rw [emb16]
  refine (congrArg _ (idx_row y)).trans ?_
  exact k_at' m c t (y 1) (y 2)

theorem final17 (c : Dev nD) : (dats m 0 c).arrAt 17 cfg0.N = G3 (inp m c).v := by
  refine (dats m 0 c).arrAt_eq_of_covers 17 _ (by decide +kernel) fun t hf y => ?_
  blk_simp
  rw [after0_17]
  show _ = G3 (inp m c).v (((cfg0.win 17).blk t).view.emb y)
  rw [emb17]
  refine (congrArg _ (idx_row y)).trans ?_
  exact v_at' m c t (y 1) (y 2)

theorem final18 (c : Dev nD) : (dats m 0 c).arrAt 18 cfg0.N = G4 (inp m c).cent := by
  refine (dats m 0 c).arrAt_eq_of_covers 18 _ (by decide +kernel) fun t hf y => ?_
  blk_simp
  rw [after0_18]
  show _ = G4 (inp m c).cent (((cfg0.win 18).blk t).view.emb y)
  rw [emb18]
  refine (congrArg _ (idx_cent y)).trans ?_
  exact cent_at' m c t (y 1) (y 3)

/-- The run, its result arrays named; the arguments unchanged. -/
theorem run : θ_run defs (onTc (τ := τ) (main (F := Ideal))) ⟨m, fun _ => 0, ρ⟩ fun r => ∀ c : Dev nD,
      r.2.mem ((c : Thread nD τ).loc main_v66_0) = G3 (inp m c).y
      ∧ r.2.mem ((c : Thread nD τ).loc main_v66_1) = G3 (inp m c).q
      ∧ r.2.mem ((c : Thread nD τ).loc main_v66_2) = G3 (inp m c).k
      ∧ r.2.mem ((c : Thread nD τ).loc main_v66_3) = G3 (inp m c).v
      ∧ r.2.mem ((c : Thread nD τ).loc main_v66_4) = G4 (inp m c).cent
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => by
    obtain ⟨h0, h1, h2, h3, h4, hk⟩ := h c
    exact ⟨h0.trans (final14 m c), h1.trans (final15 m c), h2.trans (final16 m c), h3.trans (final17 m c), h4.trans (final18 m c), hk⟩)
    (run_blocks m ρ)

end Cert.Own.LruIdealRun
end
-- ==== Proof.LruRefPre.lean ====
/- WHAT THE RECURRENCE'S REFERENCE HAS COMPUTED BEFORE ITS SCAN: each value the scan or the results need, as a vector
   expression of the arguments and of the values before it. -/
module

public import proofs.«01_k».proof.Defs
public import proofs.«01_k».proof.Proof.Gen.LruRefIdeal.Run

@[expose] public section

set_option maxRecDepth 16384

noncomputable section

namespace Cert.Own.LruRefPre

open Cert.LruRefIdeal Cert.LruRefIdeal.Gen Cert.LruRefIdeal.Value Idealize.ShloMosaic Idealize.ShloMosaic.TcCoe Idealize.SL.Sem
open StableHlo

/-- The last stretch before the scan, in ten parts. -/
abbrev opsA : List (HloOp τ sig (Elt Ideal)) := (hostOps0_4.drop 0).take 12
abbrev opsB : List (HloOp τ sig (Elt Ideal)) := (hostOps0_4.drop 12).take 21
abbrev opsC : List (HloOp τ sig (Elt Ideal)) := (hostOps0_4.drop 33).take 9
abbrev opsC2 : List (HloOp τ sig (Elt Ideal)) := (hostOps0_4.drop 42).take 8
abbrev opsC3 : List (HloOp τ sig (Elt Ideal)) := (hostOps0_4.drop 50).take 2
abbrev opsD : List (HloOp τ sig (Elt Ideal)) := (hostOps0_4.drop 52).take 21
abbrev opsE : List (HloOp τ sig (Elt Ideal)) := (hostOps0_4.drop 73).take 9
abbrev opsE2 : List (HloOp τ sig (Elt Ideal)) := (hostOps0_4.drop 82).take 8
abbrev opsE3 : List (HloOp τ sig (Elt Ideal)) := (hostOps0_4.drop 90).take 2
abbrev opsF : List (HloOp τ sig (Elt Ideal)) := (hostOps0_4.drop 92).take 44

def D_v0  : FVec Ideal S8192 .f32 :=
  (sitofp .f32 (iotaInDim S8192 32 0))

def D_v12 (x_arg2 : FVec Ideal S1024 .f32) : FVec Ideal S4x8192x1024 .f32 :=
  (broadcastInDim S4x8192x1024 ![0, 1, 2] bcast_S1x1x1024_S4x8192x1024_0_1_2 (broadcastInDim S1x1x1024 ![2] bcast_S1024_S1x1x1024_2 x_arg2))

def D_v13 (x_arg0 : FVec Ideal S4x8192x1024 .f32) (x_v12 : FVec Ideal S4x8192x1024 .f32) : FVec Ideal S4x8192x1024 .f32 :=
  (mulf (mulf x_arg0 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x_arg0 x_arg0) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) x_v12)

def D_v15 (x_arg1 : FVec Ideal S4x9x1024 .f32) : FVec Ideal S4x1024 .f32 :=
  (shapeCast S4x1024 (extractStridedSlice S4x1x1024 ![0, 3, 0] x_arg1 slices_S4x9x1024_S4x1x1024_0_3_0) shapeCasts_S4x1x1024_S4x1024)

def D_v26 (x_v13 : FVec Ideal S4x8192x1024 .f32) (x_arg1 : FVec Ideal S4x9x1024 .f32) (x_v15 : FVec Ideal S4x1024 .f32) (x_arg3 : FVec Ideal S1024x2560 .f32) : FVec Ideal S4x8192x2560 .f32 :=
  (Host.dotGeneral dot_S4x8192x1024_S1024x2560_S4x8192x2560_2_0_01_1_n_n none (addf (mulf x_v13 (broadcastInDim S4x8192x1024 ![0, 1, 2] bcast_S4x1x1024_S4x8192x1024_0_1_2 (addf (broadcastInDim S4x1x1024 ![] bcast_S_S4x1x1024 (constant S_ .f32 0x3F800000#32)) (broadcastInDim S4x1x1024 ![0, 2] bcast_S4x1024_S4x1x1024_0_2 (shapeCast S4x1024 (extractStridedSlice S4x1x1024 ![0, 4, 0] x_arg1 slices_S4x9x1024_S4x1x1024_0_4_0) shapeCasts_S4x1x1024_S4x1024))))) (broadcastInDim S4x8192x1024 ![0, 1, 2] bcast_S4x1x1024_S4x8192x1024_0_1_2 (broadcastInDim S4x1x1024 ![0, 2] bcast_S4x1024_S4x1x1024_0_2 x_v15))) x_arg3)

def D_v27 (x_v26 : FVec Ideal S4x8192x2560 .f32) : FVec Ideal S4x8192x512 .f32 :=
  (extractStridedSlice S4x8192x512 ![0, 0, 0] x_v26 slices_S4x8192x2560_S4x8192x512_0_0_0)

def D_v28 (x_v26 : FVec Ideal S4x8192x2560 .f32) : FVec Ideal S4x8192x512 .f32 :=
  (extractStridedSlice S4x8192x512 ![0, 0, 512] x_v26 slices_S4x8192x2560_S4x8192x512_0_0_512)

def D_v29 (x_v26 : FVec Ideal S4x8192x2560 .f32) : FVec Ideal S4x8192x512 .f32 :=
  (extractStridedSlice S4x8192x512 ![0, 0, 1024] x_v26 slices_S4x8192x2560_S4x8192x512_0_0_1024)

def D_v30 (x_v26 : FVec Ideal S4x8192x2560 .f32) : FVec Ideal S4x8192x512 .f32 :=
  (extractStridedSlice S4x8192x512 ![0, 0, 1536] x_v26 slices_S4x8192x2560_S4x8192x512_0_0_1536)

def D_v31 (x_v26 : FVec Ideal S4x8192x2560 .f32) : FVec Ideal S4x8192x512 .f32 :=
  (extractStridedSlice S4x8192x512 ![0, 0, 2048] x_v26 slices_S4x8192x2560_S4x8192x512_0_0_2048)

def D_c  : (⟨S_, .i32⟩ : BufTy).Contents (Elt Ideal) :=
  (constantI S_ 32 0#32)

def D_v32 (x_v27 : FVec Ideal S4x8192x512 .f32) (x_c : (⟨S_, .i32⟩ : BufTy).Contents (Elt Ideal)) : FVec Ideal S4x8195x512 .f32 :=
  (pad S4x8195x512 ![0, 3, 0] ![0, 0, 0] ![0, 0, 0] x_v27 (sitofp .f32 x_c) pads_S4x8192x512_S4x8195x512_000_300_000 h_S_)

def D_v64 (x_v32 : FVec Ideal S4x8195x512 .f32) (x_arg4 : FVec Ideal S4x512 .f32) (x_arg5 : FVec Ideal S512 .f32) : FVec Ideal S4x8192x512 .f32 :=
  (addf (addf (addf (addf (addf (broadcastInDim S4x8192x512 ![] bcast_S_S4x8192x512 (constant S_ .f32 0x00000000#32)) (mulf (extractStridedSlice S4x8192x512 ![0, 0, 0] x_v32 slices_S4x8195x512_S4x8192x512_0_0_0) (broadcastInDim S4x8192x512 ![0, 1, 2] bcast_S1x1x512_S4x8192x512_0_1_2 (broadcastInDim S1x1x512 ![2] bcast_S512_S1x1x512_2 (shapeCast S512 (extractStridedSlice S1x512 ![0, 0] x_arg4 slices_S4x512_S1x512_0_0) shapeCasts_S1x512_S512))))) (mulf (extractStridedSlice S4x8192x512 ![0, 1, 0] x_v32 slices_S4x8195x512_S4x8192x512_0_1_0) (broadcastInDim S4x8192x512 ![0, 1, 2] bcast_S1x1x512_S4x8192x512_0_1_2 (broadcastInDim S1x1x512 ![2] bcast_S512_S1x1x512_2 (shapeCast S512 (extractStridedSlice S1x512 ![1, 0] x_arg4 slices_S4x512_S1x512_1_0) shapeCasts_S1x512_S512))))) (mulf (extractStridedSlice S4x8192x512 ![0, 2, 0] x_v32 slices_S4x8195x512_S4x8192x512_0_2_0) (broadcastInDim S4x8192x512 ![0, 1, 2] bcast_S1x1x512_S4x8192x512_0_1_2 (broadcastInDim S1x1x512 ![2] bcast_S512_S1x1x512_2 (shapeCast S512 (extractStridedSlice S1x512 ![2, 0] x_arg4 slices_S4x512_S1x512_2_0) shapeCasts_S1x512_S512))))) (mulf (extractStridedSlice S4x8192x512 ![0, 3, 0] x_v32 slices_S4x8195x512_S4x8192x512_0_3_0) (broadcastInDim S4x8192x512 ![0, 1, 2] bcast_S1x1x512_S4x8192x512_0_1_2 (broadcastInDim S1x1x512 ![2] bcast_S512_S1x1x512_2 (shapeCast S512 (extractStridedSlice S1x512 ![3, 0] x_arg4 slices_S4x512_S1x512_3_0) shapeCasts_S1x512_S512))))) (broadcastInDim S4x8192x512 ![0, 1, 2] bcast_S1x1x512_S4x8192x512_0_1_2 (broadcastInDim S1x1x512 ![2] bcast_S512_S1x1x512_2 x_arg5)))

def D_v77 (x_arg6 : FVec Ideal S8x64x64 .f32) (x_v64 : FVec Ideal S4x8192x512 .f32) (x_arg7 : FVec Ideal S8x64 .f32) : FVec Ideal S4x8192x512 .f32 :=
  (shapeCast S4x8192x512 (Host.divf (broadcastInDim S4x8192x8x64 ![] bcast_S_S4x8192x8x64 (constant S_ .f32 0x3F800000#32)) (addf (broadcastInDim S4x8192x8x64 ![] bcast_S_S4x8192x8x64 (constant S_ .f32 0x3F800000#32)) (Host.exp (Host.negf (addf (transpose S4x8192x8x64 [2, 3, 0, 1] (Host.dotGeneral dot_S8x64x64_S4x8192x8x64_S8x64x4x8192_1_3_2_01_0_2 none x_arg6 (shapeCast S4x8192x8x64 x_v64 shapeCasts_S4x8192x512_S4x8192x8x64)) transposes_S8x64x4x8192_S4x8192x8x64_2_3_0_1) (broadcastInDim S4x8192x8x64 ![0, 1, 2, 3] bcast_S1x1x8x64_S4x8192x8x64_0_1_2_3 (broadcastInDim S1x1x8x64 ![2, 3] bcast_S8x64_S1x1x8x64_2_3 x_arg7))))))) shapeCasts_S4x8192x8x64_S4x8192x512)

def D_v89 (x_arg8 : FVec Ideal S8x64x64 .f32) (x_v64 : FVec Ideal S4x8192x512 .f32) (x_arg9 : FVec Ideal S8x64 .f32) : FVec Ideal S4x8192x512 .f32 :=
  (shapeCast S4x8192x512 (Host.divf (broadcastInDim S4x8192x8x64 ![] bcast_S_S4x8192x8x64 (constant S_ .f32 0x3F800000#32)) (addf (broadcastInDim S4x8192x8x64 ![] bcast_S_S4x8192x8x64 (constant S_ .f32 0x3F800000#32)) (Host.exp (Host.negf (addf (transpose S4x8192x8x64 [2, 3, 0, 1] (Host.dotGeneral dot_S8x64x64_S4x8192x8x64_S8x64x4x8192_1_3_2_01_0_2 none x_arg8 (shapeCast S4x8192x8x64 x_v64 shapeCasts_S4x8192x512_S4x8192x8x64)) transposes_S8x64x4x8192_S4x8192x8x64_2_3_0_1) (broadcastInDim S4x8192x8x64 ![0, 1, 2, 3] bcast_S1x1x8x64_S4x8192x8x64_0_1_2_3 (broadcastInDim S1x1x8x64 ![2, 3] bcast_S8x64_S1x1x8x64_2_3 x_arg9))))))) shapeCasts_S4x8192x8x64_S4x8192x512)

def D_v91 (x_v77 : FVec Ideal S4x8192x512 .f32) : FVec Ideal S4x8192x512 .f32 :=
  (mulf (broadcastInDim S4x8192x512 ![] bcast_S_S4x8192x512 (constant S_ .f32 0xC1000000#32)) x_v77)

def D_v92 (x_arg10 : FVec Ideal S512 .f32) : FVec Ideal S512 .f32 :=
  (Host.negf x_arg10)

def D_v93 (x_v92 : FVec Ideal S512 .f32) : FVec Ideal S512 .f32 :=
  (select (cmpf .une (subf x_v92 (broadcastInDim S512 ![] bcast_S_S512 (constant S_ .f32 0x00000000#32))) (subf x_v92 (broadcastInDim S512 ![] bcast_S_S512 (constant S_ .f32 0x00000000#32)))) (addf x_v92 (broadcastInDim S512 ![] bcast_S_S512 (constant S_ .f32 0x00000000#32))) (addf (maximumf x_v92 (broadcastInDim S512 ![] bcast_S_S512 (constant S_ .f32 0x00000000#32))) (Host.log1p (Host.exp (Host.negf (Host.absf (subf x_v92 (broadcastInDim S512 ![] bcast_S_S512 (constant S_ .f32 0x00000000#32)))))))))

def D_v97 (x_v91 : FVec Ideal S4x8192x512 .f32) (x_v93 : FVec Ideal S512 .f32) : FVec Ideal S4x8192x512 .f32 :=
  (Host.exp (mulf x_v91 (broadcastInDim S4x8192x512 ![0, 1, 2] bcast_S1x1x512_S4x8192x512_0_1_2 (broadcastInDim S1x1x512 ![2] bcast_S512_S1x1x512_2 x_v93))))

def D_v104 (x_v91 : FVec Ideal S4x8192x512 .f32) (x_v93 : FVec Ideal S512 .f32) (x_v89 : FVec Ideal S4x8192x512 .f32) (x_v64 : FVec Ideal S4x8192x512 .f32) : FVec Ideal S4x8192x512 .f32 :=
  (mulf (Host.sqrt (Host.negf (Host.expm1 (mulf (broadcastInDim S4x8192x512 ![] bcast_S_S4x8192x512 (constant S_ .f32 0x40000000#32)) (mulf x_v91 (broadcastInDim S4x8192x512 ![0, 1, 2] bcast_S1x1x512_S4x8192x512_0_1_2 (broadcastInDim S1x1x512 ![2] bcast_S512_S1x1x512_2 x_v93))))))) (mulf x_v89 x_v64))

def D_v105 (x_v29 : FVec Ideal S4x8192x512 .f32) : FVec Ideal S4x8192x8x64 .f32 :=
  (shapeCast S4x8192x8x64 x_v29 shapeCasts_S4x8192x512_S4x8192x8x64)

def D_v118 (x_v0 : FVec Ideal S8192 .f32) : FVec Ideal S8192x8 .f32 :=
  (mulf (broadcastInDim S8192x8 ![0, 1] bcast_S8192x1_S8192x8_0_1 (broadcastInDim S8192x1 ![0] bcast_S8192_S8192x1_0 x_v0)) (broadcastInDim S8192x8 ![0, 1] bcast_S1x8_S8192x8_0_1 (broadcastInDim S1x8 ![1] bcast_S8_S1x8_1 (Host.powf (broadcastInDim S8 ![] bcast_S_S8 (constant S_ .f32 0x48F42400#32)) (Host.divf (mulf (Host.negf (sitofp .f32 (iotaInDim S8 32 0))) (broadcastInDim S8 ![] bcast_S_S8 (constant S_ .f32 0x40000000#32))) (broadcastInDim S8 ![] bcast_S_S8 (constant S_ .f32 0x41800000#32)))))))

def D_v120 (x_v118 : FVec Ideal S8192x8 .f32) : FVec Ideal S8192x1x8 .f32 :=
  (broadcastInDim S8192x1x8 ![0, 2] bcast_S8192x8_S8192x1x8_0_2 (Host.cos x_v118))

def D_v122 (x_v118 : FVec Ideal S8192x8 .f32) : FVec Ideal S8192x1x8 .f32 :=
  (broadcastInDim S8192x1x8 ![0, 2] bcast_S8192x8_S8192x1x8_0_2 (Host.sin x_v118))

def D_v123 (x_v105 : FVec Ideal S4x8192x8x64 .f32) : FVec Ideal S4x8192x8x8 .f32 :=
  (extractStridedSlice S4x8192x8x8 ![0, 0, 0, 0] x_v105 slices_S4x8192x8x64_S4x8192x8x8_0_0_0_0)

def D_v124 (x_v105 : FVec Ideal S4x8192x8x64 .f32) : FVec Ideal S4x8192x8x8 .f32 :=
  (extractStridedSlice S4x8192x8x8 ![0, 0, 0, 8] x_v105 slices_S4x8192x8x64_S4x8192x8x8_0_0_0_8)

def D_v131 (x_v123 : FVec Ideal S4x8192x8x8 .f32) (x_v120 : FVec Ideal S8192x1x8 .f32) (x_v124 : FVec Ideal S4x8192x8x8 .f32) (x_v122 : FVec Ideal S8192x1x8 .f32) : FVec Ideal S4x8192x8x8 .f32 :=
  (subf (mulf x_v123 (broadcastInDim S4x8192x8x8 ![0, 1, 2, 3] bcast_S1x8192x1x8_S4x8192x8x8_0_1_2_3 (broadcastInDim S1x8192x1x8 ![1, 2, 3] bcast_S8192x1x8_S1x8192x1x8_1_2_3 x_v120))) (mulf x_v124 (broadcastInDim S4x8192x8x8 ![0, 1, 2, 3] bcast_S1x8192x1x8_S4x8192x8x8_0_1_2_3 (broadcastInDim S1x8192x1x8 ![1, 2, 3] bcast_S8192x1x8_S1x8192x1x8_1_2_3 x_v122))))

def D_v138 (x_v124 : FVec Ideal S4x8192x8x8 .f32) (x_v120 : FVec Ideal S8192x1x8 .f32) (x_v123 : FVec Ideal S4x8192x8x8 .f32) (x_v122 : FVec Ideal S8192x1x8 .f32) : FVec Ideal S4x8192x8x8 .f32 :=
  (addf (mulf x_v124 (broadcastInDim S4x8192x8x8 ![0, 1, 2, 3] bcast_S1x8192x1x8_S4x8192x8x8_0_1_2_3 (broadcastInDim S1x8192x1x8 ![1, 2, 3] bcast_S8192x1x8_S1x8192x1x8_1_2_3 x_v120))) (mulf x_v123 (broadcastInDim S4x8192x8x8 ![0, 1, 2, 3] bcast_S1x8192x1x8_S4x8192x8x8_0_1_2_3 (broadcastInDim S1x8192x1x8 ![1, 2, 3] bcast_S8192x1x8_S1x8192x1x8_1_2_3 x_v122))))

def D_v139 (x_v105 : FVec Ideal S4x8192x8x64 .f32) : FVec Ideal S4x8192x8x48 .f32 :=
  (extractStridedSlice S4x8192x8x48 ![0, 0, 0, 16] x_v105 slices_S4x8192x8x64_S4x8192x8x48_0_0_0_16)

def D_v141 (x_v131 : FVec Ideal S4x8192x8x8 .f32) (x_v138 : FVec Ideal S4x8192x8x8 .f32) (x_v139 : FVec Ideal S4x8192x8x48 .f32) : FVec Ideal S4x8192x512 .f32 :=
  (shapeCast S4x8192x512 (concatenate S4x8192x8x64 3 [⟨S4x8192x8x8, x_v131⟩, ⟨S4x8192x8x8, x_v138⟩, ⟨S4x8192x8x48, x_v139⟩] concatenates_S4x8192x8x8_S4x8192x8x8_S4x8192x8x48_S4x8192x8x64_d3 : (⟨S4x8192x8x64, .f32⟩ : BufTy).Contents (Elt Ideal)) shapeCasts_S4x8192x8x64_S4x8192x512)

def D_v183 (x_v178 : FVec Ideal S4x8192x512 .f32) : FVec Ideal S4x32x1x512 .f32 :=
  (Host.divf (broadcastInDim S4x32x1x512 ![0, 1, 3] bcast_S4x32x512_S4x32x1x512_0_1_3 (Host.reduceAdd (shapeCast S4x32x256x512 x_v178 shapeCasts_S4x8192x512_S4x32x256x512) (constant S_ .f32 0x00000000#32) reducesTo_S4x32x256x512_S4x32x512_d2 h_S_)) (broadcastInDim S4x32x1x512 ![] bcast_S_S4x32x1x512 (constant S_ .f32 0x43800000#32)))

def D_v186 (x_v141 : FVec Ideal S4x8192x512 .f32) : FVec Ideal S4x8192x512 .bf16 :=
  (truncf .bf16 (mulf x_v141 (broadcastInDim S4x8192x512 ![] bcast_S_S4x8192x512 (constant S_ .f32 0x3E38AA3B#32))) bitsLt_bf16_f32)

def D_v187 (x_v178 : FVec Ideal S4x8192x512 .f32) : FVec Ideal S4x8192x512 .bf16 :=
  (truncf .bf16 x_v178 bitsLt_bf16_f32)

def D_v188 (x_v31 : FVec Ideal S4x8192x512 .f32) : FVec Ideal S4x8192x512 .bf16 :=
  (truncf .bf16 x_v31 bitsLt_bf16_f32)

def D_v202 (x_v28 : FVec Ideal S4x8192x512 .f32) : FVec Ideal S4x8192x512 .f32 :=
  (mulf x_v28 (mulf (broadcastInDim S4x8192x512 ![] bcast_S_S4x8192x512 (constant S_ .f32 0x3F000000#32)) (addf (broadcastInDim S4x8192x512 ![] bcast_S_S4x8192x512 (constant S_ .f32 0x3F800000#32)) (Host.tanh (mulf (broadcastInDim S4x8192x512 ![] bcast_S_S4x8192x512 (constant S_ .f32 0x3F4C422A#32)) (addf x_v28 (mulf (broadcastInDim S4x8192x512 ![] bcast_S_S4x8192x512 (constant S_ .f32 0x3D372713#32)) (mulf (mulf x_v28 x_v28) x_v28))))))))

def D_v207_0 (x_v97 : FVec Ideal S4x8192x512 .f32) : FVec Ideal S8192x4x512 .f32 :=
  (transpose S8192x4x512 [1, 0, 2] x_v97 transposes_S4x8192x512_S8192x4x512_1_0_2)

def D_v207_1 (x_v104 : FVec Ideal S4x8192x512 .f32) : FVec Ideal S8192x4x512 .f32 :=
  (transpose S8192x4x512 [1, 0, 2] x_v104 transposes_S4x8192x512_S8192x4x512_1_0_2)

def D_v207_2 (x_v202 : FVec Ideal S4x8192x512 .f32) : FVec Ideal S8192x4x512 .f32 :=
  (transpose S8192x4x512 [1, 0, 2] x_v202 transposes_S4x8192x512_S8192x4x512_1_0_2)

def D_v207_3  : (⟨S_, .i32⟩ : BufTy).Contents (Elt Ideal) :=
  (constantI S_ 32 0#32)

def D_v207_4  : FVec Ideal S4x512 .f32 :=
  (broadcastInDim S4x512 ![] bcast_S_S4x512 (constant S_ .f32 0x00000000#32))

def D_v207_5  : FVec Ideal S8192x4x512 .bf16 :=
  (broadcastInDim S8192x4x512 ![] bcast_S_S8192x4x512 (constant S_ .bf16 0x0000#16))

theorem hostOps0_v0 (V : Valuation τ sig (Elt Ideal)) :
    after hostOps0 V (Proc.devRef .tc main_v0) = D_v0 := rfl

theorem hostOps0_v27 (V : Valuation τ sig (Elt Ideal)) :
    after hostOps0 V (Proc.devRef .tc main_v27) = (D_v27 (D_v26 (D_v13 (V (Proc.devRef .tc main_arg0)) (D_v12 (V (Proc.devRef .tc main_arg2)))) (V (Proc.devRef .tc main_arg1)) (D_v15 (V (Proc.devRef .tc main_arg1))) (V (Proc.devRef .tc main_arg3)))) := rfl

theorem hostOps0_v28 (V : Valuation τ sig (Elt Ideal)) :
    after hostOps0 V (Proc.devRef .tc main_v28) = (D_v28 (D_v26 (D_v13 (V (Proc.devRef .tc main_arg0)) (D_v12 (V (Proc.devRef .tc main_arg2)))) (V (Proc.devRef .tc main_arg1)) (D_v15 (V (Proc.devRef .tc main_arg1))) (V (Proc.devRef .tc main_arg3)))) := rfl

theorem hostOps0_v29 (V : Valuation τ sig (Elt Ideal)) :
    after hostOps0 V (Proc.devRef .tc main_v29) = (D_v29 (D_v26 (D_v13 (V (Proc.devRef .tc main_arg0)) (D_v12 (V (Proc.devRef .tc main_arg2)))) (V (Proc.devRef .tc main_arg1)) (D_v15 (V (Proc.devRef .tc main_arg1))) (V (Proc.devRef .tc main_arg3)))) := rfl

theorem hostOps0_v30 (V : Valuation τ sig (Elt Ideal)) :
    after hostOps0 V (Proc.devRef .tc main_v30) = (D_v30 (D_v26 (D_v13 (V (Proc.devRef .tc main_arg0)) (D_v12 (V (Proc.devRef .tc main_arg2)))) (V (Proc.devRef .tc main_arg1)) (D_v15 (V (Proc.devRef .tc main_arg1))) (V (Proc.devRef .tc main_arg3)))) := rfl

theorem hostOps0_v31 (V : Valuation τ sig (Elt Ideal)) :
    after hostOps0 V (Proc.devRef .tc main_v31) = (D_v31 (D_v26 (D_v13 (V (Proc.devRef .tc main_arg0)) (D_v12 (V (Proc.devRef .tc main_arg2)))) (V (Proc.devRef .tc main_arg1)) (D_v15 (V (Proc.devRef .tc main_arg1))) (V (Proc.devRef .tc main_arg3)))) := rfl

theorem hostOps0_c (V : Valuation τ sig (Elt Ideal)) :
    after hostOps0 V (Proc.devRef .tc main_c) = D_c := rfl

theorem hostOps0_1_v32 (V : Valuation τ sig (Elt Ideal)) :
    after hostOps0_1 V (Proc.devRef .tc main_v32) = (D_v32 (V (Proc.devRef .tc main_v27)) (V (Proc.devRef .tc main_c))) := rfl

theorem hostOps0_2_v64 (V : Valuation τ sig (Elt Ideal)) :
    after hostOps0_2 V (Proc.devRef .tc main_v64) = (D_v64 (V (Proc.devRef .tc main_v32)) (V (Proc.devRef .tc main_arg4)) (V (Proc.devRef .tc main_arg5))) := rfl

theorem hostOps0_2_v89 (V : Valuation τ sig (Elt Ideal)) :
    after hostOps0_2 V (Proc.devRef .tc main_v89) = (D_v89 (V (Proc.devRef .tc main_arg8)) (D_v64 (V (Proc.devRef .tc main_v32)) (V (Proc.devRef .tc main_arg4)) (V (Proc.devRef .tc main_arg5))) (V (Proc.devRef .tc main_arg9))) := rfl

theorem hostOps0_2_v91 (V : Valuation τ sig (Elt Ideal)) :
    after hostOps0_2 V (Proc.devRef .tc main_v91) = (D_v91 (D_v77 (V (Proc.devRef .tc main_arg6)) (D_v64 (V (Proc.devRef .tc main_v32)) (V (Proc.devRef .tc main_arg4)) (V (Proc.devRef .tc main_arg5))) (V (Proc.devRef .tc main_arg7)))) := rfl

theorem hostOps0_2_v92 (V : Valuation τ sig (Elt Ideal)) :
    after hostOps0_2 V (Proc.devRef .tc main_v92) = (D_v92 (V (Proc.devRef .tc main_arg10))) := rfl

theorem hostOps0_3_v93 (V : Valuation τ sig (Elt Ideal)) :
    after hostOps0_3 V (Proc.devRef .tc main_v93) = (D_v93 (V (Proc.devRef .tc main_v92))) := rfl

theorem opsA_v97 (V : Valuation τ sig (Elt Ideal)) :
    after opsA V (Proc.devRef .tc main_v97) = (D_v97 (V (Proc.devRef .tc main_v91)) (V (Proc.devRef .tc main_v93))) := rfl

theorem opsA_v104 (V : Valuation τ sig (Elt Ideal)) :
    after opsA V (Proc.devRef .tc main_v104) = (D_v104 (V (Proc.devRef .tc main_v91)) (V (Proc.devRef .tc main_v93)) (V (Proc.devRef .tc main_v89)) (V (Proc.devRef .tc main_v64))) := rfl

theorem opsB_v105 (V : Valuation τ sig (Elt Ideal)) :
    after opsB V (Proc.devRef .tc main_v105) = (D_v105 (V (Proc.devRef .tc main_v29))) := rfl

theorem opsB_v120 (V : Valuation τ sig (Elt Ideal)) :
    after opsB V (Proc.devRef .tc main_v120) = (D_v120 (D_v118 (V (Proc.devRef .tc main_v0)))) := rfl

theorem opsB_v122 (V : Valuation τ sig (Elt Ideal)) :
    after opsB V (Proc.devRef .tc main_v122) = (D_v122 (D_v118 (V (Proc.devRef .tc main_v0)))) := rfl

theorem opsC_v123 (V : Valuation τ sig (Elt Ideal)) :
    after opsC V (Proc.devRef .tc main_v123) = (D_v123 (V (Proc.devRef .tc main_v105))) := rfl

theorem opsC_v124 (V : Valuation τ sig (Elt Ideal)) :
    after opsC V (Proc.devRef .tc main_v124) = (D_v124 (V (Proc.devRef .tc main_v105))) := rfl

theorem opsC_v131 (V : Valuation τ sig (Elt Ideal)) :
    after opsC V (Proc.devRef .tc main_v131) = (D_v131 (D_v123 (V (Proc.devRef .tc main_v105))) (V (Proc.devRef .tc main_v120)) (D_v124 (V (Proc.devRef .tc main_v105))) (V (Proc.devRef .tc main_v122))) := rfl

theorem opsC2_v138 (V : Valuation τ sig (Elt Ideal)) :
    after opsC2 V (Proc.devRef .tc main_v138) = (D_v138 (V (Proc.devRef .tc main_v124)) (V (Proc.devRef .tc main_v120)) (V (Proc.devRef .tc main_v123)) (V (Proc.devRef .tc main_v122))) := rfl

theorem opsC2_v139 (V : Valuation τ sig (Elt Ideal)) :
    after opsC2 V (Proc.devRef .tc main_v139) = (D_v139 (V (Proc.devRef .tc main_v105))) := rfl

theorem opsC3_v141 (V : Valuation τ sig (Elt Ideal)) :
    after opsC3 V (Proc.devRef .tc main_v141) = (D_v141 (V (Proc.devRef .tc main_v131)) (V (Proc.devRef .tc main_v138)) (V (Proc.devRef .tc main_v139))) := by
  unfold D_v141 opsC3
  simp only [List.drop, List.take]
  after_results_simp
  rfl

theorem opsD_v142 (V : Valuation τ sig (Elt Ideal)) :
    after opsD V (Proc.devRef .tc main_v142) = (D_v105 (V (Proc.devRef .tc main_v30))) := rfl

theorem opsD_v157 (V : Valuation τ sig (Elt Ideal)) :
    after opsD V (Proc.devRef .tc main_v157) = (D_v120 (D_v118 (V (Proc.devRef .tc main_v0)))) := rfl

theorem opsD_v159 (V : Valuation τ sig (Elt Ideal)) :
    after opsD V (Proc.devRef .tc main_v159) = (D_v122 (D_v118 (V (Proc.devRef .tc main_v0)))) := rfl

theorem opsE_v160 (V : Valuation τ sig (Elt Ideal)) :
    after opsE V (Proc.devRef .tc main_v160) = (D_v123 (V (Proc.devRef .tc main_v142))) := rfl

theorem opsE_v161 (V : Valuation τ sig (Elt Ideal)) :
    after opsE V (Proc.devRef .tc main_v161) = (D_v124 (V (Proc.devRef .tc main_v142))) := rfl

theorem opsE_v168 (V : Valuation τ sig (Elt Ideal)) :
    after opsE V (Proc.devRef .tc main_v168) = (D_v131 (D_v123 (V (Proc.devRef .tc main_v142))) (V (Proc.devRef .tc main_v157)) (D_v124 (V (Proc.devRef .tc main_v142))) (V (Proc.devRef .tc main_v159))) := rfl

theorem opsE2_v175 (V : Valuation τ sig (Elt Ideal)) :
    after opsE2 V (Proc.devRef .tc main_v175) = (D_v138 (V (Proc.devRef .tc main_v161)) (V (Proc.devRef .tc main_v157)) (V (Proc.devRef .tc main_v160)) (V (Proc.devRef .tc main_v159))) := rfl

theorem opsE2_v176 (V : Valuation τ sig (Elt Ideal)) :
    after opsE2 V (Proc.devRef .tc main_v176) = (D_v139 (V (Proc.devRef .tc main_v142))) := rfl

theorem opsE3_v178 (V : Valuation τ sig (Elt Ideal)) :
    after opsE3 V (Proc.devRef .tc main_v178) = (D_v141 (V (Proc.devRef .tc main_v168)) (V (Proc.devRef .tc main_v175)) (V (Proc.devRef .tc main_v176))) := by
  unfold D_v141 opsE3
  simp only [List.drop, List.take]
  after_results_simp
  rfl

theorem opsF_v183 (V : Valuation τ sig (Elt Ideal)) :
    after opsF V (Proc.devRef .tc main_v183) = (D_v183 (V (Proc.devRef .tc main_v178))) := rfl

theorem opsF_v186 (V : Valuation τ sig (Elt Ideal)) :
    after opsF V (Proc.devRef .tc main_v186) = (D_v186 (V (Proc.devRef .tc main_v141))) := rfl

theorem opsF_v187 (V : Valuation τ sig (Elt Ideal)) :
    after opsF V (Proc.devRef .tc main_v187) = (D_v187 (V (Proc.devRef .tc main_v178))) := rfl

theorem opsF_v188 (V : Valuation τ sig (Elt Ideal)) :
    after opsF V (Proc.devRef .tc main_v188) = (D_v188 (V (Proc.devRef .tc main_v31))) := rfl

theorem opsF_v207_0 (V : Valuation τ sig (Elt Ideal)) :
    after opsF V (Proc.devRef .tc main_v207_0) = (D_v207_0 (V (Proc.devRef .tc main_v97))) := rfl

theorem opsF_v207_1 (V : Valuation τ sig (Elt Ideal)) :
    after opsF V (Proc.devRef .tc main_v207_1) = (D_v207_1 (V (Proc.devRef .tc main_v104))) := rfl

theorem opsF_v207_2 (V : Valuation τ sig (Elt Ideal)) :
    after opsF V (Proc.devRef .tc main_v207_2) = (D_v207_2 (D_v202 (V (Proc.devRef .tc main_v28)))) := rfl

theorem opsF_v207_4 (V : Valuation τ sig (Elt Ideal)) :
    after opsF V (Proc.devRef .tc main_v207_4) = D_v207_4 := rfl

variable (m : (ℓ : Loc nD τ sig) → Buf (Elt Ideal) ℓ) (c : Dev nD)

/-- The references' contents at the start and after each stretch of operations before the scan, the last stretch in ten parts. -/
def S0 : Valuation τ sig (Elt Ideal) := launchContents m c
def S1 : Valuation τ sig (Elt Ideal) := after hostOps0 (S0 m c)
def S2 : Valuation τ sig (Elt Ideal) := after hostOps0_1 (S1 m c)
def S3 : Valuation τ sig (Elt Ideal) := after hostOps0_2 (S2 m c)
def S4 : Valuation τ sig (Elt Ideal) := after hostOps0_3 (S3 m c)
def S5 : Valuation τ sig (Elt Ideal) := after opsA (S4 m c)
def S6 : Valuation τ sig (Elt Ideal) := after opsB (S5 m c)
def S7 : Valuation τ sig (Elt Ideal) := after opsC (S6 m c)
def S8 : Valuation τ sig (Elt Ideal) := after opsC2 (S7 m c)
def S9 : Valuation τ sig (Elt Ideal) := after opsC3 (S8 m c)
def S10 : Valuation τ sig (Elt Ideal) := after opsD (S9 m c)
def S11 : Valuation τ sig (Elt Ideal) := after opsE (S10 m c)
def S12 : Valuation τ sig (Elt Ideal) := after opsE2 (S11 m c)
def S13 : Valuation τ sig (Elt Ideal) := after opsE3 (S12 m c)
def S14 : Valuation τ sig (Elt Ideal) := after opsF (S13 m c)
theorem after_app (l k : List (HloOp τ sig (Elt Ideal))) (V : Valuation τ sig (Elt Ideal)) : after (l ++ k) V = after k (after l V) := by
  induction l generalizing V with
  | nil => rfl
  | cons op l ih => exact ih _
theorem parts : hostOps0_4 (F := Ideal) = opsA ++ (opsB ++ (opsC ++ (opsC2 ++ (opsC3 ++ (opsD ++ (opsE ++ (opsE2 ++ (opsE3 ++ opsF)))))))) := rfl
theorem entry_eq : entryContents preI m c = S14 m c := by
  show after hostOps0_4 (S4 m c) = _
  rw [parts]; simp only [after_app]; rfl

theorem S0_arg2 : S0 m c (Proc.devRef .tc main_arg2) = (m ((c.tc : Thread nD τ).loc main_arg2)) := rfl

theorem S0_arg0 : S0 m c (Proc.devRef .tc main_arg0) = (m ((c.tc : Thread nD τ).loc main_arg0)) := rfl

theorem S0_arg1 : S0 m c (Proc.devRef .tc main_arg1) = (m ((c.tc : Thread nD τ).loc main_arg1)) := rfl

theorem S0_arg3 : S0 m c (Proc.devRef .tc main_arg3) = (m ((c.tc : Thread nD τ).loc main_arg3)) := rfl

theorem S0_arg4 : S0 m c (Proc.devRef .tc main_arg4) = (m ((c.tc : Thread nD τ).loc main_arg4)) := rfl

theorem S1_arg4 : S1 m c (Proc.devRef .tc main_arg4) = (m ((c.tc : Thread nD τ).loc main_arg4)) :=
  (after_of_writes_sub hostOps0 _ hostOps0_writes (by decide +kernel)).trans (S0_arg4 m c)

theorem S2_arg4 : S2 m c (Proc.devRef .tc main_arg4) = (m ((c.tc : Thread nD τ).loc main_arg4)) :=
  (after_of_writes_sub hostOps0_1 _ hostOps0_1_writes (by decide +kernel)).trans (S1_arg4 m c)

theorem S0_arg5 : S0 m c (Proc.devRef .tc main_arg5) = (m ((c.tc : Thread nD τ).loc main_arg5)) := rfl

theorem S1_arg5 : S1 m c (Proc.devRef .tc main_arg5) = (m ((c.tc : Thread nD τ).loc main_arg5)) :=
  (after_of_writes_sub hostOps0 _ hostOps0_writes (by decide +kernel)).trans (S0_arg5 m c)

theorem S2_arg5 : S2 m c (Proc.devRef .tc main_arg5) = (m ((c.tc : Thread nD τ).loc main_arg5)) :=
  (after_of_writes_sub hostOps0_1 _ hostOps0_1_writes (by decide +kernel)).trans (S1_arg5 m c)

theorem S0_arg6 : S0 m c (Proc.devRef .tc main_arg6) = (m ((c.tc : Thread nD τ).loc main_arg6)) := rfl

theorem S1_arg6 : S1 m c (Proc.devRef .tc main_arg6) = (m ((c.tc : Thread nD τ).loc main_arg6)) :=
  (after_of_writes_sub hostOps0 _ hostOps0_writes (by decide +kernel)).trans (S0_arg6 m c)

theorem S2_arg6 : S2 m c (Proc.devRef .tc main_arg6) = (m ((c.tc : Thread nD τ).loc main_arg6)) :=
  (after_of_writes_sub hostOps0_1 _ hostOps0_1_writes (by decide +kernel)).trans (S1_arg6 m c)

theorem S0_arg7 : S0 m c (Proc.devRef .tc main_arg7) = (m ((c.tc : Thread nD τ).loc main_arg7)) := rfl

theorem S1_arg7 : S1 m c (Proc.devRef .tc main_arg7) = (m ((c.tc : Thread nD τ).loc main_arg7)) :=
  (after_of_writes_sub hostOps0 _ hostOps0_writes (by decide +kernel)).trans (S0_arg7 m c)

theorem S2_arg7 : S2 m c (Proc.devRef .tc main_arg7) = (m ((c.tc : Thread nD τ).loc main_arg7)) :=
  (after_of_writes_sub hostOps0_1 _ hostOps0_1_writes (by decide +kernel)).trans (S1_arg7 m c)

theorem S0_arg8 : S0 m c (Proc.devRef .tc main_arg8) = (m ((c.tc : Thread nD τ).loc main_arg8)) := rfl

theorem S1_arg8 : S1 m c (Proc.devRef .tc main_arg8) = (m ((c.tc : Thread nD τ).loc main_arg8)) :=
  (after_of_writes_sub hostOps0 _ hostOps0_writes (by decide +kernel)).trans (S0_arg8 m c)

theorem S2_arg8 : S2 m c (Proc.devRef .tc main_arg8) = (m ((c.tc : Thread nD τ).loc main_arg8)) :=
  (after_of_writes_sub hostOps0_1 _ hostOps0_1_writes (by decide +kernel)).trans (S1_arg8 m c)

theorem S0_arg9 : S0 m c (Proc.devRef .tc main_arg9) = (m ((c.tc : Thread nD τ).loc main_arg9)) := rfl

theorem S1_arg9 : S1 m c (Proc.devRef .tc main_arg9) = (m ((c.tc : Thread nD τ).loc main_arg9)) :=
  (after_of_writes_sub hostOps0 _ hostOps0_writes (by decide +kernel)).trans (S0_arg9 m c)

theorem S2_arg9 : S2 m c (Proc.devRef .tc main_arg9) = (m ((c.tc : Thread nD τ).loc main_arg9)) :=
  (after_of_writes_sub hostOps0_1 _ hostOps0_1_writes (by decide +kernel)).trans (S1_arg9 m c)

theorem S0_arg10 : S0 m c (Proc.devRef .tc main_arg10) = (m ((c.tc : Thread nD τ).loc main_arg10)) := rfl

theorem S1_arg10 : S1 m c (Proc.devRef .tc main_arg10) = (m ((c.tc : Thread nD τ).loc main_arg10)) :=
  (after_of_writes_sub hostOps0 _ hostOps0_writes (by decide +kernel)).trans (S0_arg10 m c)

theorem S2_arg10 : S2 m c (Proc.devRef .tc main_arg10) = (m ((c.tc : Thread nD τ).loc main_arg10)) :=
  (after_of_writes_sub hostOps0_1 _ hostOps0_1_writes (by decide +kernel)).trans (S1_arg10 m c)

def X_v0 : FVec Ideal S8192 .f32 := D_v0

theorem S1_v0 : S1 m c (Proc.devRef .tc main_v0) = X_v0 := by
  rw [S1, hostOps0_v0]; rfl

theorem S2_v0 : S2 m c (Proc.devRef .tc main_v0) = X_v0 :=
  (after_of_writes_sub hostOps0_1 _ hostOps0_1_writes (by decide +kernel)).trans (S1_v0 m c)

theorem S3_v0 : S3 m c (Proc.devRef .tc main_v0) = X_v0 :=
  (after_of_writes_sub hostOps0_2 _ hostOps0_2_writes (by decide +kernel)).trans (S2_v0 m c)

theorem S4_v0 : S4 m c (Proc.devRef .tc main_v0) = X_v0 :=
  (after_of_writes_sub hostOps0_3 _ hostOps0_3_writes (by decide +kernel)).trans (S3_v0 m c)

theorem S5_v0 : S5 m c (Proc.devRef .tc main_v0) = X_v0 :=
  (show after opsA (S4 m c) (Proc.devRef .tc main_v0) = S4 m c (Proc.devRef .tc main_v0) from rfl).trans (S4_v0 m c)

theorem S6_v0 : S6 m c (Proc.devRef .tc main_v0) = X_v0 :=
  (show after opsB (S5 m c) (Proc.devRef .tc main_v0) = S5 m c (Proc.devRef .tc main_v0) from rfl).trans (S5_v0 m c)

theorem S7_v0 : S7 m c (Proc.devRef .tc main_v0) = X_v0 :=
  (show after opsC (S6 m c) (Proc.devRef .tc main_v0) = S6 m c (Proc.devRef .tc main_v0) from rfl).trans (S6_v0 m c)

theorem S8_v0 : S8 m c (Proc.devRef .tc main_v0) = X_v0 :=
  (show after opsC2 (S7 m c) (Proc.devRef .tc main_v0) = S7 m c (Proc.devRef .tc main_v0) from rfl).trans (S7_v0 m c)

theorem S9_v0 : S9 m c (Proc.devRef .tc main_v0) = X_v0 :=
  (show after opsC3 (S8 m c) (Proc.devRef .tc main_v0) = S8 m c (Proc.devRef .tc main_v0) from rfl).trans (S8_v0 m c)

def X_v12 : FVec Ideal S4x8192x1024 .f32 := D_v12 (m ((c.tc : Thread nD τ).loc main_arg2))

def X_v13 : FVec Ideal S4x8192x1024 .f32 := D_v13 (m ((c.tc : Thread nD τ).loc main_arg0)) (X_v12 m c)

def X_v15 : FVec Ideal S4x1024 .f32 := D_v15 (m ((c.tc : Thread nD τ).loc main_arg1))

def X_v26 : FVec Ideal S4x8192x2560 .f32 := D_v26 (X_v13 m c) (m ((c.tc : Thread nD τ).loc main_arg1)) (X_v15 m c) (m ((c.tc : Thread nD τ).loc main_arg3))

def X_v27 : FVec Ideal S4x8192x512 .f32 := D_v27 (X_v26 m c)

theorem S1_v27 : S1 m c (Proc.devRef .tc main_v27) = (X_v27 m c) := by
  rw [S1, hostOps0_v27, S0_arg0, S0_arg2, S0_arg1, S0_arg3]; rfl

def X_v28 : FVec Ideal S4x8192x512 .f32 := D_v28 (X_v26 m c)

theorem S1_v28 : S1 m c (Proc.devRef .tc main_v28) = (X_v28 m c) := by
  rw [S1, hostOps0_v28, S0_arg0, S0_arg2, S0_arg1, S0_arg3]; rfl

theorem S2_v28 : S2 m c (Proc.devRef .tc main_v28) = (X_v28 m c) :=
  (after_of_writes_sub hostOps0_1 _ hostOps0_1_writes (by decide +kernel)).trans (S1_v28 m c)

theorem S3_v28 : S3 m c (Proc.devRef .tc main_v28) = (X_v28 m c) :=
  (after_of_writes_sub hostOps0_2 _ hostOps0_2_writes (by decide +kernel)).trans (S2_v28 m c)

theorem S4_v28 : S4 m c (Proc.devRef .tc main_v28) = (X_v28 m c) :=
  (after_of_writes_sub hostOps0_3 _ hostOps0_3_writes (by decide +kernel)).trans (S3_v28 m c)

theorem S5_v28 : S5 m c (Proc.devRef .tc main_v28) = (X_v28 m c) :=
  (show after opsA (S4 m c) (Proc.devRef .tc main_v28) = S4 m c (Proc.devRef .tc main_v28) from rfl).trans (S4_v28 m c)

theorem S6_v28 : S6 m c (Proc.devRef .tc main_v28) = (X_v28 m c) :=
  (show after opsB (S5 m c) (Proc.devRef .tc main_v28) = S5 m c (Proc.devRef .tc main_v28) from rfl).trans (S5_v28 m c)

theorem S7_v28 : S7 m c (Proc.devRef .tc main_v28) = (X_v28 m c) :=
  (show after opsC (S6 m c) (Proc.devRef .tc main_v28) = S6 m c (Proc.devRef .tc main_v28) from rfl).trans (S6_v28 m c)

theorem S8_v28 : S8 m c (Proc.devRef .tc main_v28) = (X_v28 m c) :=
  (show after opsC2 (S7 m c) (Proc.devRef .tc main_v28) = S7 m c (Proc.devRef .tc main_v28) from rfl).trans (S7_v28 m c)

theorem S9_v28 : S9 m c (Proc.devRef .tc main_v28) = (X_v28 m c) :=
  (show after opsC3 (S8 m c) (Proc.devRef .tc main_v28) = S8 m c (Proc.devRef .tc main_v28) from rfl).trans (S8_v28 m c)

theorem S10_v28 : S10 m c (Proc.devRef .tc main_v28) = (X_v28 m c) :=
  (show after opsD (S9 m c) (Proc.devRef .tc main_v28) = S9 m c (Proc.devRef .tc main_v28) from rfl).trans (S9_v28 m c)

theorem S11_v28 : S11 m c (Proc.devRef .tc main_v28) = (X_v28 m c) :=
  (show after opsE (S10 m c) (Proc.devRef .tc main_v28) = S10 m c (Proc.devRef .tc main_v28) from rfl).trans (S10_v28 m c)

theorem S12_v28 : S12 m c (Proc.devRef .tc main_v28) = (X_v28 m c) :=
  (show after opsE2 (S11 m c) (Proc.devRef .tc main_v28) = S11 m c (Proc.devRef .tc main_v28) from rfl).trans (S11_v28 m c)

theorem S13_v28 : S13 m c (Proc.devRef .tc main_v28) = (X_v28 m c) :=
  (show after opsE3 (S12 m c) (Proc.devRef .tc main_v28) = S12 m c (Proc.devRef .tc main_v28) from rfl).trans (S12_v28 m c)

def X_v29 : FVec Ideal S4x8192x512 .f32 := D_v29 (X_v26 m c)

theorem S1_v29 : S1 m c (Proc.devRef .tc main_v29) = (X_v29 m c) := by
  rw [S1, hostOps0_v29, S0_arg0, S0_arg2, S0_arg1, S0_arg3]; rfl

theorem S2_v29 : S2 m c (Proc.devRef .tc main_v29) = (X_v29 m c) :=
  (after_of_writes_sub hostOps0_1 _ hostOps0_1_writes (by decide +kernel)).trans (S1_v29 m c)

theorem S3_v29 : S3 m c (Proc.devRef .tc main_v29) = (X_v29 m c) :=
  (after_of_writes_sub hostOps0_2 _ hostOps0_2_writes (by decide +kernel)).trans (S2_v29 m c)

theorem S4_v29 : S4 m c (Proc.devRef .tc main_v29) = (X_v29 m c) :=
  (after_of_writes_sub hostOps0_3 _ hostOps0_3_writes (by decide +kernel)).trans (S3_v29 m c)

theorem S5_v29 : S5 m c (Proc.devRef .tc main_v29) = (X_v29 m c) :=
  (show after opsA (S4 m c) (Proc.devRef .tc main_v29) = S4 m c (Proc.devRef .tc main_v29) from rfl).trans (S4_v29 m c)

def X_v30 : FVec Ideal S4x8192x512 .f32 := D_v30 (X_v26 m c)

theorem S1_v30 : S1 m c (Proc.devRef .tc main_v30) = (X_v30 m c) := by
  rw [S1, hostOps0_v30, S0_arg0, S0_arg2, S0_arg1, S0_arg3]; rfl

theorem S2_v30 : S2 m c (Proc.devRef .tc main_v30) = (X_v30 m c) :=
  (after_of_writes_sub hostOps0_1 _ hostOps0_1_writes (by decide +kernel)).trans (S1_v30 m c)

theorem S3_v30 : S3 m c (Proc.devRef .tc main_v30) = (X_v30 m c) :=
  (after_of_writes_sub hostOps0_2 _ hostOps0_2_writes (by decide +kernel)).trans (S2_v30 m c)

theorem S4_v30 : S4 m c (Proc.devRef .tc main_v30) = (X_v30 m c) :=
  (after_of_writes_sub hostOps0_3 _ hostOps0_3_writes (by decide +kernel)).trans (S3_v30 m c)

theorem S5_v30 : S5 m c (Proc.devRef .tc main_v30) = (X_v30 m c) :=
  (show after opsA (S4 m c) (Proc.devRef .tc main_v30) = S4 m c (Proc.devRef .tc main_v30) from rfl).trans (S4_v30 m c)

theorem S6_v30 : S6 m c (Proc.devRef .tc main_v30) = (X_v30 m c) :=
  (show after opsB (S5 m c) (Proc.devRef .tc main_v30) = S5 m c (Proc.devRef .tc main_v30) from rfl).trans (S5_v30 m c)

theorem S7_v30 : S7 m c (Proc.devRef .tc main_v30) = (X_v30 m c) :=
  (show after opsC (S6 m c) (Proc.devRef .tc main_v30) = S6 m c (Proc.devRef .tc main_v30) from rfl).trans (S6_v30 m c)

theorem S8_v30 : S8 m c (Proc.devRef .tc main_v30) = (X_v30 m c) :=
  (show after opsC2 (S7 m c) (Proc.devRef .tc main_v30) = S7 m c (Proc.devRef .tc main_v30) from rfl).trans (S7_v30 m c)

theorem S9_v30 : S9 m c (Proc.devRef .tc main_v30) = (X_v30 m c) :=
  (show after opsC3 (S8 m c) (Proc.devRef .tc main_v30) = S8 m c (Proc.devRef .tc main_v30) from rfl).trans (S8_v30 m c)

def X_v31 : FVec Ideal S4x8192x512 .f32 := D_v31 (X_v26 m c)

theorem S1_v31 : S1 m c (Proc.devRef .tc main_v31) = (X_v31 m c) := by
  rw [S1, hostOps0_v31, S0_arg0, S0_arg2, S0_arg1, S0_arg3]; rfl

theorem S2_v31 : S2 m c (Proc.devRef .tc main_v31) = (X_v31 m c) :=
  (after_of_writes_sub hostOps0_1 _ hostOps0_1_writes (by decide +kernel)).trans (S1_v31 m c)

theorem S3_v31 : S3 m c (Proc.devRef .tc main_v31) = (X_v31 m c) :=
  (after_of_writes_sub hostOps0_2 _ hostOps0_2_writes (by decide +kernel)).trans (S2_v31 m c)

theorem S4_v31 : S4 m c (Proc.devRef .tc main_v31) = (X_v31 m c) :=
  (after_of_writes_sub hostOps0_3 _ hostOps0_3_writes (by decide +kernel)).trans (S3_v31 m c)

theorem S5_v31 : S5 m c (Proc.devRef .tc main_v31) = (X_v31 m c) :=
  (show after opsA (S4 m c) (Proc.devRef .tc main_v31) = S4 m c (Proc.devRef .tc main_v31) from rfl).trans (S4_v31 m c)

theorem S6_v31 : S6 m c (Proc.devRef .tc main_v31) = (X_v31 m c) :=
  (show after opsB (S5 m c) (Proc.devRef .tc main_v31) = S5 m c (Proc.devRef .tc main_v31) from rfl).trans (S5_v31 m c)

theorem S7_v31 : S7 m c (Proc.devRef .tc main_v31) = (X_v31 m c) :=
  (show after opsC (S6 m c) (Proc.devRef .tc main_v31) = S6 m c (Proc.devRef .tc main_v31) from rfl).trans (S6_v31 m c)

theorem S8_v31 : S8 m c (Proc.devRef .tc main_v31) = (X_v31 m c) :=
  (show after opsC2 (S7 m c) (Proc.devRef .tc main_v31) = S7 m c (Proc.devRef .tc main_v31) from rfl).trans (S7_v31 m c)

theorem S9_v31 : S9 m c (Proc.devRef .tc main_v31) = (X_v31 m c) :=
  (show after opsC3 (S8 m c) (Proc.devRef .tc main_v31) = S8 m c (Proc.devRef .tc main_v31) from rfl).trans (S8_v31 m c)

theorem S10_v31 : S10 m c (Proc.devRef .tc main_v31) = (X_v31 m c) :=
  (show after opsD (S9 m c) (Proc.devRef .tc main_v31) = S9 m c (Proc.devRef .tc main_v31) from rfl).trans (S9_v31 m c)

theorem S11_v31 : S11 m c (Proc.devRef .tc main_v31) = (X_v31 m c) :=
  (show after opsE (S10 m c) (Proc.devRef .tc main_v31) = S10 m c (Proc.devRef .tc main_v31) from rfl).trans (S10_v31 m c)

theorem S12_v31 : S12 m c (Proc.devRef .tc main_v31) = (X_v31 m c) :=
  (show after opsE2 (S11 m c) (Proc.devRef .tc main_v31) = S11 m c (Proc.devRef .tc main_v31) from rfl).trans (S11_v31 m c)

theorem S13_v31 : S13 m c (Proc.devRef .tc main_v31) = (X_v31 m c) :=
  (show after opsE3 (S12 m c) (Proc.devRef .tc main_v31) = S12 m c (Proc.devRef .tc main_v31) from rfl).trans (S12_v31 m c)

def X_c : (⟨S_, .i32⟩ : BufTy).Contents (Elt Ideal) := D_c

theorem S1_c : S1 m c (Proc.devRef .tc main_c) = X_c := by
  rw [S1, hostOps0_c]; rfl

def X_v32 : FVec Ideal S4x8195x512 .f32 := D_v32 (X_v27 m c) X_c

theorem S2_v32 : S2 m c (Proc.devRef .tc main_v32) = (X_v32 m c) := by
  rw [S2, hostOps0_1_v32, S1_v27, S1_c]; rfl

def X_v64 : FVec Ideal S4x8192x512 .f32 := D_v64 (X_v32 m c) (m ((c.tc : Thread nD τ).loc main_arg4)) (m ((c.tc : Thread nD τ).loc main_arg5))

theorem S3_v64 : S3 m c (Proc.devRef .tc main_v64) = (X_v64 m c) := by
  rw [S3, hostOps0_2_v64, S2_v32, S2_arg4, S2_arg5]; rfl

theorem S4_v64 : S4 m c (Proc.devRef .tc main_v64) = (X_v64 m c) :=
  (after_of_writes_sub hostOps0_3 _ hostOps0_3_writes (by decide +kernel)).trans (S3_v64 m c)

def X_v77 : FVec Ideal S4x8192x512 .f32 := D_v77 (m ((c.tc : Thread nD τ).loc main_arg6)) (X_v64 m c) (m ((c.tc : Thread nD τ).loc main_arg7))

def X_v89 : FVec Ideal S4x8192x512 .f32 := D_v89 (m ((c.tc : Thread nD τ).loc main_arg8)) (X_v64 m c) (m ((c.tc : Thread nD τ).loc main_arg9))

theorem S3_v89 : S3 m c (Proc.devRef .tc main_v89) = (X_v89 m c) := by
  rw [S3, hostOps0_2_v89, S2_arg8, S2_v32, S2_arg4, S2_arg5, S2_arg9]; rfl

theorem S4_v89 : S4 m c (Proc.devRef .tc main_v89) = (X_v89 m c) :=
  (after_of_writes_sub hostOps0_3 _ hostOps0_3_writes (by decide +kernel)).trans (S3_v89 m c)

def X_v91 : FVec Ideal S4x8192x512 .f32 := D_v91 (X_v77 m c)

theorem S3_v91 : S3 m c (Proc.devRef .tc main_v91) = (X_v91 m c) := by
  rw [S3, hostOps0_2_v91, S2_arg6, S2_v32, S2_arg4, S2_arg5, S2_arg7]; rfl

theorem S4_v91 : S4 m c (Proc.devRef .tc main_v91) = (X_v91 m c) :=
  (after_of_writes_sub hostOps0_3 _ hostOps0_3_writes (by decide +kernel)).trans (S3_v91 m c)

def X_v92 : FVec Ideal S512 .f32 := D_v92 (m ((c.tc : Thread nD τ).loc main_arg10))

theorem S3_v92 : S3 m c (Proc.devRef .tc main_v92) = (X_v92 m c) := by
  rw [S3, hostOps0_2_v92, S2_arg10]; rfl

def X_v93 : FVec Ideal S512 .f32 := D_v93 (X_v92 m c)

theorem S4_v93 : S4 m c (Proc.devRef .tc main_v93) = (X_v93 m c) := by
  rw [S4, hostOps0_3_v93, S3_v92]; rfl

def X_v97 : FVec Ideal S4x8192x512 .f32 := D_v97 (X_v91 m c) (X_v93 m c)

theorem S5_v97 : S5 m c (Proc.devRef .tc main_v97) = (X_v97 m c) := by
  rw [S5, opsA_v97, S4_v91, S4_v93]; rfl

theorem S6_v97 : S6 m c (Proc.devRef .tc main_v97) = (X_v97 m c) :=
  (show after opsB (S5 m c) (Proc.devRef .tc main_v97) = S5 m c (Proc.devRef .tc main_v97) from rfl).trans (S5_v97 m c)

theorem S7_v97 : S7 m c (Proc.devRef .tc main_v97) = (X_v97 m c) :=
  (show after opsC (S6 m c) (Proc.devRef .tc main_v97) = S6 m c (Proc.devRef .tc main_v97) from rfl).trans (S6_v97 m c)

theorem S8_v97 : S8 m c (Proc.devRef .tc main_v97) = (X_v97 m c) :=
  (show after opsC2 (S7 m c) (Proc.devRef .tc main_v97) = S7 m c (Proc.devRef .tc main_v97) from rfl).trans (S7_v97 m c)

theorem S9_v97 : S9 m c (Proc.devRef .tc main_v97) = (X_v97 m c) :=
  (show after opsC3 (S8 m c) (Proc.devRef .tc main_v97) = S8 m c (Proc.devRef .tc main_v97) from rfl).trans (S8_v97 m c)

theorem S10_v97 : S10 m c (Proc.devRef .tc main_v97) = (X_v97 m c) :=
  (show after opsD (S9 m c) (Proc.devRef .tc main_v97) = S9 m c (Proc.devRef .tc main_v97) from rfl).trans (S9_v97 m c)

theorem S11_v97 : S11 m c (Proc.devRef .tc main_v97) = (X_v97 m c) :=
  (show after opsE (S10 m c) (Proc.devRef .tc main_v97) = S10 m c (Proc.devRef .tc main_v97) from rfl).trans (S10_v97 m c)

theorem S12_v97 : S12 m c (Proc.devRef .tc main_v97) = (X_v97 m c) :=
  (show after opsE2 (S11 m c) (Proc.devRef .tc main_v97) = S11 m c (Proc.devRef .tc main_v97) from rfl).trans (S11_v97 m c)

theorem S13_v97 : S13 m c (Proc.devRef .tc main_v97) = (X_v97 m c) :=
  (show after opsE3 (S12 m c) (Proc.devRef .tc main_v97) = S12 m c (Proc.devRef .tc main_v97) from rfl).trans (S12_v97 m c)

def X_v104 : FVec Ideal S4x8192x512 .f32 := D_v104 (X_v91 m c) (X_v93 m c) (X_v89 m c) (X_v64 m c)

theorem S5_v104 : S5 m c (Proc.devRef .tc main_v104) = (X_v104 m c) := by
  rw [S5, opsA_v104, S4_v91, S4_v93, S4_v89, S4_v64]; rfl

theorem S6_v104 : S6 m c (Proc.devRef .tc main_v104) = (X_v104 m c) :=
  (show after opsB (S5 m c) (Proc.devRef .tc main_v104) = S5 m c (Proc.devRef .tc main_v104) from rfl).trans (S5_v104 m c)

theorem S7_v104 : S7 m c (Proc.devRef .tc main_v104) = (X_v104 m c) :=
  (show after opsC (S6 m c) (Proc.devRef .tc main_v104) = S6 m c (Proc.devRef .tc main_v104) from rfl).trans (S6_v104 m c)

theorem S8_v104 : S8 m c (Proc.devRef .tc main_v104) = (X_v104 m c) :=
  (show after opsC2 (S7 m c) (Proc.devRef .tc main_v104) = S7 m c (Proc.devRef .tc main_v104) from rfl).trans (S7_v104 m c)

theorem S9_v104 : S9 m c (Proc.devRef .tc main_v104) = (X_v104 m c) :=
  (show after opsC3 (S8 m c) (Proc.devRef .tc main_v104) = S8 m c (Proc.devRef .tc main_v104) from rfl).trans (S8_v104 m c)

theorem S10_v104 : S10 m c (Proc.devRef .tc main_v104) = (X_v104 m c) :=
  (show after opsD (S9 m c) (Proc.devRef .tc main_v104) = S9 m c (Proc.devRef .tc main_v104) from rfl).trans (S9_v104 m c)

theorem S11_v104 : S11 m c (Proc.devRef .tc main_v104) = (X_v104 m c) :=
  (show after opsE (S10 m c) (Proc.devRef .tc main_v104) = S10 m c (Proc.devRef .tc main_v104) from rfl).trans (S10_v104 m c)

theorem S12_v104 : S12 m c (Proc.devRef .tc main_v104) = (X_v104 m c) :=
  (show after opsE2 (S11 m c) (Proc.devRef .tc main_v104) = S11 m c (Proc.devRef .tc main_v104) from rfl).trans (S11_v104 m c)

theorem S13_v104 : S13 m c (Proc.devRef .tc main_v104) = (X_v104 m c) :=
  (show after opsE3 (S12 m c) (Proc.devRef .tc main_v104) = S12 m c (Proc.devRef .tc main_v104) from rfl).trans (S12_v104 m c)

def X_v105 : FVec Ideal S4x8192x8x64 .f32 := D_v105 (X_v29 m c)

theorem S6_v105 : S6 m c (Proc.devRef .tc main_v105) = (X_v105 m c) := by
  rw [S6, opsB_v105, S5_v29]; rfl

theorem S7_v105 : S7 m c (Proc.devRef .tc main_v105) = (X_v105 m c) :=
  (show after opsC (S6 m c) (Proc.devRef .tc main_v105) = S6 m c (Proc.devRef .tc main_v105) from rfl).trans (S6_v105 m c)

def X_v118 : FVec Ideal S8192x8 .f32 := D_v118 X_v0

def X_v120 : FVec Ideal S8192x1x8 .f32 := D_v120 X_v118

theorem S6_v120 : S6 m c (Proc.devRef .tc main_v120) = X_v120 := by
  rw [S6, opsB_v120, S5_v0]; rfl

theorem S7_v120 : S7 m c (Proc.devRef .tc main_v120) = X_v120 :=
  (show after opsC (S6 m c) (Proc.devRef .tc main_v120) = S6 m c (Proc.devRef .tc main_v120) from rfl).trans (S6_v120 m c)

def X_v122 : FVec Ideal S8192x1x8 .f32 := D_v122 X_v118

theorem S6_v122 : S6 m c (Proc.devRef .tc main_v122) = X_v122 := by
  rw [S6, opsB_v122, S5_v0]; rfl

theorem S7_v122 : S7 m c (Proc.devRef .tc main_v122) = X_v122 :=
  (show after opsC (S6 m c) (Proc.devRef .tc main_v122) = S6 m c (Proc.devRef .tc main_v122) from rfl).trans (S6_v122 m c)

def X_v123 : FVec Ideal S4x8192x8x8 .f32 := D_v123 (X_v105 m c)

theorem S7_v123 : S7 m c (Proc.devRef .tc main_v123) = (X_v123 m c) := by
  rw [S7, opsC_v123, S6_v105]; rfl

def X_v124 : FVec Ideal S4x8192x8x8 .f32 := D_v124 (X_v105 m c)

theorem S7_v124 : S7 m c (Proc.devRef .tc main_v124) = (X_v124 m c) := by
  rw [S7, opsC_v124, S6_v105]; rfl

def X_v131 : FVec Ideal S4x8192x8x8 .f32 := D_v131 (X_v123 m c) X_v120 (X_v124 m c) X_v122

theorem S7_v131 : S7 m c (Proc.devRef .tc main_v131) = (X_v131 m c) := by
  rw [S7, opsC_v131, S6_v105, S6_v120, S6_v122]; rfl

theorem S8_v131 : S8 m c (Proc.devRef .tc main_v131) = (X_v131 m c) :=
  (show after opsC2 (S7 m c) (Proc.devRef .tc main_v131) = S7 m c (Proc.devRef .tc main_v131) from rfl).trans (S7_v131 m c)

def X_v138 : FVec Ideal S4x8192x8x8 .f32 := D_v138 (X_v124 m c) X_v120 (X_v123 m c) X_v122

theorem S8_v138 : S8 m c (Proc.devRef .tc main_v138) = (X_v138 m c) := by
  rw [S8, opsC2_v138, S7_v124, S7_v120, S7_v123, S7_v122]; rfl

def X_v139 : FVec Ideal S4x8192x8x48 .f32 := D_v139 (X_v105 m c)

theorem S8_v139 : S8 m c (Proc.devRef .tc main_v139) = (X_v139 m c) := by
  rw [S8, opsC2_v139, S7_v105]; rfl

def X_v141 : FVec Ideal S4x8192x512 .f32 := D_v141 (X_v131 m c) (X_v138 m c) (X_v139 m c)

theorem S9_v141 : S9 m c (Proc.devRef .tc main_v141) = (X_v141 m c) := by
  rw [S9, opsC3_v141, S8_v131, S8_v138, S8_v139]; rfl

theorem S10_v141 : S10 m c (Proc.devRef .tc main_v141) = (X_v141 m c) :=
  (show after opsD (S9 m c) (Proc.devRef .tc main_v141) = S9 m c (Proc.devRef .tc main_v141) from rfl).trans (S9_v141 m c)

theorem S11_v141 : S11 m c (Proc.devRef .tc main_v141) = (X_v141 m c) :=
  (show after opsE (S10 m c) (Proc.devRef .tc main_v141) = S10 m c (Proc.devRef .tc main_v141) from rfl).trans (S10_v141 m c)

theorem S12_v141 : S12 m c (Proc.devRef .tc main_v141) = (X_v141 m c) :=
  (show after opsE2 (S11 m c) (Proc.devRef .tc main_v141) = S11 m c (Proc.devRef .tc main_v141) from rfl).trans (S11_v141 m c)

theorem S13_v141 : S13 m c (Proc.devRef .tc main_v141) = (X_v141 m c) :=
  (show after opsE3 (S12 m c) (Proc.devRef .tc main_v141) = S12 m c (Proc.devRef .tc main_v141) from rfl).trans (S12_v141 m c)

def X_v142 : FVec Ideal S4x8192x8x64 .f32 := D_v105 (X_v30 m c)

theorem S10_v142 : S10 m c (Proc.devRef .tc main_v142) = (X_v142 m c) := by
  rw [S10, opsD_v142, S9_v30]; rfl

theorem S11_v142 : S11 m c (Proc.devRef .tc main_v142) = (X_v142 m c) :=
  (show after opsE (S10 m c) (Proc.devRef .tc main_v142) = S10 m c (Proc.devRef .tc main_v142) from rfl).trans (S10_v142 m c)

def X_v155 : FVec Ideal S8192x8 .f32 := D_v118 X_v0

def X_v157 : FVec Ideal S8192x1x8 .f32 := D_v120 X_v155

theorem S10_v157 : S10 m c (Proc.devRef .tc main_v157) = X_v157 := by
  rw [S10, opsD_v157, S9_v0]; rfl

theorem S11_v157 : S11 m c (Proc.devRef .tc main_v157) = X_v157 :=
  (show after opsE (S10 m c) (Proc.devRef .tc main_v157) = S10 m c (Proc.devRef .tc main_v157) from rfl).trans (S10_v157 m c)

def X_v159 : FVec Ideal S8192x1x8 .f32 := D_v122 X_v155

theorem S10_v159 : S10 m c (Proc.devRef .tc main_v159) = X_v159 := by
  rw [S10, opsD_v159, S9_v0]; rfl

theorem S11_v159 : S11 m c (Proc.devRef .tc main_v159) = X_v159 :=
  (show after opsE (S10 m c) (Proc.devRef .tc main_v159) = S10 m c (Proc.devRef .tc main_v159) from rfl).trans (S10_v159 m c)

def X_v160 : FVec Ideal S4x8192x8x8 .f32 := D_v123 (X_v142 m c)

theorem S11_v160 : S11 m c (Proc.devRef .tc main_v160) = (X_v160 m c) := by
  rw [S11, opsE_v160, S10_v142]; rfl

def X_v161 : FVec Ideal S4x8192x8x8 .f32 := D_v124 (X_v142 m c)

theorem S11_v161 : S11 m c (Proc.devRef .tc main_v161) = (X_v161 m c) := by
  rw [S11, opsE_v161, S10_v142]; rfl

def X_v168 : FVec Ideal S4x8192x8x8 .f32 := D_v131 (X_v160 m c) X_v157 (X_v161 m c) X_v159

theorem S11_v168 : S11 m c (Proc.devRef .tc main_v168) = (X_v168 m c) := by
  rw [S11, opsE_v168, S10_v142, S10_v157, S10_v159]; rfl

theorem S12_v168 : S12 m c (Proc.devRef .tc main_v168) = (X_v168 m c) :=
  (show after opsE2 (S11 m c) (Proc.devRef .tc main_v168) = S11 m c (Proc.devRef .tc main_v168) from rfl).trans (S11_v168 m c)

def X_v175 : FVec Ideal S4x8192x8x8 .f32 := D_v138 (X_v161 m c) X_v157 (X_v160 m c) X_v159

theorem S12_v175 : S12 m c (Proc.devRef .tc main_v175) = (X_v175 m c) := by
  rw [S12, opsE2_v175, S11_v161, S11_v157, S11_v160, S11_v159]; rfl

def X_v176 : FVec Ideal S4x8192x8x48 .f32 := D_v139 (X_v142 m c)

theorem S12_v176 : S12 m c (Proc.devRef .tc main_v176) = (X_v176 m c) := by
  rw [S12, opsE2_v176, S11_v142]; rfl

def X_v178 : FVec Ideal S4x8192x512 .f32 := D_v141 (X_v168 m c) (X_v175 m c) (X_v176 m c)

theorem S13_v178 : S13 m c (Proc.devRef .tc main_v178) = (X_v178 m c) := by
  rw [S13, opsE3_v178, S12_v168, S12_v175, S12_v176]; rfl

def X_v183 : FVec Ideal S4x32x1x512 .f32 := D_v183 (X_v178 m c)

theorem S14_v183 : S14 m c (Proc.devRef .tc main_v183) = (X_v183 m c) := by
  rw [S14, opsF_v183, S13_v178]; rfl

def X_v186 : FVec Ideal S4x8192x512 .bf16 := D_v186 (X_v141 m c)

theorem S14_v186 : S14 m c (Proc.devRef .tc main_v186) = (X_v186 m c) := by
  rw [S14, opsF_v186, S13_v141]; rfl

def X_v187 : FVec Ideal S4x8192x512 .bf16 := D_v187 (X_v178 m c)

theorem S14_v187 : S14 m c (Proc.devRef .tc main_v187) = (X_v187 m c) := by
  rw [S14, opsF_v187, S13_v178]; rfl

def X_v188 : FVec Ideal S4x8192x512 .bf16 := D_v188 (X_v31 m c)

theorem S14_v188 : S14 m c (Proc.devRef .tc main_v188) = (X_v188 m c) := by
  rw [S14, opsF_v188, S13_v31]; rfl

def X_v202 : FVec Ideal S4x8192x512 .f32 := D_v202 (X_v28 m c)

def X_v207_0 : FVec Ideal S8192x4x512 .f32 := D_v207_0 (X_v97 m c)

theorem S14_v207_0 : S14 m c (Proc.devRef .tc main_v207_0) = (X_v207_0 m c) := by
  rw [S14, opsF_v207_0, S13_v97]; rfl

def X_v207_1 : FVec Ideal S8192x4x512 .f32 := D_v207_1 (X_v104 m c)

theorem S14_v207_1 : S14 m c (Proc.devRef .tc main_v207_1) = (X_v207_1 m c) := by
  rw [S14, opsF_v207_1, S13_v104]; rfl

def X_v207_2 : FVec Ideal S8192x4x512 .f32 := D_v207_2 (X_v202 m c)

theorem S14_v207_2 : S14 m c (Proc.devRef .tc main_v207_2) = (X_v207_2 m c) := by
  rw [S14, opsF_v207_2, S13_v28]; rfl

def X_v207_3 : (⟨S_, .i32⟩ : BufTy).Contents (Elt Ideal) := D_v207_3

def X_v207_4 : FVec Ideal S4x512 .f32 := D_v207_4

theorem S14_v207_4 : S14 m c (Proc.devRef .tc main_v207_4) = X_v207_4 := by
  rw [S14, opsF_v207_4]; rfl

def X_v207_5 : FVec Ideal S8192x4x512 .bf16 := D_v207_5

end Cert.Own.LruRefPre
end
-- ==== Proof.LruRefAt.lean ====
/- THE RECURRENCE'S REFERENCE BEFORE ITS SCAN, index by index. -/
module

public import proofs.«01_k».proof.Proof.LruRefPre
public import proofs.«01_k».proof.Proof.LruSpec
public import Idealize.ShloMosaic.Lib.Pipeline.ValueKit
public import Idealize.ShloMosaic.Lib.Pointwise.Tactic

@[expose] public section

set_option maxRecDepth 16384

noncomputable section

namespace Cert.Own.LruRefPre

open Cert.Own Cert.Own.LruSpec Cert.Own.LruScan Cert.Own.LruTile
open Cert.LruRefIdeal Cert.LruRefIdeal.Gen Cert.LruRefIdeal.Value Idealize.ShloMosaic Idealize.ShloMosaic.TcCoe Idealize.SL.Sem
open StableHlo

variable (m : (ℓ : Loc nD τ sig) → Buf (Elt Ideal) ℓ) (c : Dev nD)

/-- The arguments, as functions of their indices. -/
def inp : Inp where
  x b s k := m ((c.tc : Thread nD τ).loc main_arg0) (ix3 b s k)
  mod b a k := m ((c.tc : Thread nD τ).loc main_arg1) (ix3 b a k)
  g k := m ((c.tc : Thread nD τ).loc main_arg2) (ix1 k)
  w k j := m ((c.tc : Thread nD τ).loc main_arg3) (ix2 k j)
  cw i n := m ((c.tc : Thread nD τ).loc main_arg4) (ix2 i n)
  cb n := m ((c.tc : Thread nD τ).loc main_arg5) (ix1 n)
  wa a i j := m ((c.tc : Thread nD τ).loc main_arg6) (ix3 a i j)
  ba a j := m ((c.tc : Thread nD τ).loc main_arg7) (ix2 a j)
  wx a i j := m ((c.tc : Thread nD τ).loc main_arg8) (ix3 a i j)
  bx a j := m ((c.tc : Thread nD τ).loc main_arg9) (ix2 a j)
  lam n := m ((c.tc : Thread nD τ).loc main_arg10) (ix1 n)

theorem u_at (b : Fin 4) (s : Fin 8192) (j : Fin 2560) : X_v26 m c (ix3 b s j) = (inp m c).u b s j := by
  unfold X_v26 D_v26 X_v13 D_v13 X_v12 D_v12 X_v15 D_v15
  pointwise
  rfl

theorem col0_at (b : Fin 4) (s : Fin 8192) (n : Fin 512) : X_v27 m c (ix3 b s n) = (inp m c).u b s ⟨n.val, by omega⟩ := by
  rw [← u_at]; unfold X_v27 D_v27; pointwise
theorem col1_at (b : Fin 4) (s : Fin 8192) (n : Fin 512) : X_v28 m c (ix3 b s n) = (inp m c).u b s ⟨512 + n.val, by omega⟩ := by
  rw [← u_at]; unfold X_v28 D_v28; pointwise
theorem col2_at (b : Fin 4) (s : Fin 8192) (n : Fin 512) : X_v29 m c (ix3 b s n) = (inp m c).u b s ⟨1024 + n.val, by omega⟩ := by
  rw [← u_at]; unfold X_v29 D_v29; pointwise
theorem col3_at (b : Fin 4) (s : Fin 8192) (n : Fin 512) : X_v30 m c (ix3 b s n) = (inp m c).u b s ⟨1536 + n.val, by omega⟩ := by
  rw [← u_at]; unfold X_v30 D_v30; pointwise
theorem col4_at (b : Fin 4) (s : Fin 8192) (n : Fin 512) : X_v31 m c (ix3 b s n) = (inp m c).u b s ⟨2048 + n.val, by omega⟩ := by
  rw [← u_at]; unfold X_v31 D_v31; pointwise

/-- The padded rows. -/
theorem padded_at (x : FVec Ideal S4x8192x512 .f32) (b : Fin 4) (t : Fin 8195) (n : Fin 512) :
    D_v32 x D_c (ix3 b t n) = if h : 3 ≤ t.val ∧ t.val - 3 < 8192 then x (ix3 b ⟨t.val - 3, h.2⟩ n) else
      FloatOps.sitofp (F := Ideal) FTy.f32 0#32 := by
  unfold D_v32 D_c; pointwise
theorem zero_word : FloatOps.sitofp (F := Ideal) FTy.f32 0#32 = (0 : EReal) := by
  show (((0#32 : BitVec 32).toInt : ℝ) : EReal) = 0
  norm_num
theorem row_at (b : Fin 4) (t : Fin 8195) (n : Fin 512) : X_v32 m c (ix3 b t n) = (inp m c).p b (t.val + 5) n := by
  refine (padded_at (X_v27 m c) b t n).trans ?_
  by_cases h : 3 ≤ t.val
  · have h' : t.val - 3 < 8192 := by omega
    rw [dif_pos ⟨h, h'⟩, col0_at]
    unfold Inp.p
    rw [dif_pos ⟨by omega, by omega⟩]
    exact congrArg (fun s => (inp m c).u b s ⟨n.val, by omega⟩) (Fin.ext (by show t.val - 3 = t.val + 5 - 8; omega))
  · rw [dif_neg fun h' => h h'.1, zero_word]
    unfold Inp.p
    rw [dif_neg fun h' => h (by omega)]

/-- The convolution's four products. -/
theorem conv_at (x : FVec Ideal S4x8195x512 .f32) (w : FVec Ideal S4x512 .f32) (v : FVec Ideal S512 .f32) (b : Fin 4)
    (s : Fin 8192) (n : Fin 512) :
    D_v64 x w v (ix3 b s n) = x (ix3 b ⟨s.val, by omega⟩ n) * w (ix2 0 n) + x (ix3 b ⟨1 + s.val, by omega⟩ n) * w (ix2 1 n)
      + x (ix3 b ⟨2 + s.val, by omega⟩ n) * w (ix2 2 n) + x (ix3 b ⟨3 + s.val, by omega⟩ n) * w (ix2 3 n) + v (ix1 n) := by
  unfold D_v64; pointwise
theorem xc_at (b : Fin 4) (s : Fin 8192) (n : Fin 512) : X_v64 m c (ix3 b s n) = cs (inp m c).W ((inp m c).p b) s.val n := by
  refine (conv_at (X_v32 m c) _ _ b s n).trans ?_
  rw [row_at, row_at, row_at, row_at]
  show (inp m c).p b (s.val + 5) n * (inp m c).cw 0 n + (inp m c).p b (1 + s.val + 5) n * (inp m c).cw 1 n
    + (inp m c).p b (2 + s.val + 5) n * (inp m c).cw 2 n + (inp m c).p b (3 + s.val + 5) n * (inp m c).cw 3 n + (inp m c).cb n
    = (inp m c).cb n + (inp m c).cw 3 n * (inp m c).p b (s.val + 8) n + (inp m c).cw 0 n * (inp m c).p b (s.val + 5) n
      + (inp m c).cw 1 n * (inp m c).p b (s.val + 6) n + (inp m c).cw 2 n * (inp m c).p b (s.val + 7) n
  rw [show 1 + s.val + 5 = s.val + 6 by omega, show 2 + s.val + 5 = s.val + 7 by omega, show 3 + s.val + 5 = s.val + 8 by omega]
  simp only [mul_comm ((inp m c).p b _ n)]
  generalize (inp m c).cw 0 n * _ = a0
  generalize (inp m c).cw 1 n * _ = a1
  generalize (inp m c).cw 2 n * _ = a2
  generalize (inp m c).cw 3 n * _ = a3
  ac_rfl

/-- A gate: the logistic function of a block product and a bias. -/
theorem gateA_at (w : FVec Ideal S8x64x64 .f32) (x : FVec Ideal S4x8192x512 .f32) (v : FVec Ideal S8x64 .f32) (b : Fin 4)
    (s : Fin 8192) (n : Fin 512) : D_v77 w x v (ix3 b s n)
      = Ideal.logistic (∑ j : Fin 64, w (ix3 (blk n) j (pos n)) * x (ix3 b s ⟨n.val / 64 * 64 + j.val, by omega⟩) + v (ix2 (blk n) (pos n))) := by
  unfold D_v77; pointwise; rfl
theorem gateX_at (w : FVec Ideal S8x64x64 .f32) (x : FVec Ideal S4x8192x512 .f32) (v : FVec Ideal S8x64 .f32) (b : Fin 4)
    (s : Fin 8192) (n : Fin 512) : D_v89 w x v (ix3 b s n)
      = Ideal.logistic (∑ j : Fin 64, w (ix3 (blk n) j (pos n)) * x (ix3 b s ⟨n.val / 64 * 64 + j.val, by omega⟩) + v (ix2 (blk n) (pos n))) := by
  unfold D_v89; pointwise; rfl
/-- The block product is the product with the block diagonal. -/
theorem block_sum (f : Fin 512 → EReal) (w : Fin 8 → Fin 64 → Fin 64 → EReal) (v : EReal) (n : Fin 512) :
    ∑ j : Fin 64, w (blk n) j (pos n) * f ⟨n.val / 64 * 64 + j.val, by omega⟩ + v
      = pre f (fun k => unit8 (blk k) (blk n) * w (blk k) (pos k) (pos n)) v := by
  unfold pre
  rw [sum_blocks]
  refine congrArg (· + v) (Finset.sum_congr rfl fun j _ => ?_)
  rw [mul_comm]
  exact congrArg (fun k => f k * w (blk n) j (pos n)) (Fin.ext (by show n.val / 64 * 64 + j.val = 64 * (n.val / 64) + j.val; omega))
theorem r_at (b : Fin 4) (s : Fin 8192) (n : Fin 512) : X_v77 m c (ix3 b s n)
    = Ideal.logistic (pre (cs (inp m c).W ((inp m c).p b) s.val) (fun k => (inp m c).W.wa k n) ((inp m c).W.ba n)) := by
  refine (gateA_at _ (X_v64 m c) _ b s n).trans (congrArg Ideal.logistic ?_)
  simp only [xc_at]
  exact block_sum (cs (inp m c).W ((inp m c).p b) s.val) (inp m c).wa ((inp m c).ba (blk n) (pos n)) n
theorem i_at (b : Fin 4) (s : Fin 8192) (n : Fin 512) : X_v89 m c (ix3 b s n)
    = Ideal.logistic (pre (cs (inp m c).W ((inp m c).p b) s.val) (fun k => (inp m c).W.wx k n) ((inp m c).W.bx n)) := by
  refine (gateX_at _ (X_v64 m c) _ b s n).trans (congrArg Ideal.logistic ?_)
  simp only [xc_at]
  exact block_sum (cs (inp m c).W ((inp m c).p b) s.val) (inp m c).wx ((inp m c).bx (blk n) (pos n)) n

/-- The softplus of the negated decay parameter. -/
theorem sp_at (x : FVec Ideal S512 .f32) (n : Fin 512) : D_v93 x (ix1 n) = (if x (ix1 n) ≠ x (ix1 n) then x (ix1 n)
    else max (x (ix1 n)) 0 + Ideal.log1p (Ideal.exp (-FloatOps.absf (F := Ideal) (x (ix1 n))))) := by
  unfold D_v93; pointwise
theorem neg_at (x : FVec Ideal S512 .f32) (n : Fin 512) : D_v92 x (ix1 n) = -x (ix1 n) := by
  unfold D_v92; pointwise
theorem spl_at (n : Fin 512) : X_v93 m c (ix1 n) = spl ((inp m c).W.lam n) := by
  refine (sp_at (X_v92 m c) n).trans ?_
  rw [if_neg (fun h => h rfl), show X_v92 m c (ix1 n) = -(inp m c).W.lam n from neg_at _ n]
  unfold spl
  rw [zero_sub, zero_sub]

theorem eight_at (x : FVec Ideal S4x8192x512 .f32) (b : Fin 4) (s : Fin 8192) (n : Fin 512) :
    D_v91 x (ix3 b s n) = Ideal.ofBits .f32 0xC1000000#32 * x (ix3 b s n) := by
  unfold D_v91; pointwise
theorem dec_at (x : FVec Ideal S4x8192x512 .f32) (y : FVec Ideal S512 .f32) (b : Fin 4) (s : Fin 8192) (n : Fin 512) :
    D_v97 x y (ix3 b s n) = Ideal.exp (x (ix3 b s n) * y (ix1 n)) := by
  unfold D_v97; pointwise
theorem drive_at (x91 : FVec Ideal S4x8192x512 .f32) (x93 : FVec Ideal S512 .f32) (x89 x64 : FVec Ideal S4x8192x512 .f32)
    (b : Fin 4) (s : Fin 8192) (n : Fin 512) : D_v104 x91 x93 x89 x64 (ix3 b s n) =
      Ideal.sqrt (-(Ideal.exp (Ideal.ofBits FTy.f32 0x40000000#32 * (x91 (ix3 b s n) * x93 (ix1 n))) - 1))
        * (x89 (ix3 b s n) * x64 (ix3 b s n)) := by
  unfold D_v104; pointwise
theorem loga_at (b : Fin 4) (s : Fin 8192) (n : Fin 512) : X_v91 m c (ix3 b s n) * X_v93 m c (ix1 n)
    = la (pre (cs (inp m c).W ((inp m c).p b) s.val) (fun k => (inp m c).W.wa k n) ((inp m c).W.ba n)) ((inp m c).W.lam n) := by
  rw [spl_at, show X_v91 m c (ix3 b s n) = _ from eight_at (X_v77 m c) b s n, r_at]; rfl
theorem two_word : Ideal.ofBits FTy.f32 0x40000000#32 = (2 : EReal) := by
  have h : Ideal.ofBits FTy.f32 0x40000000#32 = ((2 : ℝ) : EReal) := by
    simp [Ideal.ofBits, Ideal.ieee, -EReal.coe_mul]
    norm_num
  exact h
/-- The decay and the driving term of the recurrence. -/
theorem a_at (b : Fin 4) (s : Fin 8192) (n : Fin 512) : X_v97 m c (ix3 b s n) = al (inp m c).W ((inp m c).p b) n s.val := by
  refine (dec_at (X_v91 m c) (X_v93 m c) b s n).trans ?_
  rw [loga_at]; rfl
theorem b_at (b : Fin 4) (s : Fin 8192) (n : Fin 512) : X_v104 m c (ix3 b s n) = be (inp m c).W ((inp m c).p b) n s.val := by
  refine (drive_at (X_v91 m c) (X_v93 m c) (X_v89 m c) (X_v64 m c) b s n).trans ?_
  rw [loga_at, i_at, xc_at, two_word]; rfl
theorem gelu_at (x : FVec Ideal S4x8192x512 .f32) (b : Fin 4) (s : Fin 8192) (n : Fin 512) : D_v202 x (ix3 b s n) = gl (x (ix3 b s n)) := by
  unfold D_v202 gl; pointwise
theorem g_at (b : Fin 4) (s : Fin 8192) (n : Fin 512) : X_v202 m c (ix3 b s n) = gl ((inp m c).u b s ⟨512 + n.val, by omega⟩) := by
  refine (gelu_at (X_v28 m c) b s n).trans ?_
  rw [col1_at]

/-- The rotary turn. -/
theorem x1_at (x : FVec Ideal S4x8192x8x64 .f32) (b : Fin 4) (s : Fin 8192) (h f : Fin 8) :
    D_v123 x (ix4 b s h f) = x (ix4 b s h ⟨f.val, by omega⟩) := by
  unfold D_v123; pointwise
theorem x2_at (x : FVec Ideal S4x8192x8x64 .f32) (b : Fin 4) (s : Fin 8192) (h f : Fin 8) :
    D_v124 x (ix4 b s h f) = x (ix4 b s h ⟨8 + f.val, by omega⟩) := by
  unfold D_v124; pointwise
theorem x3_at (x : FVec Ideal S4x8192x8x64 .f32) (b : Fin 4) (s : Fin 8192) (h : Fin 8) (f : Fin 48) :
    D_v139 x (ix4 b s h f) = x (ix4 b s h ⟨16 + f.val, by omega⟩) := by
  unfold D_v139; pointwise
theorem heads_at (x : FVec Ideal S4x8192x512 .f32) (b : Fin 4) (s : Fin 8192) (h : Fin 8) (f : Fin 64) :
    D_v105 x (ix4 b s h f) = x (ix3 b s ⟨64 * h.val + f.val, by omega⟩) := by
  unfold D_v105; pointwise
  exact congrArg (fun k => x (ix3 b s k)) (Fin.ext (by show h.val * 64 + f.val = 64 * h.val + f.val; omega))
theorem ang_at (s : Fin 8192) (f : Fin 8) : D_v118 D_v0 (ix2 s f) = ang s.val f.val := by
  unfold D_v118 D_v0 ang; pointwise
theorem cos_at (x : FVec Ideal S8192x8 .f32) (s : Fin 8192) (f : Fin 8) : D_v120 x (ix3 s 0 f) = Ideal.cos (x (ix2 s f)) := by
  unfold D_v120; pointwise
theorem sin_at (x : FVec Ideal S8192x8 .f32) (s : Fin 8192) (f : Fin 8) : D_v122 x (ix3 s 0 f) = Ideal.sin (x (ix2 s f)) := by
  unfold D_v122; pointwise
theorem lo_at (x1 : FVec Ideal S4x8192x8x8 .f32) (co : FVec Ideal S8192x1x8 .f32) (x2 : FVec Ideal S4x8192x8x8 .f32)
    (si : FVec Ideal S8192x1x8 .f32) (b : Fin 4) (s : Fin 8192) (h f : Fin 8) : D_v131 x1 co x2 si (ix4 b s h f)
      = x1 (ix4 b s h f) * co (ix3 s 0 f) - x2 (ix4 b s h f) * si (ix3 s 0 f) := by
  unfold D_v131; pointwise
theorem hi_at (x2 : FVec Ideal S4x8192x8x8 .f32) (co : FVec Ideal S8192x1x8 .f32) (x1 : FVec Ideal S4x8192x8x8 .f32)
    (si : FVec Ideal S8192x1x8 .f32) (b : Fin 4) (s : Fin 8192) (h f : Fin 8) : D_v138 x2 co x1 si (ix4 b s h f)
      = x2 (ix4 b s h f) * co (ix3 s 0 f) + x1 (ix4 b s h f) * si (ix3 s 0 f) := by
  unfold D_v138; pointwise
theorem cat_at (x y : FVec Ideal S4x8192x8x8 .f32) (z : FVec Ideal S4x8192x8x48 .f32) (b : Fin 4) (s : Fin 8192) (n : Fin 512) :
    D_v141 x y z (ix3 b s n) = if h : n.val % 64 < 8 then x (ix4 b s (blk n) ⟨n.val % 64, h⟩)
      else if h' : n.val % 64 - 8 < 8 then y (ix4 b s (blk n) ⟨n.val % 64 - 8, h'⟩)
      else z (ix4 b s (blk n) ⟨n.val % 64 - 8 - 8, by omega⟩) := by
  unfold D_v141; pointwise; rfl
/-- The whole turn of a slice of the projection. -/
def turned (x : FVec Ideal S4x8192x512 .f32) : FVec Ideal S4x8192x512 .f32 :=
  D_v141 (D_v131 (D_v123 (D_v105 x)) (D_v120 (D_v118 D_v0)) (D_v124 (D_v105 x)) (D_v122 (D_v118 D_v0)))
    (D_v138 (D_v124 (D_v105 x)) (D_v120 (D_v118 D_v0)) (D_v123 (D_v105 x)) (D_v122 (D_v118 D_v0))) (D_v139 (D_v105 x))
theorem turned_at (x : FVec Ideal S4x8192x512 .f32) (b : Fin 4) (s : Fin 8192) (n : Fin 512) :
    turned x (ix3 b s n) = rope s.val (fun k => x (ix3 b s k)) n := by
  refine (cat_at _ _ _ b s n).trans ?_
  unfold rope
  have e : ∀ (k : Fin 512) (l : Fin 512), k.val = l.val → x (ix3 b s k) = x (ix3 b s l) := fun k l h => congrArg (fun k => x (ix3 b s k)) (Fin.ext h)
  split_ifs with h h'
  · rw [lo_at, x1_at, x2_at, heads_at, heads_at, cos_at, sin_at, ang_at]
    exact congrArg₂ (· - ·) (congrArg (· * _) (e _ n (by show 64 * (n.val / 64) + n.val % 64 = n.val; omega)))
      (congrArg (· * _) (e _ ⟨n.val + 8, by omega⟩ (by show 64 * (n.val / 64) + (8 + n.val % 64) = n.val + 8; omega)))
  · rw [hi_at, x1_at, x2_at, heads_at, heads_at, cos_at, sin_at, ang_at]
    exact congrArg₂ (· + ·) (congrArg (· * _) (e _ n (by show 64 * (n.val / 64) + (8 + (n.val % 64 - 8)) = n.val; omega)))
      (congrArg (· * _) (e _ ⟨n.val - 8, by omega⟩ (by show 64 * (n.val / 64) + (n.val % 64 - 8) = n.val - 8; omega)))
  · rw [x3_at, heads_at]
    exact e _ n (by show 64 * (n.val / 64) + (16 + (n.val % 64 - 8 - 8)) = n.val; omega)

theorem scale_at (x : FVec Ideal S4x8192x512 .f32) (b : Fin 4) (s : Fin 8192) (n : Fin 512) :
    D_v186 x (ix3 b s n) = x (ix3 b s n) * Ideal.ofBits FTy.f32 0x3E38AA3B#32 := by
  unfold D_v186; pointwise
theorem mean_at (x : FVec Ideal S4x8192x512 .f32) (b : Fin 4) (h : Fin 32) (n : Fin 512) : D_v183 x (ix4 b h 0 n)
    = Ideal.div (∑ r : Fin 256, x (ix3 b ⟨256 * h.val + r.val, by omega⟩ n)) (Ideal.ofBits FTy.f32 0x43800000#32) := by
  unfold D_v183; pointwise
  refine congrArg (Ideal.div · _) (Finset.sum_congr rfl fun r _ => ?_)
  exact congrArg (fun k => x (ix3 b k n)) (Fin.ext (by show h.val * 256 + r.val = 256 * h.val + r.val; omega))
theorem copyk_at (x : FVec Ideal S4x8192x512 .f32) (b : Fin 4) (s : Fin 8192) (n : Fin 512) : D_v187 x (ix3 b s n) = x (ix3 b s n) := by
  unfold D_v187; pointwise
theorem copyv_at (x : FVec Ideal S4x8192x512 .f32) (b : Fin 4) (s : Fin 8192) (n : Fin 512) : D_v188 x (ix3 b s n) = x (ix3 b s n) := by
  unfold D_v188; pointwise

/-- The four results that do not pass through the scan. -/
theorem kt_at (b : Fin 4) (s : Fin 8192) (n : Fin 512) : X_v178 m c (ix3 b s n) = (inp m c).k b s n := by
  refine (turned_at (X_v30 m c) b s n).trans ?_
  simp only [col3_at]; rfl
theorem q_at (b : Fin 4) (s : Fin 8192) (n : Fin 512) : X_v186 m c (ix3 b s n) = (inp m c).q b s n := by
  refine (scale_at (X_v141 m c) b s n).trans ?_
  rw [show X_v141 m c (ix3 b s n) = _ from turned_at (X_v29 m c) b s n]
  simp only [col2_at]; rfl
theorem k_at (b : Fin 4) (s : Fin 8192) (n : Fin 512) : X_v187 m c (ix3 b s n) = (inp m c).k b s n :=
  (copyk_at (X_v178 m c) b s n).trans (kt_at m c b s n)
theorem v_at (b : Fin 4) (s : Fin 8192) (n : Fin 512) : X_v188 m c (ix3 b s n) = (inp m c).v b s n :=
  (copyv_at (X_v31 m c) b s n).trans (col4_at m c b s n)
theorem cent_at (b : Fin 4) (h : Fin 32) (n : Fin 512) : X_v183 m c (ix4 b h 0 n) = (inp m c).cent b h n := by
  refine (mean_at (X_v178 m c) b h n).trans ?_
  simp only [kt_at]; rfl

/-- What the scan runs over, time first, and what it starts from. -/
theorem flip0_at (x : FVec Ideal S4x8192x512 .f32) (s : Fin 8192) (b : Fin 4) (n : Fin 512) : D_v207_0 x (ix3 s b n) = x (ix3 b s n) := by
  unfold D_v207_0; pointwise
theorem flip1_at (x : FVec Ideal S4x8192x512 .f32) (s : Fin 8192) (b : Fin 4) (n : Fin 512) : D_v207_1 x (ix3 s b n) = x (ix3 b s n) := by
  unfold D_v207_1; pointwise
theorem flip2_at (x : FVec Ideal S4x8192x512 .f32) (s : Fin 8192) (b : Fin 4) (n : Fin 512) : D_v207_2 x (ix3 s b n) = x (ix3 b s n) := by
  unfold D_v207_2; pointwise
theorem sa_at (s : Fin 8192) (b : Fin 4) (n : Fin 512) : X_v207_0 m c (ix3 s b n) = al (inp m c).W ((inp m c).p b) n s.val :=
  (flip0_at (X_v97 m c) s b n).trans (a_at m c b s n)
theorem sb_at (s : Fin 8192) (b : Fin 4) (n : Fin 512) : X_v207_1 m c (ix3 s b n) = be (inp m c).W ((inp m c).p b) n s.val :=
  (flip1_at (X_v104 m c) s b n).trans (b_at m c b s n)
theorem sg_at (s : Fin 8192) (b : Fin 4) (n : Fin 512) : X_v207_2 m c (ix3 s b n) = gl ((inp m c).u b s ⟨512 + n.val, by omega⟩) :=
  (flip2_at (X_v202 m c) s b n).trans (g_at m c b s n)
theorem h0_at (b : Fin 4) (n : Fin 512) : D_v207_4 (ix2 b n) = 0 := by
  unfold D_v207_4; pointwise

end Cert.Own.LruRefPre
end
-- ==== Proof.LruRefLoop.lean ====
/- THE RECURRENCE'S REFERENCE'S SCAN: before trip `k` it carries the state before token `k` and the rows up to token `k`. -/
module

public import proofs.«01_k».proof.Proof.LruRefAt
public import Idealize.ShloMosaic.Lib.DynamicIndex

@[expose] public section

set_option maxRecDepth 16384

noncomputable section

namespace Cert.Own.LruRefPre

open Cert.Own Cert.Own.LruSpec Cert.Own.LruScan Cert.Own.LruTile
open Cert.LruRefIdeal Cert.LruRefIdeal.Gen Cert.LruRefIdeal.Value Idealize.ShloMosaic Idealize.ShloMosaic.TcCoe Idealize.SL.Sem
open StableHlo

/-- The counter as a signed word. -/
theorem counter_int (k : ℕ) (hk : k < 8192) : (Scf.iv 0#32 1#32 k).toInt = (k : Int) := by
  have h : (Scf.iv 0#32 1#32 k).toNat = k := by
    simp only [Scf.iv, BitVec.toNat_add, BitVec.toNat_mul, BitVec.toNat_ofNat]; omega
  rw [BitVec.toInt_eq_toNat_cond, h, if_pos (by omega)]

/-- Where trip `k` reads and writes. -/
def start (ctr : IVec S_ 32) : Fin 3 → Int := fun j =>
  (((![ctr, constantI S_ 32 0#32, constantI S_ 32 0#32] : Fin 3 → (⟨S_, .i32⟩ : BufTy).Contents (Elt Ideal))) j (Shape.Idx.first h_S_)).toInt

theorem start_eq (k : ℕ) (hk : k < 8192) (a : Fin 3) : start (fun _ => Scf.iv 0#32 1#32 k) a = ((![k, 0, 0] : Fin 3 → ℕ) a : Int) := by
  fin_cases a
  · exact counter_int k hk
  · rfl
  · rfl

theorem fits (k : ℕ) (hk : k < 8192) : S8192x4x512.Slices ![k, 0, 0] S1x4x512 :=
  ⟨rfl, fun a => by
    fin_cases a
    · show k + 1 ≤ 8192; omega
    · exact Nat.le_refl 4
    · exact Nat.le_refl 512⟩

/-- The row a trip reads. -/
theorem read_at (x : FVec Ideal S8192x4x512 .f32) (k : ℕ) (hk : k < 8192) (b : Fin 4) (n : Fin 512) :
    shapeCast S4x512 (Host.dynamicSlice S1x4x512 x (start (fun _ => Scf.iv 0#32 1#32 k)) sliceFits_S8192x4x512_S1x4x512)
      shapeCasts_S1x4x512_S4x512 (ix2 b n) = x (ix3 ⟨k, hk⟩ b n) := by
  rw [Host.dynamicSlice_eq_extractStridedSlice S1x4x512 x _ ![k, 0, 0] _ (fits k hk) (start_eq k hk)]
  pointwise

theorem write_at (x : FVec Ideal S8192x4x512 .bf16) (u : FVec Ideal S4x512 .bf16) (k : ℕ) (hk : k < 8192) (s : Fin 8192) (b : Fin 4) (n : Fin 512) :
    Host.dynamicUpdateSlice x (broadcastInDim S1x4x512 ![1, 2] bcast_S4x512_S1x4x512_1_2 u) (start (fun _ => Scf.iv 0#32 1#32 k))
      updateFits_S8192x4x512_S1x4x512 (ix3 s b n) = if s.val = k then u (ix2 b n) else x (ix3 s b n) := by
  rw [Host.dynamicUpdateSlice_eq_updateSlice x _ _ _ ![k, 0, 0] (fun a => by rw [start_eq k hk a]; fin_cases a <;> simp <;> omega) (fits k hk)]
  pointwise
  by_cases h : s.val = k
  · rw [if_pos h, dif_pos ⟨by omega, by omega⟩]
  · rw [if_neg h, dif_neg fun h' => h (by omega)]

/-- An element of a state, of the scan's inputs, and of its rows. -/
abbrev e2 (x : FVec Ideal S4x512 .f32) (b : Fin 4) (n : Fin 512) : EReal := x (ix2 b n)
abbrev e3 (x : FVec Ideal S8192x4x512 .f32) (s : Fin 8192) (b : Fin 4) (n : Fin 512) : EReal := x (ix3 s b n)
abbrev e3h (x : FVec Ideal S8192x4x512 .bf16) (s : Fin 8192) (b : Fin 4) (n : Fin 512) : EReal := x (ix3 s b n)

/-- The state after trip `k`, and the rows. -/
theorem state_at (V : Valuation τ sig (Elt Ideal)) (k : ℕ) (hk : k < 8192) (hc : V (Proc.devRef .tc main_v207_3) = fun _ => Scf.iv 0#32 1#32 k)
    (b : Fin 4) (n : Fin 512) :
    e2 (res_main_while0b_v213 V) b n = e3 (V (Proc.devRef .tc main_v207_0)) ⟨k, hk⟩ b n * e2 (V (Proc.devRef .tc main_v207_4)) b n
      + e3 (V (Proc.devRef .tc main_v207_1)) ⟨k, hk⟩ b n := by
  unfold res_main_while0b_v213
  rw [hc]
  exact congrArg₂ (· + ·) (congrArg (· * _) (read_at _ k hk b n)) (read_at _ k hk b n)
theorem rows_at (V : Valuation τ sig (Elt Ideal)) (k : ℕ) (hk : k < 8192) (hc : V (Proc.devRef .tc main_v207_3) = fun _ => Scf.iv 0#32 1#32 k)
    (s : Fin 8192) (b : Fin 4) (n : Fin 512) :
    e3h (step_main_v207_5 V) s b n
      = if s.val = k then e2 (res_main_while0b_v213 V) b n * e3 (V (Proc.devRef .tc main_v207_2)) ⟨k, hk⟩ b n
        else e3h (V (Proc.devRef .tc main_v207_5)) s b n := by
  unfold step_main_v207_5
  rw [hc]
  refine (write_at _ _ k hk s b n).trans ?_
  refine if_congr Iff.rfl ?_ rfl
  exact congrArg (_ * ·) (read_at _ k hk b n)

variable (m : (ℓ : Loc nD τ sig) → Buf (Elt Ideal) ℓ) (c : Dev nD)

/-- The contents before trip `k`. -/
def before (k : ℕ) : Valuation τ sig (Elt Ideal) := STEP^[k] (entryContents preI m c)
theorem before_succ (k : ℕ) : before m c (k + 1) = STEP (before m c k) := Function.iterate_succ_apply' _ _ _
theorem before_ctr (k : ℕ) : before m c k (Proc.devRef .tc main_v207_3) = fun _ => Scf.iv 0#32 1#32 k :=
  (atK_agree m c k main_v207_3 (by decide)).symm.trans (atK_ctr m c k)
theorem before_a (k : ℕ) : before m c k (Proc.devRef .tc main_v207_0) = X_v207_0 m c := by
  induction k with
  | zero => exact (congrFun (entry_eq m c) _).trans (S14_v207_0 m c)
  | succ k ih => rw [before_succ, STEP_main_v207_0, ih]
theorem before_b (k : ℕ) : before m c k (Proc.devRef .tc main_v207_1) = X_v207_1 m c := by
  induction k with
  | zero => exact (congrFun (entry_eq m c) _).trans (S14_v207_1 m c)
  | succ k ih => rw [before_succ, STEP_main_v207_1, ih]
theorem before_g (k : ℕ) : before m c k (Proc.devRef .tc main_v207_2) = X_v207_2 m c := by
  induction k with
  | zero => exact (congrFun (entry_eq m c) _).trans (S14_v207_2 m c)
  | succ k ih => rw [before_succ, STEP_main_v207_2, ih]

theorem trip_state (k : ℕ) (hk : k < 8192) (b : Fin 4) (n : Fin 512)
    (ih : e2 (before m c k (Proc.devRef .tc main_v207_4)) b n = St (inp m c).W ((inp m c).p b) n k) :
    e2 (res_main_while0b_v213 (before m c k)) b n = St (inp m c).W ((inp m c).p b) n (k + 1) := by
  rw [state_at _ k hk (before_ctr m c k), ih, before_a, before_b]
  exact congrArg₂ (· + ·) (congrArg (· * _) (sa_at m c ⟨k, hk⟩ b n)) (sb_at m c ⟨k, hk⟩ b n)

/-- The scan's invariant. -/
theorem before_state (b : Fin 4) (n : Fin 512) (k : ℕ) (hk : k ≤ 8192) :
    e2 (before m c k (Proc.devRef .tc main_v207_4)) b n = St (inp m c).W ((inp m c).p b) n k := by
  induction k with
  | zero => exact (congrFun ((congrFun (entry_eq m c) _).trans (S14_v207_4 m c)) (ix2 b n)).trans (h0_at b n)
  | succ k ih =>
    rw [before_succ, STEP_main_v207_4]
    exact trip_state m c k (by omega) b n (ih (by omega))
theorem before_rows (s : Fin 8192) (b : Fin 4) (n : Fin 512) (k : ℕ) (hk : k ≤ 8192) (hs : s.val < k) :
    e3h (before m c k (Proc.devRef .tc main_v207_5)) s b n = (inp m c).y b s n := by
  induction k with
  | zero => omega
  | succ k ih =>
    rw [before_succ, STEP_main_v207_5, rows_at _ k (by omega) (before_ctr m c k)]
    by_cases h : s.val = k
    · subst h
      rw [if_pos rfl, trip_state m c s.val (by omega) b n (before_state m c b n s.val (by omega)), before_g]
      exact congrArg (_ * ·) (sg_at m c s b n)
    · rw [if_neg h]; exact ih (by omega) (by omega)

/-! ## What the program leaves -/

theorem post_eq (V : Valuation τ sig (Elt Ideal)) : after hostOps0_5 V (Proc.devRef .tc main_v208)
    = transpose S4x8192x512 [1, 0, 2] (V (Proc.devRef .tc main_v207_5) : FVec Ideal S8192x4x512 .bf16)
        transposes_S8192x4x512_S4x8192x512_1_0_2 := rfl
theorem final_eq (k : ℕ) : finalContents condOps preI bodyI postI k m c (Proc.devRef .tc main_v208)
    = transpose S4x8192x512 [1, 0, 2] (after condOps (atK m k c) (Proc.devRef .tc main_v207_5) : FVec Ideal S8192x4x512 .bf16)
        transposes_S8192x4x512_S4x8192x512_1_0_2 := post_eq (after condOps (atK m k c))
theorem out_at (b : Fin 4) (s : Fin 8192) (n : Fin 512) :
    (finalContents condOps preI bodyI postI 8192 m c (Proc.devRef .tc main_v208) : FVec Ideal S4x8192x512 .bf16) (ix3 b s n)
      = (inp m c).y b s n := by
  have e : after condOps (atK m 8192 c) (Proc.devRef .tc main_v207_5) = before m c 8192 (Proc.devRef .tc main_v207_5) :=
    (cond_keeps _ main_v207_5 (by decide)).trans (atK_agree m c 8192 main_v207_5 (by decide))
  have t := final_eq m c 8192
  rw [t, e]
  refine Eq.trans ?_ (before_rows m c s b n 8192 (le_refl _) s.isLt)
  generalize (before m c 8192 (Proc.devRef .tc main_v207_5) : FVec Ideal S8192x4x512 .bf16) = x
  pointwise

/-- Every reference an operation of the scan, or after it, writes. -/
abbrev late : List (Ref sig .tc) :=
  while0Ops0_W ++ while0Ops0_1_W ++ while0Ops0_2_W ++ while0Ops0_3_W ++ while0Ops0_4_W ++ while0Ops0_5_W ++ condOps_W ++ hostOps0_5_W
/-- A reference the scan leaves alone ends as it entered. -/
theorem kept {b : Ref sig .tc} (h : b ∉ late) :
    finalContents condOps preI bodyI postI 8192 m c (Proc.devRef .tc b) = S14 m c (Proc.devRef .tc b) := by
  simp only [List.mem_append, not_or] at h
  obtain ⟨⟨⟨⟨⟨⟨⟨w0, w1⟩, w2⟩, w3⟩, w4⟩, w5⟩, hc⟩, h5⟩ := h
  have hk : ∀ k, atTrip condOps bodyI (entryContents preI m) k c (Proc.devRef .tc b) = S14 m c (Proc.devRef .tc b) := by
    intro k
    induction k with
    | zero => exact congrFun (entry_eq m c) _
    | succ k ih =>
      rw [atTrip_succ]
      exact (after_of_writes_sub while0Ops0_5 _ while0Ops0_5_writes w5).trans <|
        (after_of_writes_sub while0Ops0_4 _ while0Ops0_4_writes w4).trans <|
        (after_of_writes_sub while0Ops0_3 _ while0Ops0_3_writes w3).trans <|
        (after_of_writes_sub while0Ops0_2 _ while0Ops0_2_writes w2).trans <|
        (after_of_writes_sub while0Ops0_1 _ while0Ops0_1_writes w1).trans <|
        (after_of_writes_sub while0Ops0 _ while0Ops0_writes w0).trans <| (after_of_writes_sub condOps _ condOps_writes hc).trans ih
  exact (after_of_writes_sub hostOps0_5 _ hostOps0_5_writes h5).trans <| (after_of_writes_sub condOps _ condOps_writes hc).trans (hk 8192)

end Cert.Own.LruRefPre
end
-- ==== Proof.LruRefFrame.lean ====
/- THE RECURRENCE'S REFERENCE LEAVES ITS ARGUMENTS ALONE: no stretch of its operations, before, inside or after the scan's
   loop, writes an argument. -/
module

public import proofs.«01_k».proof.Defs
public import proofs.«01_k».proof.Proof.Gen.LruRefIdeal.Run
public import Idealize.ShloMosaic.Lib.Quiescent

@[expose] public section

set_option maxRecDepth 16384

noncomputable section

namespace Cert.Own.LruRefFrame

open Cert.LruRefIdeal Cert.LruRefIdeal.Gen Cert.LruRefIdeal.Value Idealize.ShloMosaic Idealize.ShloMosaic.TcCoe Idealize.SL.Sem
open StableHlo

variable (m : (ℓ : Loc nD τ sig) → Buf (Elt Ideal) ℓ) (ρ : Dev nD → PrngReg)

/-- Every reference an operation writes. -/
abbrev written : List (Ref sig .tc) :=
  hostOps0_W ++ hostOps0_1_W ++ hostOps0_2_W ++ hostOps0_3_W ++ hostOps0_4_W ++ while0Ops0_W ++ while0Ops0_1_W ++ while0Ops0_2_W
    ++ while0Ops0_3_W ++ while0Ops0_4_W ++ while0Ops0_5_W ++ condOps_W ++ hostOps0_5_W

theorem trip_keeps (V : Valuation τ sig (Elt Ideal)) {b : Ref sig .tc} (h : b ∉ written) :
    afterL bodyI (after condOps V) (Proc.devRef .tc b) = V (Proc.devRef .tc b) := by
  simp only [List.mem_append, not_or] at h
  obtain ⟨⟨⟨⟨⟨⟨⟨⟨⟨⟨⟨⟨h0, h1⟩, h2⟩, h3⟩, h4⟩, w0⟩, w1⟩, w2⟩, w3⟩, w4⟩, w5⟩, hc⟩, h5⟩ := h
  exact (after_of_writes_sub while0Ops0_5 _ while0Ops0_5_writes w5).trans <|
    (after_of_writes_sub while0Ops0_4 _ while0Ops0_4_writes w4).trans <|
    (after_of_writes_sub while0Ops0_3 _ while0Ops0_3_writes w3).trans <|
    (after_of_writes_sub while0Ops0_2 _ while0Ops0_2_writes w2).trans <|
    (after_of_writes_sub while0Ops0_1 _ while0Ops0_1_writes w1).trans <|
    (after_of_writes_sub while0Ops0 _ while0Ops0_writes w0).trans <| after_of_writes_sub condOps V condOps_writes hc

theorem pre_keeps (V : Valuation τ sig (Elt Ideal)) {b : Ref sig .tc} (h : b ∉ written) :
    afterL preI V (Proc.devRef .tc b) = V (Proc.devRef .tc b) := by
  simp only [List.mem_append, not_or] at h
  obtain ⟨⟨⟨⟨⟨⟨⟨⟨⟨⟨⟨⟨h0, h1⟩, h2⟩, h3⟩, h4⟩, w0⟩, w1⟩, w2⟩, w3⟩, w4⟩, w5⟩, hc⟩, h5⟩ := h
  exact (after_of_writes_sub hostOps0_4 _ hostOps0_4_writes h4).trans <|
    (after_of_writes_sub hostOps0_3 _ hostOps0_3_writes h3).trans <|
    (after_of_writes_sub hostOps0_2 _ hostOps0_2_writes h2).trans <|
    (after_of_writes_sub hostOps0_1 _ hostOps0_1_writes h1).trans <| after_of_writes_sub hostOps0 V hostOps0_writes h0

theorem post_keeps (V : Valuation τ sig (Elt Ideal)) {b : Ref sig .tc} (h : b ∉ written) :
    afterL postI (after condOps V) (Proc.devRef .tc b) = V (Proc.devRef .tc b) := by
  simp only [List.mem_append, not_or] at h
  obtain ⟨⟨⟨⟨⟨⟨⟨⟨⟨⟨⟨⟨h0, h1⟩, h2⟩, h3⟩, h4⟩, w0⟩, w1⟩, w2⟩, w3⟩, w4⟩, w5⟩, hc⟩, h5⟩ := h
  exact (after_of_writes_sub hostOps0_5 _ hostOps0_5_writes h5).trans <| after_of_writes_sub condOps V condOps_writes hc

/-- A reference no operation writes holds at the end what it held at the start. -/
theorem keeps (c : Dev nD) {b : Ref sig .tc} (h : b ∉ written) :
    finalContents condOps preI bodyI postI 8192 m c (Proc.devRef .tc b) = m (c, Proc.devRef .tc b) := by
  have hk : ∀ k, atTrip condOps bodyI (entryContents preI m) k c (Proc.devRef .tc b) = m (c, Proc.devRef .tc b) := by
    intro k
    induction k with
    | zero => exact pre_keeps _ h
    | succ k ih => rw [atTrip_succ]; exact (trip_keeps _ h).trans ih
  exact (post_keeps _ h).trans (hk 8192)

theorem arg_keeps (r : PUnit × MemSt nD τ sig (Elt Ideal)) (h : ∀ (c : Dev nD) (b : Ref sig .tc),
      (Proc.devRef .tc b : DevRef τ sig).isScoped = false →
      r.2.mem ((c.tc : Thread nD τ).loc b) = finalContents condOps preI bodyI postI 8192 m c (Proc.devRef .tc b))
    (c : Dev nD) (b : Ref sig .tc) (hb : b ∉ written) (hs : (Proc.devRef .tc b : DevRef τ sig).isScoped = false) :
    r.2.mem ((c.tc : Thread nD τ).loc b) = m ((c.tc : Thread nD τ).loc b) := (h c b hs).trans (keeps m c hb)

theorem frame : Cert.quiescent_LruRefIdeal := fun m g _ =>
  (θ_run _ _ _).mono (fun r h => ⟨fun c => ⟨
    arg_keeps m r h c main_arg0 (by decide +kernel) rfl, arg_keeps m r h c main_arg1 (by decide +kernel) rfl,
    arg_keeps m r h c main_arg2 (by decide +kernel) rfl, arg_keeps m r h c main_arg3 (by decide +kernel) rfl,
    arg_keeps m r h c main_arg4 (by decide +kernel) rfl, arg_keeps m r h c main_arg5 (by decide +kernel) rfl,
    arg_keeps m r h c main_arg6 (by decide +kernel) rfl, arg_keeps m r h c main_arg7 (by decide +kernel) rfl,
    arg_keeps m r h c main_arg8 (by decide +kernel) rfl, arg_keeps m r h c main_arg9 (by decide +kernel) rfl,
    arg_keeps m r h c main_arg10 (by decide +kernel) rfl⟩, sem_eq_zero_of_no_sems rfl _⟩) (run_fold m g)

end Cert.Own.LruRefFrame
end
-- ==== Proof.Lru.lean ====
/- The recurrence's call: kernel and reference leave the same five arrays. -/
module

public import proofs.«01_k».proof.Defs
public import proofs.«01_k».proof.Proof.LruKernel
public import proofs.«01_k».proof.Proof.LruRefLoop
public import proofs.«01_k».proof.Proof.LruRefFrame

@[expose] public section

set_option maxRecDepth 16384

noncomputable section

namespace Cert.Own

open Idealize.ShloMosaic Idealize.ShloMosaic.TcCoe Idealize.SL.Sem LruRefFrame

/-- Arguments that agree are the same functions of their indices. -/
theorem Lru_inp (m : (ℓ : Loc Cert.LruIdeal.nD Cert.LruIdeal.τ Cert.LruIdeal.sig) → Buf (Elt Ideal) ℓ)
    (m' : (ℓ : Loc Cert.LruRefIdeal.nD Cert.LruRefIdeal.τ Cert.LruRefIdeal.sig) → Buf (Elt Ideal) ℓ) (c : Dev Cert.LruIdeal.nD)
    (h0 : m' ((c.tc : Thread Cert.LruRefIdeal.nD Cert.LruRefIdeal.τ).loc Cert.LruRefIdeal.main_arg0) = m ((c.tc : Thread Cert.LruIdeal.nD Cert.LruIdeal.τ).loc Cert.LruIdeal.main_arg0))
    (h1 : m' ((c.tc : Thread Cert.LruRefIdeal.nD Cert.LruRefIdeal.τ).loc Cert.LruRefIdeal.main_arg1) = m ((c.tc : Thread Cert.LruIdeal.nD Cert.LruIdeal.τ).loc Cert.LruIdeal.main_arg1))
    (h2 : m' ((c.tc : Thread Cert.LruRefIdeal.nD Cert.LruRefIdeal.τ).loc Cert.LruRefIdeal.main_arg2) = m ((c.tc : Thread Cert.LruIdeal.nD Cert.LruIdeal.τ).loc Cert.LruIdeal.main_arg2))
    (h3 : m' ((c.tc : Thread Cert.LruRefIdeal.nD Cert.LruRefIdeal.τ).loc Cert.LruRefIdeal.main_arg3) = m ((c.tc : Thread Cert.LruIdeal.nD Cert.LruIdeal.τ).loc Cert.LruIdeal.main_arg3))
    (h4 : m' ((c.tc : Thread Cert.LruRefIdeal.nD Cert.LruRefIdeal.τ).loc Cert.LruRefIdeal.main_arg4) = m ((c.tc : Thread Cert.LruIdeal.nD Cert.LruIdeal.τ).loc Cert.LruIdeal.main_arg4))
    (h5 : m' ((c.tc : Thread Cert.LruRefIdeal.nD Cert.LruRefIdeal.τ).loc Cert.LruRefIdeal.main_arg5) = m ((c.tc : Thread Cert.LruIdeal.nD Cert.LruIdeal.τ).loc Cert.LruIdeal.main_arg5))
    (h6 : m' ((c.tc : Thread Cert.LruRefIdeal.nD Cert.LruRefIdeal.τ).loc Cert.LruRefIdeal.main_arg6) = m ((c.tc : Thread Cert.LruIdeal.nD Cert.LruIdeal.τ).loc Cert.LruIdeal.main_arg6))
    (h7 : m' ((c.tc : Thread Cert.LruRefIdeal.nD Cert.LruRefIdeal.τ).loc Cert.LruRefIdeal.main_arg7) = m ((c.tc : Thread Cert.LruIdeal.nD Cert.LruIdeal.τ).loc Cert.LruIdeal.main_arg7))
    (h8 : m' ((c.tc : Thread Cert.LruRefIdeal.nD Cert.LruRefIdeal.τ).loc Cert.LruRefIdeal.main_arg8) = m ((c.tc : Thread Cert.LruIdeal.nD Cert.LruIdeal.τ).loc Cert.LruIdeal.main_arg8))
    (h9 : m' ((c.tc : Thread Cert.LruRefIdeal.nD Cert.LruRefIdeal.τ).loc Cert.LruRefIdeal.main_arg9) = m ((c.tc : Thread Cert.LruIdeal.nD Cert.LruIdeal.τ).loc Cert.LruIdeal.main_arg9))
    (h10 : m' ((c.tc : Thread Cert.LruRefIdeal.nD Cert.LruRefIdeal.τ).loc Cert.LruRefIdeal.main_arg10) = m ((c.tc : Thread Cert.LruIdeal.nD Cert.LruIdeal.τ).loc Cert.LruIdeal.main_arg10)) :
    LruRefPre.inp m' c = LruIdealRun.inp m c := by
  unfold LruRefPre.inp LruIdealRun.inp
  rw [h0, h1, h2, h3, h4, h5, h6, h7, h8, h9, h10]

theorem Lru_agree [Cert.LruIdeal.Facts] [Cert.LruRefIdeal.Facts] : Cert.algebraic_LruIdeal_LruRefIdeal := by
  intro m g m' g' _ hargs
  refine ⟨fun c => LruIdealRun.G3 (LruIdealRun.inp m c).y, fun c => LruIdealRun.G3 (LruIdealRun.inp m c).q,
    fun c => LruIdealRun.G3 (LruIdealRun.inp m c).k, fun c => LruIdealRun.G3 (LruIdealRun.inp m c).v,
    fun c => LruIdealRun.G4 (LruIdealRun.inp m c).cent, LruIdealRun.run m g, ?_⟩
  refine (θ_run _ _ _).mono (fun r h c => ⟨(h c Cert.LruRefIdeal.main_v208 rfl).trans ?_, (h c Cert.LruRefIdeal.main_v186 rfl).trans ?_,
    (h c Cert.LruRefIdeal.main_v187 rfl).trans ?_, (h c Cert.LruRefIdeal.main_v188 rfl).trans ?_, (h c Cert.LruRefIdeal.main_v183 rfl).trans ?_,
    arg_keeps m' r h c Cert.LruRefIdeal.main_arg0 (by decide +kernel) rfl,
    arg_keeps m' r h c Cert.LruRefIdeal.main_arg1 (by decide +kernel) rfl,
    arg_keeps m' r h c Cert.LruRefIdeal.main_arg2 (by decide +kernel) rfl,
    arg_keeps m' r h c Cert.LruRefIdeal.main_arg3 (by decide +kernel) rfl,
    arg_keeps m' r h c Cert.LruRefIdeal.main_arg4 (by decide +kernel) rfl,
    arg_keeps m' r h c Cert.LruRefIdeal.main_arg5 (by decide +kernel) rfl,
    arg_keeps m' r h c Cert.LruRefIdeal.main_arg6 (by decide +kernel) rfl,
    arg_keeps m' r h c Cert.LruRefIdeal.main_arg7 (by decide +kernel) rfl,
    arg_keeps m' r h c Cert.LruRefIdeal.main_arg8 (by decide +kernel) rfl,
    arg_keeps m' r h c Cert.LruRefIdeal.main_arg9 (by decide +kernel) rfl,
    arg_keeps m' r h c Cert.LruRefIdeal.main_arg10 (by decide +kernel) rfl⟩) (Cert.LruRefIdeal.Value.run_fold m' g')
  all_goals
    obtain ⟨h0, h1, h2, h3, h4, h5, h6, h7, h8, h9, h10⟩ := hargs c
    have hi := Lru_inp m m' c h0 h1 h2 h3 h4 h5 h6 h7 h8 h9 h10
    beta_reduce
    rw [← hi]
  · funext i
    obtain ⟨b, s, n, rfl⟩ : ∃ b s n, i = ix3 b s n := ⟨i 0, i 1, i 2, by funext a; match a with | ⟨0, _⟩ => rfl | ⟨1, _⟩ => rfl | ⟨2, _⟩ => rfl⟩
    exact LruRefPre.out_at m' c b s n
  · rw [LruRefPre.kept m' c (by decide +kernel), LruRefPre.S14_v186]
    funext i
    obtain ⟨b, s, n, rfl⟩ : ∃ b s n, i = ix3 b s n := ⟨i 0, i 1, i 2, by funext a; match a with | ⟨0, _⟩ => rfl | ⟨1, _⟩ => rfl | ⟨2, _⟩ => rfl⟩
    exact LruRefPre.q_at m' c b s n
  · rw [LruRefPre.kept m' c (by decide +kernel), LruRefPre.S14_v187]
    funext i
    obtain ⟨b, s, n, rfl⟩ : ∃ b s n, i = ix3 b s n := ⟨i 0, i 1, i 2, by funext a; match a with | ⟨0, _⟩ => rfl | ⟨1, _⟩ => rfl | ⟨2, _⟩ => rfl⟩
    exact LruRefPre.k_at m' c b s n
  · rw [LruRefPre.kept m' c (by decide +kernel), LruRefPre.S14_v188]
    funext i
    obtain ⟨b, s, n, rfl⟩ : ∃ b s n, i = ix3 b s n := ⟨i 0, i 1, i 2, by funext a; match a with | ⟨0, _⟩ => rfl | ⟨1, _⟩ => rfl | ⟨2, _⟩ => rfl⟩
    exact LruRefPre.v_at m' c b s n
  · rw [LruRefPre.kept m' c (by decide +kernel), LruRefPre.S14_v183]
    funext i
    obtain ⟨b, h, n, rfl⟩ : ∃ b h n, i = ix4 b h 0 n := ⟨i 0, i 1, i 3, by
      funext a; match a with | ⟨0, _⟩ => rfl | ⟨1, _⟩ => rfl | ⟨2, _⟩ => exact Subsingleton.elim (α := Fin 1) _ _ | ⟨3, _⟩ => rfl⟩
    exact LruRefPre.cent_at m' c b h n

end Cert.Own
end
-- ==== Proof.FfnKernel.lean ====
/- THE FIRST FEED-FORWARD CALL'S RESULT, index by index: grid point `(i, j)` holds 512 rows of sequence `i`; what its body
   stores is `rowBlock` of each row, and the 64 blocks tile the array. -/
module

public import proofs.«01_k».proof.Proof.Gen.FfnIdeal.Value
public import proofs.«01_k».proof.Proof.Rows

@[expose] public section

set_option maxRecDepth 16384

noncomputable section

namespace Cert.Own.FfnKernel

open Cert.Own Cert.FfnIdeal Cert.FfnIdeal.Gen Idealize.ShloMosaic Idealize.ShloMosaic.TcCoe Idealize.SL.Sem

variable (m : (ℓ : Loc nD τ sig) → Buf (Elt Ideal) ℓ) (ρ : Dev nD → PrngReg)

/-- The result as one function of the arguments. -/
def G (x : Vec Ideal S4x8192x1024 .f32) (mod : Vec Ideal S4x9x1024 .f32) (g : Vec Ideal S1024 .f32)
    (w1 : Vec Ideal S2x2x1024x5632 .f32) (w2 : Vec Ideal S2x2x2816x1024 .f32) : Vec Ideal S4x8192x1024 .f32 := fun i =>
  rowBlock (fun k => x (ix3 (i 0) (i 1) k)) (fun k => g (ix1 k)) (fun k => mod (ix3 (i 0) 0 k))
    (fun k => mod (ix3 (i 0) 1 k)) (fun k => mod (ix3 (i 0) 2 k)) (fun k f => w1 (ix4 0 0 k f)) (fun f d => w2 (ix4 0 0 f d)) (i 2)

/-! ## Where each window's block lies -/

theorem idx0 : ∀ t : Fin cfg0.N, win0_0.index t = ![t.val / 16, t.val % 16, 0] := (by decide +kernel : ∀ t : Fin grid0.N, _)
theorem idx1 : ∀ t : Fin cfg0.N, win0_1.index t = ![t.val / 16, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0, 0, 0] := (by decide +kernel : ∀ t : Fin grid0.N, _)
theorem idx4 : ∀ t : Fin cfg0.N, win0_4.index t = ![0, 0, 0, 0] := (by decide +kernel : ∀ t : Fin grid0.N, _)
theorem idx6 : ∀ t : Fin cfg0.N, win0_6.index t = ![t.val / 16, t.val % 16, 0] := (by decide +kernel : ∀ t : Fin grid0.N, _)

/-! ## The converted and reshaped arguments the region finds -/

theorem V0 (c : Dev nD) (j : S2x2x1024x5632.Idx) : V m c main_v0 j = m ((c : Thread nD τ).loc main_arg3) j := rfl
theorem V1 (c : Dev nD) (j : S2x2x2816x1024.Idx) : V m c main_v1 j = m ((c : Thread nD τ).loc main_arg4) j := rfl
theorem V2 (c : Dev nD) (k : Fin 1024) : V m c main_v2 (ix2 0 k) = m ((c : Thread nD τ).loc main_arg2) (ix1 k) := by
  show shapeCast S1x1024 (m ((c : Thread nD τ).loc main_arg2)) shapeCasts_S1024_S1x1024 (ix2 0 k) = _
  pointwise

/-! ## The element of its array a block's element is -/

theorem hN (t : Fin cfg0.N) : t.val < 64 := t.isLt

/-- Sequence of grid point `t`, and row `r` of its block as a row of the sequence. -/
def seq (t : Fin cfg0.N) : Fin 4 := ⟨t.val / 16, by have := hN t; omega⟩
def row (t : Fin cfg0.N) (r : Fin 512) : Fin 8192 := ⟨t.val % 16 * 512 + r.val, by omega⟩

theorem emb0 (t : Fin cfg0.N) (j : S1x512x1024.Idx) :
    ((cfg0.win 0).blk t).view.emb j = ix3 (seq t) (row t (j 1)) (j 2) := by
  have e := idx0 t
  have h0 : (j 0).val < 1 := (j 0).isLt
  funext a; apply Fin.ext
  match a with
  | ⟨0, _⟩ => show win0_0.index t 0 * 1 + 1 * (j 0).val = t.val / 16; rw [e]; show t.val / 16 * 1 + 1 * (j 0).val = _; omega
  | ⟨1, _⟩ => show win0_0.index t 1 * 512 + 1 * (j 1).val = _; rw [e]; show t.val % 16 * 512 + 1 * (j 1).val = t.val % 16 * 512 + (j 1).val; omega
  | ⟨2, _⟩ => show win0_0.index t 2 * 1024 + 1 * (j 2).val = _; rw [e]; show 0 * 1024 + 1 * (j 2).val = (j 2).val; omega

theorem emb6 (t : Fin cfg0.N) (j : S1x512x1024.Idx) :
    ((cfg0.win 6).blk t).view.emb j = ix3 (seq t) (row t (j 1)) (j 2) := by
  have e := idx6 t
  have h0 : (j 0).val < 1 := (j 0).isLt
  funext a; apply Fin.ext
  match a with
  | ⟨0, _⟩ => show win0_6.index t 0 * 1 + 1 * (j 0).val = t.val / 16; rw [e]; show t.val / 16 * 1 + 1 * (j 0).val = _; omega
  | ⟨1, _⟩ => show win0_6.index t 1 * 512 + 1 * (j 1).val = _; rw [e]; show t.val % 16 * 512 + 1 * (j 1).val = t.val % 16 * 512 + (j 1).val; omega
  | ⟨2, _⟩ => show win0_6.index t 2 * 1024 + 1 * (j 2).val = _; rw [e]; show 0 * 1024 + 1 * (j 2).val = (j 2).val; omega

theorem emb1 (t : Fin cfg0.N) (a : Fin 9) (k : Fin 1024) :
    ((cfg0.win 1).blk t).view.emb (ix3 (0 : Fin 1) a k : S1x9x1024.Idx) = ix3 (seq t) a k := by
  have e := idx1 t
  funext b; apply Fin.ext
  match b with
  | ⟨0, _⟩ => show win0_1.index t 0 * 1 + 1 * 0 = t.val / 16; rw [e]; show t.val / 16 * 1 + 1 * 0 = _; omega
  | ⟨1, _⟩ => show win0_1.index t 1 * 9 + 1 * a.val = a.val; rw [e]; show 0 * 9 + 1 * a.val = a.val; omega
  | ⟨2, _⟩ => show win0_1.index t 2 * 1024 + 1 * k.val = k.val; rw [e]; show 0 * 1024 + 1 * k.val = k.val; omega

theorem emb2 (t : Fin cfg0.N) (j : S1x1024.Idx) : ((cfg0.win 2).blk t).view.emb j = j := by
  have e := idx2 t
  funext b; apply Fin.ext
  match b with
  | ⟨0, _⟩ => show win0_2.index t 0 * 1 + 1 * (j 0).val = (j 0).val; rw [e]; show 0 * 1 + 1 * (j 0).val = _; omega
  | ⟨1, _⟩ => show win0_2.index t 1 * 1024 + 1 * (j 1).val = (j 1).val; rw [e]; show 0 * 1024 + 1 * (j 1).val = _; omega

theorem emb3 (t : Fin cfg0.N) (k : Fin 1024) (f : Fin 5632) :
    ((cfg0.win 3).blk t).view.emb (ix4 (0 : Fin 1) (0 : Fin 1) k f : S1x1x1024x5632.Idx) = ix4 0 0 k f := by
  have e := idx3 t
  funext b; apply Fin.ext
  match b with
  | ⟨0, _⟩ => show win0_3.index t 0 * 1 + 1 * 0 = 0; rw [e]; rfl
  | ⟨1, _⟩ => show win0_3.index t 1 * 1 + 1 * 0 = 0; rw [e]; rfl
  | ⟨2, _⟩ => show win0_3.index t 2 * 1024 + 1 * k.val = k.val; rw [e]; show 0 * 1024 + 1 * k.val = k.val; omega
  | ⟨3, _⟩ => show win0_3.index t 3 * 5632 + 1 * f.val = f.val; rw [e]; show 0 * 5632 + 1 * f.val = f.val; omega

theorem emb4 (t : Fin cfg0.N) (f : Fin 2816) (d : Fin 1024) :
    ((cfg0.win 4).blk t).view.emb (ix4 (0 : Fin 1) (0 : Fin 1) f d : S1x1x2816x1024.Idx) = ix4 0 0 f d := by
  have e := idx4 t
  funext b; apply Fin.ext
  match b with
  | ⟨0, _⟩ => show win0_4.index t 0 * 1 + 1 * 0 = 0; rw [e]; rfl
  | ⟨1, _⟩ => show win0_4.index t 1 * 1 + 1 * 0 = 0; rw [e]; rfl
  | ⟨2, _⟩ => show win0_4.index t 2 * 2816 + 1 * f.val = f.val; rw [e]; show 0 * 2816 + 1 * f.val = f.val; omega
  | ⟨3, _⟩ => show win0_4.index t 3 * 1024 + 1 * d.val = d.val; rw [e]; show 0 * 1024 + 1 * d.val = d.val; omega

/-! ## The blocks at an index -/

theorem x_at (c : Dev nD) (t : Fin cfg0.N) (j : S1x512x1024.Idx) :
    iblk m c 0 t j = m ((c : Thread nD τ).loc main_arg0) (ix3 (seq t) (row t (j 1)) (j 2)) := by
  show V m c main_arg0 (((cfg0.win 0).blk t).view.emb j) = _; rw [emb0]; exact congrFun (V_main_arg0 m c) _

theorem mod_at (c : Dev nD) (t : Fin cfg0.N) (a : Fin 9) (k : Fin 1024) :
    iblk m c 1 t (ix3 (0 : Fin 1) a k : S1x9x1024.Idx) = m ((c : Thread nD τ).loc main_arg1) (ix3 (seq t) a k) := by
  show V m c main_arg1 (((cfg0.win 1).blk t).view.emb _) = _; rw [emb1, V_main_arg1]

theorem g_at (c : Dev nD) (t : Fin cfg0.N) (k : Fin 1024) :
    iblk m c 2 t (ix2 (0 : Fin 1) k : S1x1024.Idx) = m ((c : Thread nD τ).loc main_arg2) (ix1 k) := by
  show V m c main_v2 (((cfg0.win 2).blk t).view.emb _) = _; rw [emb2, V2]

theorem w1_at (c : Dev nD) (t : Fin cfg0.N) (k : Fin 1024) (f : Fin 5632) :
    iblk m c 3 t (ix4 (0 : Fin 1) (0 : Fin 1) k f : S1x1x1024x5632.Idx) = m ((c : Thread nD τ).loc main_arg3) (ix4 0 0 k f) := by
  show V m c main_v0 (((cfg0.win 3).blk t).view.emb _) = _; rw [emb3, V0]

theorem w2_at (c : Dev nD) (t : Fin cfg0.N) (f : Fin 2816) (d : Fin 1024) :
    iblk m c 4 t (ix4 (0 : Fin 1) (0 : Fin 1) f d : S1x1x2816x1024.Idx) = m ((c : Thread nD τ).loc main_arg4) (ix4 0 0 f d) := by
  show V m c main_v1 (((cfg0.win 4).blk t).view.emb _) = _; rw [emb4, V1]

/-- What the body stores at row `r`, feature `d` of its block, from the blocks it loads. -/
theorem pay_at (x0 : Vec Ideal S1x512x1024 .f32) (x1 : Vec Ideal S1x9x1024 .f32) (x2 : Vec Ideal S1x1024 .f32)
    (x3 : Vec Ideal S1x1x1024x5632 .bf16) (x4 : Vec Ideal S1x1x2816x1024 .bf16) (r : Fin 512) (d : Fin 1024) :
    k0_pay1 (k0_pay2 x0) (k0_pay3 x1) (k0_pay4 x0 x1 x2 (View.ld x3 r0_3) (View.ld x3 r0_4)) x4 (ix3 (0 : Fin 1) r d)
      = rowBlock (fun k => x0 (ix3 0 r k)) (fun k => x2 (ix2 0 k)) (fun k => x1 (ix3 0 0 k)) (fun k => x1 (ix3 0 1 k))
          (fun k => x1 (ix3 0 2 k)) (fun k f => x3 (ix4 0 0 k f)) (fun f d => x4 (ix4 0 0 f d)) d := by
  unfold_payloads
  pointwise
  rfl

/-- The result array after the run. -/
theorem final (c : Dev nD) : (dats m 0 c).arrAt 6 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  blk_simp
  rw [after0_6]
  frame_out
  show _ = G _ _ _ _ _ (((cfg0.win 6).blk t).view.emb y)
  have hy : (y : S1x512x1024.Idx) = ix3 (0 : Fin 1) (y 1) (y 2) := by
    funext a; match a with
    | ⟨0, _⟩ => exact Fin.ext (by have h : (y 0).val < 1 := (y 0).isLt; show (y 0).val = 0; omega)
    | ⟨1, _⟩ => rfl
    | ⟨2, _⟩ => rfl
  rw [emb6, hy]
  refine (pay_at _ _ _ _ _ _ _).trans ?_
  simp only [x_at, mod_at, g_at, w1_at, w2_at]
  rfl

/-- The run, its result array named; the arguments unchanged. -/
theorem run : θ_run defs (onTc (τ := τ) (main (F := Ideal))) ⟨m, fun _ => 0, ρ⟩ fun r => ∀ c : Dev nD,
      r.2.mem ((c : Thread nD τ).loc main_v4) = G (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.Own.FfnKernel
end
-- ==== Proof.FfnRef.lean ====
/- THE FIRST FEED-FORWARD BLOCK'S REFERENCE, index by index: its host operations compute `rowBlock` of each row. -/
module

public import proofs.«01_k».proof.Proof.Gen.FfnRefIdeal.Run
public import proofs.«01_k».proof.Proof.Rows

@[expose] public section

set_option maxRecDepth 16384

noncomputable section

namespace Cert.Own.FfnRef

open Cert.Own Cert.FfnRefIdeal Cert.FfnRefIdeal.Gen Idealize.ShloMosaic Idealize.ShloMosaic.TcCoe Idealize.SL.Sem

variable (m : (ℓ : Loc nD τ sig) → Buf (Elt Ideal) ℓ) (ρ : Dev nD → PrngReg)

theorem res_at (c : Dev nD) (b : Fin 4) (s : Fin 8192) (d : Fin 1024) :
    Value.res_main_v42 m c (ix3 b s d) = rowBlock (fun k => m ((c : Thread nD τ).loc main_arg0) (ix3 b s k))
      (fun k => m ((c : Thread nD τ).loc main_arg2) (ix1 k)) (fun k => m ((c : Thread nD τ).loc main_arg1) (ix3 b 0 k))
      (fun k => m ((c : Thread nD τ).loc main_arg1) (ix3 b 1 k)) (fun k => m ((c : Thread nD τ).loc main_arg1) (ix3 b 2 k))
      (fun k f => m ((c : Thread nD τ).loc main_arg3) (ix4 0 0 k f)) (fun f d => m ((c : Thread nD τ).loc main_arg4) (ix4 0 0 f d)) d := by
  unfold Value.res_main_v42
  pointwise
  rfl
end Cert.Own.FfnRef
end
-- ==== Proof.Ffn.lean ====
/- The first feed-forward block: kernel and reference leave the same array. -/
module

public import proofs.«01_k».proof.Defs
public import proofs.«01_k».proof.Proof.FfnKernel
public import proofs.«01_k».proof.Proof.FfnRef

@[expose] public section

set_option maxRecDepth 16384

noncomputable section

namespace Cert.Own

open Idealize.ShloMosaic Idealize.ShloMosaic.TcCoe Idealize.SL.Sem

theorem Ffn_agree [Cert.FfnIdeal.Facts] [Cert.FfnRefIdeal.Facts] : Cert.algebraic_FfnIdeal_FfnRefIdeal := by
  intro m g m' g' _ hargs
  refine ⟨fun c => FfnKernel.G (m ((c : Thread Cert.FfnIdeal.nD Cert.FfnIdeal.τ).loc Cert.FfnIdeal.main_arg0)) (m ((c : Thread Cert.FfnIdeal.nD Cert.FfnIdeal.τ).loc Cert.FfnIdeal.main_arg1)) (m ((c : Thread Cert.FfnIdeal.nD Cert.FfnIdeal.τ).loc Cert.FfnIdeal.main_arg2)) (m ((c : Thread Cert.FfnIdeal.nD Cert.FfnIdeal.τ).loc Cert.FfnIdeal.main_arg3)) (m ((c : Thread Cert.FfnIdeal.nD Cert.FfnIdeal.τ).loc Cert.FfnIdeal.main_arg4)), FfnKernel.run m g, ?_⟩
  refine (θ_run _ _ _).mono (fun r h c => ⟨(h c).1.trans ?_, (h c).2⟩) (Cert.FfnRefIdeal.Value.run (F := Ideal) m' g')
  obtain ⟨h0, h1, h2, h3, h4, h5⟩ := hargs c
  funext i
  obtain ⟨b, s, d, rfl⟩ : ∃ b s d, i = ix3 b s d := ⟨i 0, i 1, i 2, by funext a; match a with | ⟨0, _⟩ => rfl | ⟨1, _⟩ => rfl | ⟨2, _⟩ => rfl⟩
  refine (FfnRef.res_at m' c b s d).trans ?_
  simp only [h0, h1, h2, h3, h4]
  rfl

end Cert.Own
end
-- ==== Proof.MixKernel.lean ====
/- THE CALL THAT MIXES THE TWO HEADS' RESULTS INTO THE RESIDUAL STREAM AND APPLIES A FEED-FORWARD BLOCK, its result index by
   index: grid point `(i, j)` holds 512 rows of sequence `i`; its body adds the two half outputs under the two halves of the
   output matrix, then stores `rowBlock` of that row; the 64 blocks tile the array. -/
module

public import proofs.«01_k».proof.Proof.Gen.MixIdeal.Value
public import proofs.«01_k».proof.Proof.Rows

@[expose] public section

set_option maxRecDepth 16384

noncomputable section

namespace Cert.Own.MixKernel

open Cert.Own Cert.MixIdeal Cert.MixIdeal.Gen Idealize.ShloMosaic Idealize.ShloMosaic.TcCoe Idealize.SL.Sem

variable (m : (ℓ : Loc nD τ sig) → Buf (Elt Ideal) ℓ) (ρ : Dev nD → PrngReg)

/-- The residual row after the heads' output is added. -/
def mixed (x : Vec Ideal S4x8192x1024 .f32) (mod : Vec Ideal S4x9x1024 .f32) (y1 y2 : Vec Ideal S4x8192x512 .bf16)
    (w : Vec Ideal S1024x1024 .f32) (b : Fin 4) (s : Fin 8192) : Fin 1024 → EReal :=
  rowMixed (fun k => x (ix3 b s k)) (fun k => mod (ix3 b 5 k)) (fun k => y1 (ix3 b s k)) (fun k => y2 (ix3 b s k))
    (fun k d => w (ix2 ⟨k.val, by omega⟩ d)) (fun k d => w (ix2 ⟨512 + k.val, by omega⟩ d))

/-- The result as one function of the arguments. -/
def G (x : Vec Ideal S4x8192x1024 .f32) (mod : Vec Ideal S4x9x1024 .f32) (g : Vec Ideal S1024 .f32)
    (w1 : Vec Ideal S2x2x1024x5632 .f32) (w2 : Vec Ideal S2x2x2816x1024 .f32) (y1 y2 : Vec Ideal S4x8192x512 .bf16)
    (w : Vec Ideal S1024x1024 .f32) : Vec Ideal S4x8192x1024 .f32 := fun i =>
  rowBlock (mixed x mod y1 y2 w (i 0) (i 1)) (fun k => g (ix1 k)) (fun k => mod (ix3 (i 0) 6 k))
    (fun k => mod (ix3 (i 0) 7 k)) (fun k => mod (ix3 (i 0) 8 k)) (fun k f => w1 (ix4 0 1 k f)) (fun f d => w2 (ix4 0 1 f d)) (i 2)

/-! ## Where each window's block lies -/

theorem idx0 : ∀ t : Fin cfg0.N, win0_0.index t = ![t.val / 16, t.val % 16, 0] := (by decide +kernel : ∀ t : Fin grid0.N, _)
theorem idx1 : ∀ t : Fin cfg0.N, win0_1.index t = ![t.val / 16, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 1, 0, 0] := (by decide +kernel : ∀ t : Fin grid0.N, _)
theorem idx4 : ∀ t : Fin cfg0.N, win0_4.index t = ![0, 1, 0, 0] := (by decide +kernel : ∀ t : Fin grid0.N, _)
theorem idx6 : ∀ t : Fin cfg0.N, win0_6.index t = ![t.val / 16, t.val % 16, 0] := (by decide +kernel : ∀ t : Fin grid0.N, _)
theorem idx7 : ∀ t : Fin cfg0.N, win0_7.index t = ![t.val / 16, t.val % 16, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![t.val / 16, t.val % 16, 0] := (by decide +kernel : ∀ t : Fin grid0.N, _)

/-! ## The converted and reshaped arguments the region finds -/

theorem Vw1 (c : Dev nD) (j : S2x2x1024x5632.Idx) : V m c main_v1 j = m ((c : Thread nD τ).loc main_arg3) j := rfl
theorem Vw2 (c : Dev nD) (j : S2x2x2816x1024.Idx) : V m c main_v2 j = m ((c : Thread nD τ).loc main_arg4) j := rfl
theorem Vg (c : Dev nD) (k : Fin 1024) : V m c main_v5 (ix2 0 k) = m ((c : Thread nD τ).loc main_arg2) (ix1 k) := by
  show shapeCast S1x1024 (m ((c : Thread nD τ).loc main_arg2)) shapeCasts_S1024_S1x1024 (ix2 0 k) = _
  pointwise
theorem Vo1 (c : Dev nD) (k : Fin 512) (d : Fin 1024) : V m c main_v3 (ix2 k d) = m ((c : Thread nD τ).loc main_arg8) (ix2 ⟨k.val, by omega⟩ d) := by
  show StableHlo.after hostOps0 (fun b => m (c, b)) main_v3 _ = _
  after_results_simp
  pointwise
theorem Vo2 (c : Dev nD) (k : Fin 512) (d : Fin 1024) : V m c main_v4 (ix2 k d) = m ((c : Thread nD τ).loc main_arg8) (ix2 ⟨512 + k.val, by omega⟩ d) := by
  show StableHlo.after hostOps0 (fun b => m (c, b)) main_v4 _ = _
  after_results_simp
  pointwise

/-! ## The element of its array a block's element is -/

theorem hN (t : Fin cfg0.N) : t.val < 64 := t.isLt

/-- Sequence of grid point `t`, and row `r` of its block as a row of the sequence. -/
def seq (t : Fin cfg0.N) : Fin 4 := ⟨t.val / 16, by have := hN t; omega⟩
def row (t : Fin cfg0.N) (r : Fin 512) : Fin 8192 := ⟨t.val % 16 * 512 + r.val, by omega⟩

theorem emb0 (t : Fin cfg0.N) (j : S1x512x1024.Idx) :
    ((cfg0.win 0).blk t).view.emb j = ix3 (seq t) (row t (j 1)) (j 2) := by
  have e := idx0 t
  have h0 : (j 0).val < 1 := (j 0).isLt
  funext a; apply Fin.ext
  match a with
  | ⟨0, _⟩ => show win0_0.index t 0 * 1 + 1 * (j 0).val = t.val / 16; rw [e]; show t.val / 16 * 1 + 1 * (j 0).val = _; omega
  | ⟨1, _⟩ => show win0_0.index t 1 * 512 + 1 * (j 1).val = _; rw [e]; show t.val % 16 * 512 + 1 * (j 1).val = t.val % 16 * 512 + (j 1).val; omega
  | ⟨2, _⟩ => show win0_0.index t 2 * 1024 + 1 * (j 2).val = _; rw [e]; show 0 * 1024 + 1 * (j 2).val = (j 2).val; omega

theorem emb10 (t : Fin cfg0.N) (j : S1x512x1024.Idx) :
    ((cfg0.win 10).blk t).view.emb j = ix3 (seq t) (row t (j 1)) (j 2) := by
  have e := idx10 t
  have h0 : (j 0).val < 1 := (j 0).isLt
  funext a; apply Fin.ext
  match a with
  | ⟨0, _⟩ => show win0_10.index t 0 * 1 + 1 * (j 0).val = t.val / 16; rw [e]; show t.val / 16 * 1 + 1 * (j 0).val = _; omega
  | ⟨1, _⟩ => show win0_10.index t 1 * 512 + 1 * (j 1).val = _; rw [e]; show t.val % 16 * 512 + 1 * (j 1).val = t.val % 16 * 512 + (j 1).val; omega
  | ⟨2, _⟩ => show win0_10.index t 2 * 1024 + 1 * (j 2).val = _; rw [e]; show 0 * 1024 + 1 * (j 2).val = (j 2).val; omega

theorem emb1 (t : Fin cfg0.N) (a : Fin 9) (k : Fin 1024) :
    ((cfg0.win 1).blk t).view.emb (ix3 (0 : Fin 1) a k : S1x9x1024.Idx) = ix3 (seq t) a k := by
  have e := idx1 t
  funext b; apply Fin.ext
  match b with
  | ⟨0, _⟩ => show win0_1.index t 0 * 1 + 1 * 0 = t.val / 16; rw [e]; show t.val / 16 * 1 + 1 * 0 = _; omega
  | ⟨1, _⟩ => show win0_1.index t 1 * 9 + 1 * a.val = a.val; rw [e]; show 0 * 9 + 1 * a.val = a.val; omega
  | ⟨2, _⟩ => show win0_1.index t 2 * 1024 + 1 * k.val = k.val; rw [e]; show 0 * 1024 + 1 * k.val = k.val; omega

theorem emb2 (t : Fin cfg0.N) (j : S1x1024.Idx) : ((cfg0.win 2).blk t).view.emb j = j := by
  have e := idx2 t
  funext b; apply Fin.ext
  match b with
  | ⟨0, _⟩ => show win0_2.index t 0 * 1 + 1 * (j 0).val = (j 0).val; rw [e]; show 0 * 1 + 1 * (j 0).val = _; omega
  | ⟨1, _⟩ => show win0_2.index t 1 * 1024 + 1 * (j 1).val = (j 1).val; rw [e]; show 0 * 1024 + 1 * (j 1).val = _; omega

theorem emb3 (t : Fin cfg0.N) (k : Fin 1024) (f : Fin 5632) :
    ((cfg0.win 3).blk t).view.emb (ix4 (0 : Fin 1) (0 : Fin 1) k f : S1x1x1024x5632.Idx) = ix4 0 1 k f := by
  have e := idx3 t
  funext b; apply Fin.ext
  match b with
  | ⟨0, _⟩ => show win0_3.index t 0 * 1 + 1 * 0 = 0; rw [e]; rfl
  | ⟨1, _⟩ => show win0_3.index t 1 * 1 + 1 * 0 = 1; rw [e]; rfl
  | ⟨2, _⟩ => show win0_3.index t 2 * 1024 + 1 * k.val = k.val; rw [e]; show 0 * 1024 + 1 * k.val = k.val; omega
  | ⟨3, _⟩ => show win0_3.index t 3 * 5632 + 1 * f.val = f.val; rw [e]; show 0 * 5632 + 1 * f.val = f.val; omega

theorem emb4 (t : Fin cfg0.N) (f : Fin 2816) (d : Fin 1024) :
    ((cfg0.win 4).blk t).view.emb (ix4 (0 : Fin 1) (0 : Fin 1) f d : S1x1x2816x1024.Idx) = ix4 0 1 f d := by
  have e := idx4 t
  funext b; apply Fin.ext
  match b with
  | ⟨0, _⟩ => show win0_4.index t 0 * 1 + 1 * 0 = 0; rw [e]; rfl
  | ⟨1, _⟩ => show win0_4.index t 1 * 1 + 1 * 0 = 1; rw [e]; rfl
  | ⟨2, _⟩ => show win0_4.index t 2 * 2816 + 1 * f.val = f.val; rw [e]; show 0 * 2816 + 1 * f.val = f.val; omega
  | ⟨3, _⟩ => show win0_4.index t 3 * 1024 + 1 * d.val = d.val; rw [e]; show 0 * 1024 + 1 * d.val = d.val; omega

theorem emb6 (t : Fin cfg0.N) (j : S1x512x512.Idx) :
    ((cfg0.win 6).blk t).view.emb j = ix3 (seq t) (row t (j 1)) (j 2) := by
  have e := idx6 t
  have h0 : (j 0).val < 1 := (j 0).isLt
  funext a; apply Fin.ext
  match a with
  | ⟨0, _⟩ => show win0_6.index t 0 * 1 + 1 * (j 0).val = t.val / 16; rw [e]; show t.val / 16 * 1 + 1 * (j 0).val = _; omega
  | ⟨1, _⟩ => show win0_6.index t 1 * 512 + 1 * (j 1).val = _; rw [e]; show t.val % 16 * 512 + 1 * (j 1).val = t.val % 16 * 512 + (j 1).val; omega
  | ⟨2, _⟩ => show win0_6.index t 2 * 512 + 1 * (j 2).val = _; rw [e]; show 0 * 512 + 1 * (j 2).val = (j 2).val; omega

theorem emb7 (t : Fin cfg0.N) (j : S1x512x512.Idx) :
    ((cfg0.win 7).blk t).view.emb j = ix3 (seq t) (row t (j 1)) (j 2) := by
  have e := idx7 t
  have h0 : (j 0).val < 1 := (j 0).isLt
  funext a; apply Fin.ext
  match a with
  | ⟨0, _⟩ => show win0_7.index t 0 * 1 + 1 * (j 0).val = t.val / 16; rw [e]; show t.val / 16 * 1 + 1 * (j 0).val = _; omega
  | ⟨1, _⟩ => show win0_7.index t 1 * 512 + 1 * (j 1).val = _; rw [e]; show t.val % 16 * 512 + 1 * (j 1).val = t.val % 16 * 512 + (j 1).val; omega
  | ⟨2, _⟩ => show win0_7.index t 2 * 512 + 1 * (j 2).val = _; rw [e]; show 0 * 512 + 1 * (j 2).val = (j 2).val; omega

theorem emb8 (t : Fin cfg0.N) (j : S512x1024.Idx) : ((cfg0.win 8).blk t).view.emb j = j := by
  have e := idx8 t
  funext b; apply Fin.ext
  match b with
  | ⟨0, _⟩ => show win0_8.index t 0 * 512 + 1 * (j 0).val = (j 0).val; rw [e]; show 0 * 512 + 1 * (j 0).val = _; omega
  | ⟨1, _⟩ => show win0_8.index t 1 * 1024 + 1 * (j 1).val = (j 1).val; rw [e]; show 0 * 1024 + 1 * (j 1).val = _; omega

theorem emb9 (t : Fin cfg0.N) (j : S512x1024.Idx) : ((cfg0.win 9).blk t).view.emb j = j := by
  have e := idx9 t
  funext b; apply Fin.ext
  match b with
  | ⟨0, _⟩ => show win0_9.index t 0 * 512 + 1 * (j 0).val = (j 0).val; rw [e]; show 0 * 512 + 1 * (j 0).val = _; omega
  | ⟨1, _⟩ => show win0_9.index t 1 * 1024 + 1 * (j 1).val = (j 1).val; rw [e]; show 0 * 1024 + 1 * (j 1).val = _; omega

/-! ## The blocks at an index -/

theorem x_at (c : Dev nD) (t : Fin cfg0.N) (j : S1x512x1024.Idx) :
    iblk m c 0 t j = m ((c : Thread nD τ).loc main_arg0) (ix3 (seq t) (row t (j 1)) (j 2)) := by
  show V m c main_arg0 (((cfg0.win 0).blk t).view.emb j) = _; rw [emb0]; exact congrFun (V_main_arg0 m c) _

theorem mod_at (c : Dev nD) (t : Fin cfg0.N) (a : Fin 9) (k : Fin 1024) :
    iblk m c 1 t (ix3 (0 : Fin 1) a k : S1x9x1024.Idx) = m ((c : Thread nD τ).loc main_arg1) (ix3 (seq t) a k) := by
  show V m c main_arg1 (((cfg0.win 1).blk t).view.emb _) = _; rw [emb1, V_main_arg1]

theorem g_at (c : Dev nD) (t : Fin cfg0.N) (k : Fin 1024) :
    iblk m c 2 t (ix2 (0 : Fin 1) k : S1x1024.Idx) = m ((c : Thread nD τ).loc main_arg2) (ix1 k) := by
  show V m c main_v5 (((cfg0.win 2).blk t).view.emb _) = _; rw [emb2, Vg]

theorem w1_at (c : Dev nD) (t : Fin cfg0.N) (k : Fin 1024) (f : Fin 5632) :
    iblk m c 3 t (ix4 (0 : Fin 1) (0 : Fin 1) k f : S1x1x1024x5632.Idx) = m ((c : Thread nD τ).loc main_arg3) (ix4 0 1 k f) := by
  show V m c main_v1 (((cfg0.win 3).blk t).view.emb _) = _; rw [emb3, Vw1]

theorem w2_at (c : Dev nD) (t : Fin cfg0.N) (f : Fin 2816) (d : Fin 1024) :
    iblk m c 4 t (ix4 (0 : Fin 1) (0 : Fin 1) f d : S1x1x2816x1024.Idx) = m ((c : Thread nD τ).loc main_arg4) (ix4 0 1 f d) := by
  show V m c main_v2 (((cfg0.win 4).blk t).view.emb _) = _; rw [emb4, Vw2]

theorem y6_at (c : Dev nD) (t : Fin cfg0.N) (j : S1x512x512.Idx) :
    iblk m c 6 t j = m ((c : Thread nD τ).loc main_arg6) (ix3 (seq t) (row t (j 1)) (j 2)) := by
  show V m c main_arg6 (((cfg0.win 6).blk t).view.emb j) = _; rw [emb6]; exact congrFun (V_main_arg6 m c) _

theorem y7_at (c : Dev nD) (t : Fin cfg0.N) (j : S1x512x512.Idx) :
    iblk m c 7 t j = m ((c : Thread nD τ).loc main_arg7) (ix3 (seq t) (row t (j 1)) (j 2)) := by
  show V m c main_arg7 (((cfg0.win 7).blk t).view.emb j) = _; rw [emb7]; exact congrFun (V_main_arg7 m c) _

theorem o8_at (c : Dev nD) (t : Fin cfg0.N) (k : Fin 512) (d : Fin 1024) :
    iblk m c 8 t (ix2 k d : S512x1024.Idx) = m ((c : Thread nD τ).loc main_arg8) (ix2 ⟨k.val, by omega⟩ d) := by
  show V m c main_v3 (((cfg0.win 8).blk t).view.emb _) = _; rw [emb8, Vo1]

theorem o9_at (c : Dev nD) (t : Fin cfg0.N) (k : Fin 512) (d : Fin 1024) :
    iblk m c 9 t (ix2 k d : S512x1024.Idx) = m ((c : Thread nD τ).loc main_arg8) (ix2 ⟨512 + k.val, by omega⟩ d) := by
  show V m c main_v4 (((cfg0.win 9).blk t).view.emb _) = _; rw [emb9, Vo2]

/-- What the body stores at row `r`, feature `d` of its block, from the blocks it loads. -/
theorem pay_at (x0 : Vec Ideal S1x512x1024 .f32) (x1 : Vec Ideal S1x9x1024 .f32) (x2 : Vec Ideal S1x1024 .f32)
    (x3 : Vec Ideal S1x1x1024x5632 .bf16) (x4 : Vec Ideal S1x1x2816x1024 .bf16) (x6 x7 : Vec Ideal S1x512x512 .bf16)
    (x8 x9 : Vec Ideal S512x1024 .bf16) (r : Fin 512) (d : Fin 1024) :
    k0_pay1 (k0_pay2 x1) (k0_pay3 x0 x1 x6 x8 x7 x9) (k0_pay4 x2) (k0_pay5 x1) (k0_pay6 x1) (k0_pay7 x0 x1 x6 x8 x7 x9)
        (View.ld x3 r0_5) (View.ld x3 r0_6) x4 (ix3 (0 : Fin 1) r d)
      = rowBlock (rowMixed (fun k => x0 (ix3 0 r k)) (fun k => x1 (ix3 0 5 k)) (fun k => x6 (ix3 0 r k)) (fun k => x7 (ix3 0 r k))
            (fun k d => x8 (ix2 k d)) (fun k d => x9 (ix2 k d)))
          (fun k => x2 (ix2 0 k)) (fun k => x1 (ix3 0 6 k)) (fun k => x1 (ix3 0 7 k))
          (fun k => x1 (ix3 0 8 k)) (fun k f => x3 (ix4 0 0 k f)) (fun f d => x4 (ix4 0 0 f d)) d := by
  unfold_payloads
  pointwise
  rfl

/-- The result array after the run. -/
theorem final (c : Dev nD) : (dats m 0 c).arrAt 10 cfg0.N
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) := by
  refine (dats m 0 c).arrAt_eq_of_covers 10 _ (by decide +kernel) fun t hf y => ?_
  blk_simp
  rw [after0_10]
  frame_out
  show _ = G _ _ _ _ _ _ _ _ (((cfg0.win 10).blk t).view.emb y)
  have hy : (y : S1x512x1024.Idx) = ix3 (0 : Fin 1) (y 1) (y 2) := by
    funext a; match a with
    | ⟨0, _⟩ => exact Fin.ext (by have h : (y 0).val < 1 := (y 0).isLt; show (y 0).val = 0; omega)
    | ⟨1, _⟩ => rfl
    | ⟨2, _⟩ => rfl
  rw [emb10, hy]
  refine (pay_at _ _ _ _ _ _ _ _ _ _ _).trans ?_
  simp only [x_at, mod_at, g_at, w1_at, w2_at, y6_at, y7_at, o8_at, o9_at]
  rfl

/-- The run, its result array named; the arguments unchanged. -/
theorem run : θ_run defs (onTc (τ := τ) (main (F := Ideal))) ⟨m, fun _ => 0, ρ⟩ fun r => ∀ c : Dev nD,
      r.2.mem ((c : Thread nD τ).loc main_v7) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.Own.MixKernel
end
-- ==== Proof.MixRef.lean ====
/- THE MIX OF THE TWO HEADS AND THE SECOND FEED-FORWARD BLOCK, THE REFERENCE, index by index. The product of the joined halves with the
   output matrix is the sum of the halves' products. -/
module

public import proofs.«01_k».proof.Proof.Gen.MixRefIdeal.Run
public import proofs.«01_k».proof.Proof.Rows

@[expose] public section

set_option maxRecDepth 16384

noncomputable section

namespace Cert.Own.MixRef

open Cert.Own Cert.MixRefIdeal Cert.MixRefIdeal.Gen Idealize.ShloMosaic Idealize.ShloMosaic.TcCoe Idealize.SL.Sem

variable (m : (ℓ : Loc nD τ sig) → Buf (Elt Ideal) ℓ) (ρ : Dev nD → PrngReg)

theorem res_at (c : Dev nD) (b : Fin 4) (s : Fin 8192) (d : Fin 1024) :
    Value.res_main_v51 m c (ix3 b s d) = rowBlock (rowMixed (fun k => m ((c : Thread nD τ).loc main_arg0) (ix3 b s k)) (fun k => m ((c : Thread nD τ).loc main_arg1) (ix3 b 5 k))
        (fun k => m ((c : Thread nD τ).loc main_arg6) (ix3 b s k)) (fun k => m ((c : Thread nD τ).loc main_arg7) (ix3 b s k))
        (fun k d => m ((c : Thread nD τ).loc main_arg8) (ix2 ⟨k.val, by omega⟩ d)) (fun k d => m ((c : Thread nD τ).loc main_arg8) (ix2 ⟨512 + k.val, by omega⟩ d)))
      (fun k => m ((c : Thread nD τ).loc main_arg2) (ix1 k)) (fun k => m ((c : Thread nD τ).loc main_arg1) (ix3 b 6 k))
      (fun k => m ((c : Thread nD τ).loc main_arg1) (ix3 b 7 k)) (fun k => m ((c : Thread nD τ).loc main_arg1) (ix3 b 8 k))
      (fun k f => m ((c : Thread nD τ).loc main_arg3) (ix4 0 1 k f)) (fun f d => m ((c : Thread nD τ).loc main_arg4) (ix4 0 1 f d)) d := by
  unfold Value.res_main_v51
  pointwise
  rfl

end Cert.Own.MixRef
end
-- ==== Proof.Mix.lean ====
/- The mix and second feed-forward block: kernel and reference leave the same array. -/
module

public import proofs.«01_k».proof.Defs
public import proofs.«01_k».proof.Proof.MixKernel
public import proofs.«01_k».proof.Proof.MixRef

@[expose] public section

set_option maxRecDepth 16384

noncomputable section

namespace Cert.Own

open Idealize.ShloMosaic Idealize.ShloMosaic.TcCoe Idealize.SL.Sem

theorem Mix_agree [Cert.MixIdeal.Facts] [Cert.MixRefIdeal.Facts] : Cert.algebraic_MixIdeal_MixRefIdeal := by
  intro m g m' g' _ hargs
  refine ⟨fun c => MixKernel.G (m ((c : Thread Cert.MixIdeal.nD Cert.MixIdeal.τ).loc Cert.MixIdeal.main_arg0)) (m ((c : Thread Cert.MixIdeal.nD Cert.MixIdeal.τ).loc Cert.MixIdeal.main_arg1)) (m ((c : Thread Cert.MixIdeal.nD Cert.MixIdeal.τ).loc Cert.MixIdeal.main_arg2)) (m ((c : Thread Cert.MixIdeal.nD Cert.MixIdeal.τ).loc Cert.MixIdeal.main_arg3)) (m ((c : Thread Cert.MixIdeal.nD Cert.MixIdeal.τ).loc Cert.MixIdeal.main_arg4)) (m ((c : Thread Cert.MixIdeal.nD Cert.MixIdeal.τ).loc Cert.MixIdeal.main_arg6)) (m ((c : Thread Cert.MixIdeal.nD Cert.MixIdeal.τ).loc Cert.MixIdeal.main_arg7)) (m ((c : Thread Cert.MixIdeal.nD Cert.MixIdeal.τ).loc Cert.MixIdeal.main_arg8)), MixKernel.run m g, ?_⟩
  refine (θ_run _ _ _).mono (fun r h c => ⟨(h c).1.trans ?_, (h c).2⟩) (Cert.MixRefIdeal.Value.run (F := Ideal) m' g')
  obtain ⟨h0, h1, h2, h3, h4, h5, h6, h7, h8⟩ := hargs c
  funext i
  obtain ⟨b, s, d, rfl⟩ : ∃ b s d, i = ix3 b s d := ⟨i 0, i 1, i 2, by funext a; match a with | ⟨0, _⟩ => rfl | ⟨1, _⟩ => rfl | ⟨2, _⟩ => rfl⟩
  refine (MixRef.res_at m' c b s d).trans ?_
  simp only [h0, h1, h2, h3, h4, h6, h7, h8]
  rfl

end Cert.Own
end
-- ==== Proof.FinalKernel.lean ====
/- THE LAST CALL: IT ADDS THE ATTENTION'S OUTPUT UNDER THE OUTPUT MATRIX, APPLIES A FEED-FORWARD BLOCK AND NORMALISES. The heads
   lie in the call's lanes in another order than in the output matrix's rows, so the host hands the call the matrix with its
   rows permuted; a sum does not see the order, so the result is told with the lanes in the matrix's order. -/
module

public import proofs.«01_k».proof.Proof.Gen.FinalIdeal.Value
public import Idealize.ShloMosaic.Lib.Routing.Ops
public import proofs.«01_k».proof.Proof.Rows

@[expose] public section

set_option maxRecDepth 16384

noncomputable section

namespace Cert.Own.FinalKernel

open Cert.Own Cert.FinalIdeal Cert.FinalIdeal.Gen Idealize.ShloMosaic Idealize.ShloMosaic.TcCoe Idealize.SL.Sem

variable (m : (ℓ : Loc nD τ sig) → Buf (Elt Ideal) ℓ) (ρ : Dev nD → PrngReg)

/-- The row of the output matrix that the call's lane `l` stands for. -/
def toRow (l : Fin 1024) : Fin 1024 := ⟨64 * (8 * (l.val / 64 % 2) + l.val / 128) + l.val % 64, by omega⟩

/-- The lane of the row `k` of the output matrix. -/
def toLane (k : Fin 1024) : Fin 1024 := ⟨k.val / 64 % 8 * 128 + k.val / 512 * 64 + k.val % 64, by omega⟩

theorem toLane_toRow : ∀ l, toLane (toRow l) = l := by decide +kernel
theorem toRow_toLane : ∀ k, toRow (toLane k) = k := by decide +kernel

/-- Lanes and rows correspond one to one. -/
def lanes : Fin 1024 ≃ Fin 1024 where
  toFun := toRow
  invFun := toLane
  left_inv := toLane_toRow
  right_inv := toRow_toLane

/-- The residual row after the attention's output is added. -/
def mixed (x : Vec Ideal S4x8192x1024 .f32) (mod : Vec Ideal S4x9x1024 .f32) (y : Vec Ideal S4x8192x1024 .bf16)
    (w : Vec Ideal S1024x1024 .f32) (b : Fin 4) (s : Fin 8192) : Fin 1024 → EReal :=
  rowProj (fun k => x (ix3 b s k)) (fun k => mod (ix3 b 5 k)) (fun k => y (ix3 b s (toLane k))) (fun k d => w (ix2 k d))

/-- The result as one function of the arguments. -/
def G (x : Vec Ideal S4x8192x1024 .f32) (mod : Vec Ideal S4x9x1024 .f32) (g : Vec Ideal S1024 .f32)
    (w1 : Vec Ideal S2x2x1024x5632 .f32) (w2 : Vec Ideal S2x2x2816x1024 .f32) (gf : Vec Ideal S1024 .f32)
    (y : Vec Ideal S4x8192x1024 .bf16) (w : Vec Ideal S1024x1024 .f32) : Vec Ideal S4x8192x1024 .f32 := fun i =>
  rowNorm (rowBlock (mixed x mod y w (i 0) (i 1)) (fun k => g (ix1 k)) (fun k => mod (ix3 (i 0) 6 k))
    (fun k => mod (ix3 (i 0) 7 k)) (fun k => mod (ix3 (i 0) 8 k)) (fun k f => w1 (ix4 1 1 k f)) (fun f d => w2 (ix4 1 1 f d)))
    (fun k => gf (ix1 k)) (i 2)

/-! ## Where each window's block lies -/

theorem idx0 : ∀ t : Fin cfg0.N, win0_0.index t = ![t.val / 16, t.val % 16, 0] := (by decide +kernel : ∀ t : Fin grid0.N, _)
theorem idx1 : ∀ t : Fin cfg0.N, win0_1.index t = ![t.val / 16, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![1, 1, 0, 0] := (by decide +kernel : ∀ t : Fin grid0.N, _)
theorem idx4 : ∀ t : Fin cfg0.N, win0_4.index t = ![1, 1, 0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val / 16, t.val % 16, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val / 16, t.val % 16, 0] := (by decide +kernel : ∀ t : Fin grid0.N, _)

/-! ## The converted and reshaped arguments the region finds -/

theorem Vw1 (c : Dev nD) (j : S2x2x1024x5632.Idx) : V m c main_v17 j = m ((c : Thread nD τ).loc main_arg3) j := rfl
theorem Vw2 (c : Dev nD) (j : S2x2x2816x1024.Idx) : V m c main_v18 j = m ((c : Thread nD τ).loc main_arg4) j := rfl
theorem Vg (c : Dev nD) (k : Fin 1024) : V m c main_v27 (ix2 0 k) = m ((c : Thread nD τ).loc main_arg2) (ix1 k) := by
  show shapeCast S1x1024 (m ((c : Thread nD τ).loc main_arg2)) shapeCasts_S1024_S1x1024 (ix2 0 k) = _
  pointwise
theorem Vgf (c : Dev nD) (k : Fin 1024) : V m c main_v28 (ix2 0 k) = m ((c : Thread nD τ).loc main_arg5) (ix1 k) := by
  show shapeCast S1x1024 (m ((c : Thread nD τ).loc main_arg5)) shapeCasts_S1024_S1x1024 (ix2 0 k) = _
  pointwise

/-- The row numbers the host computes: lane `l` takes row `toRow l`. -/
theorem perm_at (l : Fin 1024) : IntOp.addi (IntOp.muli (64#32) (IntOp.addi (IntOp.muli (8#32) (BitVec.ofNat 32 (l.val / 64 % 2)))
    (BitVec.ofNat 32 (l.val / 128)))) (BitVec.ofNat 32 (l.val % 64)) = BitVec.ofNat 32 (toRow l).val := by
  apply BitVec.eq_of_toNat_eq
  show (64#32 * (8#32 * BitVec.ofNat 32 (l.val / 64 % 2) + BitVec.ofNat 32 (l.val / 128)) + BitVec.ofNat 32 (l.val % 64)).toNat
    = (BitVec.ofNat 32 (64 * (8 * (l.val / 64 % 2) + l.val / 128) + l.val % 64)).toNat
  simp only [BitVec.toNat_add, BitVec.toNat_mul, BitVec.toNat_ofNat]
  omega

theorem Vo (c : Dev nD) (l d : Fin 1024) : V m c main_v26 (ix2 l d) = m ((c : Thread nD τ).loc main_arg7) (ix2 (toRow l) d) := by
  show StableHlo.after hostOps0 (fun b => m (c, b)) main_v26 _ = _
  after_results_simp
  pointwise
  refine Routing.gather_row _ rfl rfl rfl rfl rfl _ _ l d (toRow l) ?_ (by decide)
  have h : ∀ l : Fin 1024, (BitVec.ofNat 32 (toRow l).val).slt 0#32 = false := by decide +kernel
  show (if (BitVec.ofBool (BitVec.slt (IntOp.addi (IntOp.muli (64#32) (IntOp.addi (IntOp.muli (8#32) (BitVec.ofNat 32 (l.val / 64 % 2)))
    (BitVec.ofNat 32 (l.val / 128)))) (BitVec.ofNat 32 (l.val % 64))) 0#32)) = 1#1 then _ else IntOp.addi (IntOp.muli (64#32) (IntOp.addi (IntOp.muli (8#32) (BitVec.ofNat 32 (l.val / 64 % 2)))
    (BitVec.ofNat 32 (l.val / 128)))) (BitVec.ofNat 32 (l.val % 64))) = _
  rw [perm_at, h]
  rfl

/-! ## The element of its array a block's element is -/

theorem hN (t : Fin cfg0.N) : t.val < 64 := t.isLt

/-- Sequence of grid point `t`, and row `r` of its block as a row of the sequence. -/
def seq (t : Fin cfg0.N) : Fin 4 := ⟨t.val / 16, by have := hN t; omega⟩
def row (t : Fin cfg0.N) (r : Fin 512) : Fin 8192 := ⟨t.val % 16 * 512 + r.val, by omega⟩

theorem emb0 (t : Fin cfg0.N) (j : S1x512x1024.Idx) :
    ((cfg0.win 0).blk t).view.emb j = ix3 (seq t) (row t (j 1)) (j 2) := by
  have e := idx0 t
  have h0 : (j 0).val < 1 := (j 0).isLt
  funext a; apply Fin.ext
  match a with
  | ⟨0, _⟩ => show win0_0.index t 0 * 1 + 1 * (j 0).val = t.val / 16; rw [e]; show t.val / 16 * 1 + 1 * (j 0).val = _; omega
  | ⟨1, _⟩ => show win0_0.index t 1 * 512 + 1 * (j 1).val = _; rw [e]; show t.val % 16 * 512 + 1 * (j 1).val = t.val % 16 * 512 + (j 1).val; omega
  | ⟨2, _⟩ => show win0_0.index t 2 * 1024 + 1 * (j 2).val = _; rw [e]; show 0 * 1024 + 1 * (j 2).val = (j 2).val; omega

theorem emb6 (t : Fin cfg0.N) (j : S1x512x1024.Idx) :
    ((cfg0.win 6).blk t).view.emb j = ix3 (seq t) (row t (j 1)) (j 2) := by
  have e := idx6 t
  have h0 : (j 0).val < 1 := (j 0).isLt
  funext a; apply Fin.ext
  match a with
  | ⟨0, _⟩ => show win0_6.index t 0 * 1 + 1 * (j 0).val = t.val / 16; rw [e]; show t.val / 16 * 1 + 1 * (j 0).val = _; omega
  | ⟨1, _⟩ => show win0_6.index t 1 * 512 + 1 * (j 1).val = _; rw [e]; show t.val % 16 * 512 + 1 * (j 1).val = t.val % 16 * 512 + (j 1).val; omega
  | ⟨2, _⟩ => show win0_6.index t 2 * 1024 + 1 * (j 2).val = _; rw [e]; show 0 * 1024 + 1 * (j 2).val = (j 2).val; omega

theorem emb8 (t : Fin cfg0.N) (j : S1x512x1024.Idx) :
    ((cfg0.win 8).blk t).view.emb j = ix3 (seq t) (row t (j 1)) (j 2) := by
  have e := idx8 t
  have h0 : (j 0).val < 1 := (j 0).isLt
  funext a; apply Fin.ext
  match a with
  | ⟨0, _⟩ => show win0_8.index t 0 * 1 + 1 * (j 0).val = t.val / 16; rw [e]; show t.val / 16 * 1 + 1 * (j 0).val = _; omega
  | ⟨1, _⟩ => show win0_8.index t 1 * 512 + 1 * (j 1).val = _; rw [e]; show t.val % 16 * 512 + 1 * (j 1).val = t.val % 16 * 512 + (j 1).val; omega
  | ⟨2, _⟩ => show win0_8.index t 2 * 1024 + 1 * (j 2).val = _; rw [e]; show 0 * 1024 + 1 * (j 2).val = (j 2).val; omega

theorem emb1 (t : Fin cfg0.N) (a : Fin 9) (k : Fin 1024) :
    ((cfg0.win 1).blk t).view.emb (ix3 (0 : Fin 1) a k : S1x9x1024.Idx) = ix3 (seq t) a k := by
  have e := idx1 t
  funext b; apply Fin.ext
  match b with
  | ⟨0, _⟩ => show win0_1.index t 0 * 1 + 1 * 0 = t.val / 16; rw [e]; show t.val / 16 * 1 + 1 * 0 = _; omega
  | ⟨1, _⟩ => show win0_1.index t 1 * 9 + 1 * a.val = a.val; rw [e]; show 0 * 9 + 1 * a.val = a.val; omega
  | ⟨2, _⟩ => show win0_1.index t 2 * 1024 + 1 * k.val = k.val; rw [e]; show 0 * 1024 + 1 * k.val = k.val; omega

theorem emb2 (t : Fin cfg0.N) (j : S1x1024.Idx) : ((cfg0.win 2).blk t).view.emb j = j := by
  have e := idx2 t
  funext b; apply Fin.ext
  match b with
  | ⟨0, _⟩ => show win0_2.index t 0 * 1 + 1 * (j 0).val = (j 0).val; rw [e]; show 0 * 1 + 1 * (j 0).val = _; omega
  | ⟨1, _⟩ => show win0_2.index t 1 * 1024 + 1 * (j 1).val = (j 1).val; rw [e]; show 0 * 1024 + 1 * (j 1).val = _; omega

theorem emb3 (t : Fin cfg0.N) (k : Fin 1024) (f : Fin 5632) :
    ((cfg0.win 3).blk t).view.emb (ix4 (0 : Fin 1) (0 : Fin 1) k f : S1x1x1024x5632.Idx) = ix4 1 1 k f := by
  have e := idx3 t
  funext b; apply Fin.ext
  match b with
  | ⟨0, _⟩ => show win0_3.index t 0 * 1 + 1 * 0 = 1; rw [e]; rfl
  | ⟨1, _⟩ => show win0_3.index t 1 * 1 + 1 * 0 = 1; rw [e]; rfl
  | ⟨2, _⟩ => show win0_3.index t 2 * 1024 + 1 * k.val = k.val; rw [e]; show 0 * 1024 + 1 * k.val = k.val; omega
  | ⟨3, _⟩ => show win0_3.index t 3 * 5632 + 1 * f.val = f.val; rw [e]; show 0 * 5632 + 1 * f.val = f.val; omega

theorem emb4 (t : Fin cfg0.N) (f : Fin 2816) (d : Fin 1024) :
    ((cfg0.win 4).blk t).view.emb (ix4 (0 : Fin 1) (0 : Fin 1) f d : S1x1x2816x1024.Idx) = ix4 1 1 f d := by
  have e := idx4 t
  funext b; apply Fin.ext
  match b with
  | ⟨0, _⟩ => show win0_4.index t 0 * 1 + 1 * 0 = 1; rw [e]; rfl
  | ⟨1, _⟩ => show win0_4.index t 1 * 1 + 1 * 0 = 1; rw [e]; rfl
  | ⟨2, _⟩ => show win0_4.index t 2 * 2816 + 1 * f.val = f.val; rw [e]; show 0 * 2816 + 1 * f.val = f.val; omega
  | ⟨3, _⟩ => show win0_4.index t 3 * 1024 + 1 * d.val = d.val; rw [e]; show 0 * 1024 + 1 * d.val = d.val; omega

theorem emb5 (t : Fin cfg0.N) (j : S1x1024.Idx) : ((cfg0.win 5).blk t).view.emb j = j := by
  have e := idx5 t
  funext b; apply Fin.ext
  match b with
  | ⟨0, _⟩ => show win0_5.index t 0 * 1 + 1 * (j 0).val = (j 0).val; rw [e]; show 0 * 1 + 1 * (j 0).val = _; omega
  | ⟨1, _⟩ => show win0_5.index t 1 * 1024 + 1 * (j 1).val = (j 1).val; rw [e]; show 0 * 1024 + 1 * (j 1).val = _; omega

theorem emb7 (t : Fin cfg0.N) (j : S1024x1024.Idx) : ((cfg0.win 7).blk t).view.emb j = j := by
  have e := idx7 t
  funext b; apply Fin.ext
  match b with
  | ⟨0, _⟩ => show win0_7.index t 0 * 1024 + 1 * (j 0).val = (j 0).val; rw [e]; show 0 * 1024 + 1 * (j 0).val = _; omega
  | ⟨1, _⟩ => show win0_7.index t 1 * 1024 + 1 * (j 1).val = (j 1).val; rw [e]; show 0 * 1024 + 1 * (j 1).val = _; omega

/-! ## The blocks at an index -/

theorem x_at (c : Dev nD) (t : Fin cfg0.N) (j : S1x512x1024.Idx) :
    iblk m c 0 t j = m ((c : Thread nD τ).loc main_arg0) (ix3 (seq t) (row t (j 1)) (j 2)) := by
  show V m c main_arg0 (((cfg0.win 0).blk t).view.emb j) = _; rw [emb0]; exact congrFun (V_main_arg0 m c) _

theorem mod_at (c : Dev nD) (t : Fin cfg0.N) (a : Fin 9) (k : Fin 1024) :
    iblk m c 1 t (ix3 (0 : Fin 1) a k : S1x9x1024.Idx) = m ((c : Thread nD τ).loc main_arg1) (ix3 (seq t) a k) := by
  show V m c main_arg1 (((cfg0.win 1).blk t).view.emb _) = _; rw [emb1, V_main_arg1]

theorem g_at (c : Dev nD) (t : Fin cfg0.N) (k : Fin 1024) :
    iblk m c 2 t (ix2 (0 : Fin 1) k : S1x1024.Idx) = m ((c : Thread nD τ).loc main_arg2) (ix1 k) := by
  show V m c main_v27 (((cfg0.win 2).blk t).view.emb _) = _; rw [emb2, Vg]

theorem w1_at (c : Dev nD) (t : Fin cfg0.N) (k : Fin 1024) (f : Fin 5632) :
    iblk m c 3 t (ix4 (0 : Fin 1) (0 : Fin 1) k f : S1x1x1024x5632.Idx) = m ((c : Thread nD τ).loc main_arg3) (ix4 1 1 k f) := by
  show V m c main_v17 (((cfg0.win 3).blk t).view.emb _) = _; rw [emb3, Vw1]

theorem w2_at (c : Dev nD) (t : Fin cfg0.N) (f : Fin 2816) (d : Fin 1024) :
    iblk m c 4 t (ix4 (0 : Fin 1) (0 : Fin 1) f d : S1x1x2816x1024.Idx) = m ((c : Thread nD τ).loc main_arg4) (ix4 1 1 f d) := by
  show V m c main_v18 (((cfg0.win 4).blk t).view.emb _) = _; rw [emb4, Vw2]

theorem gf_at (c : Dev nD) (t : Fin cfg0.N) (k : Fin 1024) :
    iblk m c 5 t (ix2 (0 : Fin 1) k : S1x1024.Idx) = m ((c : Thread nD τ).loc main_arg5) (ix1 k) := by
  show V m c main_v28 (((cfg0.win 5).blk t).view.emb _) = _; rw [emb5, Vgf]

theorem y_at (c : Dev nD) (t : Fin cfg0.N) (j : S1x512x1024.Idx) :
    iblk m c 6 t j = m ((c : Thread nD τ).loc main_arg6) (ix3 (seq t) (row t (j 1)) (j 2)) := by
  show V m c main_arg6 (((cfg0.win 6).blk t).view.emb j) = _; rw [emb6]; exact congrFun (V_main_arg6 m c) _

theorem o_at (c : Dev nD) (t : Fin cfg0.N) (l d : Fin 1024) :
    iblk m c 7 t (ix2 l d : S1024x1024.Idx) = m ((c : Thread nD τ).loc main_arg7) (ix2 (toRow l) d) := by
  show V m c main_v26 (((cfg0.win 7).blk t).view.emb _) = _; rw [emb7, Vo]

/-- What the body stores at row `r`, feature `d` of its block, from the blocks it loads. -/
theorem pay_at (x0 : Vec Ideal S1x512x1024 .f32) (x1 : Vec Ideal S1x9x1024 .f32) (x2 : Vec Ideal S1x1024 .f32)
    (x3 : Vec Ideal S1x1x1024x5632 .bf16) (x4 : Vec Ideal S1x1x2816x1024 .bf16) (x5 : Vec Ideal S1x1024 .f32)
    (x6 : Vec Ideal S1x512x1024 .bf16) (x7 : Vec Ideal S1024x1024 .bf16) (r : Fin 512) (d : Fin 1024) :
    k0_pay4 (k0_pay1 x1) (k0_pay2 x0 x1 x6 x7) (k0_pay3 x0 x1 x6 x7 x2) (View.ld x3 r0_4) (View.ld x3 r0_5) x4 x5 (ix3 (0 : Fin 1) r d)
      = rowNorm (rowBlock (rowProj (fun k => x0 (ix3 0 r k)) (fun k => x1 (ix3 0 5 k)) (fun k => x6 (ix3 0 r k)) (fun k d => x7 (ix2 k d)))
          (fun k => x2 (ix2 0 k)) (fun k => x1 (ix3 0 6 k)) (fun k => x1 (ix3 0 7 k))
          (fun k => x1 (ix3 0 8 k)) (fun k f => x3 (ix4 0 0 k f)) (fun f d => x4 (ix4 0 0 f d)))
          (fun k => x5 (ix2 0 k)) d := by
  unfold_payloads
  pointwise
  rfl

/-- A row's product over lanes, the rows of the matrix taken in the lanes' order, is its product over rows. -/
theorem proj_lanes (x gm y : Fin 1024 → EReal) (w : Fin 1024 → Fin 1024 → EReal) :
    rowProj x gm y (fun l d => w (toRow l) d) = rowProj x gm (fun k => y (toLane k)) w := by
  funext d
  show x d + gm d * (∑ l, y l * w (toRow l) d) = x d + gm d * ∑ k, y (toLane k) * w k d
  refine congrArg (fun s => x d + gm d * s) ((Finset.sum_congr rfl fun l _ => ?_).trans (Equiv.sum_comp lanes fun k => y (toLane k) * w k d))
  show y l * w (toRow l) d = y (toLane (toRow l)) * w (toRow l) d
  rw [toLane_toRow]

/-- The result array after the run. -/
theorem final (c : Dev nD) : (dats m 0 c).arrAt 8 cfg0.N
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp
  rw [after0_8]
  frame_out
  show _ = G _ _ _ _ _ _ _ _ (((cfg0.win 8).blk t).view.emb y)
  have hy : (y : S1x512x1024.Idx) = ix3 (0 : Fin 1) (y 1) (y 2) := by
    funext a; match a with
    | ⟨0, _⟩ => exact Fin.ext (by have h : (y 0).val < 1 := (y 0).isLt; show (y 0).val = 0; omega)
    | ⟨1, _⟩ => rfl
    | ⟨2, _⟩ => rfl
  rw [emb8, hy]
  have hw : ∀ x gm y, rowProj x gm y (fun l d => m ((c : Thread nD τ).loc main_arg7) (ix2 (toRow l) d))
      = rowProj x gm (fun k => y (toLane k)) (fun k d => m ((c : Thread nD τ).loc main_arg7) (ix2 k d)) :=
    fun x gm y => proj_lanes x gm y fun k d => m ((c : Thread nD τ).loc main_arg7) (ix2 k d)
  refine (pay_at _ _ _ _ _ _ _ _ _ _).trans ?_
  simp only [x_at, mod_at, g_at, w1_at, w2_at, gf_at, y_at, o_at]
  rw [hw]
  rfl

/-- The run, its result array named; the arguments unchanged. -/
theorem run : θ_run defs (onTc (τ := τ) (main (F := Ideal))) ⟨m, fun _ => 0, ρ⟩ fun r => ∀ c : Dev nD,
      r.2.mem ((c : Thread nD τ).loc main_v29) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.Own.FinalKernel
end
-- ==== Proof.FinalRef.lean ====
/- THE LAST BLOCK'S REFERENCE, index by index: the attention's output with its heads put in the output matrix's order, the
   projection, the feed-forward block and the last norm. -/
module

public import proofs.«01_k».proof.Proof.Gen.FinalRefIdeal.Run
public import proofs.«01_k».proof.Proof.Rows

@[expose] public section

set_option maxRecDepth 16384

noncomputable section

namespace Cert.Own.FinalRef

open Cert.Own Cert.FinalRefIdeal Cert.FinalRefIdeal.Gen Idealize.ShloMosaic Idealize.ShloMosaic.TcCoe Idealize.SL.Sem

variable (m : (ℓ : Loc nD τ sig) → Buf (Elt Ideal) ℓ) (ρ : Dev nD → PrngReg)

theorem res_at (c : Dev nD) (b : Fin 4) (s : Fin 8192) (d : Fin 1024) :
    Value.res_main_v66 m c (ix3 b s d) = rowNorm (rowBlock (rowProj (fun k => m ((c : Thread nD τ).loc main_arg0) (ix3 b s k)) (fun k => m ((c : Thread nD τ).loc main_arg1) (ix3 b 5 k))
        (fun k => m ((c : Thread nD τ).loc main_arg6) (ix3 b s ⟨k.val / 64 % 8 * 128 + k.val / 512 * 64 + k.val % 64, by omega⟩)) (fun k d => m ((c : Thread nD τ).loc main_arg7) (ix2 k d)))
      (fun k => m ((c : Thread nD τ).loc main_arg2) (ix1 k)) (fun k => m ((c : Thread nD τ).loc main_arg1) (ix3 b 6 k))
      (fun k => m ((c : Thread nD τ).loc main_arg1) (ix3 b 7 k)) (fun k => m ((c : Thread nD τ).loc main_arg1) (ix3 b 8 k))
      (fun k f => m ((c : Thread nD τ).loc main_arg3) (ix4 1 1 k f)) (fun f d => m ((c : Thread nD τ).loc main_arg4) (ix4 1 1 f d))) (fun k => m ((c : Thread nD τ).loc main_arg5) (ix1 k)) d := by
  unfold Value.res_main_v66
  pointwise
  rfl

end Cert.Own.FinalRef
end
-- ==== Proof.Final.lean ====
/- The last block: kernel and reference leave the same array. -/
module

public import proofs.«01_k».proof.Defs
public import proofs.«01_k».proof.Proof.FinalKernel
public import proofs.«01_k».proof.Proof.FinalRef

@[expose] public section

set_option maxRecDepth 16384

noncomputable section

namespace Cert.Own

open Idealize.ShloMosaic Idealize.ShloMosaic.TcCoe Idealize.SL.Sem

theorem Final_agree [Cert.FinalIdeal.Facts] [Cert.FinalRefIdeal.Facts] : Cert.algebraic_FinalIdeal_FinalRefIdeal := by
  intro m g m' g' _ hargs
  refine ⟨fun c => FinalKernel.G (m ((c : Thread Cert.FinalIdeal.nD Cert.FinalIdeal.τ).loc Cert.FinalIdeal.main_arg0)) (m ((c : Thread Cert.FinalIdeal.nD Cert.FinalIdeal.τ).loc Cert.FinalIdeal.main_arg1)) (m ((c : Thread Cert.FinalIdeal.nD Cert.FinalIdeal.τ).loc Cert.FinalIdeal.main_arg2)) (m ((c : Thread Cert.FinalIdeal.nD Cert.FinalIdeal.τ).loc Cert.FinalIdeal.main_arg3)) (m ((c : Thread Cert.FinalIdeal.nD Cert.FinalIdeal.τ).loc Cert.FinalIdeal.main_arg4)) (m ((c : Thread Cert.FinalIdeal.nD Cert.FinalIdeal.τ).loc Cert.FinalIdeal.main_arg5)) (m ((c : Thread Cert.FinalIdeal.nD Cert.FinalIdeal.τ).loc Cert.FinalIdeal.main_arg6)) (m ((c : Thread Cert.FinalIdeal.nD Cert.FinalIdeal.τ).loc Cert.FinalIdeal.main_arg7)), FinalKernel.run m g, ?_⟩
  refine (θ_run _ _ _).mono (fun r h c => ⟨(h c).1.trans ?_, (h c).2⟩) (Cert.FinalRefIdeal.Value.run (F := Ideal) m' g')
  obtain ⟨h0, h1, h2, h3, h4, h5, h6, h7⟩ := hargs c
  funext i
  obtain ⟨b, s, d, rfl⟩ : ∃ b s d, i = ix3 b s d := ⟨i 0, i 1, i 2, by funext a; match a with | ⟨0, _⟩ => rfl | ⟨1, _⟩ => rfl | ⟨2, _⟩ => rfl⟩
  refine (FinalRef.res_at m' c b s d).trans ?_
  simp only [h0, h1, h2, h3, h4, h5, h6, h7]
  rfl

end Cert.Own
end
-- ==== Proof.InprojSpec.lean ====
/- THE SECOND LAYER'S PROJECTION, ITS FIVE RESULTS AS EXTENDED-REAL EXPRESSIONS of one token's projected row: the scaled queries
   without and with the rotary turn, the keys and values to be compressed, the keys and values of the two other branches, and
   the gates. Both programs are shown to compute these. -/
module

public import proofs.«01_k».proof.Proof.LruSpec

@[expose] public section

noncomputable section

namespace Cert.Own.InprojSpec

open Idealize.ShloMosaic Cert.Own Cert.Own.LruSpec

/-- The word of the queries' scale. -/
abbrev cq : EReal := Ideal.ofBits FTy.f32 0x3E38AA3B#32

/-- The rotary turn of a feature `a` in column `j` at position `s`, the features eight columns to its right and left being
    `u` and `d`. -/
def turned (s j : ℕ) (a u d : EReal) : EReal :=
  if j % 64 < 8 then a * Ideal.cos (ang s (j % 64)) - u * Ideal.sin (ang s (j % 64))
  else if j % 64 - 8 < 8 then a * Ideal.cos (ang s (j % 64 - 8)) + d * Ideal.sin (ang s (j % 64 - 8))
  else a

/-- Only the partner the column has counts. -/
theorem turned_congr (s : ℕ) {j j' : ℕ} {a u d a' u' d' : EReal} (hj : j % 64 = j' % 64) (ha : a = a')
    (hu : j % 64 < 8 → u = u') (hd : ¬ j % 64 < 8 → j % 64 - 8 < 8 → d = d') : turned s j a u d = turned s j' a' u' d' := by
  subst ha
  unfold turned
  rw [← hj]
  split_ifs with h1 h2
  · rw [hu h1]
  · rw [hd h1 h2]
  · rfl

/-- Turning by the three tables. -/
theorem turned_tab (s j : ℕ) (a u d : EReal) : a * tabC s j + u * tabU s j + d * tabD s j = turned s j a u d := by
  unfold turned tabC tabU tabD
  split_ifs
  · simp only [mul_zero, add_zero, mul_neg, sub_eq_add_neg]
  · simp only [mul_zero, add_zero]
  · simp only [mul_zero, add_zero, mul_one]

/-- The column of the projection that column `l` of the queries holds: head `8 g + r` lies at place `2 r + g`. -/
def qcol (l : ℕ) : ℕ := 64 * (8 * (l / 64 % 2) + l / 128) + l % 64

/-- A token's projected row: its modulated row `h` under the weights' 1840 columns, and nothing beyond. -/
def proj (h : Fin 1024 → EReal) (w : Fin 1024 → Fin 1840 → EReal) (n : ℕ) : EReal :=
  if hn : n < 1840 then ∑ k, h k * w k ⟨n, hn⟩ else 0

section
variable (U : ℕ → EReal)

/-- The five results at one token, at position `s`. -/
def qn (l : ℕ) : EReal := U (qcol l) * cq
def qr (s l : ℕ) : EReal := turned s l (U (qcol l) * cq) (U (qcol l + 8) * cq) (U (qcol l - 8) * cq)
def kvc (h n : ℕ) : EReal := U (1024 + 128 * h + n)
def kv4 (s l : ℕ) : EReal :=
  if l / 128 % 2 = 0 then turned s l (U (1280 + l)) (U (1280 + l + 8)) (U (1280 + l - 8)) else U (1280 + l)
def gate (n : ℕ) : EReal := Ideal.logistic (U (1792 + n))

end

end Cert.Own.InprojSpec
end
-- ==== Proof.InprojTile.lean ====
/- WHAT THE PROJECTION'S BODY STORES FOR ONE BLOCK OF 1024 TOKENS, index by index. -/
module

public import proofs.«01_k».proof.Proof.Gen.Inproj1Ideal.Value
public import proofs.«01_k».proof.Proof.InprojSpec

@[expose] public section

set_option maxRecDepth 16384

noncomputable section

namespace Cert.Own.InprojTile

open Cert.Inproj1Ideal Cert.Inproj1Ideal.Gen Idealize.ShloMosaic Idealize.ShloMosaic.TcCoe Cert.Own.InprojSpec

/-- The block's projected rows. -/
theorem proj_at (v0 : Vec Ideal S1x9x1024 .f32) (v2 : Vec Ideal S1x1024x1024 .f32) (v4 : Vec Ideal S1x1024 .f32)
    (v27 : Vec Ideal S1024x1920 .bf16) (r : Fin 1024) (j : Fin 1920) :
    k0_pay3 v0 v2 v4 v27 (ix2 r j)
      = ∑ k, rowMod (fun k => v2 (ix3 0 r k)) (fun k => v4 (ix2 0 k)) (fun k => v0 (ix3 0 3 k)) (fun k => v0 (ix3 0 4 k)) k * v27 (ix2 k j) := by
  unfold k0_pay3
  pointwise
  rfl

section
variable (P : FVec Ideal S1024x1920 .f32) (x4 x5 x6 : Vec Ideal S1024x128 .f32)

/-- Row `r` of the block by the column's number. -/
def rowN (r : Fin 1024) (n : ℕ) : EReal := if h : n < 1920 then P (ix2 r ⟨n, h⟩) else 0

theorem rowN_eq (r : Fin 1024) (j : Fin 1920) : P (ix2 r j) = rowN P r j.val := by
  unfold rowN
  rw [dif_pos j.isLt]

/-- The tables' row `r` likewise. -/
def tabN (x : Vec Ideal S1024x128 .f32) (r : Fin 1024) (n : ℕ) : EReal := x (ix2 r ⟨n % 128, Nat.mod_lt _ (by decide)⟩)

theorem tabN_eq (x : Vec Ideal S1024x128 .f32) (r : Fin 1024) (j : Fin 128) : x (ix2 r j) = tabN x r j.val :=
  congrArg (fun k => x (ix2 r k)) (Fin.ext (Nat.mod_eq_of_lt j.isLt).symm)

theorem tabN_congr (x : Vec Ideal S1024x128 .f32) (r : Fin 1024) {a b : ℕ} (h : a % 128 = b % 128) : tabN x r a = tabN x r b :=
  congrArg (fun k => x (ix2 r k)) (Fin.ext h)

/-- A column times one table, plus the column eight to its right and eight to its left among its 128 times the others. -/
def spun (f : ℕ → EReal) (r : Fin 1024) (n : ℕ) : EReal :=
  f n * tabN x4 r n + f (128 * (n / 128) + (n % 128 + 8) % 128) * tabN x5 r n + f (128 * (n / 128) + (n % 128 + 120) % 128) * tabN x6 r n

theorem qn_at (r l : Fin 1024) : k0_pay9 (extractStridedSlice S1024x1024 ![0, 0] P slices_S1024x1920_o0_0_S1024x1024) (ix3 (0 : Fin 1) r l)
    = rowN P r l.val * cq := by
  unfold k0_pay9 k0_pay8
  pointwise
  rw [rowN_eq P]

theorem q_at (r l : Fin 1024) : k0_pay8 (extractStridedSlice S1024x1024 ![0, 0] P slices_S1024x1920_o0_0_S1024x1024) (ix2 r l)
    = rowN P r l.val * cq := by
  unfold k0_pay8
  pointwise
  rw [rowN_eq P]

theorem spun_congr (f : ℕ → EReal) (r : Fin 1024) (n : ℕ) {a b c d e g : ℕ} (ha : a = n) (hb : b = 128 * (n / 128) + (n % 128 + 8) % 128)
    (hc : c = 128 * (n / 128) + (n % 128 + 120) % 128) (hd : d % 128 = n % 128) (he : e % 128 = n % 128) (hg : g % 128 = n % 128) :
    f a * tabN x4 r d + f b * tabN x5 r e + f c * tabN x6 r g = spun x4 x5 x6 f r n := by
  subst ha hb hc
  unfold spun
  rw [tabN_congr x4 r hd, tabN_congr x5 r he, tabN_congr x6 r hg]

theorem qr_at (r l : Fin 1024) (Q : FVec Ideal S1024x1024 .f32) (hQ : ∀ l : Fin 1024, k0_pay8 Q (ix2 r l) = rowN P r l.val * cq) :
    k0_pay17 (k0_pay4 x4) (k0_pay5 x5) (k0_pay6 x6) (k0_pay8 Q) (k0_pay10 (k0_pay4 x4) (k0_pay5 x5) (k0_pay6 x6) Q)
      (k0_pay11 (k0_pay4 x4) (k0_pay5 x5) (k0_pay6 x6) Q) (k0_pay12 (k0_pay4 x4) (k0_pay5 x5) (k0_pay6 x6) Q)
      (k0_pay13 (k0_pay4 x4) (k0_pay5 x5) (k0_pay6 x6) Q) (k0_pay15 (k0_pay4 x4) (k0_pay5 x5) Q) (k0_pay16 (k0_pay6 x6) Q)
      (ix3 (0 : Fin 1) r l)
    = spun x4 x5 x6 (fun n => rowN P r n * cq) r l.val := by
  unfold k0_pay17 k0_pay10 k0_pay11 k0_pay12 k0_pay13 k0_pay15 k0_pay16 k0_pay14 k0_pay4 k0_pay5 k0_pay6
  generalize k0_pay8 Q = T at *
  pointwise
  simp only [hQ, tabN_eq x4, tabN_eq x5, tabN_eq x6]
  split_ifs
  all_goals
    refine spun_congr x4 x5 x6 (fun n => rowN P r n * cq) r l.val ?_ ?_ ?_ ?_ ?_ ?_ <;> omega

theorem kv4_at (r : Fin 1024) (l : Fin 512) :
    k0_pay1 P (k0_pay4 x4) (k0_pay5 x5) (k0_pay6 x6) (k0_pay20 P) 120#32 (ix3 (0 : Fin 1) r l)
    = if l.val / 128 % 2 = 0 then spun x4 x5 x6 (fun n => rowN P r (1280 + n)) r l.val else rowN P r (1280 + l.val) := by
  unfold k0_pay1 k0_pay20 k0_pay4 k0_pay5 k0_pay6
  pointwise
  simp only [rowN_eq P, tabN_eq x4, tabN_eq x5, tabN_eq x6]
  have e : ∀ {a b c d : ℕ}, a = 1280 + l.val → b = 1280 + (128 * (l.val / 128) + (l.val % 128 + 8) % 128) →
      c = 1280 + (128 * (l.val / 128) + (l.val % 128 + 120) % 128) → d % 128 = l.val % 128 →
      rowN P r a * tabN x4 r d + rowN P r b * tabN x5 r d + rowN P r c * tabN x6 r d
        = spun x4 x5 x6 (fun n => rowN P r (1280 + n)) r l.val := by
    intro a b c d ha hb hc hd
    subst ha hb hc
    unfold spun
    rw [tabN_congr x4 r hd, tabN_congr x5 r hd, tabN_congr x6 r hd]
  have hl := l.isLt
  by_cases h1 : l.val < 128
  · rw [dif_pos h1, if_pos (by omega)]
    exact e (by omega) (by omega) (by omega) (by omega)
  rw [dif_neg h1]
  by_cases h2 : l.val - 128 < 128
  · rw [dif_pos h2, if_neg (by omega)]
    exact congrArg (rowN P r) (by omega)
  rw [dif_neg h2]
  by_cases h3 : l.val - 128 - 128 < 128
  · rw [dif_pos h3, if_pos (by omega)]
    exact e (by omega) (by omega) (by omega) (by omega)
  · rw [dif_neg h3, if_neg (by omega)]
    exact congrArg (rowN P r) (by omega)

theorem gate_at (r : Fin 1024) (n : Fin 128) : k0_pay2 P (ix3 (0 : Fin 1) r n) = Ideal.logistic (rowN P r (1792 + n.val)) := by
  unfold k0_pay2
  pointwise
  rw [rowN_eq P]

end

end Cert.Own.InprojTile
end
-- ==== Proof.GatherCol.lean ====
/- GATHERING COLUMNS OF A TABLE: `table[:, idx]` read index by index. -/
module

public import Idealize.ShloMosaic.Lib.Routing.Ops
public import Idealize.ShloMosaic.Lib.Pointwise.Tactic

@[expose] public section

noncomputable section

namespace Cert.Own.GatherCol

open Idealize.ShloMosaic Idealize.ShloMosaic.Routing

theorem zero_not_mem (l : List (Fin 2)) (hl : l = [1]) : (0 : Fin 2) ∉ l := fun h => by
  subst hl
  exact absurd (List.mem_singleton.1 h) (by decide)

/-- Where `idx` holds at `(c, 0)` a column number `b`, entry `(y, c)` of the gathered table is the table's entry `(y, b)`. -/
theorem gather_col {α : Type} {B nb n : Nat} (d : GatherDims (shape2 B nb) (shape2 n 1) (shape2 B n)) (hoff : d.offsetDims = [0])
    (hcoll : d.collapsedSliceDims = [1]) (hob : d.operandBatchingDims = [])
    (hsim : d.startIndexMap = [1]) (hivd : d.indexVectorDim = 1) (x : (shape2 B nb).Idx → α) (idx : IVec (shape2 n 1) 32)
    (y : Fin B) (c : Fin n) (b : Fin nb) (hb : idx (ix2 c (0 : Fin 1)) = BitVec.ofNat 32 b.val) (hnb : nb < 2 ^ 31) :
    Host.gather d x idx (ix2 y c) = x (ix2 y b) := by
  unfold Host.gather
  refine congrArg x (funext fun a => Fin.ext ?_)
  have hbN : ∀ a', a' ∉ d.operandBatchingDims := fun a' => by rw [hob]; exact List.not_mem_nil
  have hk0 : ∀ k ∈ d.batchDims, k = (1 : Fin 2) := fun k hk => by
    have hk' : k ∉ d.offsetDims := of_decide_eq_true (List.mem_filter.1 hk).2
    rw [hoff] at hk'
    have h1 : k.val ≠ 0 := fun e => hk' (List.mem_singleton.2 (Fin.ext e))
    have h2 : k.val < 2 := k.isLt
    exact Fin.ext (by show k.val = 1; omega)
  have hk1 : ∀ k ∈ d.offsetDims, k = (0 : Fin 2) := fun k hk => by rw [hoff] at hk; exact List.mem_singleton.1 hk
  have e0 : ∀ X : Fin 2, X = 0 → (ix2 y c X).val = y.val := fun X h => by subst h; rfl
  have e1 : ∀ X : Fin 2, X = 1 → (ix2 y c X).val = c.val := fun X h => by subst h; rfl
  match a with
  | ⟨1, _⟩ =>
    have hk : (1 : Fin 2) ∉ d.sKept := fun h => ((d.mem_sKept 1).1 h).1 (by rw [hcoll]; exact List.mem_singleton.2 rfl)
    have hm : (1 : Fin 2) ∈ d.startIndexMap := by rw [hsim]; exact List.mem_singleton.2 rfl
    have hsl : d.sliceSizes 1 = 1 := d.slice_collapsed 1 (by rw [hcoll]; exact List.mem_singleton.2 rfl)
    show d.start (ix2 y c) idx 1 + d.batchCoord (ix2 y c) 1 + d.offCoord (ix2 y c) 1 = b.val
    rw [d.batchCoord_eq_zero _ _ (hbN 1), d.offCoord_eq_zero _ _ hk]
    simp only [Nat.add_zero]
    unfold GatherDims.start
    rw [dif_pos hm]
    have hsi : d.siIdx (ix2 y c) ⟨d.startIndexMap.idxOf 1, List.idxOf_lt_length_iff.2 hm⟩ = ix2 c (0 : Fin 1) := by
      funext b'
      apply Fin.ext
      match b' with
      | ⟨0, _⟩ =>
        unfold GatherDims.siIdx
        rw [dif_neg (by rw [hivd]; exact Nat.zero_ne_one)]
        unfold GatherDims.siCoord
        simp only [Fin.val_cast]
        exact e1 _ (hk0 _ (List.getElem_mem _))
      | ⟨1, _⟩ =>
        unfold GatherDims.siIdx
        rw [dif_pos (by rw [hivd])]
        show List.idxOf (1 : Fin 2) d.startIndexMap = 0
        rw [hsim]; simp
    have hbl := b.isLt
    rw [hsi, hb, hsl, StableHlo.Predicate.toInt_ofNat_small _ (by omega)]
    show min ((b.val : Int)).toNat (nb - 1) = b.val
    omega
  | ⟨0, _⟩ =>
    have hk : (0 : Fin 2) ∈ d.sKept := (d.mem_sKept 0).2 ⟨zero_not_mem _ hcoll, hbN 0⟩
    have hm : (0 : Fin 2) ∉ d.startIndexMap := zero_not_mem _ hsim
    show d.start (ix2 y c) idx 0 + d.batchCoord (ix2 y c) 0 + d.offCoord (ix2 y c) 0 = y.val
    rw [d.batchCoord_eq_zero _ _ (hbN 0), Nat.add_zero]
    unfold GatherDims.start GatherDims.offCoord
    rw [dif_neg hm, dif_pos hk, Nat.zero_add]
    exact e0 _ (hk1 _ (List.getElem_mem _))

end Cert.Own.GatherCol
end
-- ==== Proof.InprojHost.lean ====
/- WHAT THE PROJECTION'S CALL FINDS IN ITS OPERANDS: the weights with the queries' columns reordered and 80 columns of padding, and
   the rotary tables. -/
module

public import proofs.«01_k».proof.Proof.Gen.Inproj1Ideal.Value
public import proofs.«01_k».proof.Proof.InprojSpec
public import proofs.«01_k».proof.Proof.GatherCol
public import proofs.«01_k».proof.Proof.LruHost
public import proofs.«01_k».proof.Proof.FinalKernel

@[expose] public section

set_option maxRecDepth 16384

noncomputable section

namespace Cert.Own.InprojHost

open Cert.Inproj1Ideal Cert.Inproj1Ideal.Gen Idealize.ShloMosaic Idealize.ShloMosaic.TcCoe Idealize.SL.Sem Cert.Own.InprojSpec
open Cert.Own.LruSpec (tabC tabU tabD)

variable (m : (ℓ : Loc nD τ sig) → Buf (Elt Ideal) ℓ)

/-- Column `j` of the prepared weights. -/
def wcol (w : Vec Ideal S1024x1840 .f32) (k : Fin 1024) (j : ℕ) : EReal :=
  if h : j < 1840 then w (ix2 k (if hj : j < 1024 then ⟨qcol j, by unfold qcol; omega⟩ else ⟨j, h⟩)) else 0

theorem T54 (c : Dev nD) : V m c main_v54 = LruIdealRun.twice (Host.cos LruIdealRun.angs) (Host.cos LruIdealRun.angs) LruIdealRun.ones := rfl
theorem T57 (c : Dev nD) : V m c main_v57 = LruIdealRun.twice (Host.negf (Host.sin LruIdealRun.angs)) LruIdealRun.zeros8 LruIdealRun.zeros48 := rfl
theorem T60 (c : Dev nD) : V m c main_v60 = LruIdealRun.twice LruIdealRun.zeros8 (Host.sin LruIdealRun.angs) LruIdealRun.zeros48 := rfl
theorem V61 (c : Dev nD) (k : Fin 1024) : V m c main_v61 (ix2 0 k) = m ((c : Thread nD τ).loc main_arg2) (ix1 k) := by
  show shapeCast S1x1024 (m ((c : Thread nD τ).loc main_arg2)) shapeCasts_S1024_S1x1024 (ix2 0 k) = _
  pointwise

theorem V54 (c : Dev nD) (s : Fin 8192) (n : Fin 128) : V m c main_v54 (ix2 s n) = tabC s.val n.val :=
  (congrFun (T54 m c) _).trans (LruIdealRun.tabC_at s n)
theorem V57 (c : Dev nD) (s : Fin 8192) (n : Fin 128) : V m c main_v57 (ix2 s n) = tabU s.val n.val :=
  (congrFun (T57 m c) _).trans (LruIdealRun.tabU_at s n)
theorem V60 (c : Dev nD) (s : Fin 8192) (n : Fin 128) : V m c main_v60 (ix2 s n) = tabD s.val n.val :=
  (congrFun (T60 m c) _).trans (LruIdealRun.tabD_at s n)

/-- The weights with the queries' columns reordered. -/
def w26 (c : Dev nD) : FVec Ideal S1024x1840 .f32 := StableHlo.after hostOps0 (fun b => m (c, b)) main_v26

theorem T28 (c : Dev nD) : V m c main_v28 = truncf (F := Ideal) .bf16 (pad S1024x1920 ![0, 0] ![0, 80] ![0, 0] (w26 m c)
    (sitofp (F := Ideal) .f32 (constantI S_ 32 0#32)) pads_S1024x1840_S1024x1920_000_0800 h_S_ : FVec Ideal S1024x1920 .f32) bitsLt_bf16_f32 := rfl

theorem wcol_q (w : Vec Ideal S1024x1840 .f32) (k j : Fin 1024) : wcol w k j.val = w (ix2 k ⟨(FinalKernel.toRow j).val, by omega⟩) := by
  have h : j.val < 1840 := by omega
  unfold wcol
  simp only [dif_pos h, dif_pos j.isLt]
  rfl

theorem wcol_r (w : Vec Ideal S1024x1840 .f32) (k : Fin 1024) (j : Fin 1840) (h : ¬ j.val < 1024) : wcol w k j.val = w (ix2 k j) := by
  unfold wcol
  simp only [dif_pos j.isLt, dif_neg h]

theorem w26_at (c : Dev nD) (k : Fin 1024) (j : Fin 1840) : w26 m c (ix2 k j) = wcol (m ((c : Thread nD τ).loc main_arg3)) k j.val := by
  unfold w26
  show StableHlo.after hostOps0 (fun b => m (c, b)) main_v26 _ = _
  after_results_simp
  pointwise
  by_cases h : j.val < 1024
  · refine (dif_pos h).trans ?_
    refine Eq.trans ?_ (wcol_q _ k ⟨j.val, h⟩).symm
    refine (GatherCol.gather_col _ rfl rfl rfl rfl rfl _ _ k ⟨j.val, h⟩ (FinalKernel.toRow ⟨j.val, h⟩) ?_ (by decide)).trans ?_
    · have h' : ∀ l : Fin 1024, (BitVec.ofNat 32 (FinalKernel.toRow l).val).slt 0#32 = false := by decide +kernel
      show (if (BitVec.ofBool (BitVec.slt (IntOp.addi (IntOp.muli (64#32) (IntOp.addi (IntOp.muli (8#32) (BitVec.ofNat 32 (j.val / 64 % 2)))
        (BitVec.ofNat 32 (j.val / 128)))) (BitVec.ofNat 32 (j.val % 64))) 0#32)) = 1#1 then _ else IntOp.addi (IntOp.muli (64#32) (IntOp.addi (IntOp.muli (8#32) (BitVec.ofNat 32 (j.val / 64 % 2)))
        (BitVec.ofNat 32 (j.val / 128)))) (BitVec.ofNat 32 (j.val % 64))) = _
      rw [FinalKernel.perm_at ⟨j.val, h⟩, h']
      rfl
    · pointwise
  · refine (dif_neg h).trans ?_
    refine Eq.trans ?_ (wcol_r _ k j h).symm
    exact congrArg (fun n => m (c, Proc.tc.devRef main_arg3) (ix2 k n)) (Fin.ext (by show 1024 + (j.val - 1024) = j.val; omega))

theorem V28 (c : Dev nD) (k : Fin 1024) (j : Fin 1920) : V m c main_v28 (ix2 k j) = wcol (m ((c : Thread nD τ).loc main_arg3)) k j.val := by
  rw [T28]
  have e := w26_at m c k
  generalize w26 m c = W at *
  pointwise
  by_cases h : j.val < 1840
  · rw [dif_pos h]
    exact e ⟨j.val, h⟩
  · rw [dif_neg h]
    unfold wcol
    rw [dif_neg h]
    show (((0#32 : BitVec 32).toInt : ℝ) : EReal) = 0
    norm_num

end Cert.Own.InprojHost
end
-- ==== Proof.InprojKernel.lean ====
/- THE SECOND LAYER'S PROJECTION, THE CALL'S FIVE RESULTS index by index: grid point `(i, j)` holds 1024 tokens of sequence `i`; its
   body stores the five results of each; the 32 blocks tile the arrays. -/
module

public import proofs.«01_k».proof.Proof.InprojTile
public import proofs.«01_k».proof.Proof.InprojHost

@[expose] public section

set_option maxRecDepth 16384

noncomputable section

namespace Cert.Own.InprojKernel

open Cert.Own Cert.Inproj1Ideal Cert.Inproj1Ideal.Gen Idealize.ShloMosaic Idealize.ShloMosaic.TcCoe Idealize.SL.Sem
open Cert.Own.InprojSpec Cert.Own.InprojHost Cert.Own.InprojTile
open Cert.Own.LruSpec (tabC tabU tabD)

variable (m : (ℓ : Loc nD τ sig) → Buf (Elt Ideal) ℓ) (ρ : Dev nD → PrngReg)

section
variable (x : Vec Ideal S4x8192x1024 .f32) (mod : Vec Ideal S4x9x1024 .f32) (g : Vec Ideal S1024 .f32) (w : Vec Ideal S1024x1840 .f32)

/-- A token's modulated row. -/
def hrow (b : Fin 4) (s : Fin 8192) : Fin 1024 → EReal :=
  rowMod (fun k => x (ix3 b s k)) (fun k => g (ix1 k)) (fun k => mod (ix3 b 3 k)) (fun k => mod (ix3 b 4 k))

/-- A token's projected row. -/
def U (b : Fin 4) (s : Fin 8192) : ℕ → EReal := proj (hrow x mod g b s) (fun k j => w (ix2 k j))

/-- The five results as functions of the arguments. -/
def Gqn : Vec Ideal S4x8192x1024 .bf16 := fun i => qn (U x mod g w (i 0) (i 1)) (i 2).val
def Gqr : Vec Ideal S4x8192x1024 .bf16 := fun i => qr (U x mod g w (i 0) (i 1)) (i 1).val (i 2).val
def Gkvc : Vec Ideal S4x2x8192x128 .f32 := fun i => kvc (U x mod g w (i 0) (i 2)) (i 1).val (i 3).val
def Gkv4 : Vec Ideal S4x8192x512 .bf16 := fun i => kv4 (U x mod g w (i 0) (i 1)) (i 1).val (i 2).val
def Ggate : Vec Ideal S4x8192x128 .f32 := fun i => gate (U x mod g w (i 0) (i 1)) (i 2).val

/-- The modulated row against the prepared weights' columns. -/
theorem sum_wcol (h : Fin 1024 → EReal) (n : ℕ) (hn : n < 1920) : ∑ k, h k * wcol w k n
    = proj h (fun k j => w (ix2 k j)) (if n < 1024 then qcol n else n) := by
  unfold proj
  by_cases h1 : n < 1024
  · have hq : qcol n < 1840 := by unfold qcol; omega
    rw [if_pos h1, dif_pos hq]
    refine Finset.sum_congr rfl fun k _ => congrArg (h k * ·) ?_
    exact wcol_q w k ⟨n, h1⟩
  · rw [if_neg h1]
    by_cases h2 : n < 1840
    · rw [dif_pos h2]
      exact Finset.sum_congr rfl fun k _ => congrArg (h k * ·) (wcol_r w k ⟨n, h2⟩ h1)
    · rw [dif_neg h2]
      refine Finset.sum_eq_zero fun k _ => ?_
      unfold wcol
      rw [dif_neg h2, mul_zero]

end

/-! ## Where each window's block lies -/

theorem idx0 : ∀ t : Fin cfg0.N, win0_0.index t = ![t.val / 8, t.val % 8, 0] := (by decide +kernel : ∀ t : Fin grid0.N, _)
theorem idx1 : ∀ t : Fin cfg0.N, win0_1.index t = ![t.val / 8, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val % 8, 0] := (by decide +kernel : ∀ t : Fin grid0.N, _)
theorem idx5 : ∀ t : Fin cfg0.N, win0_5.index t = ![t.val % 8, 0] := (by decide +kernel : ∀ t : Fin grid0.N, _)
theorem idx6 : ∀ t : Fin cfg0.N, win0_6.index t = ![t.val % 8, 0] := (by decide +kernel : ∀ t : Fin grid0.N, _)
theorem idx7 : ∀ t : Fin cfg0.N, win0_7.index t = ![t.val / 8, t.val % 8, 0] := (by decide +kernel : ∀ t : Fin grid0.N, _)
theorem idx8 : ∀ t : Fin cfg0.N, win0_8.index t = ![t.val / 8, t.val % 8, 0] := (by decide +kernel : ∀ t : Fin grid0.N, _)
theorem idx9 : ∀ t : Fin cfg0.N, win0_9.index t = ![t.val / 8, 0, t.val % 8, 0] := (by decide +kernel : ∀ t : Fin grid0.N, _)
theorem idx10 : ∀ t : Fin cfg0.N, win0_10.index t = ![t.val / 8, t.val % 8, 0] := (by decide +kernel : ∀ t : Fin grid0.N, _)
theorem idx11 : ∀ t : Fin cfg0.N, win0_11.index t = ![t.val / 8, t.val % 8, 0] := (by decide +kernel : ∀ t : Fin grid0.N, _)

theorem hN (t : Fin cfg0.N) : t.val < 32 := t.isLt

/-- Sequence of grid point `t`, and row `r` of its block as a row of the sequence. -/
def seq (t : Fin cfg0.N) : Fin 4 := ⟨t.val / 8, by have := hN t; omega⟩
def row (t : Fin cfg0.N) (r : Fin 1024) : Fin 8192 := ⟨t.val % 8 * 1024 + r.val, by omega⟩

theorem emb0 (t : Fin cfg0.N) (j : S1x1024x1024.Idx) :
    ((cfg0.win 0).blk t).view.emb j = ix3 (seq t) (row t (j 1)) (j 2) := by
  have e := idx0 t
  have h0 : (j 0).val < 1 := (j 0).isLt
  funext a; apply Fin.ext
  match a with
  | ⟨0, _⟩ => show win0_0.index t 0 * 1 + 1 * (j 0).val = t.val / 8; rw [e]; show t.val / 8 * 1 + 1 * (j 0).val = _; omega
  | ⟨1, _⟩ => show win0_0.index t 1 * 1024 + 1 * (j 1).val = _; rw [e]; show t.val % 8 * 1024 + 1 * (j 1).val = t.val % 8 * 1024 + (j 1).val; omega
  | ⟨2, _⟩ => show win0_0.index t 2 * 1024 + 1 * (j 2).val = _; rw [e]; show 0 * 1024 + 1 * (j 2).val = (j 2).val; omega

theorem emb1 (t : Fin cfg0.N) (a : Fin 9) (k : Fin 1024) :
    ((cfg0.win 1).blk t).view.emb (ix3 (0 : Fin 1) a k : S1x9x1024.Idx) = ix3 (seq t) a k := by
  have e := idx1 t
  funext b; apply Fin.ext
  match b with
  | ⟨0, _⟩ => show win0_1.index t 0 * 1 + 1 * 0 = t.val / 8; rw [e]; show t.val / 8 * 1 + 1 * 0 = _; omega
  | ⟨1, _⟩ => show win0_1.index t 1 * 9 + 1 * a.val = a.val; rw [e]; show 0 * 9 + 1 * a.val = a.val; omega
  | ⟨2, _⟩ => show win0_1.index t 2 * 1024 + 1 * k.val = k.val; rw [e]; show 0 * 1024 + 1 * k.val = k.val; omega

theorem emb2 (t : Fin cfg0.N) (j : S1x1024.Idx) : ((cfg0.win 2).blk t).view.emb j = j := by
  have e := idx2 t
  funext b; apply Fin.ext
  match b with
  | ⟨0, _⟩ => show win0_2.index t 0 * 1 + 1 * (j 0).val = (j 0).val; rw [e]; show 0 * 1 + 1 * (j 0).val = _; omega
  | ⟨1, _⟩ => show win0_2.index t 1 * 1024 + 1 * (j 1).val = (j 1).val; rw [e]; show 0 * 1024 + 1 * (j 1).val = _; omega

theorem emb3 (t : Fin cfg0.N) (j : S1024x1920.Idx) : ((cfg0.win 3).blk t).view.emb j = j := by
  have e := idx3 t
  funext b; apply Fin.ext
  match b with
  | ⟨0, _⟩ => show win0_3.index t 0 * 1024 + 1 * (j 0).val = (j 0).val; rw [e]; show 0 * 1024 + 1 * (j 0).val = _; omega
  | ⟨1, _⟩ => show win0_3.index t 1 * 1920 + 1 * (j 1).val = (j 1).val; rw [e]; show 0 * 1920 + 1 * (j 1).val = _; omega

theorem emb4 (t : Fin cfg0.N) (r : Fin 1024) (k : Fin 128) :
    ((cfg0.win 4).blk t).view.emb (ix2 r k : S1024x128.Idx) = ix2 (row t r) k := by
  have e := idx4 t
  funext b; apply Fin.ext
  match b with
  | ⟨0, _⟩ => show win0_4.index t 0 * 1024 + 1 * r.val = _; rw [e]; show t.val % 8 * 1024 + 1 * r.val = t.val % 8 * 1024 + r.val; omega
  | ⟨1, _⟩ => show win0_4.index t 1 * 128 + 1 * k.val = k.val; rw [e]; show 0 * 128 + 1 * k.val = k.val; omega

theorem emb5 (t : Fin cfg0.N) (r : Fin 1024) (k : Fin 128) :
    ((cfg0.win 5).blk t).view.emb (ix2 r k : S1024x128.Idx) = ix2 (row t r) k := by
  have e := idx5 t
  funext b; apply Fin.ext
  match b with
  | ⟨0, _⟩ => show win0_5.index t 0 * 1024 + 1 * r.val = _; rw [e]; show t.val % 8 * 1024 + 1 * r.val = t.val % 8 * 1024 + r.val; omega
  | ⟨1, _⟩ => show win0_5.index t 1 * 128 + 1 * k.val = k.val; rw [e]; show 0 * 128 + 1 * k.val = k.val; omega

theorem emb6 (t : Fin cfg0.N) (r : Fin 1024) (k : Fin 128) :
    ((cfg0.win 6).blk t).view.emb (ix2 r k : S1024x128.Idx) = ix2 (row t r) k := by
  have e := idx6 t
  funext b; apply Fin.ext
  match b with
  | ⟨0, _⟩ => show win0_6.index t 0 * 1024 + 1 * r.val = _; rw [e]; show t.val % 8 * 1024 + 1 * r.val = t.val % 8 * 1024 + r.val; omega
  | ⟨1, _⟩ => show win0_6.index t 1 * 128 + 1 * k.val = k.val; rw [e]; show 0 * 128 + 1 * k.val = k.val; omega
theorem emb7 (t : Fin cfg0.N) (j : S1x1024x1024.Idx) :
    ((cfg0.win 7).blk t).view.emb j = ix3 (seq t) (row t (j 1)) (j 2) := by
  have e := idx7 t
  have h0 : (j 0).val < 1 := (j 0).isLt
  funext a; apply Fin.ext
  match a with
  | ⟨0, _⟩ => show win0_7.index t 0 * 1 + 1 * (j 0).val = t.val / 8; rw [e]; show t.val / 8 * 1 + 1 * (j 0).val = _; omega
  | ⟨1, _⟩ => show win0_7.index t 1 * 1024 + 1 * (j 1).val = _; rw [e]; show t.val % 8 * 1024 + 1 * (j 1).val = t.val % 8 * 1024 + (j 1).val; omega
  | ⟨2, _⟩ => show win0_7.index t 2 * 1024 + 1 * (j 2).val = _; rw [e]; show 0 * 1024 + 1 * (j 2).val = (j 2).val; omega

theorem emb8 (t : Fin cfg0.N) (j : S1x1024x1024.Idx) :
    ((cfg0.win 8).blk t).view.emb j = ix3 (seq t) (row t (j 1)) (j 2) := by
  have e := idx8 t
  have h0 : (j 0).val < 1 := (j 0).isLt
  funext a; apply Fin.ext
  match a with
  | ⟨0, _⟩ => show win0_8.index t 0 * 1 + 1 * (j 0).val = t.val / 8; rw [e]; show t.val / 8 * 1 + 1 * (j 0).val = _; omega
  | ⟨1, _⟩ => show win0_8.index t 1 * 1024 + 1 * (j 1).val = _; rw [e]; show t.val % 8 * 1024 + 1 * (j 1).val = t.val % 8 * 1024 + (j 1).val; omega
  | ⟨2, _⟩ => show win0_8.index t 2 * 1024 + 1 * (j 2).val = _; rw [e]; show 0 * 1024 + 1 * (j 2).val = (j 2).val; omega

theorem emb10 (t : Fin cfg0.N) (j : S1x1024x512.Idx) :
    ((cfg0.win 10).blk t).view.emb j = ix3 (seq t) (row t (j 1)) (j 2) := by
  have e := idx10 t
  have h0 : (j 0).val < 1 := (j 0).isLt
  funext a; apply Fin.ext
  match a with
  | ⟨0, _⟩ => show win0_10.index t 0 * 1 + 1 * (j 0).val = t.val / 8; rw [e]; show t.val / 8 * 1 + 1 * (j 0).val = _; omega
  | ⟨1, _⟩ => show win0_10.index t 1 * 1024 + 1 * (j 1).val = _; rw [e]; show t.val % 8 * 1024 + 1 * (j 1).val = t.val % 8 * 1024 + (j 1).val; omega
  | ⟨2, _⟩ => show win0_10.index t 2 * 512 + 1 * (j 2).val = _; rw [e]; show 0 * 512 + 1 * (j 2).val = (j 2).val; omega

theorem emb11 (t : Fin cfg0.N) (j : S1x1024x128.Idx) :
    ((cfg0.win 11).blk t).view.emb j = ix3 (seq t) (row t (j 1)) (j 2) := by
  have e := idx11 t
  have h0 : (j 0).val < 1 := (j 0).isLt
  funext a; apply Fin.ext
  match a with
  | ⟨0, _⟩ => show win0_11.index t 0 * 1 + 1 * (j 0).val = t.val / 8; rw [e]; show t.val / 8 * 1 + 1 * (j 0).val = _; omega
  | ⟨1, _⟩ => show win0_11.index t 1 * 1024 + 1 * (j 1).val = _; rw [e]; show t.val % 8 * 1024 + 1 * (j 1).val = t.val % 8 * 1024 + (j 1).val; omega
  | ⟨2, _⟩ => show win0_11.index t 2 * 128 + 1 * (j 2).val = _; rw [e]; show 0 * 128 + 1 * (j 2).val = (j 2).val; omega

theorem emb9 (t : Fin cfg0.N) (j : S1x2x1024x128.Idx) :
    ((cfg0.win 9).blk t).view.emb j = ix4 (seq t) (j 1) (row t (j 2)) (j 3) := by
  have e := idx9 t
  have h0 : (j 0).val < 1 := (j 0).isLt
  funext a; apply Fin.ext
  match a with
  | ⟨0, _⟩ => show win0_9.index t 0 * 1 + 1 * (j 0).val = t.val / 8; rw [e]; show t.val / 8 * 1 + 1 * (j 0).val = _; omega
  | ⟨1, _⟩ => show win0_9.index t 1 * 2 + 1 * (j 1).val = _; rw [e]; show 0 * 2 + 1 * (j 1).val = (j 1).val; omega
  | ⟨2, _⟩ => show win0_9.index t 2 * 1024 + 1 * (j 2).val = _; rw [e]; show t.val % 8 * 1024 + 1 * (j 2).val = t.val % 8 * 1024 + (j 2).val; omega
  | ⟨3, _⟩ => show win0_9.index t 3 * 128 + 1 * (j 3).val = _; rw [e]; show 0 * 128 + 1 * (j 3).val = (j 3).val; omega

/-! ## The blocks at an index -/

theorem x_at (c : Dev nD) (t : Fin cfg0.N) (r k : Fin 1024) :
    iblk m c 0 t (ix3 (0 : Fin 1) r k : S1x1024x1024.Idx) = m ((c : Thread nD τ).loc main_arg0) (ix3 (seq t) (row t r) k) := by
  show V m c main_arg0 (((cfg0.win 0).blk t).view.emb _) = _; rw [emb0]; exact congrFun (V_main_arg0 m c) _

theorem mod_at (c : Dev nD) (t : Fin cfg0.N) (a : Fin 9) (k : Fin 1024) :
    iblk m c 1 t (ix3 (0 : Fin 1) a k : S1x9x1024.Idx) = m ((c : Thread nD τ).loc main_arg1) (ix3 (seq t) a k) := by
  show V m c main_arg1 (((cfg0.win 1).blk t).view.emb _) = _; rw [emb1, V_main_arg1]

theorem g_at (c : Dev nD) (t : Fin cfg0.N) (k : Fin 1024) :
    iblk m c 2 t (ix2 (0 : Fin 1) k : S1x1024.Idx) = m ((c : Thread nD τ).loc main_arg2) (ix1 k) := by
  show V m c main_v61 (((cfg0.win 2).blk t).view.emb _) = _; rw [emb2, V61]

theorem w_at (c : Dev nD) (t : Fin cfg0.N) (k : Fin 1024) (j : Fin 1920) :
    iblk m c 3 t (ix2 k j : S1024x1920.Idx) = wcol (m ((c : Thread nD τ).loc main_arg3)) k j.val := by
  show V m c main_v28 (((cfg0.win 3).blk t).view.emb _) = _; rw [emb3, V28]

theorem c_at (c : Dev nD) (t : Fin cfg0.N) (r : Fin 1024) (n : ℕ) : tabN (iblk m c 4 t) r n = tabC (row t r).val n := by
  show V m c main_v54 (((cfg0.win 4).blk t).view.emb _) = _
  rw [emb4, V54]
  unfold tabC
  rw [Nat.mod_mod_of_dvd n (by decide : 64 ∣ 128)]
theorem u_at (c : Dev nD) (t : Fin cfg0.N) (r : Fin 1024) (n : ℕ) : tabN (iblk m c 5 t) r n = tabU (row t r).val n := by
  show V m c main_v57 (((cfg0.win 5).blk t).view.emb _) = _
  rw [emb5, V57]
  unfold tabU
  rw [Nat.mod_mod_of_dvd n (by decide : 64 ∣ 128)]
theorem d_at (c : Dev nD) (t : Fin cfg0.N) (r : Fin 1024) (n : ℕ) : tabN (iblk m c 6 t) r n = tabD (row t r).val n := by
  show V m c main_v60 (((cfg0.win 6).blk t).view.emb _) = _
  rw [emb6, V60]
  unfold tabD
  rw [Nat.mod_mod_of_dvd n (by decide : 64 ∣ 128)]

/-- The call's arguments. -/
abbrev Um (c : Dev nD) : Fin 4 → Fin 8192 → ℕ → EReal :=
  U (m ((c : Thread nD τ).loc main_arg0)) (m ((c : Thread nD τ).loc main_arg1)) (m ((c : Thread nD τ).loc main_arg2)) (m ((c : Thread nD τ).loc main_arg3))

/-- The block's projection by the column's number. -/
theorem row_at (c : Dev nD) (t : Fin cfg0.N) (r : Fin 1024) (n : ℕ) (hn : n < 1920) :
    rowN (k0_pay3 (iblk m c 1 t) (iblk m c 0 t) (iblk m c 2 t) (iblk m c 3 t)) r n
      = Um m c (seq t) (row t r) (if n < 1024 then qcol n else n) := by
  unfold rowN
  rw [dif_pos hn]
  refine (proj_at _ _ _ _ _ _).trans ?_
  simp only [x_at, mod_at, g_at, w_at]
  exact sum_wcol _ _ n hn

/-- The turn by tables is the rotary turn. -/
theorem spun_at (c : Dev nD) (t : Fin cfg0.N) (r : Fin 1024) (f : ℕ → EReal) (n : ℕ) :
    spun (iblk m c 4 t) (iblk m c 5 t) (iblk m c 6 t) f r n
      = turned (row t r).val n (f n) (f (128 * (n / 128) + (n % 128 + 8) % 128)) (f (128 * (n / 128) + (n % 128 + 120) % 128)) := by
  unfold spun
  rw [c_at, u_at, d_at]
  exact turned_tab _ _ _ _ _

end Cert.Own.InprojKernel
end
-- ==== Proof.InprojRun.lean ====
/- THE SECOND LAYER'S PROJECTION, THE RUN: what a grid point stores, the five arrays it leaves, and the run that leaves them. -/
module

public import proofs.«01_k».proof.Proof.InprojKernel

@[expose] public section

set_option maxRecDepth 16384

noncomputable section

namespace Cert.Own.InprojRun

open Cert.Own Cert.Inproj1Ideal Cert.Inproj1Ideal.Gen Idealize.ShloMosaic Idealize.ShloMosaic.TcCoe Idealize.SL.Sem
open Cert.Own.InprojSpec Cert.Own.InprojHost Cert.Own.InprojTile Cert.Own.InprojKernel
open Cert.Own.LruSpec (tabC tabU tabD)

/-- A function of the arguments, of the arguments' contents in the memory `m`. -/
abbrev on {α : Type} (m : (ℓ : Loc nD τ sig) → Buf (Elt Ideal) ℓ) (c : Dev nD)
    (f : Vec Ideal S4x8192x1024 .f32 → Vec Ideal S4x9x1024 .f32 → Vec Ideal S1024 .f32 → Vec Ideal S1024x1840 .f32 → α) : α :=
  f (m ((c : Thread nD τ).loc main_arg0)) (m ((c : Thread nD τ).loc main_arg1)) (m ((c : Thread nD τ).loc main_arg2)) (m ((c : Thread nD τ).loc main_arg3))

variable (m : (ℓ : Loc nD τ sig) → Buf (Elt Ideal) ℓ) (ρ : Dev nD → PrngReg)

/-! ## What the body stores, over the blocks it reads -/

section
variable (x0 : Vec Ideal S1x1024x1024 .f32) (x1 : Vec Ideal S1x9x1024 .f32) (x2 : Vec Ideal S1x1024 .f32) (x3 : Vec Ideal S1024x1920 .bf16) (x4 : Vec Ideal S1024x128 .f32) (x5 : Vec Ideal S1024x128 .f32) (x6 : Vec Ideal S1024x128 .f32)

theorem acc_eq : k0_pay21 x0 x1 x2 x3 x4 x5 x6 = (k0_pay3 x1 x0 x2 x3) := by
  unfold k0_pay21
  frame_out

theorem q_eq : k0_pay25 x0 x1 x2 x3 x4 x5 x6 = extractStridedSlice S1024x1024 ![0, 0] (k0_pay3 x1 x0 x2 x3) slices_S1024x1920_o0_0_S1024x1024 := by
  unfold k0_pay25
  frame_out
  rfl

theorem tc_eq : k0_pay22 x0 x1 x2 x3 x4 x5 x6 = k0_pay4 x4 := by
  unfold k0_pay22
  frame_out

theorem tu_eq : k0_pay23 x0 x1 x2 x3 x4 x5 x6 = k0_pay5 x5 := by
  unfold k0_pay23
  frame_out

theorem td_eq : k0_pay24 x0 x1 x2 x3 x4 x5 x6 = k0_pay6 x6 := by
  unfold k0_pay24
  frame_out

theorem st7 (r l : Fin 1024) : out0_7 x0 x1 x2 x3 x4 x5 x6 (ix3 (0 : Fin 1) r l) = rowN (k0_pay3 x1 x0 x2 x3) r l.val * cq := by
  have e : out0_7 x0 x1 x2 x3 x4 x5 x6 = k0_pay9 (k0_pay25 x0 x1 x2 x3 x4 x5 x6) := by unfold out0_7; frame_out
  rw [e, q_eq]
  exact qn_at (k0_pay3 x1 x0 x2 x3) r l

theorem st8 (r l : Fin 1024) : out0_8 x0 x1 x2 x3 x4 x5 x6 (ix3 (0 : Fin 1) r l) = spun x4 x5 x6 (fun n => rowN (k0_pay3 x1 x0 x2 x3) r n * cq) r l.val := by
  unfold out0_8
  simp only [q_eq, tc_eq, tu_eq, td_eq]
  frame_out
  exact qr_at (k0_pay3 x1 x0 x2 x3) x4 x5 x6 r l _ (q_at (k0_pay3 x1 x0 x2 x3) r)

theorem st10 (r : Fin 1024) (l : Fin 512) : out0_10 x0 x1 x2 x3 x4 x5 x6 (ix3 (0 : Fin 1) r l)
    = if l.val / 128 % 2 = 0 then spun x4 x5 x6 (fun n => rowN (k0_pay3 x1 x0 x2 x3) r (1280 + n)) r l.val else rowN (k0_pay3 x1 x0 x2 x3) r (1280 + l.val) := by
  unfold out0_10
  simp only [acc_eq, tc_eq, tu_eq, td_eq]
  frame_out
  exact kv4_at (k0_pay3 x1 x0 x2 x3) x4 x5 x6 r l

theorem st11 (r : Fin 1024) (l : Fin 128) : out0_11 x0 x1 x2 x3 x4 x5 x6 (ix3 (0 : Fin 1) r l) = Ideal.logistic (rowN (k0_pay3 x1 x0 x2 x3) r (1792 + l.val)) := by
  have e : out0_11 x0 x1 x2 x3 x4 x5 x6 = k0_pay2 (k0_pay21 x0 x1 x2 x3 x4 x5 x6) := by unfold out0_11; frame_out
  rw [e, acc_eq]
  exact gate_at (k0_pay3 x1 x0 x2 x3) r l

theorem st9 (h : Fin 2) (r : Fin 1024) (l : Fin 128) : out0_9 x0 x1 x2 x3 x4 x5 x6 (ix4 (0 : Fin 1) h r l) = rowN (k0_pay3 x1 x0 x2 x3) r (h.val * 128 + l.val + 1024) := by
  have e : out0_9 x0 x1 x2 x3 x4 x5 x6 = View.canon [⟨r0_6, k0_pay19 (k0_pay3 x1 x0 x2 x3)⟩, ⟨r0_5, k0_pay18 (k0_pay3 x1 x0 x2 x3)⟩] := by
    unfold out0_9
    rw [acc_eq]
  rw [e]
  refine (Value.canon9_eq x1 x0 x2 x3 (ix4 (0 : Fin 1) h r l)).trans ?_
  have hi : Value.ix9_0 (ix4 (0 : Fin 1) h r l : S1x2x1024x128.Idx) = ix2 r (⟨h.val * 128 + l.val + 1024, by omega⟩ : Fin 1920) := by
    funext a; match a with
    | ⟨0, _⟩ => rfl
    | ⟨1, _⟩ => rfl
  refine (congrArg (k0_pay3 x1 x0 x2 x3) hi).trans ?_
  exact rowN_eq (k0_pay3 x1 x0 x2 x3) r _

end

/-! ## The five arrays after the run -/

theorem out7 (c : Dev nD) (t : Fin cfg0.N) (r : Fin 1024) (l : Fin 1024) :
    out0_7 (iblk m c 0 t) (iblk m c 1 t) (iblk m c 2 t) (iblk m c 3 t) (iblk m c 4 t) (iblk m c 5 t) (iblk m c 6 t) (ix3 (0 : Fin 1) r l) = on m c Gqn (ix3 (seq t) (row t r) l) := by
  refine (st7 _ _ _ _ _ _ _ r l).trans ?_
  rw [row_at m c t r l.val (by omega), if_pos l.isLt]
  rfl

theorem final7 (c : Dev nD) : (dats m 0 c).arrAt 7 cfg0.N = on m c Gqn := by
  refine (dats m 0 c).arrAt_eq_of_covers 7 _ (by decide +kernel) fun t hf y => ?_
  blk_simp
  rw [after0_7]
  show _ = Gqn _ _ _ _ (((cfg0.win 7).blk t).view.emb y)
  have hy : (y : S1x1024x1024.Idx) = ix3 (0 : Fin 1) (y 1) (y 2) := by
    funext a; match a with
    | ⟨0, _⟩ => exact Fin.ext (by have h : (y 0).val < 1 := (y 0).isLt; show (y 0).val = 0; omega)
    | ⟨1, _⟩ => rfl
    | ⟨2, _⟩ => rfl
  rw [emb7, hy]
  exact out7 m c t (y 1) (y 2)

theorem out8 (c : Dev nD) (t : Fin cfg0.N) (r : Fin 1024) (l : Fin 1024) :
    out0_8 (iblk m c 0 t) (iblk m c 1 t) (iblk m c 2 t) (iblk m c 3 t) (iblk m c 4 t) (iblk m c 5 t) (iblk m c 6 t) (ix3 (0 : Fin 1) r l) = on m c Gqr (ix3 (seq t) (row t r) l) := by
  refine (st8 _ _ _ _ _ _ _ r l).trans ?_
  rw [spun_at]
  have hl := l.isLt
  refine turned_congr _ rfl ?_ ?_ ?_
  · rw [row_at m c t r l.val (by omega), if_pos l.isLt]
    rfl
  · intro h
    rw [row_at m c t r _ (by omega), if_pos (by omega)]
    refine congrArg (fun n => Um m c (seq t) (row t r) n * cq) ?_
    show qcol (128 * (l.val / 128) + (l.val % 128 + 8) % 128) = qcol l.val + 8
    unfold qcol
    omega
  · intro h h'
    rw [row_at m c t r _ (by omega), if_pos (by omega)]
    refine congrArg (fun n => Um m c (seq t) (row t r) n * cq) ?_
    show qcol (128 * (l.val / 128) + (l.val % 128 + 120) % 128) = qcol l.val - 8
    unfold qcol
    omega

theorem final8 (c : Dev nD) : (dats m 0 c).arrAt 8 cfg0.N = on m c Gqr := by
  refine (dats m 0 c).arrAt_eq_of_covers 8 _ (by decide +kernel) fun t hf y => ?_
  blk_simp
  rw [after0_8]
  show _ = Gqr _ _ _ _ (((cfg0.win 8).blk t).view.emb y)
  have hy : (y : S1x1024x1024.Idx) = ix3 (0 : Fin 1) (y 1) (y 2) := by
    funext a; match a with
    | ⟨0, _⟩ => exact Fin.ext (by have h : (y 0).val < 1 := (y 0).isLt; show (y 0).val = 0; omega)
    | ⟨1, _⟩ => rfl
    | ⟨2, _⟩ => rfl
  rw [emb8, hy]
  exact out8 m c t (y 1) (y 2)

theorem out9 (c : Dev nD) (t : Fin cfg0.N) (h : Fin 2) (r : Fin 1024) (l : Fin 128) :
    out0_9 (iblk m c 0 t) (iblk m c 1 t) (iblk m c 2 t) (iblk m c 3 t) (iblk m c 4 t) (iblk m c 5 t) (iblk m c 6 t) (ix4 (0 : Fin 1) h r l) = on m c Gkvc (ix4 (seq t) h (row t r) l) := by
  refine (st9 _ _ _ _ _ _ _ h r l).trans ?_
  rw [row_at m c t r _ (by omega), if_neg (by omega)]
  exact congrArg (Um m c (seq t) (row t r)) (by show h.val * 128 + l.val + 1024 = 1024 + 128 * h.val + l.val; omega)

theorem final9 (c : Dev nD) : (dats m 0 c).arrAt 9 cfg0.N = on m c Gkvc := by
  refine (dats m 0 c).arrAt_eq_of_covers 9 _ (by decide +kernel) fun t hf y => ?_
  blk_simp
  rw [after0_9]
  show _ = Gkvc _ _ _ _ (((cfg0.win 9).blk t).view.emb y)
  have hy : (y : S1x2x1024x128.Idx) = ix4 (0 : Fin 1) (y 1) (y 2) (y 3) := by
    funext a; match a with
    | ⟨0, _⟩ => exact Fin.ext (by have h : (y 0).val < 1 := (y 0).isLt; show (y 0).val = 0; omega)
    | ⟨1, _⟩ => rfl
    | ⟨2, _⟩ => rfl
    | ⟨3, _⟩ => rfl
  rw [emb9, hy]
  exact out9 m c t (y 1) (y 2) (y 3)

theorem out10 (c : Dev nD) (t : Fin cfg0.N) (r : Fin 1024) (l : Fin 512) :
    out0_10 (iblk m c 0 t) (iblk m c 1 t) (iblk m c 2 t) (iblk m c 3 t) (iblk m c 4 t) (iblk m c 5 t) (iblk m c 6 t) (ix3 (0 : Fin 1) r l) = on m c Gkv4 (ix3 (seq t) (row t r) l) := by
  refine (st10 _ _ _ _ _ _ _ r l).trans ?_
  have hl := l.isLt
  show _ = kv4 (Um m c (seq t) (row t r)) (row t r).val l.val
  unfold kv4
  split_ifs with h1
  · rw [spun_at]
    refine turned_congr _ rfl ?_ ?_ ?_
    · rw [row_at m c t r _ (by omega), if_neg (by omega)]
    · intro h
      rw [row_at m c t r _ (by omega), if_neg (by omega)]
      exact congrArg (Um m c (seq t) (row t r)) (by omega)
    · intro h h'
      rw [row_at m c t r _ (by omega), if_neg (by omega)]
      exact congrArg (Um m c (seq t) (row t r)) (by omega)
  · rw [row_at m c t r _ (by omega), if_neg (by omega)]

theorem final10 (c : Dev nD) : (dats m 0 c).arrAt 10 cfg0.N = on m c Gkv4 := by
  refine (dats m 0 c).arrAt_eq_of_covers 10 _ (by decide +kernel) fun t hf y => ?_
  blk_simp
  rw [after0_10]
  show _ = Gkv4 _ _ _ _ (((cfg0.win 10).blk t).view.emb y)
  have hy : (y : S1x1024x512.Idx) = ix3 (0 : Fin 1) (y 1) (y 2) := by
    funext a; match a with
    | ⟨0, _⟩ => exact Fin.ext (by have h : (y 0).val < 1 := (y 0).isLt; show (y 0).val = 0; omega)
    | ⟨1, _⟩ => rfl
    | ⟨2, _⟩ => rfl
  rw [emb10, hy]
  exact out10 m c t (y 1) (y 2)

theorem out11 (c : Dev nD) (t : Fin cfg0.N) (r : Fin 1024) (l : Fin 128) :
    out0_11 (iblk m c 0 t) (iblk m c 1 t) (iblk m c 2 t) (iblk m c 3 t) (iblk m c 4 t) (iblk m c 5 t) (iblk m c 6 t) (ix3 (0 : Fin 1) r l) = on m c Ggate (ix3 (seq t) (row t r) l) := by
  refine (st11 _ _ _ _ _ _ _ r l).trans ?_
  rw [row_at m c t r _ (by omega), if_neg (by omega)]
  rfl

theorem final11 (c : Dev nD) : (dats m 0 c).arrAt 11 cfg0.N = on m c Ggate := by
  refine (dats m 0 c).arrAt_eq_of_covers 11 _ (by decide +kernel) fun t hf y => ?_
  blk_simp
  rw [after0_11]
  show _ = Ggate _ _ _ _ (((cfg0.win 11).blk t).view.emb y)
  have hy : (y : S1x1024x128.Idx) = ix3 (0 : Fin 1) (y 1) (y 2) := by
    funext a; match a with
    | ⟨0, _⟩ => exact Fin.ext (by have h : (y 0).val < 1 := (y 0).isLt; show (y 0).val = 0; omega)
    | ⟨1, _⟩ => rfl
    | ⟨2, _⟩ => rfl
  rw [emb11, hy]
  exact out11 m c t (y 1) (y 2)

/-- The run, its result arrays named; the arguments unchanged. -/
theorem run : θ_run defs (onTc (τ := τ) (main (F := Ideal))) ⟨m, fun _ => 0, ρ⟩ fun r => ∀ c : Dev nD,
      r.2.mem ((c : Thread nD τ).loc main_v62_0) = on m c Gqn
      ∧ r.2.mem ((c : Thread nD τ).loc main_v62_1) = on m c Gqr
      ∧ r.2.mem ((c : Thread nD τ).loc main_v62_2) = on m c Gkvc
      ∧ r.2.mem ((c : Thread nD τ).loc main_v62_3) = on m c Gkv4
      ∧ r.2.mem ((c : Thread nD τ).loc main_v62_4) = on m c Ggate
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final7 m c), (h c).2.1.trans (final8 m c), (h c).2.2.1.trans (final9 m c),
    (h c).2.2.2.1.trans (final10 m c), (h c).2.2.2.2.1.trans (final11 m c), (h c).2.2.2.2.2⟩) (Value.run_blocks m ρ)

end Cert.Own.InprojRun
-- ==== Proof.InprojRef.lean ====
/- THE SECOND LAYER'S PROJECTION'S REFERENCE, index by index: its five results are `qn`, `qr`, `kvc`, `kv4` and `gate` of each
   token's projected row. -/
module

public import proofs.«01_k».proof.Proof.Gen.Inproj1RefIdeal.Run
public import proofs.«01_k».proof.Proof.InprojSpec

@[expose] public section

set_option maxRecDepth 16384

noncomputable section

namespace Cert.Own.InprojRef

open Cert.Own Cert.Inproj1RefIdeal Cert.Inproj1RefIdeal.Gen Cert.Inproj1RefIdeal.Value
open Idealize.ShloMosaic Idealize.ShloMosaic.TcCoe Idealize.SL.Sem Idealize.ShloMosaic.StableHlo
open Cert.Own.InprojSpec
open Cert.Own.LruSpec (ang)

/-! ## The rotary turn -/

/-- The rotary turn of 16 heads, as the program writes it: the first eight features, the next eight, the rest. -/
def rope16 (X : FVec Ideal S4x8192x16x64 .f32) (C D : FVec Ideal S8192x1x8 .f32) : FVec Ideal S4x8192x16x64 .f32 :=
  concatenate S4x8192x16x64 3 [⟨S4x8192x16x8, (subf (mulf (extractStridedSlice S4x8192x16x8 ![0, 0, 0, 0] X slices_S4x8192x16x64_S4x8192x16x8_0_0_0_0) (broadcastInDim S4x8192x16x8 ![0, 1, 2, 3] bcast_S1x8192x1x8_S4x8192x16x8_0_1_2_3 (broadcastInDim S1x8192x1x8 ![1, 2, 3] bcast_S8192x1x8_S1x8192x1x8_1_2_3 C))) (mulf (extractStridedSlice S4x8192x16x8 ![0, 0, 0, 8] X slices_S4x8192x16x64_S4x8192x16x8_0_0_0_8) (broadcastInDim S4x8192x16x8 ![0, 1, 2, 3] bcast_S1x8192x1x8_S4x8192x16x8_0_1_2_3 (broadcastInDim S1x8192x1x8 ![1, 2, 3] bcast_S8192x1x8_S1x8192x1x8_1_2_3 D))) : (⟨S4x8192x16x8, .f32⟩ : BufTy).Contents (Elt Ideal))⟩,
    ⟨S4x8192x16x8, (addf (mulf (extractStridedSlice S4x8192x16x8 ![0, 0, 0, 8] X slices_S4x8192x16x64_S4x8192x16x8_0_0_0_8) (broadcastInDim S4x8192x16x8 ![0, 1, 2, 3] bcast_S1x8192x1x8_S4x8192x16x8_0_1_2_3 (broadcastInDim S1x8192x1x8 ![1, 2, 3] bcast_S8192x1x8_S1x8192x1x8_1_2_3 C))) (mulf (extractStridedSlice S4x8192x16x8 ![0, 0, 0, 0] X slices_S4x8192x16x64_S4x8192x16x8_0_0_0_0) (broadcastInDim S4x8192x16x8 ![0, 1, 2, 3] bcast_S1x8192x1x8_S4x8192x16x8_0_1_2_3 (broadcastInDim S1x8192x1x8 ![1, 2, 3] bcast_S8192x1x8_S1x8192x1x8_1_2_3 D))) : (⟨S4x8192x16x8, .f32⟩ : BufTy).Contents (Elt Ideal))⟩,
    ⟨S4x8192x16x48, (extractStridedSlice S4x8192x16x48 ![0, 0, 0, 16] X slices_S4x8192x16x64_S4x8192x16x48_0_0_0_16 : (⟨S4x8192x16x48, .f32⟩ : BufTy).Contents (Elt Ideal))⟩]
    concatenates_S4x8192x16x8_S4x8192x16x8_S4x8192x16x48_S4x8192x16x64_d3

theorem rope16_raw (X : FVec Ideal S4x8192x16x64 .f32) (C D : FVec Ideal S8192x1x8 .f32) (b : Fin 4) (s : Fin 8192) (h : Fin 16) (j : Fin 64) :
    rope16 X C D (ix4 b s h j) =
      if h1 : j.val < 8 then X (ix4 b s h ⟨j.val, by omega⟩) * C (ix3 s 0 ⟨j.val, h1⟩) - X (ix4 b s h ⟨8 + j.val, by omega⟩) * D (ix3 s 0 ⟨j.val, h1⟩)
      else if h2 : j.val - 8 < 8 then X (ix4 b s h ⟨8 + (j.val - 8), by omega⟩) * C (ix3 s 0 ⟨j.val - 8, h2⟩) + X (ix4 b s h ⟨j.val - 8, by omega⟩) * D (ix3 s 0 ⟨j.val - 8, h2⟩)
      else X (ix4 b s h ⟨16 + (j.val - 8 - 8), by omega⟩) := by
  unfold rope16
  pointwise

theorem rope16_at (X : FVec Ideal S4x8192x16x64 .f32) (C D : FVec Ideal S8192x1x8 .f32) (b : Fin 4) (s : Fin 8192) (h : Fin 16) (j : Fin 64)
    (f : ℕ → EReal) (hX : ∀ k : Fin 64, X (ix4 b s h k) = f (64 * h.val + k.val)) (hC : ∀ k : Fin 8, C (ix3 s 0 k) = Ideal.cos (ang s.val k.val))
    (hD : ∀ k : Fin 8, D (ix3 s 0 k) = Ideal.sin (ang s.val k.val)) :
    rope16 X C D (ix4 b s h j) = turned s.val j.val (f (64 * h.val + j.val)) (f (64 * h.val + j.val + 8)) (f (64 * h.val + j.val - 8)) := by
  rw [rope16_raw]
  unfold turned
  have hj : j.val % 64 = j.val := Nat.mod_eq_of_lt j.isLt
  have e : ∀ {p q : ℕ}, p = q → f p = f q := fun h => congrArg f h
  rw [hj]
  split_ifs with h1 h2
  · rw [hX, hX, hC, hD]
    exact congrArg₂ (· - ·) rfl (congrArg (· * _) (e (by show 64 * h.val + (8 + j.val) = _; omega)))
  · rw [hX, hX, hC, hD]
    exact congrArg₂ (· + ·) (congrArg (· * _) (e (by show 64 * h.val + (8 + (j.val - 8)) = _; omega)))
      (congrArg (· * _) (e (by show 64 * h.val + (j.val - 8) = _; omega)))
  · rw [hX]
    exact e (by show 64 * h.val + (16 + (j.val - 8 - 8)) = _; omega)

/-- The rotary turn of 2 heads, as the program writes it: the first eight features, the next eight, the rest. -/
def rope2 (X : FVec Ideal S4x8192x2x64 .f32) (C D : FVec Ideal S8192x1x8 .f32) : FVec Ideal S4x8192x2x64 .f32 :=
  concatenate S4x8192x2x64 3 [⟨S4x8192x2x8, (subf (mulf (extractStridedSlice S4x8192x2x8 ![0, 0, 0, 0] X slices_S4x8192x2x64_S4x8192x2x8_0_0_0_0) (broadcastInDim S4x8192x2x8 ![0, 1, 2, 3] bcast_S1x8192x1x8_S4x8192x2x8_0_1_2_3 (broadcastInDim S1x8192x1x8 ![1, 2, 3] bcast_S8192x1x8_S1x8192x1x8_1_2_3 C))) (mulf (extractStridedSlice S4x8192x2x8 ![0, 0, 0, 8] X slices_S4x8192x2x64_S4x8192x2x8_0_0_0_8) (broadcastInDim S4x8192x2x8 ![0, 1, 2, 3] bcast_S1x8192x1x8_S4x8192x2x8_0_1_2_3 (broadcastInDim S1x8192x1x8 ![1, 2, 3] bcast_S8192x1x8_S1x8192x1x8_1_2_3 D))) : (⟨S4x8192x2x8, .f32⟩ : BufTy).Contents (Elt Ideal))⟩,
    ⟨S4x8192x2x8, (addf (mulf (extractStridedSlice S4x8192x2x8 ![0, 0, 0, 8] X slices_S4x8192x2x64_S4x8192x2x8_0_0_0_8) (broadcastInDim S4x8192x2x8 ![0, 1, 2, 3] bcast_S1x8192x1x8_S4x8192x2x8_0_1_2_3 (broadcastInDim S1x8192x1x8 ![1, 2, 3] bcast_S8192x1x8_S1x8192x1x8_1_2_3 C))) (mulf (extractStridedSlice S4x8192x2x8 ![0, 0, 0, 0] X slices_S4x8192x2x64_S4x8192x2x8_0_0_0_0) (broadcastInDim S4x8192x2x8 ![0, 1, 2, 3] bcast_S1x8192x1x8_S4x8192x2x8_0_1_2_3 (broadcastInDim S1x8192x1x8 ![1, 2, 3] bcast_S8192x1x8_S1x8192x1x8_1_2_3 D))) : (⟨S4x8192x2x8, .f32⟩ : BufTy).Contents (Elt Ideal))⟩,
    ⟨S4x8192x2x48, (extractStridedSlice S4x8192x2x48 ![0, 0, 0, 16] X slices_S4x8192x2x64_S4x8192x2x48_0_0_0_16 : (⟨S4x8192x2x48, .f32⟩ : BufTy).Contents (Elt Ideal))⟩]
    concatenates_S4x8192x2x8_S4x8192x2x8_S4x8192x2x48_S4x8192x2x64_d3

theorem rope2_raw (X : FVec Ideal S4x8192x2x64 .f32) (C D : FVec Ideal S8192x1x8 .f32) (b : Fin 4) (s : Fin 8192) (h : Fin 2) (j : Fin 64) :
    rope2 X C D (ix4 b s h j) =
      if h1 : j.val < 8 then X (ix4 b s h ⟨j.val, by omega⟩) * C (ix3 s 0 ⟨j.val, h1⟩) - X (ix4 b s h ⟨8 + j.val, by omega⟩) * D (ix3 s 0 ⟨j.val, h1⟩)
      else if h2 : j.val - 8 < 8 then X (ix4 b s h ⟨8 + (j.val - 8), by omega⟩) * C (ix3 s 0 ⟨j.val - 8, h2⟩) + X (ix4 b s h ⟨j.val - 8, by omega⟩) * D (ix3 s 0 ⟨j.val - 8, h2⟩)
      else X (ix4 b s h ⟨16 + (j.val - 8 - 8), by omega⟩) := by
  unfold rope2
  pointwise

theorem rope2_at (X : FVec Ideal S4x8192x2x64 .f32) (C D : FVec Ideal S8192x1x8 .f32) (b : Fin 4) (s : Fin 8192) (h : Fin 2) (j : Fin 64)
    (f : ℕ → EReal) (hX : ∀ k : Fin 64, X (ix4 b s h k) = f (64 * h.val + k.val)) (hC : ∀ k : Fin 8, C (ix3 s 0 k) = Ideal.cos (ang s.val k.val))
    (hD : ∀ k : Fin 8, D (ix3 s 0 k) = Ideal.sin (ang s.val k.val)) :
    rope2 X C D (ix4 b s h j) = turned s.val j.val (f (64 * h.val + j.val)) (f (64 * h.val + j.val + 8)) (f (64 * h.val + j.val - 8)) := by
  rw [rope2_raw]
  unfold turned
  have hj : j.val % 64 = j.val := Nat.mod_eq_of_lt j.isLt
  have e : ∀ {p q : ℕ}, p = q → f p = f q := fun h => congrArg f h
  rw [hj]
  split_ifs with h1 h2
  · rw [hX, hX, hC, hD]
    exact congrArg₂ (· - ·) rfl (congrArg (· * _) (e (by show 64 * h.val + (8 + j.val) = _; omega)))
  · rw [hX, hX, hC, hD]
    exact congrArg₂ (· + ·) (congrArg (· * _) (e (by show 64 * h.val + (8 + (j.val - 8)) = _; omega)))
      (congrArg (· * _) (e (by show 64 * h.val + (j.val - 8) = _; omega)))
  · rw [hX]
    exact e (by show 64 * h.val + (16 + (j.val - 8 - 8)) = _; omega)

/-! ## Order of the columns -/

/-- The queries' heads from groups of eight to pairs, then as one row. -/
def heads (Y : FVec Ideal S4x8192x16x64 .f32) : FVec Ideal S4x8192x1024 .bf16 :=
  truncf .bf16 (shapeCast S4x8192x1024 (transpose S4x8192x8x2x64 [0, 1, 3, 2, 4] (shapeCast S4x8192x2x8x64 Y shapeCasts_S4x8192x16x64_S4x8192x2x8x64) transposes_S4x8192x2x8x64_S4x8192x8x2x64_0_1_3_2_4) shapeCasts_S4x8192x8x2x64_S4x8192x1024) bitsLt_bf16_f32

theorem heads_at (Y : FVec Ideal S4x8192x16x64 .f32) (b : Fin 4) (s : Fin 8192) (l : Fin 1024) :
    heads Y (ix3 b s l) = Y (ix4 b s ⟨8 * (l.val / 64 % 2) + l.val / 128, by omega⟩ ⟨l.val % 64, by omega⟩) := by
  unfold heads
  pointwise
  refine congrArg Y ?_
  funext a; match a with
  | ⟨0, _⟩ => exact Fin.ext (by simp)
  | ⟨1, _⟩ => exact Fin.ext (by simp)
  | ⟨2, _⟩ => exact Fin.ext (by show l.val / 64 % 2 * 8 + l.val / 128 = 8 * (l.val / 64 % 2) + l.val / 128; omega)
  | ⟨3, _⟩ => exact Fin.ext (by simp)

/-- Two heads as one row. -/
theorem flat_at (Y : FVec Ideal S4x8192x2x64 .f32) (b : Fin 4) (s : Fin 8192) (l : Fin 128) :
    (shapeCast S4x8192x128 Y shapeCasts_S4x8192x2x64_S4x8192x128 : FVec Ideal S4x8192x128 .f32) (ix3 b s l) = Y (ix4 b s ⟨l.val / 64, by omega⟩ ⟨l.val % 64, by omega⟩) := by
  pointwise

/-- Four rows of 128 side by side. -/
def cat4 (A B C D : FVec Ideal S4x8192x128 .f32) : FVec Ideal S4x8192x512 .bf16 :=
  truncf .bf16 (concatenate S4x8192x512 2 [⟨S4x8192x128, (A : (⟨S4x8192x128, .f32⟩ : BufTy).Contents (Elt Ideal))⟩, ⟨S4x8192x128, (B : (⟨S4x8192x128, .f32⟩ : BufTy).Contents (Elt Ideal))⟩,
    ⟨S4x8192x128, (C : (⟨S4x8192x128, .f32⟩ : BufTy).Contents (Elt Ideal))⟩, ⟨S4x8192x128, (D : (⟨S4x8192x128, .f32⟩ : BufTy).Contents (Elt Ideal))⟩]
    concatenates_S4x8192x128_S4x8192x128_S4x8192x128_S4x8192x128_S4x8192x512_d2 : (⟨S4x8192x512, .f32⟩ : BufTy).Contents (Elt Ideal)) bitsLt_bf16_f32

theorem cat4_at (A B C D : FVec Ideal S4x8192x128 .f32) (b : Fin 4) (s : Fin 8192) (l : Fin 512) : cat4 A B C D (ix3 b s l) =
    if h1 : l.val < 128 then A (ix3 b s ⟨l.val, h1⟩) else if h2 : l.val - 128 < 128 then B (ix3 b s ⟨l.val - 128, h2⟩)
    else if h3 : l.val - 128 - 128 < 128 then C (ix3 b s ⟨l.val - 128 - 128, h3⟩) else D (ix3 b s ⟨l.val - 128 - 128 - 128, by omega⟩) := by
  unfold cat4
  pointwise

/-! ## The arrays the results are made of -/

section
variable (V : Valuation τ sig (Elt Ideal))

theorem ang54 (s : Fin 8192) (f : Fin 8) : res_main_v54 V (ix2 s f) = ang s.val f.val := by
  unfold res_main_v54 res_main_v0 ang; pointwise
theorem ang94 (s : Fin 8192) (f : Fin 8) : res_main_v94 V (ix2 s f) = ang s.val f.val := by
  unfold res_main_v94 res_main_v0 ang; pointwise
theorem ang131 (s : Fin 8192) (f : Fin 8) : res_main_v131 V (ix2 s f) = ang s.val f.val := by
  unfold res_main_v131 res_main_v0 ang; pointwise
theorem t56 (s : Fin 8192) (f : Fin 8) : res_main_v56 V (ix3 s 0 f) = Ideal.cos (ang s.val f.val) := by
  rw [← ang54 V]; unfold res_main_v56; pointwise
theorem t58 (s : Fin 8192) (f : Fin 8) : res_main_v58 V (ix3 s 0 f) = Ideal.sin (ang s.val f.val) := by
  rw [← ang54 V]; unfold res_main_v58; pointwise
theorem t96 (s : Fin 8192) (f : Fin 8) : res_main_v96 V (ix3 s 0 f) = Ideal.cos (ang s.val f.val) := by
  rw [← ang94 V]; unfold res_main_v96; pointwise
theorem t98 (s : Fin 8192) (f : Fin 8) : res_main_v98 V (ix3 s 0 f) = Ideal.sin (ang s.val f.val) := by
  rw [← ang94 V]; unfold res_main_v98; pointwise
theorem t133 (s : Fin 8192) (f : Fin 8) : res_main_v133 V (ix3 s 0 f) = Ideal.cos (ang s.val f.val) := by
  rw [← ang131 V]; unfold res_main_v133; pointwise
theorem t135 (s : Fin 8192) (f : Fin 8) : res_main_v135 V (ix3 s 0 f) = Ideal.sin (ang s.val f.val) := by
  rw [← ang131 V]; unfold res_main_v135; pointwise

/-- The projection's columns by number. -/
def col (b : Fin 4) (s : Fin 8192) (n : ℕ) : EReal := if h : n < 1840 then res_main_v26 V (ix3 b s ⟨n, h⟩) else 0

theorem col_eq (b : Fin 4) (s : Fin 8192) (j : Fin 1840) : res_main_v26 V (ix3 b s j) = col V b s j.val := by
  exact (dif_pos (c := (j.val < 1840)) (t := fun h => (res_main_v26 V (ix3 b s ⟨j.val, h⟩) : EReal)) (e := fun _ => (0 : EReal)) j.isLt).symm

theorem q_at (b : Fin 4) (s : Fin 8192) (h : Fin 16) (j : Fin 64) : res_main_v37 V (ix4 b s h j) = col V b s (64 * h.val + j.val) * cq := by
  unfold res_main_v37
  pointwise
  rw [col_eq V]
  exact congrArg (fun n => col V b s n * cq) (by show h.val * 64 + j.val = _; omega)
theorem ks_at (b : Fin 4) (s : Fin 8192) (h : Fin 2) (j : Fin 64) : res_main_v81 V (ix4 b s h j) = col V b s (1280 + (64 * h.val + j.val)) := by
  unfold res_main_v81
  pointwise
  rw [col_eq V]
  exact congrArg (col V b s) (by show 1280 + (h.val * 64 + j.val) = _; omega)
theorem kw_at (b : Fin 4) (s : Fin 8192) (h : Fin 2) (j : Fin 64) : res_main_v118 V (ix4 b s h j) = col V b s (1536 + (64 * h.val + j.val)) := by
  unfold res_main_v118
  pointwise
  rw [col_eq V]
  exact congrArg (col V b s) (by show 1536 + (h.val * 64 + j.val) = _; omega)

/-! ## The five results -/

def T41 : FVec Ideal S4x8192x1024 .bf16 := heads (res_main_v37 V)
def T80 : FVec Ideal S4x8192x1024 .bf16 := heads (rope16 (res_main_v37 V) (res_main_v56 V) (res_main_v58 V))
def T157 : FVec Ideal S4x2x8192x128 .f32 := concatenate S4x2x8192x128 1 [⟨S4x1x8192x128, (broadcastInDim S4x1x8192x128 ![0, 2, 3] bcast_S4x8192x128_S4x1x8192x128_0_2_3 (extractStridedSlice S4x8192x128 ![0, 0, 1024] (res_main_v26 V) slices_S4x8192x1840_S4x8192x128_0_0_1024))⟩, ⟨S4x1x8192x128, (broadcastInDim S4x1x8192x128 ![0, 2, 3] bcast_S4x8192x128_S4x1x8192x128_0_2_3 (extractStridedSlice S4x8192x128 ![0, 0, 1152] (res_main_v26 V) slices_S4x8192x1840_S4x8192x128_0_0_1152))⟩] concatenates_S4x1x8192x128_S4x1x8192x128_S4x2x8192x128_d1
def T159 : FVec Ideal S4x8192x512 .bf16 :=
  cat4 (shapeCast S4x8192x128 (rope2 (res_main_v81 V) (res_main_v96 V) (res_main_v98 V)) shapeCasts_S4x8192x2x64_S4x8192x128)
    (extractStridedSlice S4x8192x128 ![0, 0, 1408] (res_main_v26 V) slices_S4x8192x1840_S4x8192x128_0_0_1408)
    (shapeCast S4x8192x128 (rope2 (res_main_v118 V) (res_main_v133 V) (res_main_v135 V)) shapeCasts_S4x8192x2x64_S4x8192x128)
    (extractStridedSlice S4x8192x128 ![0, 0, 1664] (res_main_v26 V) slices_S4x8192x1840_S4x8192x128_0_0_1664)
def T166 : FVec Ideal S4x8192x128 .f32 := Host.divf (broadcastInDim S4x8192x128 ![] bcast_S_S4x8192x128 (constant S_ .f32 0x3F800000#32)) (addf (broadcastInDim S4x8192x128 ![] bcast_S_S4x8192x128 (constant S_ .f32 0x3F800000#32)) (Host.exp (Host.negf (pad S4x8192x128 ![0, 0, 0] ![0, 0, 80] ![0, 0, 0] (extractStridedSlice S4x8192x48 ![0, 0, 1792] (res_main_v26 V) slices_S4x8192x1840_S4x8192x48_0_0_1792) (sitofp .f32 (constantI S_ 32 0#32)) pads_S4x8192x48_S4x8192x128_000_000_0800 h_S_))))

theorem T41_at (b : Fin 4) (s : Fin 8192) (l : Fin 1024) : T41 V (ix3 b s l) = qn (col V b s) l.val := by
  unfold T41
  rw [heads_at, q_at]
  rfl

theorem T80_at (b : Fin 4) (s : Fin 8192) (l : Fin 1024) : T80 V (ix3 b s l) = qr (col V b s) s.val l.val := by
  unfold T80
  rw [heads_at, rope16_at _ _ _ b s _ _ (fun n => col V b s n * cq) (fun k => q_at V b s _ k) (t56 V s) (t58 V s)]
  exact turned_congr _ (Nat.mod_mod _ _) rfl (fun _ => rfl) (fun _ _ => rfl)

theorem T157_at (b : Fin 4) (h : Fin 2) (s : Fin 8192) (n : Fin 128) : T157 V (ix4 b h s n) = kvc (col V b s) h.val n.val := by
  unfold T157 kvc
  pointwise
  simp only [col_eq V]
  have e : ∀ {p q : ℕ}, p = q → col V b s p = col V b s q := fun h => congrArg _ h
  have hh := h.isLt
  split_ifs with h1
  · exact e (by show 1024 + n.val = _; omega)
  · exact e (by show 1152 + n.val = _; omega)

theorem T159_at (b : Fin 4) (s : Fin 8192) (l : Fin 512) : T159 V (ix3 b s l) = kv4 (col V b s) s.val l.val := by
  unfold T159 kv4
  rw [cat4_at]
  have hl := l.isLt
  have e : ∀ {p q : ℕ}, p = q → col V b s p = col V b s q := fun h => congrArg _ h
  split_ifs with h1 h2 h3 h4 h5 h6 h7
  · rw [flat_at, rope2_at _ _ _ b s _ _ (fun n => col V b s (1280 + n)) (fun k => ks_at V b s _ k) (t96 V s) (t98 V s)]
    refine turned_congr _ (Nat.mod_mod _ _) (e ?_) (fun _ => e ?_) (fun h h' => e ?_)
    · show 1280 + (64 * (l.val / 64) + l.val % 64) = _; omega
    · show 1280 + (64 * (l.val / 64) + l.val % 64 + 8) = _; omega
    · have h : ¬ l.val % 64 % 64 < 8 := h
      show 1280 + (64 * (l.val / 64) + l.val % 64 - 8) = _; omega
  · omega
  · omega
  · pointwise
    rw [col_eq V]
    exact e (by show 1408 + (l.val - 128) = _; omega)
  · rw [flat_at, rope2_at _ _ _ b s _ _ (fun n => col V b s (1536 + n)) (fun k => kw_at V b s _ k) (t133 V s) (t135 V s)]
    refine turned_congr _ ?_ (e ?_) (fun _ => e ?_) (fun h h' => e ?_)
    · show (l.val - 128 - 128) % 64 % 64 = l.val % 64; omega
    · show 1536 + (64 * ((l.val - 128 - 128) / 64) + (l.val - 128 - 128) % 64) = _; omega
    · show 1536 + (64 * ((l.val - 128 - 128) / 64) + (l.val - 128 - 128) % 64 + 8) = _; omega
    · have h : ¬ (l.val - 128 - 128) % 64 % 64 < 8 := h
      show 1536 + (64 * ((l.val - 128 - 128) / 64) + (l.val - 128 - 128) % 64 - 8) = _; omega
  · omega
  · omega
  · pointwise
    rw [col_eq V]
    exact e (by show 1664 + (l.val - 128 - 128 - 128) = _; omega)

theorem T166_at (b : Fin 4) (s : Fin 8192) (n : Fin 128) : T166 V (ix3 b s n) = gate (col V b s) n.val := by
  unfold T166 gate
  pointwise
  unfold Ideal.logistic
  have hz : (if h : n.val < 48 then res_main_v26 V (ix3 b s ⟨1792 + n.val, by omega⟩) else FloatOps.sitofp (F := Ideal) FTy.f32 (0#32)) = col V b s (1792 + n.val) := by
    split_ifs with h
    · rw [col_eq V]
    · refine Eq.trans ?_ (dif_neg (by omega)).symm
      show ((((0#32 : BitVec 32).toInt : ℝ)) : EReal) = 0
      simp
  rw [hz]

end

/-- The projection's columns are the modulated row's products with the weights' columns. -/
theorem col_launch (m : (ℓ : Loc nD τ sig) → Buf (Elt Ideal) ℓ) (c : Dev nD) (b : Fin 4) (s : Fin 8192) :
    col (launchContents m c) b s = proj (rowMod (fun k => m ((c : Thread nD τ).loc main_arg0) (ix3 b s k)) (fun k => m ((c : Thread nD τ).loc main_arg2) (ix1 k))
      (fun k => m ((c : Thread nD τ).loc main_arg1) (ix3 b 3 k)) (fun k => m ((c : Thread nD τ).loc main_arg1) (ix3 b 4 k)))
      (fun k j => m ((c : Thread nD τ).loc main_arg3) (ix2 k j)) := by
  funext n
  unfold col proj
  split_ifs with h
  · unfold res_main_v26
    pointwise
    rfl
  · rfl

end Cert.Own.InprojRef
end
-- ==== Proof.Inproj1.lean ====
/- The second layer's projection: kernel and reference leave the same five arrays. -/
module

public import proofs.«01_k».proof.Defs
public import proofs.«01_k».proof.Proof.InprojRun
public import proofs.«01_k».proof.Proof.InprojRef

@[expose] public section

set_option maxRecDepth 16384

noncomputable section

namespace Cert.Own

open Idealize.ShloMosaic Idealize.ShloMosaic.TcCoe Idealize.SL.Sem Idealize.ShloMosaic.StableHlo

theorem Inproj1_agree [Cert.Inproj1Ideal.Facts] [Cert.Inproj1RefIdeal.Facts] : Cert.algebraic_Inproj1Ideal_Inproj1RefIdeal := by
  intro m g m' g' _ hargs
  refine ⟨fun c => InprojRun.on m c InprojKernel.Gqn, fun c => InprojRun.on m c InprojKernel.Gqr, fun c => InprojRun.on m c InprojKernel.Gkvc, fun c => InprojRun.on m c InprojKernel.Gkv4, fun c => InprojRun.on m c InprojKernel.Ggate, InprojRun.run m g, ?_⟩
  have hU : ∀ (c : Dev Cert.Inproj1Ideal.nD) (b : Fin 4) (s : Fin 8192), InprojRef.col (launchContents m' c) b s = InprojRun.on m c InprojKernel.U b s := fun c b s => by
    obtain ⟨h0, h1, h2, h3⟩ := hargs c
    rw [InprojRef.col_launch]
    simp only [h0, h1, h2, h3]
    rfl
  refine (θ_run _ _ _).mono (fun r h c => ⟨(h c).1.trans ?_, (h c).2.1.trans ?_, (h c).2.2.1.trans ?_, (h c).2.2.2.1.trans ?_, (h c).2.2.2.2.1.trans ?_, (h c).2.2.2.2.2⟩) (Cert.Inproj1RefIdeal.Value.run (F := Ideal) m' g')
  · funext i
    obtain ⟨b, s, n, rfl⟩ : ∃ b s n, i = ix3 b s n := ⟨i 0, i 1, i 2, by funext a; match a with | ⟨0, _⟩ => rfl | ⟨1, _⟩ => rfl | ⟨2, _⟩ => rfl⟩
    exact (InprojRef.T41_at (launchContents m' c) b s n).trans (congrArg (fun U => InprojSpec.qn U n.val) (hU c b s))
  · funext i
    obtain ⟨b, s, n, rfl⟩ : ∃ b s n, i = ix3 b s n := ⟨i 0, i 1, i 2, by funext a; match a with | ⟨0, _⟩ => rfl | ⟨1, _⟩ => rfl | ⟨2, _⟩ => rfl⟩
    exact (InprojRef.T80_at (launchContents m' c) b s n).trans (congrArg (fun U => InprojSpec.qr U s.val n.val) (hU c b s))
  · funext i
    obtain ⟨b, h, s, n, rfl⟩ : ∃ b h s n, i = ix4 b h s n := ⟨i 0, i 1, i 2, i 3, by funext a; match a with | ⟨0, _⟩ => rfl | ⟨1, _⟩ => rfl | ⟨2, _⟩ => rfl | ⟨3, _⟩ => rfl⟩
    exact (InprojRef.T157_at (launchContents m' c) b h s n).trans (congrArg (fun U => InprojSpec.kvc U h.val n.val) (hU c b s))
  · funext i
    obtain ⟨b, s, n, rfl⟩ : ∃ b s n, i = ix3 b s n := ⟨i 0, i 1, i 2, by funext a; match a with | ⟨0, _⟩ => rfl | ⟨1, _⟩ => rfl | ⟨2, _⟩ => rfl⟩
    exact (InprojRef.T159_at (launchContents m' c) b s n).trans (congrArg (fun U => InprojSpec.kv4 U s.val n.val) (hU c b s))
  · funext i
    obtain ⟨b, s, n, rfl⟩ : ∃ b s n, i = ix3 b s n := ⟨i 0, i 1, i 2, by funext a; match a with | ⟨0, _⟩ => rfl | ⟨1, _⟩ => rfl | ⟨2, _⟩ => rfl⟩
    exact (InprojRef.T166_at (launchContents m' c) b s n).trans (congrArg (fun U => InprojSpec.gate U n.val) (hU c b s))

end Cert.Own
end
-- ==== Proof.Ffn1Kernel.lean ====
/- THE SECOND LAYER'S FIRST FEED-FORWARD CALL'S RESULT, index by index: grid point `(i, j)` holds 512 rows of sequence `i`; what its body
   stores is `rowBlock` of each row, and the 64 blocks tile the array. -/
module

public import proofs.«01_k».proof.Proof.Gen.Ffn1Ideal.Value
public import proofs.«01_k».proof.Proof.Rows

@[expose] public section

set_option maxRecDepth 16384

noncomputable section

namespace Cert.Own.Ffn1Kernel

open Cert.Own Cert.Ffn1Ideal Cert.Ffn1Ideal.Gen Idealize.ShloMosaic Idealize.ShloMosaic.TcCoe Idealize.SL.Sem

variable (m : (ℓ : Loc nD τ sig) → Buf (Elt Ideal) ℓ) (ρ : Dev nD → PrngReg)

/-- The result as one function of the arguments. -/
def G (x : Vec Ideal S4x8192x1024 .f32) (mod : Vec Ideal S4x9x1024 .f32) (g : Vec Ideal S1024 .f32)
    (w1 : Vec Ideal S2x2x1024x5632 .f32) (w2 : Vec Ideal S2x2x2816x1024 .f32) : Vec Ideal S4x8192x1024 .f32 := fun i =>
  rowBlock (fun k => x (ix3 (i 0) (i 1) k)) (fun k => g (ix1 k)) (fun k => mod (ix3 (i 0) 0 k))
    (fun k => mod (ix3 (i 0) 1 k)) (fun k => mod (ix3 (i 0) 2 k)) (fun k f => w1 (ix4 1 0 k f)) (fun f d => w2 (ix4 1 0 f d)) (i 2)

/-! ## Where each window's block lies -/

theorem idx0 : ∀ t : Fin cfg0.N, win0_0.index t = ![t.val / 16, t.val % 16, 0] := (by decide +kernel : ∀ t : Fin grid0.N, _)
theorem idx1 : ∀ t : Fin cfg0.N, win0_1.index t = ![t.val / 16, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![1, 0, 0, 0] := (by decide +kernel : ∀ t : Fin grid0.N, _)
theorem idx4 : ∀ t : Fin cfg0.N, win0_4.index t = ![1, 0, 0, 0] := (by decide +kernel : ∀ t : Fin grid0.N, _)
theorem idx6 : ∀ t : Fin cfg0.N, win0_6.index t = ![t.val / 16, t.val % 16, 0] := (by decide +kernel : ∀ t : Fin grid0.N, _)

/-! ## The converted and reshaped arguments the region finds -/

theorem V0 (c : Dev nD) (j : S2x2x1024x5632.Idx) : V m c main_v0 j = m ((c : Thread nD τ).loc main_arg3) j := rfl
theorem V1 (c : Dev nD) (j : S2x2x2816x1024.Idx) : V m c main_v1 j = m ((c : Thread nD τ).loc main_arg4) j := rfl
theorem V2 (c : Dev nD) (k : Fin 1024) : V m c main_v2 (ix2 0 k) = m ((c : Thread nD τ).loc main_arg2) (ix1 k) := by
  show shapeCast S1x1024 (m ((c : Thread nD τ).loc main_arg2)) shapeCasts_S1024_S1x1024 (ix2 0 k) = _
  pointwise

/-! ## The element of its array a block's element is -/

theorem hN (t : Fin cfg0.N) : t.val < 64 := t.isLt

/-- Sequence of grid point `t`, and row `r` of its block as a row of the sequence. -/
def seq (t : Fin cfg0.N) : Fin 4 := ⟨t.val / 16, by have := hN t; omega⟩
def row (t : Fin cfg0.N) (r : Fin 512) : Fin 8192 := ⟨t.val % 16 * 512 + r.val, by omega⟩

theorem emb0 (t : Fin cfg0.N) (j : S1x512x1024.Idx) :
    ((cfg0.win 0).blk t).view.emb j = ix3 (seq t) (row t (j 1)) (j 2) := by
  have e := idx0 t
  have h0 : (j 0).val < 1 := (j 0).isLt
  funext a; apply Fin.ext
  match a with
  | ⟨0, _⟩ => show win0_0.index t 0 * 1 + 1 * (j 0).val = t.val / 16; rw [e]; show t.val / 16 * 1 + 1 * (j 0).val = _; omega
  | ⟨1, _⟩ => show win0_0.index t 1 * 512 + 1 * (j 1).val = _; rw [e]; show t.val % 16 * 512 + 1 * (j 1).val = t.val % 16 * 512 + (j 1).val; omega
  | ⟨2, _⟩ => show win0_0.index t 2 * 1024 + 1 * (j 2).val = _; rw [e]; show 0 * 1024 + 1 * (j 2).val = (j 2).val; omega

theorem emb6 (t : Fin cfg0.N) (j : S1x512x1024.Idx) :
    ((cfg0.win 6).blk t).view.emb j = ix3 (seq t) (row t (j 1)) (j 2) := by
  have e := idx6 t
  have h0 : (j 0).val < 1 := (j 0).isLt
  funext a; apply Fin.ext
  match a with
  | ⟨0, _⟩ => show win0_6.index t 0 * 1 + 1 * (j 0).val = t.val / 16; rw [e]; show t.val / 16 * 1 + 1 * (j 0).val = _; omega
  | ⟨1, _⟩ => show win0_6.index t 1 * 512 + 1 * (j 1).val = _; rw [e]; show t.val % 16 * 512 + 1 * (j 1).val = t.val % 16 * 512 + (j 1).val; omega
  | ⟨2, _⟩ => show win0_6.index t 2 * 1024 + 1 * (j 2).val = _; rw [e]; show 0 * 1024 + 1 * (j 2).val = (j 2).val; omega

theorem emb1 (t : Fin cfg0.N) (a : Fin 9) (k : Fin 1024) :
    ((cfg0.win 1).blk t).view.emb (ix3 (0 : Fin 1) a k : S1x9x1024.Idx) = ix3 (seq t) a k := by
  have e := idx1 t
  funext b; apply Fin.ext
  match b with
  | ⟨0, _⟩ => show win0_1.index t 0 * 1 + 1 * 0 = t.val / 16; rw [e]; show t.val / 16 * 1 + 1 * 0 = _; omega
  | ⟨1, _⟩ => show win0_1.index t 1 * 9 + 1 * a.val = a.val; rw [e]; show 0 * 9 + 1 * a.val = a.val; omega
  | ⟨2, _⟩ => show win0_1.index t 2 * 1024 + 1 * k.val = k.val; rw [e]; show 0 * 1024 + 1 * k.val = k.val; omega

theorem emb2 (t : Fin cfg0.N) (j : S1x1024.Idx) : ((cfg0.win 2).blk t).view.emb j = j := by
  have e := idx2 t
  funext b; apply Fin.ext
  match b with
  | ⟨0, _⟩ => show win0_2.index t 0 * 1 + 1 * (j 0).val = (j 0).val; rw [e]; show 0 * 1 + 1 * (j 0).val = _; omega
  | ⟨1, _⟩ => show win0_2.index t 1 * 1024 + 1 * (j 1).val = (j 1).val; rw [e]; show 0 * 1024 + 1 * (j 1).val = _; omega

theorem emb3 (t : Fin cfg0.N) (k : Fin 1024) (f : Fin 5632) :
    ((cfg0.win 3).blk t).view.emb (ix4 (0 : Fin 1) (0 : Fin 1) k f : S1x1x1024x5632.Idx) = ix4 1 0 k f := by
  have e := idx3 t
  funext b; apply Fin.ext
  match b with
  | ⟨0, _⟩ => show win0_3.index t 0 * 1 + 1 * 0 = 1; rw [e]; rfl
  | ⟨1, _⟩ => show win0_3.index t 1 * 1 + 1 * 0 = 0; rw [e]; rfl
  | ⟨2, _⟩ => show win0_3.index t 2 * 1024 + 1 * k.val = k.val; rw [e]; show 0 * 1024 + 1 * k.val = k.val; omega
  | ⟨3, _⟩ => show win0_3.index t 3 * 5632 + 1 * f.val = f.val; rw [e]; show 0 * 5632 + 1 * f.val = f.val; omega

theorem emb4 (t : Fin cfg0.N) (f : Fin 2816) (d : Fin 1024) :
    ((cfg0.win 4).blk t).view.emb (ix4 (0 : Fin 1) (0 : Fin 1) f d : S1x1x2816x1024.Idx) = ix4 1 0 f d := by
  have e := idx4 t
  funext b; apply Fin.ext
  match b with
  | ⟨0, _⟩ => show win0_4.index t 0 * 1 + 1 * 0 = 1; rw [e]; rfl
  | ⟨1, _⟩ => show win0_4.index t 1 * 1 + 1 * 0 = 0; rw [e]; rfl
  | ⟨2, _⟩ => show win0_4.index t 2 * 2816 + 1 * f.val = f.val; rw [e]; show 0 * 2816 + 1 * f.val = f.val; omega
  | ⟨3, _⟩ => show win0_4.index t 3 * 1024 + 1 * d.val = d.val; rw [e]; show 0 * 1024 + 1 * d.val = d.val; omega

/-! ## The blocks at an index -/

theorem x_at (c : Dev nD) (t : Fin cfg0.N) (j : S1x512x1024.Idx) :
    iblk m c 0 t j = m ((c : Thread nD τ).loc main_arg0) (ix3 (seq t) (row t (j 1)) (j 2)) := by
  show V m c main_arg0 (((cfg0.win 0).blk t).view.emb j) = _; rw [emb0]; exact congrFun (V_main_arg0 m c) _

theorem mod_at (c : Dev nD) (t : Fin cfg0.N) (a : Fin 9) (k : Fin 1024) :
    iblk m c 1 t (ix3 (0 : Fin 1) a k : S1x9x1024.Idx) = m ((c : Thread nD τ).loc main_arg1) (ix3 (seq t) a k) := by
  show V m c main_arg1 (((cfg0.win 1).blk t).view.emb _) = _; rw [emb1, V_main_arg1]

theorem g_at (c : Dev nD) (t : Fin cfg0.N) (k : Fin 1024) :
    iblk m c 2 t (ix2 (0 : Fin 1) k : S1x1024.Idx) = m ((c : Thread nD τ).loc main_arg2) (ix1 k) := by
  show V m c main_v2 (((cfg0.win 2).blk t).view.emb _) = _; rw [emb2, V2]

theorem w1_at (c : Dev nD) (t : Fin cfg0.N) (k : Fin 1024) (f : Fin 5632) :
    iblk m c 3 t (ix4 (0 : Fin 1) (0 : Fin 1) k f : S1x1x1024x5632.Idx) = m ((c : Thread nD τ).loc main_arg3) (ix4 1 0 k f) := by
  show V m c main_v0 (((cfg0.win 3).blk t).view.emb _) = _; rw [emb3, V0]

theorem w2_at (c : Dev nD) (t : Fin cfg0.N) (f : Fin 2816) (d : Fin 1024) :
    iblk m c 4 t (ix4 (0 : Fin 1) (0 : Fin 1) f d : S1x1x2816x1024.Idx) = m ((c : Thread nD τ).loc main_arg4) (ix4 1 0 f d) := by
  show V m c main_v1 (((cfg0.win 4).blk t).view.emb _) = _; rw [emb4, V1]

/-- What the body stores at row `r`, feature `d` of its block, from the blocks it loads. -/
theorem pay_at (x0 : Vec Ideal S1x512x1024 .f32) (x1 : Vec Ideal S1x9x1024 .f32) (x2 : Vec Ideal S1x1024 .f32)
    (x3 : Vec Ideal S1x1x1024x5632 .bf16) (x4 : Vec Ideal S1x1x2816x1024 .bf16) (r : Fin 512) (d : Fin 1024) :
    k0_pay1 (k0_pay2 x0) (k0_pay3 x1) (k0_pay4 x0 x1 x2 (View.ld x3 r0_3) (View.ld x3 r0_4)) x4 (ix3 (0 : Fin 1) r d)
      = rowBlock (fun k => x0 (ix3 0 r k)) (fun k => x2 (ix2 0 k)) (fun k => x1 (ix3 0 0 k)) (fun k => x1 (ix3 0 1 k))
          (fun k => x1 (ix3 0 2 k)) (fun k f => x3 (ix4 0 0 k f)) (fun f d => x4 (ix4 0 0 f d)) d := by
  unfold_payloads
  pointwise
  rfl

/-- The result array after the run. -/
theorem final (c : Dev nD) : (dats m 0 c).arrAt 6 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  blk_simp
  rw [after0_6]
  frame_out
  show _ = G _ _ _ _ _ (((cfg0.win 6).blk t).view.emb y)
  have hy : (y : S1x512x1024.Idx) = ix3 (0 : Fin 1) (y 1) (y 2) := by
    funext a; match a with
    | ⟨0, _⟩ => exact Fin.ext (by have h : (y 0).val < 1 := (y 0).isLt; show (y 0).val = 0; omega)
    | ⟨1, _⟩ => rfl
    | ⟨2, _⟩ => rfl
  rw [emb6, hy]
  refine (pay_at _ _ _ _ _ _ _).trans ?_
  simp only [x_at, mod_at, g_at, w1_at, w2_at]
  rfl

/-- The run, its result array named; the arguments unchanged. -/
theorem run : θ_run defs (onTc (τ := τ) (main (F := Ideal))) ⟨m, fun _ => 0, ρ⟩ fun r => ∀ c : Dev nD,
      r.2.mem ((c : Thread nD τ).loc main_v4) = G (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.Own.Ffn1Kernel
end
-- ==== Proof.Ffn1Ref.lean ====
/- THE SECOND LAYER'S FIRST FEED-FORWARD BLOCK'S REFERENCE, index by index: its host operations compute `rowBlock` of each row. -/
module

public import proofs.«01_k».proof.Proof.Gen.Ffn1RefIdeal.Run
public import proofs.«01_k».proof.Proof.Rows

@[expose] public section

set_option maxRecDepth 16384

noncomputable section

namespace Cert.Own.Ffn1Ref

open Cert.Own Cert.Ffn1RefIdeal Cert.Ffn1RefIdeal.Gen Idealize.ShloMosaic Idealize.ShloMosaic.TcCoe Idealize.SL.Sem

variable (m : (ℓ : Loc nD τ sig) → Buf (Elt Ideal) ℓ) (ρ : Dev nD → PrngReg)

theorem res_at (c : Dev nD) (b : Fin 4) (s : Fin 8192) (d : Fin 1024) :
    Value.res_main_v42 m c (ix3 b s d) = rowBlock (fun k => m ((c : Thread nD τ).loc main_arg0) (ix3 b s k))
      (fun k => m ((c : Thread nD τ).loc main_arg2) (ix1 k)) (fun k => m ((c : Thread nD τ).loc main_arg1) (ix3 b 0 k))
      (fun k => m ((c : Thread nD τ).loc main_arg1) (ix3 b 1 k)) (fun k => m ((c : Thread nD τ).loc main_arg1) (ix3 b 2 k))
      (fun k f => m ((c : Thread nD τ).loc main_arg3) (ix4 1 0 k f)) (fun f d => m ((c : Thread nD τ).loc main_arg4) (ix4 1 0 f d)) d := by
  unfold Value.res_main_v42
  pointwise
  rfl
end Cert.Own.Ffn1Ref
end
-- ==== Proof.Ffn1.lean ====
/- The second layer's first feed-forward block: kernel and reference leave the same array. -/
module

public import proofs.«01_k».proof.Defs
public import proofs.«01_k».proof.Proof.Ffn1Kernel
public import proofs.«01_k».proof.Proof.Ffn1Ref

@[expose] public section

set_option maxRecDepth 16384

noncomputable section

namespace Cert.Own

open Idealize.ShloMosaic Idealize.ShloMosaic.TcCoe Idealize.SL.Sem

theorem Ffn1_agree [Cert.Ffn1Ideal.Facts] [Cert.Ffn1RefIdeal.Facts] : Cert.algebraic_Ffn1Ideal_Ffn1RefIdeal := by
  intro m g m' g' _ hargs
  refine ⟨fun c => Ffn1Kernel.G (m ((c : Thread Cert.Ffn1Ideal.nD Cert.Ffn1Ideal.τ).loc Cert.Ffn1Ideal.main_arg0)) (m ((c : Thread Cert.Ffn1Ideal.nD Cert.Ffn1Ideal.τ).loc Cert.Ffn1Ideal.main_arg1)) (m ((c : Thread Cert.Ffn1Ideal.nD Cert.Ffn1Ideal.τ).loc Cert.Ffn1Ideal.main_arg2)) (m ((c : Thread Cert.Ffn1Ideal.nD Cert.Ffn1Ideal.τ).loc Cert.Ffn1Ideal.main_arg3)) (m ((c : Thread Cert.Ffn1Ideal.nD Cert.Ffn1Ideal.τ).loc Cert.Ffn1Ideal.main_arg4)), Ffn1Kernel.run m g, ?_⟩
  refine (θ_run _ _ _).mono (fun r h c => ⟨(h c).1.trans ?_, (h c).2⟩) (Cert.Ffn1RefIdeal.Value.run (F := Ideal) m' g')
  obtain ⟨h0, h1, h2, h3, h4, h5⟩ := hargs c
  funext i
  obtain ⟨b, s, d, rfl⟩ : ∃ b s d, i = ix3 b s d := ⟨i 0, i 1, i 2, by funext a; match a with | ⟨0, _⟩ => rfl | ⟨1, _⟩ => rfl | ⟨2, _⟩ => rfl⟩
  refine (Ffn1Ref.res_at m' c b s d).trans ?_
  simp only [h0, h1, h2, h3, h4]
  rfl

end Cert.Own
end
-- ==== Proof.lean ====
/- The claims, put together. -/
module

public import proofs.«01_k».proof.Defs
public import proofs.«01_k».proof.Proof.Gen.Lru
public import proofs.«01_k».proof.Proof.Gen.LruIdeal
public import proofs.«01_k».proof.Proof.Gen.LruRefIdeal
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixRefIdeal
public import proofs.«01_k».proof.Proof.Gen.Final
public import proofs.«01_k».proof.Proof.Gen.Final.Frame
public import proofs.«01_k».proof.Proof.Gen.FinalIdeal
public import proofs.«01_k».proof.Proof.Gen.FinalIdeal.Frame
public import proofs.«01_k».proof.Proof.Gen.FinalRefIdeal
public import proofs.«01_k».proof.Proof.Gen.Inproj1
public import proofs.«01_k».proof.Proof.Gen.Inproj1.Frame
public import proofs.«01_k».proof.Proof.Gen.Inproj1Ideal
public import proofs.«01_k».proof.Proof.Gen.Inproj1Ideal.Frame
public import proofs.«01_k».proof.Proof.Gen.Inproj1Ideal.Value
public import proofs.«01_k».proof.Proof.Gen.Inproj1RefIdeal
public import proofs.«01_k».proof.Proof.Gen.Inproj1RefIdeal.Run
public import proofs.«01_k».proof.Proof.Gen.Ffn1
public import proofs.«01_k».proof.Proof.Gen.Ffn1.Frame
public import proofs.«01_k».proof.Proof.Gen.Ffn1Ideal
public import proofs.«01_k».proof.Proof.Gen.Ffn1Ideal.Frame
public import proofs.«01_k».proof.Proof.Gen.Ffn1RefIdeal
public import proofs.«01_k».proof.Proof.LruBFrame
public import proofs.«01_k».proof.Proof.Lru
public import proofs.«01_k».proof.Proof.Ffn
public import proofs.«01_k».proof.Proof.Mix
public import proofs.«01_k».proof.Proof.Final
public import proofs.«01_k».proof.Proof.Inproj1
public import proofs.«01_k».proof.Proof.Ffn1
public import Idealize.ShloMosaic.Lib.Quiescent
public import Idealize.ShloMosaic.Adequacy
public import Idealize.ShloMosaic.Init

@[expose] public section

noncomputable section

namespace Cert.Proof

open Idealize.ShloMosaic Idealize.SL.Sem

theorem Ffn_ref_frame : Cert.quiescent_FfnRefIdeal := fun m g _ =>
  (θ_run _ _ _).mono (fun r h => ⟨fun c => (h c).2, sem_eq_zero_of_no_sems rfl _⟩) (Cert.FfnRefIdeal.Value.run m g)

theorem Mix_ref_frame : Cert.quiescent_MixRefIdeal := fun m g _ =>
  (θ_run _ _ _).mono (fun r h => ⟨fun c => (h c).2, sem_eq_zero_of_no_sems rfl _⟩) (Cert.MixRefIdeal.Value.run m g)

theorem Final_ref_frame : Cert.quiescent_FinalRefIdeal := fun m g _ =>
  (θ_run _ _ _).mono (fun r h => ⟨fun c => (h c).2, sem_eq_zero_of_no_sems rfl _⟩) (Cert.FinalRefIdeal.Value.run m g)

theorem Inproj1_ref_frame : Cert.quiescent_Inproj1RefIdeal := fun m g _ =>
  (θ_run _ _ _).mono (fun r h => ⟨fun c => (h c).2.2.2.2.2, sem_eq_zero_of_no_sems rfl _⟩) (Cert.Inproj1RefIdeal.Value.run m g)

theorem Ffn1_ref_frame : Cert.quiescent_Ffn1RefIdeal := fun m g _ =>
  (θ_run _ _ _).mono (fun r h => ⟨fun c => (h c).2, sem_eq_zero_of_no_sems rfl _⟩) (Cert.Ffn1RefIdeal.Value.run m g)

theorem claim : Cert.Claim := ⟨Cert.Lru.Gen.facts, Cert.LruIdeal.Gen.facts, Cert.LruRefIdeal.Gen.facts, Cert.Ffn.Gen.facts, Cert.FfnIdeal.Gen.facts, Cert.FfnRefIdeal.Gen.facts, Cert.Mix.Gen.facts, Cert.MixIdeal.Gen.facts, Cert.MixRefIdeal.Gen.facts, Cert.Final.Gen.facts, Cert.FinalIdeal.Gen.facts, Cert.FinalRefIdeal.Gen.facts, Cert.Inproj1.Gen.facts, Cert.Inproj1Ideal.Gen.facts, Cert.Inproj1RefIdeal.Gen.facts, Cert.Ffn1.Gen.facts, Cert.Ffn1Ideal.Gen.facts, Cert.Ffn1RefIdeal.Gen.facts, fun m ρ _ => Cert.Own.LruBits.frame m ρ,
  fun m ρ _ => Cert.Own.LruIdealRun.frame m ρ,
  Cert.Own.LruRefFrame.frame,
  fun m ρ _ => Cert.Ffn.Gen.frame m ρ,
  fun m ρ _ => Cert.FfnIdeal.Gen.frame m ρ,
  Ffn_ref_frame,
  fun m ρ _ => Cert.Mix.Gen.frame m ρ,
  fun m ρ _ => Cert.MixIdeal.Gen.frame m ρ,
  Mix_ref_frame,
  fun m ρ _ => Cert.Final.Gen.frame m ρ,
  fun m ρ _ => Cert.FinalIdeal.Gen.frame m ρ,
  Final_ref_frame,
  fun m ρ _ => Cert.Inproj1.Gen.frame m ρ,
  fun m ρ _ => Cert.Inproj1Ideal.Gen.frame m ρ,
  Inproj1_ref_frame,
  fun m ρ _ => Cert.Ffn1.Gen.frame m ρ,
  fun m ρ _ => Cert.Ffn1Ideal.Gen.frame m ρ,
  Ffn1_ref_frame,
  trivial, Cert.Own.Lru_agree, trivial, Cert.Own.Ffn_agree, trivial, Cert.Own.Mix_agree, trivial, Cert.Own.Final_agree, trivial, Cert.Own.Inproj1_agree, trivial, Cert.Own.Ffn1_agree⟩

end Cert.Proof

end
